-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_1)) (v2 : (c : Dev Cert.KernelIdeal.nD) → Buf (Elt Ideal) ((c.tc : Thread Cert.KernelIdeal.nD Cert.KernelIdeal.τ).loc Cert.KernelIdeal.main_v111_2)) (v3 : (c : Dev Cert.KernelIdeal.nD) → Buf (Elt Ideal) ((c.tc : Thread Cert.KernelIdeal.nD Cert.KernelIdeal.τ).loc Cert.KernelIdeal.main_v111_3)) (v4 : (c : Dev Cert.KernelIdeal.nD) → Buf (Elt Ideal) ((c.tc : Thread Cert.KernelIdeal.nD Cert.KernelIdeal.τ).loc Cert.KernelIdeal.main_v111_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_1) = v1 c
          ∧ r.2.mem ((c.tc : Thread Cert.KernelIdeal.nD Cert.KernelIdeal.τ).loc Cert.KernelIdeal.main_v111_2) = v2 c
          ∧ r.2.mem ((c.tc : Thread Cert.KernelIdeal.nD Cert.KernelIdeal.τ).loc Cert.KernelIdeal.main_v111_3) = v3 c
          ∧ r.2.mem ((c.tc : Thread Cert.KernelIdeal.nD Cert.KernelIdeal.τ).loc Cert.KernelIdeal.main_v111_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_v196) = v1 c
          ∧ r.2.mem ((c.tc : Thread Cert.ReferenceIdeal.nD Cert.ReferenceIdeal.τ).loc Cert.ReferenceIdeal.main_v198) = v2 c
          ∧ r.2.mem ((c.tc : Thread Cert.ReferenceIdeal.nD Cert.ReferenceIdeal.τ).loc Cert.ReferenceIdeal.main_v200) = v3 c
          ∧ r.2.mem ((c.tc : Thread Cert.ReferenceIdeal.nD Cert.ReferenceIdeal.τ).loc Cert.ReferenceIdeal.main_v202) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v7)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v7) = v0 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v15) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)) →
    ∃ (v0 : (c : Dev Cert.AdaKernelIdeal.nD) → Buf (Elt Ideal) ((c.tc : Thread Cert.AdaKernelIdeal.nD Cert.AdaKernelIdeal.τ).loc Cert.AdaKernelIdeal.main_v1)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v1) = v0 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v11) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2))

def Claim : Prop :=
  ∃ (hKernel : Cert.Kernel.Facts) (hKernelIdeal : Cert.KernelIdeal.Facts) (hReferenceIdeal : Cert.ReferenceIdeal.Facts) (hMixKernel : Cert.MixKernel.Facts) (hMixKernelIdeal : Cert.MixKernelIdeal.Facts) (hMixReferenceIdeal : Cert.MixReferenceIdeal.Facts) (hAdaKernel : Cert.AdaKernel.Facts) (hAdaKernelIdeal : Cert.AdaKernelIdeal.Facts) (hAdaReferenceIdeal : Cert.AdaReferenceIdeal.Facts),
    quiescent_Kernel (hKernel := hKernel)
    ∧ quiescent_KernelIdeal (hKernelIdeal := hKernelIdeal)
    ∧ quiescent_ReferenceIdeal (hReferenceIdeal := hReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ preserves_Kernel_KernelIdeal
    ∧ algebraic_KernelIdeal_ReferenceIdeal (hKernelIdeal := hKernelIdeal) (hReferenceIdeal := hReferenceIdeal)
    ∧ preserves_MixKernel_MixKernelIdeal
    ∧ algebraic_MixKernelIdeal_MixReferenceIdeal (hMixKernelIdeal := hMixKernelIdeal) (hMixReferenceIdeal := hMixReferenceIdeal)
    ∧ preserves_AdaKernel_AdaKernelIdeal
    ∧ algebraic_AdaKernelIdeal_AdaReferenceIdeal (hAdaKernelIdeal := hAdaKernelIdeal) (hAdaReferenceIdeal := hAdaReferenceIdeal)
-- ==== Kernel.lean ====
abbrev S8x8192x1024 : Shape := ⟨3, ![8, 8192, 1024]⟩
abbrev S3x8x1024 : Shape := ⟨3, ![3, 8, 1024]⟩
abbrev S1024 : Shape := ⟨1, ![1024]⟩
abbrev S1024x6688 : Shape := ⟨2, ![1024, 6688]⟩
abbrev S4x1536 : Shape := ⟨2, ![4, 1536]⟩
abbrev S1536 : Shape := ⟨1, ![1536]⟩
abbrev S16 : Shape := ⟨1, ![16]⟩
abbrev S64 : Shape := ⟨1, ![64]⟩
abbrev S65536x1024 : Shape := ⟨2, ![65536, 1024]⟩
abbrev S3x8x1x1024 : Shape := ⟨4, ![3, 8, 1, 1024]⟩
abbrev S1024x16 : Shape := ⟨2, ![1024, 16]⟩
abbrev S1024x16x3 : Shape := ⟨3, ![1024, 16, 3]⟩
abbrev S1024x48 : Shape := ⟨2, ![1024, 48]⟩
abbrev S1024x1024 : Shape := ⟨2, ![1024, 1024]⟩
abbrev S1024x1536 : Shape := ⟨2, ![1024, 1536]⟩
abbrev S1024x80 : Shape := ⟨2, ![1024, 80]⟩
abbrev S_ : Shape := ⟨0, ![]⟩
abbrev S1024x128 : Shape := ⟨2, ![1024, 128]⟩
abbrev S1x64 : Shape := ⟨2, ![1, 64]⟩
abbrev S16x64 : Shape := ⟨2, ![16, 64]⟩
abbrev S1x1024 : Shape := ⟨2, ![1, 1024]⟩
abbrev S2x1024 : Shape := ⟨2, ![2, 1024]⟩
abbrev S48 : Shape := ⟨1, ![48]⟩
abbrev S16x3 : Shape := ⟨2, ![16, 3]⟩
abbrev S80 : Shape := ⟨1, ![80]⟩
abbrev S32 : Shape := ⟨1, ![32]⟩
abbrev S128 : Shape := ⟨1, ![128]⟩
abbrev S1x128 : Shape := ⟨2, ![1, 128]⟩
abbrev S5x128 : Shape := ⟨2, ![5, 128]⟩
abbrev S8x128 : Shape := ⟨2, ![8, 128]⟩
abbrev S128x1 : Shape := ⟨2, ![128, 1]⟩
abbrev S144 : Shape := ⟨1, ![144]⟩
abbrev S1x144 : Shape := ⟨2, ![1, 144]⟩
abbrev S128x144 : Shape := ⟨2, ![128, 144]⟩
abbrev S384x144 : Shape := ⟨2, ![384, 144]⟩
abbrev S1x1536 : Shape := ⟨2, ![1, 1536]⟩
abbrev S8x1024x8192 : Shape := ⟨3, ![8, 1024, 8192]⟩
abbrev S65536x128 : Shape := ⟨2, ![65536, 128]⟩
abbrev S128x1x128 : Shape := ⟨3, ![128, 1, 128]⟩
abbrev S512x1024 : Shape := ⟨2, ![512, 1024]⟩
abbrev S3x1x1x1024 : Shape := ⟨4, ![3, 1, 1, 1024]⟩
abbrev S1x1024x512 : Shape := ⟨3, ![1, 1024, 512]⟩
abbrev S512x128 : Shape := ⟨2, ![512, 128]⟩
abbrev S1x1x128 : Shape := ⟨3, ![1, 1, 128]⟩
abbrev S528x1536 : Shape := ⟨2, ![528, 1536]⟩
abbrev S32x512 : Shape := ⟨2, ![32, 512]⟩
abbrev S8x128x128 : Shape := ⟨3, ![8, 128, 128]⟩
abbrev S128x1024 : Shape := ⟨2, ![128, 1024]⟩
abbrev S16x1536 : Shape := ⟨2, ![16, 1536]⟩
abbrev S512 : Shape := ⟨1, ![512]⟩
abbrev S512x1 : Shape := ⟨2, ![512, 1]⟩
abbrev S1x1x1x1024 : Shape := ⟨4, ![1, 1, 1, 1024]⟩
abbrev S512x1536 : Shape := ⟨2, ![512, 1536]⟩
abbrev S128x128 : Shape := ⟨2, ![128, 128]⟩
abbrev S32x128 : Shape := ⟨2, ![32, 128]⟩
abbrev S1024x256 : Shape := ⟨2, ![1024, 256]⟩
abbrev S512x256 : Shape := ⟨2, ![512, 256]⟩
abbrev S144x1536 : Shape := ⟨2, ![144, 1536]⟩
abbrev S384x1536 : Shape := ⟨2, ![384, 1536]⟩
abbrev S128x1536 : Shape := ⟨2, ![128, 1536]⟩
abbrev S1x1 : Shape := ⟨2, ![1, 1]⟩
abbrev S256x128 : Shape := ⟨2, ![256, 128]⟩
abbrev S1x128x128 : Shape := ⟨3, ![1, 128, 128]⟩
abbrev S128x512 : Shape := ⟨2, ![128, 512]⟩
abbrev S1x512 : Shape := ⟨2, ![1, 512]⟩
abbrev S256x1024 : Shape := ⟨2, ![256, 1024]⟩
abbrev S256x512 : Shape := ⟨2, ![256, 512]⟩
abbrev S1x256x512 : Shape := ⟨3, ![1, 256, 512]⟩

abbrev nBuf : Space → Nat
  | .hbm => 184
  | .vmem => 40
  | .smem => 0
  | _ => 0

abbrev hbmTy0_0 (i : Nat) : BufTy := match i % 128 with
  | 0 => ⟨S8x8192x1024, .f32⟩
  | 1 => ⟨S3x8x1024, .f32⟩
  | 2 => ⟨S1024, .f32⟩
  | 3 => ⟨S1024x6688, .f32⟩
  | 4 => ⟨S4x1536, .f32⟩
  | 5 => ⟨S1536, .f32⟩
  | 6 => ⟨S16, .f32⟩
  | 7 => ⟨S16, .f32⟩
  | 8 => ⟨S16, .f32⟩
  | 9 => ⟨S1024, .f32⟩
  | 10 => ⟨S64, .f32⟩
  | 11 => ⟨S64, .f32⟩
  | 12 => ⟨S16, .f32⟩
  | 13 => ⟨S65536x1024, .f32⟩
  | 14 => ⟨S3x8x1x1024, .f32⟩
  | 15 => ⟨S1024x16, .f32⟩
  | 16 => ⟨S1024x16, .f32⟩
  | 17 => ⟨S1024x16x3, .f32⟩
  | 18 => ⟨S1024x48, .f32⟩
  | 19 => ⟨S1024x1024, .f32⟩
  | 20 => ⟨S1024x1536, .f32⟩
  | 21 => ⟨S1024x80, .f32⟩
  | 22 => ⟨S_, .i32⟩
  | 23 => ⟨S_, .f32⟩
  | 24 => ⟨S1024x128, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x1024, .bf16⟩
  | 31 => ⟨S1024x1536, .bf16⟩
  | 32 => ⟨S1024x128, .bf16⟩
  | 33 => ⟨S1024x1024, .bf16⟩
  | 34 => ⟨S1024x1024, .bf16⟩
  | 35 => ⟨S1024x1024, .bf16⟩
  | 36 => ⟨S1024x1024, .bf16⟩
  | 37 => ⟨S1x64, .f32⟩
  | 38 => ⟨S16x64, .f32⟩
  | 39 => ⟨S1024, .f32⟩
  | 40 => ⟨S_, .f32⟩
  | 41 => ⟨S1024, .f32⟩
  | 42 => ⟨S1024, .f32⟩
  | 43 => ⟨S1x64, .f32⟩
  | 44 => ⟨S16x64, .f32⟩
  | 45 => ⟨S1024, .f32⟩
  | 46 => ⟨S1x1024, .f32⟩
  | 47 => ⟨S1x1024, .f32⟩
  | 48 => ⟨S2x1024, .f32⟩
  | 49 => ⟨S16, .f32⟩
  | 50 => ⟨S16, .f32⟩
  | 51 => ⟨S_, .f32⟩
  | 52 => ⟨S16, .f32⟩
  | 53 => ⟨S16, .f32⟩
  | 54 => ⟨S16, .f32⟩
  | 55 => ⟨S48, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S48, .i32⟩
  | 63 => ⟨S48, .i32⟩
  | 64 => ⟨S_, .i32⟩
  | 65 => ⟨S48, .i32⟩
  | 66 => ⟨S48, .i1⟩
  | 67 => ⟨S_, .i32⟩
  | 68 => ⟨S48, .i32⟩
  | 69 => ⟨S48, .i1⟩
  | 70 => ⟨S_, .i32⟩
  | 71 => ⟨S_, .i1⟩
  | 72 => ⟨S48, .i1⟩
  | 73 => ⟨S48, .i1⟩
  | 74 => ⟨S48, .i1⟩
  | 75 => ⟨S48, .i32⟩
  | 76 => ⟨S48, .i32⟩
  | 77 => ⟨S48, .i32⟩
  | 78 => ⟨S16x3, .f32⟩
  | 79 => ⟨S48, .f32⟩
  | 80 => ⟨S80, .f32⟩
  | 81 => ⟨S_, .f32⟩
  | 82 => ⟨S16, .f32⟩
  | 83 => ⟨S32, .f32⟩
  | 84 => ⟨S_, .f32⟩
  | 85 => ⟨S32, .f32⟩
  | 86 => ⟨S_, .i32⟩
  | 87 => ⟨S48, .i32⟩
  | 88 => ⟨S48, .i1⟩
  | 89 => ⟨S48, .f32⟩
  | 90 => ⟨S80, .f32⟩
  | 91 => ⟨S_, .f32⟩
  | 92 => ⟨S32, .f32⟩
  | 93 => ⟨S_, .i32⟩
  | 94 => ⟨S48, .i32⟩
  | 95 => ⟨S48, .i1⟩
  | 96 => ⟨S48, .f32⟩
  | 97 => ⟨S80, .f32⟩
  | 98 => ⟨S_, .f32⟩
  | 99 => ⟨S32, .f32⟩
  | 100 => ⟨S_, .i32⟩
  | 101 => ⟨S48, .i32⟩
  | 102 => ⟨S48, .i1⟩
  | 103 => ⟨S48, .f32⟩
  | 104 => ⟨S80, .f32⟩
  | 105 => ⟨S_, .i32⟩
  | 106 => ⟨S_, .f32⟩
  | 107 => ⟨S128, .f32⟩
  | 108 => ⟨S_, .i32⟩
  | 109 => ⟨S_, .f32⟩
  | 110 => ⟨S128, .f32⟩
  | 111 => ⟨S_, .i32⟩
  | 112 => ⟨S_, .f32⟩
  | 113 => ⟨S128, .f32⟩
  | 114 => ⟨S_, .i32⟩
  | 115 => ⟨S_, .f32⟩
  | 116 => ⟨S128, .f32⟩
  | 117 => ⟨S_, .i32⟩
  | 118 => ⟨S_, .f32⟩
  | 119 => ⟨S128, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S5x128, .f32⟩
  | 126 => ⟨S_, .i32⟩
  | 127 => ⟨S_, .f32⟩
  | _ => ⟨S8x8192x1024, .f32⟩

abbrev hbmTy0_1 (i : Nat) : BufTy := match i % 128 with
  | 0 => ⟨S8x128, .f32⟩
  | 1 => ⟨S1x1024, .f32⟩
  | 2 => ⟨S128, .i32⟩
  | 3 => ⟨S128x1, .i32⟩
  | 4 => ⟨S144, .i32⟩
  | 5 => ⟨S1x144, .i32⟩
  | 6 => ⟨S_, .i32⟩
  | 7 => ⟨S128x1, .i32⟩
  | 8 => ⟨S128x1, .i32⟩
  | 9 => ⟨S_, .i32⟩
  | 10 => ⟨S128x1, .i32⟩
  | 11 => ⟨S128x1, .i32⟩
  | 12 => ⟨S_, .i32⟩
  | 13 => ⟨S128x1, .i32⟩
  | 14 => ⟨S128x1, .i32⟩
  | 15 => ⟨S128x144, .i32⟩
  | 16 => ⟨S128x144, .i32⟩
  | 17 => ⟨S128x144, .i1⟩
  | 18 => ⟨S_, .i32⟩
  | 19 => ⟨S128x1, .i32⟩
  | 20 => ⟨S128x1, .i32⟩
  | 21 => ⟨S_, .i32⟩
  | 22 => ⟨S128x1, .i32⟩
  | 23 => ⟨S128x1, .i32⟩
  | 24 => ⟨S_, .i32⟩
  | 25 => ⟨S128x1, .i32⟩
  | 26 => ⟨S128x1, .i32⟩
  | 27 => ⟨S128x144, .i32⟩
  | 28 => ⟨S128x144, .i32⟩
  | 29 => ⟨S128x144, .i1⟩
  | 30 => ⟨S_, .i32⟩
  | 31 => ⟨S128x1, .i32⟩
  | 32 => ⟨S128x1, .i32⟩
  | 33 => ⟨S_, .i32⟩
  | 34 => ⟨S128x1, .i32⟩
  | 35 => ⟨S128x1, .i32⟩
  | 36 => ⟨S_, .i32⟩
  | 37 => ⟨S128x1, .i32⟩
  | 38 => ⟨S128x1, .i32⟩
  | 39 => ⟨S128x144, .i32⟩
  | 40 => ⟨S128x144, .i32⟩
  | 41 => ⟨S128x144, .i1⟩
  | 42 => ⟨S384x144, .i1⟩
  | 43 => ⟨S384x144, .bf16⟩
  | 44 => ⟨S1x1536, .f32⟩
  | 45 => ⟨S16x64, .f32⟩
  | 46 => ⟨S1024, .f32⟩
  | 47 => ⟨S1x1024, .f32⟩
  | 48 => ⟨S1x1024, .f32⟩
  | 49 => ⟨S65536x1024, .bf16⟩
  | 50 => ⟨S65536x1024, .bf16⟩
  | 51 => ⟨S65536x1024, .bf16⟩
  | 52 => ⟨S8x1024x8192, .bf16⟩
  | 53 => ⟨S65536x1024, .bf16⟩
  | 54 => ⟨S65536x128, .bf16⟩
  | 55 => ⟨S128x1x128, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S3x1x1x1024, .f32⟩
  | .local _ .vmem, ⟨3, _⟩ => ⟨S3x1x1x1024, .f32⟩
  | .local _ .vmem, ⟨4, _⟩ => ⟨S1x1024, .f32⟩
  | .local _ .vmem, ⟨5, _⟩ => ⟨S2x1024, .f32⟩
  | .local _ .vmem, ⟨6, _⟩ => ⟨S8x128, .f32⟩
  | .local _ .vmem, ⟨7, _⟩ => ⟨S384x144, .bf16⟩
  | .local _ .vmem, ⟨8, _⟩ => ⟨S4x1536, .f32⟩
  | .local _ .vmem, ⟨9, _⟩ => ⟨S1x1536, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1024x1536, .bf16⟩
  | .local _ .vmem, ⟨14, _⟩ => ⟨S1024x128, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S1x1024x512, .bf16⟩
  | .local _ .vmem, ⟨26, _⟩ => ⟨S1x1024x512, .bf16⟩
  | .local _ .vmem, ⟨27, _⟩ => ⟨S512x1024, .bf16⟩
  | .local _ .vmem, ⟨28, _⟩ => ⟨S512x1024, .bf16⟩
  | .local _ .vmem, ⟨29, _⟩ => ⟨S512x128, .bf16⟩
  | .local _ .vmem, ⟨30, _⟩ => ⟨S512x128, .bf16⟩
  | .local _ .vmem, ⟨31, _⟩ => ⟨S1x1x128, .f32⟩
  | .local _ .vmem, ⟨32, _⟩ => ⟨S1x1x128, .f32⟩
  | .local _ .vmem, ⟨33, _⟩ => ⟨S1x128, .f32⟩
  | .local _ .vmem, ⟨34, _⟩ => ⟨S528x1536, .bf16⟩
  | .local _ .vmem, ⟨35, _⟩ => ⟨S512x1024, .bf16⟩
  | .local _ .vmem, ⟨36, _⟩ => ⟨S512x128, .f32⟩
  | .local _ .vmem, ⟨37, _⟩ => ⟨S32x512, .f32⟩
  | .local _ .vmem, ⟨38, _⟩ => ⟨S8x128x128, .f32⟩
  | .local _ .vmem, ⟨39, _⟩ => ⟨S128x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_1 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_2 : Ref sig .tc := ⟨.hbm, 81, rfl⟩
abbrev main_v43 : Ref sig .tc := ⟨.hbm, 82, rfl⟩
abbrev main_v44 : Ref sig .tc := ⟨.hbm, 83, rfl⟩
abbrev main_cst_3 : Ref sig .tc := ⟨.hbm, 84, rfl⟩
abbrev main_v45 : Ref sig .tc := ⟨.hbm, 85, rfl⟩
abbrev main_c_4 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_5 : Ref sig .tc := ⟨.hbm, 91, rfl⟩
abbrev main_v50 : Ref sig .tc := ⟨.hbm, 92, rfl⟩
abbrev main_c_6 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_7 : Ref sig .tc := ⟨.hbm, 98, rfl⟩
abbrev main_v55 : Ref sig .tc := ⟨.hbm, 99, rfl⟩
abbrev main_c_8 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_c_9 : Ref sig .tc := ⟨.hbm, 105, rfl⟩
abbrev main_call2_v0 : Ref sig .tc := ⟨.hbm, 106, rfl⟩
abbrev main_v60 : Ref sig .tc := ⟨.hbm, 107, rfl⟩
abbrev main_c_10 : Ref sig .tc := ⟨.hbm, 108, rfl⟩
abbrev main_call3_v0 : Ref sig .tc := ⟨.hbm, 109, rfl⟩
abbrev main_v61 : Ref sig .tc := ⟨.hbm, 110, rfl⟩
abbrev main_c_11 : Ref sig .tc := ⟨.hbm, 111, rfl⟩
abbrev main_call4_v0 : Ref sig .tc := ⟨.hbm, 112, rfl⟩
abbrev main_v62 : Ref sig .tc := ⟨.hbm, 113, rfl⟩
abbrev main_c_12 : Ref sig .tc := ⟨.hbm, 114, rfl⟩
abbrev main_call5_v0 : Ref sig .tc := ⟨.hbm, 115, rfl⟩
abbrev main_v63 : Ref sig .tc := ⟨.hbm, 116, rfl⟩
abbrev main_c_13 : Ref sig .tc := ⟨.hbm, 117, rfl⟩
abbrev main_call6_v0 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_14 : Ref sig .tc := ⟨.hbm, 126, rfl⟩
abbrev main_call7_v0 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_c_15 : Ref sig .tc := ⟨.hbm, 134, rfl⟩
abbrev main_v77 : Ref sig .tc := ⟨.hbm, 135, rfl⟩
abbrev main_v78 : Ref sig .tc := ⟨.hbm, 136, rfl⟩
abbrev main_c_16 : Ref sig .tc := ⟨.hbm, 137, rfl⟩
abbrev main_v79 : Ref sig .tc := ⟨.hbm, 138, rfl⟩
abbrev main_v80 : Ref sig .tc := ⟨.hbm, 139, rfl⟩
abbrev main_c_17 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_18 : Ref sig .tc := ⟨.hbm, 146, rfl⟩
abbrev main_v86 : Ref sig .tc := ⟨.hbm, 147, rfl⟩
abbrev main_v87 : Ref sig .tc := ⟨.hbm, 148, rfl⟩
abbrev main_c_19 : Ref sig .tc := ⟨.hbm, 149, rfl⟩
abbrev main_v88 : Ref sig .tc := ⟨.hbm, 150, rfl⟩
abbrev main_v89 : Ref sig .tc := ⟨.hbm, 151, rfl⟩
abbrev main_c_20 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_c_21 : Ref sig .tc := ⟨.hbm, 158, rfl⟩
abbrev main_v95 : Ref sig .tc := ⟨.hbm, 159, rfl⟩
abbrev main_v96 : Ref sig .tc := ⟨.hbm, 160, rfl⟩
abbrev main_c_22 : Ref sig .tc := ⟨.hbm, 161, rfl⟩
abbrev main_v97 : Ref sig .tc := ⟨.hbm, 162, rfl⟩
abbrev main_v98 : Ref sig .tc := ⟨.hbm, 163, rfl⟩
abbrev main_c_23 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111_0 : Ref sig .tc := ⟨.hbm, 177, rfl⟩
abbrev main_v111_1 : Ref sig .tc := ⟨.hbm, 178, rfl⟩
abbrev main_v111_2 : Ref sig .tc := ⟨.hbm, 179, rfl⟩
abbrev main_v111_3 : Ref sig .tc := ⟨.hbm, 180, rfl⟩
abbrev main_v111_4 : Ref sig .tc := ⟨.hbm, 181, rfl⟩
abbrev main_v111_5 : Ref sig .tc := ⟨.hbm, 182, rfl⟩
abbrev main_v111_6 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8x8192x1024 : Shape := ⟨3, ![8, 8192, 1024]⟩
abbrev S3x8x1024 : Shape := ⟨3, ![3, 8, 1024]⟩
abbrev S1024 : Shape := ⟨1, ![1024]⟩
abbrev S1024x6688 : Shape := ⟨2, ![1024, 6688]⟩
abbrev S4x1536 : Shape := ⟨2, ![4, 1536]⟩
abbrev S1536 : Shape := ⟨1, ![1536]⟩
abbrev S16 : Shape := ⟨1, ![16]⟩
abbrev S64 : Shape := ⟨1, ![64]⟩
abbrev S1x8x1024 : Shape := ⟨3, ![1, 8, 1024]⟩
abbrev S8x1024 : Shape := ⟨2, ![8, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x6688 : Shape := ⟨3, ![8, 8192, 6688]⟩
abbrev S8x8192x256 : Shape := ⟨3, ![8, 8192, 256]⟩
abbrev S8x8192x16 : Shape := ⟨3, ![8, 8192, 16]⟩
abbrev S8x8192x1536 : Shape := ⟨3, ![8, 8192, 1536]⟩
abbrev S8x8195x1536 : Shape := ⟨3, ![8, 8195, 1536]⟩
abbrev S1x1536 : Shape := ⟨2, ![1, 1536]⟩
abbrev S1x1x1536 : Shape := ⟨3, ![1, 1, 1536]⟩
abbrev S1x1x16 : Shape := ⟨3, ![1, 1, 16]⟩
abbrev S8x8192x16x64 : Shape := ⟨4, ![8, 8192, 16, 64]⟩
abbrev S8x8192x2x128 : Shape := ⟨4, ![8, 8192, 2, 128]⟩
abbrev S8x64x128x2x8x64 : Shape := ⟨6, ![8, 64, 128, 2, 8, 64]⟩
abbrev S8x64x128x2x8 : Shape := ⟨5, ![8, 64, 128, 2, 8]⟩
abbrev S8x64x128x2x128 : Shape := ⟨5, ![8, 64, 128, 2, 128]⟩
abbrev S2x8 : Shape := ⟨2, ![2, 8]⟩
abbrev S1x1x1x2x8 : Shape := ⟨5, ![1, 1, 1, 2, 8]⟩
abbrev S8x64x128x2x8x1 : Shape := ⟨6, ![8, 64, 128, 2, 8, 1]⟩
abbrev S128x128 : Shape := ⟨2, ![128, 128]⟩
abbrev S8x64x128x1x2x8 : Shape := ⟨6, ![8, 64, 128, 1, 2, 8]⟩
abbrev S8x64x1x128x2x8 : Shape := ⟨6, ![8, 64, 1, 128, 2, 8]⟩
abbrev S8x64x128x128x2x8 : Shape := ⟨6, ![8, 64, 128, 128, 2, 8]⟩
abbrev S1x1x128x128x1x1 : Shape := ⟨6, ![1, 1, 128, 128, 1, 1]⟩
abbrev S8x64x2x128x128 : Shape := ⟨5, ![8, 64, 2, 128, 128]⟩
abbrev S8x64x128x128x2 : Shape := ⟨5, ![8, 64, 128, 128, 2]⟩
abbrev S8x64x128x128x2x1 : Shape := ⟨6, ![8, 64, 128, 128, 2, 1]⟩
abbrev S8x64x2x8x64x128 : Shape := ⟨6, ![8, 64, 2, 8, 64, 128]⟩
abbrev S8x64x1x2x8 : Shape := ⟨5, ![8, 64, 1, 2, 8]⟩
abbrev S8x64x2x8 : Shape := ⟨4, ![8, 64, 2, 8]⟩
abbrev S8x2x8x64x128 : Shape := ⟨5, ![8, 2, 8, 64, 128]⟩
abbrev S64x8x2x8x64x128 : Shape := ⟨6, ![64, 8, 2, 8, 64, 128]⟩
abbrev S64x8x2x8 : Shape := ⟨4, ![64, 8, 2, 8]⟩
abbrev S1x8x2x8x64x128 : Shape := ⟨6, ![1, 8, 2, 8, 64, 128]⟩
abbrev S1x8x2x8 : Shape := ⟨4, ![1, 8, 2, 8]⟩
abbrev S8x2x8 : Shape := ⟨3, ![8, 2, 8]⟩
abbrev S8x2x8x1x1 : Shape := ⟨5, ![8, 2, 8, 1, 1]⟩
abbrev S16x1 : Shape := ⟨2, ![16, 1]⟩
abbrev S1x1x16x1 : Shape := ⟨4, ![1, 1, 16, 1]⟩
abbrev S8x8192x2x512 : Shape := ⟨4, ![8, 8192, 2, 512]⟩
abbrev S2x512 : Shape := ⟨2, ![2, 512]⟩
abbrev S8x8192x2 : Shape := ⟨3, ![8, 8192, 2]⟩
abbrev S8x8192x2x1 : Shape := ⟨4, ![8, 8192, 2, 1]⟩
abbrev S1x1x2x512 : Shape := ⟨4, ![1, 1, 2, 512]⟩
abbrev S8x8192x16x1 : Shape := ⟨4, ![8, 8192, 16, 1]⟩
abbrev S1x1x1x64 : Shape := ⟨4, ![1, 1, 1, 64]⟩
abbrev S65536x1024 : Shape := ⟨2, ![65536, 1024]⟩
abbrev S8x1024x8192 : Shape := ⟨3, ![8, 1024, 8192]⟩

abbrev nBuf : Space → Nat
  | .hbm => 311
  | .vmem => 0
  | .smem => 0
  | _ => 0

abbrev hbmTy0_0 (i : Nat) : BufTy := match i % 128 with
  | 0 => ⟨S8x8192x1024, .f32⟩
  | 1 => ⟨S3x8x1024, .f32⟩
  | 2 => ⟨S1024, .f32⟩
  | 3 => ⟨S1024x6688, .f32⟩
  | 4 => ⟨S4x1536, .f32⟩
  | 5 => ⟨S1536, .f32⟩
  | 6 => ⟨S16, .f32⟩
  | 7 => ⟨S16, .f32⟩
  | 8 => ⟨S16, .f32⟩
  | 9 => ⟨S1024, .f32⟩
  | 10 => ⟨S64, .f32⟩
  | 11 => ⟨S64, .f32⟩
  | 12 => ⟨S16, .f32⟩
  | 13 => ⟨S1x8x1024, .f32⟩
  | 14 => ⟨S8x1024, .f32⟩
  | 15 => ⟨S1x8x1024, .f32⟩
  | 16 => ⟨S8x1024, .f32⟩
  | 17 => ⟨S1x8x1024, .f32⟩
  | 18 => ⟨S8x1024, .f32⟩
  | 19 => ⟨S8x8192x1024, .f32⟩
  | 20 => ⟨S_, .f32⟩
  | 21 => ⟨S8x8192, .f32⟩
  | 22 => ⟨S8x8192x1, .f32⟩
  | 23 => ⟨S_, .f32⟩
  | 24 => ⟨S8x8192x1, .f32⟩
  | 25 => ⟨S8x8192x1, .f32⟩
  | 26 => ⟨S_, .f32⟩
  | 27 => ⟨S8x8192x1, .f32⟩
  | 28 => ⟨S8x8192x1, .f32⟩
  | 29 => ⟨S8x8192x1, .f32⟩
  | 30 => ⟨S8x8192x1024, .f32⟩
  | 31 => ⟨S8x8192x1024, .f32⟩
  | 32 => ⟨S1x1x1024, .f32⟩
  | 33 => ⟨S8x8192x1024, .f32⟩
  | 34 => ⟨S8x8192x1024, .f32⟩
  | 35 => ⟨S8x1x1024, .f32⟩
  | 36 => ⟨S_, .f32⟩
  | 37 => ⟨S8x1x1024, .f32⟩
  | 38 => ⟨S8x1x1024, .f32⟩
  | 39 => ⟨S8x8192x1024, .f32⟩
  | 40 => ⟨S8x8192x1024, .f32⟩
  | 41 => ⟨S8x1x1024, .f32⟩
  | 42 => ⟨S8x8192x1024, .f32⟩
  | 43 => ⟨S8x8192x1024, .f32⟩
  | 44 => ⟨S8x8192x6688, .f32⟩
  | 45 => ⟨S8x8192x1024, .f32⟩
  | 46 => ⟨S8x8192x1024, .f32⟩
  | 47 => ⟨S8x8192x256, .f32⟩
  | 48 => ⟨S8x8192x256, .f32⟩
  | 49 => ⟨S8x8192x16, .f32⟩
  | 50 => ⟨S8x8192x1024, .f32⟩
  | 51 => ⟨S8x8192x1024, .f32⟩
  | 52 => ⟨S8x8192x1024, .f32⟩
  | 53 => ⟨S8x8192x1024, .f32⟩
  | 54 => ⟨S8x8192x16, .f32⟩
  | 55 => ⟨S8x8192x1536, .f32⟩
  | 56 => ⟨S_, .i32⟩
  | 57 => ⟨S_, .f32⟩
  | 58 => ⟨S8x8195x1536, .f32⟩
  | 59 => ⟨S1x1536, .f32⟩
  | 60 => ⟨S1536, .f32⟩
  | 61 => ⟨S8x8192x1536, .f32⟩
  | 62 => ⟨S1x1x1536, .f32⟩
  | 63 => ⟨S8x8192x1536, .f32⟩
  | 64 => ⟨S8x8192x1536, .f32⟩
  | 65 => ⟨S_, .f32⟩
  | 66 => ⟨S8x8192x1536, .f32⟩
  | 67 => ⟨S8x8192x1536, .f32⟩
  | 68 => ⟨S1x1536, .f32⟩
  | 69 => ⟨S1536, .f32⟩
  | 70 => ⟨S8x8192x1536, .f32⟩
  | 71 => ⟨S1x1x1536, .f32⟩
  | 72 => ⟨S8x8192x1536, .f32⟩
  | 73 => ⟨S8x8192x1536, .f32⟩
  | 74 => ⟨S8x8192x1536, .f32⟩
  | 75 => ⟨S1x1536, .f32⟩
  | 76 => ⟨S1536, .f32⟩
  | 77 => ⟨S8x8192x1536, .f32⟩
  | 78 => ⟨S1x1x1536, .f32⟩
  | 79 => ⟨S8x8192x1536, .f32⟩
  | 80 => ⟨S8x8192x1536, .f32⟩
  | 81 => ⟨S8x8192x1536, .f32⟩
  | 82 => ⟨S1x1536, .f32⟩
  | 83 => ⟨S1536, .f32⟩
  | 84 => ⟨S8x8192x1536, .f32⟩
  | 85 => ⟨S1x1x1536, .f32⟩
  | 86 => ⟨S8x8192x1536, .f32⟩
  | 87 => ⟨S8x8192x1536, .f32⟩
  | 88 => ⟨S8x8192x1536, .f32⟩
  | 89 => ⟨S1x1x1536, .f32⟩
  | 90 => ⟨S8x8192x1536, .f32⟩
  | 91 => ⟨S8x8192x1536, .f32⟩
  | 92 => ⟨S8x8192x1536, .f32⟩
  | 93 => ⟨S8x8192x1536, .f32⟩
  | 94 => ⟨S_, .f32⟩
  | 95 => ⟨S8x8192x1536, .f32⟩
  | 96 => ⟨S8x8192x1536, .f32⟩
  | 97 => ⟨S_, .f32⟩
  | 98 => ⟨S8x8192x1536, .f32⟩
  | 99 => ⟨S8x8192x1536, .f32⟩
  | 100 => ⟨S8x8192x1536, .f32⟩
  | 101 => ⟨S8x8192x1024, .f32⟩
  | 102 => ⟨S8x8192x256, .f32⟩
  | 103 => ⟨S8x8192x256, .f32⟩
  | 104 => ⟨S1x1x16, .f32⟩
  | 105 => ⟨S8x8192x16, .f32⟩
  | 106 => ⟨S8x8192x16, .f32⟩
  | 107 => ⟨S_, .f32⟩
  | 108 => ⟨S8x8192x16, .f32⟩
  | 109 => ⟨S8x8192x16, .f32⟩
  | 110 => ⟨S8x8192x16, .f32⟩
  | 111 => ⟨S8x8192x16, .f32⟩
  | 112 => ⟨S8x8192x16, .i1⟩
  | 113 => ⟨S8x8192x16, .f32⟩
  | 114 => ⟨S8x8192x16, .f32⟩
  | 115 => ⟨S8x8192x16, .f32⟩
  | 116 => ⟨S8x8192x16, .f32⟩
  | 117 => ⟨S8x8192x16, .f32⟩
  | 118 => ⟨S8x8192x16, .f32⟩
  | 119 => ⟨S8x8192x16, .f32⟩
  | 120 => ⟨S8x8192x16, .f32⟩
  | 121 => ⟨S16, .f32⟩
  | 122 => ⟨S16, .f32⟩
  | 123 => ⟨S8x8192x16x64, .f32⟩
  | 124 => ⟨S8x8192x2x128, .f32⟩
  | 125 => ⟨S8x8192x2x128, .f32⟩
  | 126 => ⟨S8x64x128x2x8x64, .f32⟩
  | 127 => ⟨S8x64x128x2x8, .f32⟩
  | _ => ⟨S8x8192x1024, .f32⟩

abbrev hbmTy0_1 (i : Nat) : BufTy := match i % 128 with
  | 0 => ⟨S8x64x128x2x128, .f32⟩
  | 1 => ⟨S8x64x128x2x128, .f32⟩
  | 2 => ⟨S2x8, .f32⟩
  | 3 => ⟨S1x1x1x2x8, .f32⟩
  | 4 => ⟨S8x64x128x2x8, .f32⟩
  | 5 => ⟨S8x64x128x2x8, .f32⟩
  | 6 => ⟨S_, .f32⟩
  | 7 => ⟨S_, .f32⟩
  | 8 => ⟨S8x64x128x2x8, .f32⟩
  | 9 => ⟨S8x64x128x2x8x1, .f32⟩
  | 10 => ⟨S8x64x128x2x8x64, .f32⟩
  | 11 => ⟨S8x64x128x2x8x64, .f32⟩
  | 12 => ⟨S_, .i1⟩
  | 13 => ⟨S128x128, .i1⟩
  | 14 => ⟨S128x128, .i32⟩
  | 15 => ⟨S_, .i32⟩
  | 16 => ⟨S128x128, .i32⟩
  | 17 => ⟨S128x128, .i32⟩
  | 18 => ⟨S128x128, .i32⟩
  | 19 => ⟨S128x128, .i1⟩
  | 20 => ⟨S_, .i1⟩
  | 21 => ⟨S128x128, .i1⟩
  | 22 => ⟨S128x128, .i1⟩
  | 23 => ⟨S8x64x128x1x2x8, .f32⟩
  | 24 => ⟨S8x64x1x128x2x8, .f32⟩
  | 25 => ⟨S8x64x128x128x2x8, .f32⟩
  | 26 => ⟨S8x64x128x128x2x8, .f32⟩
  | 27 => ⟨S8x64x128x128x2x8, .f32⟩
  | 28 => ⟨S1x1x128x128x1x1, .i1⟩
  | 29 => ⟨S_, .f32⟩
  | 30 => ⟨S_, .f32⟩
  | 31 => ⟨S8x64x128x128x2x8, .i1⟩
  | 32 => ⟨S8x64x128x128x2x8, .f32⟩
  | 33 => ⟨S8x64x128x128x2x8, .f32⟩
  | 34 => ⟨S8x64x128x128x2x8, .f32⟩
  | 35 => ⟨S8x64x2x128x128, .f32⟩
  | 36 => ⟨S8x64x128x128x2, .f32⟩
  | 37 => ⟨S8x64x128x128x2x1, .f32⟩
  | 38 => ⟨S8x64x128x128x2x8, .f32⟩
  | 39 => ⟨S8x64x128x128x2x8, .f32⟩
  | 40 => ⟨S8x64x2x8x64x128, .f32⟩
  | 41 => ⟨S8x64x128x2x8x64, .f32⟩
  | 42 => ⟨S8x64x1x2x8, .f32⟩
  | 43 => ⟨S8x64x128x2x8, .f32⟩
  | 44 => ⟨S8x64x128x2x8, .f32⟩
  | 45 => ⟨S8x64x128x2x8, .f32⟩
  | 46 => ⟨S8x64x128x2x8x1, .f32⟩
  | 47 => ⟨S8x64x128x2x8x64, .f32⟩
  | 48 => ⟨S8x64x128x2x8x64, .f32⟩
  | 49 => ⟨S8x64x2x8x64x128, .f32⟩
  | 50 => ⟨S8x64x1x2x8, .f32⟩
  | 51 => ⟨S8x64x2x8, .f32⟩
  | 52 => ⟨S8x64x2x8, .f32⟩
  | 53 => ⟨S_, .f32⟩
  | 54 => ⟨S8x2x8x64x128, .f32⟩
  | 55 => ⟨S64x8x2x8x64x128, .f32⟩
  | 56 => ⟨S64x8x2x8, .f32⟩
  | 57 => ⟨S_, .f32⟩
  | 58 => ⟨S64x8x2x8x64x128, .f32⟩
  | 59 => ⟨S_, .i32⟩
  | 60 => ⟨S64x8x2x8x64x128, .f32⟩
  | 61 => ⟨S64x8x2x8, .f32⟩
  | 62 => ⟨S_, .i32⟩
  | 63 => ⟨S8x2x8x64x128, .f32⟩
  | 64 => ⟨S64x8x2x8x64x128, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x8x2x8x64x128, .f32⟩
  | 73 => ⟨S8x2x8x64x128, .f32⟩
  | 74 => ⟨S_, .i32⟩
  | 75 => ⟨S_, .i32⟩
  | 76 => ⟨S_, .i32⟩
  | 77 => ⟨S1x8x2x8, .f32⟩
  | 78 => ⟨S8x2x8, .f32⟩
  | 79 => ⟨S8x2x8x1x1, .f32⟩
  | 80 => ⟨S8x2x8x64x128, .f32⟩
  | 81 => ⟨S8x2x8x64x128, .f32⟩
  | 82 => ⟨S8x2x8x64x128, .f32⟩
  | 83 => ⟨S1x8x2x8x64x128, .f32⟩
  | 84 => ⟨S_, .i32⟩
  | 85 => ⟨S_, .i32⟩
  | 86 => ⟨S_, .i32⟩
  | 87 => ⟨S_, .i32⟩
  | 88 => ⟨S_, .i32⟩
  | 89 => ⟨S64x8x2x8x64x128, .f32⟩
  | 90 => ⟨S_, .i32⟩
  | 91 => ⟨S_, .i32⟩
  | 92 => ⟨S8x64x2x8x64x128, .f32⟩
  | 93 => ⟨S8x64x2x8x64x128, .f32⟩
  | 94 => ⟨S8x64x128x2x8x64, .f32⟩
  | 95 => ⟨S8x64x128x2x8, .f32⟩
  | 96 => ⟨S8x64x128x2x8x1, .f32⟩
  | 97 => ⟨S8x64x128x2x8x64, .f32⟩
  | 98 => ⟨S8x64x128x2x8x64, .f32⟩
  | 99 => ⟨S8x64x128x2x8x64, .f32⟩
  | 100 => ⟨S8x8192x16x64, .f32⟩
  | 101 => ⟨S16x1, .f32⟩
  | 102 => ⟨S1x1x16x1, .f32⟩
  | 103 => ⟨S8x8192x16x64, .f32⟩
  | 104 => ⟨S8x8192x16x64, .f32⟩
  | 105 => ⟨S8x8192x16x64, .f32⟩
  | 106 => ⟨S8x8192x1024, .f32⟩
  | 107 => ⟨S8x8192x1024, .f32⟩
  | 108 => ⟨S8x8192x1024, .f32⟩
  | 109 => ⟨S_, .f32⟩
  | 110 => ⟨S8x8192x1024, .f32⟩
  | 111 => ⟨S8x8192x1024, .f32⟩
  | 112 => ⟨S_, .f32⟩
  | 113 => ⟨S8x8192x1024, .f32⟩
  | 114 => ⟨S8x8192x1024, .f32⟩
  | 115 => ⟨S8x8192x1024, .f32⟩
  | 116 => ⟨S8x8192x1024, .f32⟩
  | 117 => ⟨S8x8192x2x512, .f32⟩
  | 118 => ⟨S2x512, .f32⟩
  | 119 => ⟨S8x8192x2x512, .f32⟩
  | 120 => ⟨S_, .f32⟩
  | 121 => ⟨S8x8192x2, .f32⟩
  | 122 => ⟨S8x8192x2x1, .f32⟩
  | 123 => ⟨S_, .f32⟩
  | 124 => ⟨S8x8192x2x1, .f32⟩
  | 125 => ⟨S8x8192x2x1, .f32⟩
  | 126 => ⟨S_, .f32⟩
  | 127 => ⟨S8x8192x2x1, .f32⟩
  | _ => ⟨S8x8192x1024, .f32⟩

abbrev hbmTy0_2 (i : Nat) : BufTy := match i % 128 with
  | 0 => ⟨S8x8192x2x1, .f32⟩
  | 1 => ⟨S8x8192x2x1, .f32⟩
  | 2 => ⟨S8x8192x2x512, .f32⟩
  | 3 => ⟨S8x8192x2x512, .f32⟩
  | 4 => ⟨S1x1x2x512, .f32⟩
  | 5 => ⟨S8x8192x2x512, .f32⟩
  | 6 => ⟨S8x8192x2x512, .f32⟩
  | 7 => ⟨S8x8192x1024, .f32⟩
  | 8 => ⟨S8x8192x16x64, .f32⟩
  | 9 => ⟨S8x8192x16x64, .f32⟩
  | 10 => ⟨S_, .f32⟩
  | 11 => ⟨S8x8192x16, .f32⟩
  | 12 => ⟨S8x8192x16x1, .f32⟩
  | 13 => ⟨S_, .f32⟩
  | 14 => ⟨S8x8192x16x1, .f32⟩
  | 15 => ⟨S8x8192x16x1, .f32⟩
  | 16 => ⟨S_, .f32⟩
  | 17 => ⟨S8x8192x16x1, .f32⟩
  | 18 => ⟨S8x8192x16x1, .f32⟩
  | 19 => ⟨S8x8192x16x1, .f32⟩
  | 20 => ⟨S8x8192x16x64, .f32⟩
  | 21 => ⟨S8x8192x16x64, .f32⟩
  | 22 => ⟨S1x1x1x64, .f32⟩
  | 23 => ⟨S8x8192x16x64, .f32⟩
  | 24 => ⟨S8x8192x16x64, .f32⟩
  | 25 => ⟨S_, .f32⟩
  | 26 => ⟨S8x8192x16x64, .f32⟩
  | 27 => ⟨S8x8192x16x64, .f32⟩
  | 28 => ⟨S8x8192x16x64, .f32⟩
  | 29 => ⟨S8x8192x16x64, .f32⟩
  | 30 => ⟨S_, .f32⟩
  | 31 => ⟨S8x8192x16, .f32⟩
  | 32 => ⟨S8x8192x16x1, .f32⟩
  | 33 => ⟨S_, .f32⟩
  | 34 => ⟨S8x8192x16x1, .f32⟩
  | 35 => ⟨S8x8192x16x1, .f32⟩
  | 36 => ⟨S_, .f32⟩
  | 37 => ⟨S8x8192x16x1, .f32⟩
  | 38 => ⟨S8x8192x16x1, .f32⟩
  | 39 => ⟨S8x8192x16x1, .f32⟩
  | 40 => ⟨S8x8192x16x64, .f32⟩
  | 41 => ⟨S8x8192x16x64, .f32⟩
  | 42 => ⟨S1x1x1x64, .f32⟩
  | 43 => ⟨S8x8192x16x64, .f32⟩
  | 44 => ⟨S8x8192x16x64, .f32⟩
  | 45 => ⟨S65536x1024, .f32⟩
  | 46 => ⟨S65536x1024, .bf16⟩
  | 47 => ⟨S65536x1024, .f32⟩
  | 48 => ⟨S65536x1024, .bf16⟩
  | 49 => ⟨S65536x1024, .f32⟩
  | 50 => ⟨S65536x1024, .bf16⟩
  | 51 => ⟨S8x1024x8192, .f32⟩
  | 52 => ⟨S8x1024x8192, .bf16⟩
  | 53 => ⟨S65536x1024, .f32⟩
  | 54 => ⟨S65536x1024, .bf16⟩
  | _ => ⟨S8x8192x1024, .f32⟩

abbrev hbmTy (i : Nat) : BufTy := match i / 128 with
  | 0 => hbmTy0_0 i
  | 1 => hbmTy0_1 i
  | 2 => hbmTy0_2 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_call0_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call2_cst : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call3_call0_cst : Ref sig .tc := ⟨.hbm, 134, rfl⟩
abbrev main_call3_call0_v0 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_c_4 : Ref sig .tc := ⟨.hbm, 140, rfl⟩
abbrev main_v97 : Ref sig .tc := ⟨.hbm, 141, rfl⟩
abbrev main_call4_v0 : Ref sig .tc := ⟨.hbm, 142, rfl⟩
abbrev main_call4_c : Ref sig .tc := ⟨.hbm, 143, rfl⟩
abbrev main_call4_v1 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_c_0 : Ref sig .tc := ⟨.hbm, 148, rfl⟩
abbrev main_call4_v5 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_5 : Ref sig .tc := ⟨.hbm, 157, rfl⟩
abbrev main_call5_v0 : Ref sig .tc := ⟨.hbm, 158, rfl⟩
abbrev main_call5_v1 : Ref sig .tc := ⟨.hbm, 159, rfl⟩
abbrev main_call5_v2 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_cst_6 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_cst_7 : Ref sig .tc := ⟨.hbm, 185, rfl⟩
abbrev main_v128 : Ref sig .tc := ⟨.hbm, 186, rfl⟩
abbrev main_c_8 : Ref sig .tc := ⟨.hbm, 187, rfl⟩
abbrev main_v129_0 : Ref sig .tc := ⟨.hbm, 188, rfl⟩
abbrev main_v129_1 : Ref sig .tc := ⟨.hbm, 189, rfl⟩
abbrev main_v129_2 : Ref sig .tc := ⟨.hbm, 190, rfl⟩
abbrev main_v129_3 : Ref sig .tc := ⟨.hbm, 191, rfl⟩
abbrev main_v129_4 : Ref sig .tc := ⟨.hbm, 192, rfl⟩
abbrev main_while0c_c_23 : Ref sig .tc := ⟨.hbm, 193, rfl⟩
abbrev main_while0c_v203 : Ref sig .tc := ⟨.hbm, 194, rfl⟩
abbrev main_while0b_call6_c : Ref sig .tc := ⟨.hbm, 195, rfl⟩
abbrev main_while0b_call6_c_0 : Ref sig .tc := ⟨.hbm, 196, rfl⟩
abbrev main_while0b_call6_c_1 : Ref sig .tc := ⟨.hbm, 197, rfl⟩
abbrev main_while0b_call6_c_2 : Ref sig .tc := ⟨.hbm, 198, rfl⟩
abbrev main_while0b_call6_c_3 : Ref sig .tc := ⟨.hbm, 199, rfl⟩
abbrev main_while0b_call6_v0 : Ref sig .tc := ⟨.hbm, 200, rfl⟩
abbrev main_while0b_v203 : Ref sig .tc := ⟨.hbm, 201, rfl⟩
abbrev main_while0b_call7_c : Ref sig .tc := ⟨.hbm, 202, rfl⟩
abbrev main_while0b_call7_c_0 : Ref sig .tc := ⟨.hbm, 203, rfl⟩
abbrev main_while0b_call7_c_1 : Ref sig .tc := ⟨.hbm, 204, rfl⟩
abbrev main_while0b_call7_v0 : Ref sig .tc := ⟨.hbm, 205, rfl⟩
abbrev main_while0b_v204 : Ref sig .tc := ⟨.hbm, 206, rfl⟩
abbrev main_while0b_v205 : Ref sig .tc := ⟨.hbm, 207, rfl⟩
abbrev main_while0b_v206 : Ref sig .tc := ⟨.hbm, 208, rfl⟩
abbrev main_while0b_v207 : Ref sig .tc := ⟨.hbm, 209, rfl⟩
abbrev main_while0b_v208 : Ref sig .tc := ⟨.hbm, 210, rfl⟩
abbrev main_while0b_call8_v0 : Ref sig .tc := ⟨.hbm, 211, rfl⟩
abbrev main_while0b_call8_c : Ref sig .tc := ⟨.hbm, 212, rfl⟩
abbrev main_while0b_call8_c_0 : Ref sig .tc := ⟨.hbm, 213, rfl⟩
abbrev main_while0b_call8_c_1 : Ref sig .tc := ⟨.hbm, 214, rfl⟩
abbrev main_while0b_call8_c_2 : Ref sig .tc := ⟨.hbm, 215, rfl⟩
abbrev main_while0b_call8_c_3 : Ref sig .tc := ⟨.hbm, 216, rfl⟩
abbrev main_while0b_v209 : Ref sig .tc := ⟨.hbm, 217, rfl⟩
abbrev main_while0b_c_23 : Ref sig .tc := ⟨.hbm, 218, rfl⟩
abbrev main_while0b_v210 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_call9_v0 : Ref sig .tc := ⟨.hbm, 235, rfl⟩
abbrev main_call9_v1 : Ref sig .tc := ⟨.hbm, 236, rfl⟩
abbrev main_call9_cst : Ref sig .tc := ⟨.hbm, 237, rfl⟩
abbrev main_call9_v2 : Ref sig .tc := ⟨.hbm, 238, rfl⟩
abbrev main_call9_v3 : Ref sig .tc := ⟨.hbm, 239, rfl⟩
abbrev main_call9_cst_0 : Ref sig .tc := ⟨.hbm, 240, rfl⟩
abbrev main_call9_v4 : Ref sig .tc := ⟨.hbm, 241, rfl⟩
abbrev main_call9_v5 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_cst_9 : Ref sig .tc := ⟨.hbm, 248, rfl⟩
abbrev main_v150 : Ref sig .tc := ⟨.hbm, 249, rfl⟩
abbrev main_v151 : Ref sig .tc := ⟨.hbm, 250, rfl⟩
abbrev main_cst_10 : Ref sig .tc := ⟨.hbm, 251, rfl⟩
abbrev main_v152 : Ref sig .tc := ⟨.hbm, 252, rfl⟩
abbrev main_v153 : Ref sig .tc := ⟨.hbm, 253, rfl⟩
abbrev main_cst_11 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_cst_12 : Ref sig .tc := ⟨.hbm, 266, rfl⟩
abbrev main_v165 : Ref sig .tc := ⟨.hbm, 267, rfl⟩
abbrev main_v166 : Ref sig .tc := ⟨.hbm, 268, rfl⟩
abbrev main_cst_13 : Ref sig .tc := ⟨.hbm, 269, rfl⟩
abbrev main_v167 : Ref sig .tc := ⟨.hbm, 270, rfl⟩
abbrev main_v168 : Ref sig .tc := ⟨.hbm, 271, rfl⟩
abbrev main_cst_14 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_15 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_cst_16 : Ref sig .tc := ⟨.hbm, 286, rfl⟩
abbrev main_v181 : Ref sig .tc := ⟨.hbm, 287, rfl⟩
abbrev main_v182 : Ref sig .tc := ⟨.hbm, 288, rfl⟩
abbrev main_cst_17 : Ref sig .tc := ⟨.hbm, 289, rfl⟩
abbrev main_v183 : Ref sig .tc := ⟨.hbm, 290, rfl⟩
abbrev main_v184 : Ref sig .tc := ⟨.hbm, 291, rfl⟩
abbrev main_cst_18 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_v192 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩

abbrev nD : Nat := 1
abbrev τ : Topo := Topo.v7x

variable {F : FTy → Type} [FloatOps F]

abbrev main_while0_count : Scf.Loop 32 := ⟨0#32, 64#32, 1#32⟩
-- ==== MixKernel.lean ====
abbrev S8x8192x1024 : Shape := ⟨3, ![8, 8192, 1024]⟩
abbrev S3x8x1024 : Shape := ⟨3, ![3, 8, 1024]⟩
abbrev S65536x1024 : Shape := ⟨2, ![65536, 1024]⟩
abbrev S2048x1024 : Shape := ⟨2, ![2048, 1024]⟩
abbrev S3x8x1x1024 : Shape := ⟨4, ![3, 8, 1, 1024]⟩
abbrev S1024x1024 : Shape := ⟨2, ![1024, 1024]⟩
abbrev S512x1024 : Shape := ⟨2, ![512, 1024]⟩
abbrev S3x1x1x1024 : Shape := ⟨4, ![3, 1, 1, 1024]⟩
abbrev S1x1x1x1024 : Shape := ⟨4, ![1, 1, 1, 1024]⟩
abbrev S1x1024 : Shape := ⟨2, ![1, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8x8192x1024, .f32⟩
  | .hbm, ⟨1, _⟩ => ⟨S3x8x1024, .f32⟩
  | .hbm, ⟨2, _⟩ => ⟨S65536x1024, .bf16⟩
  | .hbm, ⟨3, _⟩ => ⟨S8x8192x1024, .bf16⟩
  | .hbm, ⟨4, _⟩ => ⟨S2048x1024, .f32⟩
  | .hbm, ⟨5, _⟩ => ⟨S65536x1024, .f32⟩
  | .hbm, ⟨6, _⟩ => ⟨S3x8x1x1024, .f32⟩
  | .hbm, ⟨7, _⟩ => ⟨S65536x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S3x1x1x1024, .f32⟩
  | .local _ .vmem, ⟨7, _⟩ => ⟨S3x1x1x1024, .f32⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixReferenceIdeal.lean ====
abbrev S8x8192x1024 : Shape := ⟨3, ![8, 8192, 1024]⟩
abbrev S3x8x1024 : Shape := ⟨3, ![3, 8, 1024]⟩
abbrev S65536x1024 : Shape := ⟨2, ![65536, 1024]⟩
abbrev S2048x1024 : Shape := ⟨2, ![2048, 1024]⟩
abbrev S1x8x1024 : Shape := ⟨3, ![1, 8, 1024]⟩
abbrev S8x1024 : Shape := ⟨2, ![8, 1024]⟩
abbrev S8x8192x2048 : Shape := ⟨3, ![8, 8192, 2048]⟩
abbrev S8x1x1024 : Shape := ⟨3, ![8, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S3x8x1024, .f32⟩
  | .hbm, ⟨2, _⟩ => ⟨S65536x1024, .bf16⟩
  | .hbm, ⟨3, _⟩ => ⟨S8x8192x1024, .bf16⟩
  | .hbm, ⟨4, _⟩ => ⟨S2048x1024, .f32⟩
  | .hbm, ⟨5, _⟩ => ⟨S1x8x1024, .f32⟩
  | .hbm, ⟨6, _⟩ => ⟨S8x1024, .f32⟩
  | .hbm, ⟨7, _⟩ => ⟨S1x8x1024, .f32⟩
  | .hbm, ⟨8, _⟩ => ⟨S8x1024, .f32⟩
  | .hbm, ⟨9, _⟩ => ⟨S1x8x1024, .f32⟩
  | .hbm, ⟨10, _⟩ => ⟨S8x1024, .f32⟩
  | .hbm, ⟨11, _⟩ => ⟨S8x8192x1024, .bf16⟩
  | .hbm, ⟨12, _⟩ => ⟨S8x8192x1024, .f32⟩
  | .hbm, ⟨13, _⟩ => ⟨S8x8192x1024, .f32⟩
  | .hbm, ⟨14, _⟩ => ⟨S8x8192x2048, .f32⟩
  | .hbm, ⟨15, _⟩ => ⟨S8x8192x1024, .f32⟩
  | .hbm, ⟨16, _⟩ => ⟨S8x1x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== AdaKernel.lean ====
abbrev S8x1024 : Shape := ⟨2, ![8, 1024]⟩
abbrev S1024x3072 : Shape := ⟨2, ![1024, 3072]⟩
abbrev S3072 : Shape := ⟨1, ![3072]⟩
abbrev S3x1x1024 : Shape := ⟨3, ![3, 1, 1024]⟩
abbrev S3x8x1024 : Shape := ⟨3, ![3, 8, 1024]⟩
abbrev S1024x1024 : Shape := ⟨2, ![1024, 1024]⟩
abbrev S1x1x1024 : Shape := ⟨3, ![1, 1, 1024]⟩
abbrev S1x8x1024 : Shape := ⟨3, ![1, 8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S3072, .f32⟩
  | .hbm, ⟨3, _⟩ => ⟨S3x1x1024, .f32⟩
  | .hbm, ⟨4, _⟩ => ⟨S3x8x1024, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaReferenceIdeal.lean ====
abbrev S8x1024 : Shape := ⟨2, ![8, 1024]⟩
abbrev S1024x3072 : Shape := ⟨2, ![1024, 3072]⟩
abbrev S3072 : Shape := ⟨1, ![3072]⟩
abbrev S_ : Shape := ⟨0, ![]⟩
abbrev S8x3072 : Shape := ⟨2, ![8, 3072]⟩
abbrev S1x3072 : Shape := ⟨2, ![1, 3072]⟩
abbrev S1x8x1024 : Shape := ⟨3, ![1, 8, 1024]⟩
abbrev S3x8x1024 : Shape := ⟨3, ![3, 8, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x3072, .f32⟩
  | .hbm, ⟨2, _⟩ => ⟨S3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x3072, .f32⟩
  | .hbm, ⟨13, _⟩ => ⟨S1x3072, .f32⟩
  | .hbm, ⟨14, _⟩ => ⟨S8x3072, .f32⟩
  | .hbm, ⟨15, _⟩ => ⟨S8x3072, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S1x8x1024, .f32⟩
  | .hbm, ⟨20, _⟩ => ⟨S1x8x1024, .f32⟩
  | .hbm, ⟨21, _⟩ => ⟨S1x8x1024, .f32⟩
  | .hbm, ⟨22, _⟩ => ⟨S3x8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Proof.RowMath.lean ====
/- The layer's mathematics of one token: the modulated norm of a row, a row's product with a column of the input
   projection, and the normalisation of one entry of a head; and the two facts about sums and constants by which the
   kernel's form of the head norm is the reference's. -/
module

public import Idealize.ShloMosaic.Lib.Pointwise
public import Idealize.ShloMosaic.Lib.IdealHost

@[expose] public section

noncomputable section

namespace Cert.Layer

open Idealize.ShloMosaic

/-- The norms' small constant. -/
def eps : EReal := Ideal.ofBits .f32 0x358637BD#32

/-- Entry `k` of a token's row after the norm, its gain and the modulation. -/
def hRow (x g sc sh : Fin 1024 → EReal) (k : Fin 1024) : EReal :=
  x k * Ideal.rsqrt (Ideal.div (∑ d, x d * x d) (Ideal.ofBits .f32 0x44800000#32) + eps) * g k * (1 + sc k) + sh k

/-- A row's product with a column of the projection. -/
def colDot (h w : Fin 1024 → EReal) : EReal := ∑ d, h d * w d

/-- An entry `t` of a head whose 64 squares sum to `ss`, divided by the head's root mean square. -/
def headNorm (t ss : EReal) : EReal := t * Ideal.rsqrt (Ideal.div ss (Ideal.ofBits .f32 0x42800000#32) + eps)

/-- Dividing by 64 is multiplying by the pattern of its reciprocal. -/
theorem mul_inv64 (s : EReal) :
    s * Ideal.ofBits .f32 0x3C800000#32 = Ideal.div s (Ideal.ofBits .f32 0x42800000#32) := by
  have h1 : Ideal.ofBits .f32 0x3C800000#32 = (((1 : ℝ) / 64 : ℝ) : EReal) := by
    simp [Ideal.ofBits, Ideal.ieee, -EReal.coe_mul]; norm_num
  have h2 : Ideal.ofBits .f32 0x42800000#32 = ((64 : ℝ) : EReal) := by
    simp [Ideal.ofBits, Ideal.ieee, -EReal.coe_mul]; norm_num
  rw [h1, h2, Ideal.div_coe (by norm_num)]

/-- A sum over 128 lanes that keeps the lower 64 is the sum over those. -/
theorem sum_lower (f : Fin 128 → EReal) :
    ∑ x : Fin 128, (if x.val < 64 then f x else 0) = ∑ e : Fin 64, f ⟨e.val, by omega⟩ := by
  rw [show (∑ x : Fin 128, (if x.val < 64 then f x else 0)) = ∑ x : Fin (64 + 64), (if x.val < 64 then f x else 0) from rfl,
    Fin.sum_univ_add]
  have h2 : ∑ e : Fin 64, (if (Fin.natAdd 64 e).val < 64 then f (Fin.natAdd 64 e) else 0) = 0 :=
    Finset.sum_eq_zero fun e _ => by rw [if_neg (by simp)]
  rw [h2, add_zero]
  refine Finset.sum_congr rfl fun e _ => ?_
  rw [if_pos (by simp)]; rfl

/-- A sum over 128 lanes that keeps the upper 64 is the sum over those. -/
theorem sum_upper (f : Fin 128 → EReal) :
    ∑ x : Fin 128, (if x.val < 64 then 0 else f x) = ∑ e : Fin 64, f ⟨64 + e.val, by omega⟩ := by
  rw [show (∑ x : Fin 128, (if x.val < 64 then 0 else f x)) = ∑ x : Fin (64 + 64), (if x.val < 64 then 0 else f x) from rfl,
    Fin.sum_univ_add]
  have h2 : ∑ e : Fin 64, (if (Fin.castAdd 64 e).val < 64 then 0 else f (Fin.castAdd 64 e)) = 0 :=
    Finset.sum_eq_zero fun e _ => by rw [if_pos (by simp)]
  rw [h2, zero_add]
  refine Finset.sum_congr rfl fun e _ => ?_
  rw [if_neg (by simp)]; rfl

/-- The head sum a lane selects: the sum over the lane's own head of 64. -/
theorem select_head_sum (f : Fin 128 → EReal) (l : Fin 128) :
    (if l.val < 64 then ∑ x : Fin 128, (if x.val < 64 then f x else 0) else ∑ x : Fin 128, (if x.val < 64 then 0 else f x))
      = ∑ e : Fin 64, f ⟨l.val / 64 * 64 + e.val, by omega⟩ := by
  rw [sum_lower, sum_upper]
  split
  next h =>
    have h0 : l.val / 64 = 0 := by omega
    simp only [h0, Nat.zero_mul, Nat.zero_add]
  next h =>
    have h0 : l.val / 64 = 1 := by omega
    simp only [h0, Nat.one_mul]

end Cert.Layer

end
-- ==== Proof.ProjBlock.lean ====
/- What one grid point of the projection call computes from the blocks it reads: the modulated row norm
   `h`, a slab of two heads' normalised queries or keys, a slab of transposed values, and a slab of the
   attention gate, each as a function of the loaded vectors and then as a sum at an index. -/
module

public import proofs.«01_k».proof.Proof.Gen.KernelIdeal.Skeleton
public import proofs.«01_k».proof.Proof.RowMath

@[expose] public section

set_option maxRecDepth 16384

noncomputable section

namespace Cert.Layer

open Cert.KernelIdeal Cert.KernelIdeal.Gen Idealize.ShloMosaic Idealize.SL.Sem

/-- The row tile after the modulated norm, in the type the products read. -/
def hBlk {F : FTy → Type} [FloatOps F] [Named F] (x : Vec F S512x1024 .f32) (sh sc : Vec F S1x1x1x1024 .f32) (g : Vec F S1x1024 .f32) :
    FVec F S512x1024 .bf16 :=
  k0_pay9 (k0_pay5 sh) (k0_pay6 sc) (k0_pay7 x g) k0_pay8

/-- The rows' product with a slab of 256 columns. -/
def slabDot {F : FTy → Type} [FloatOps F] (hb : FVec F S512x1024 .bf16) (w : Vec F S1024x256 .bf16) : FVec F S512x256 .f32 :=
  matmul dot_S512x1024_S1024x256_S512x256_1_0_0_1_n_n none hb (shapeCast S1024x256 w shapeCasts_S1024x256_S1024x256)
    (constant S512x256 .f32 0x00000000#32)

/-- Which of a vector's 128 lanes belong to the first of its two heads. -/
def loLane : IVec S512x128 1 :=
  broadcastTo S512x128 (shapeCast S1x128 k0_pay46 shapeCasts_S1x128_S1x128) broadcasts_S1x128_S512x128

/-- A row's two head sums of squares, spread over the lanes of their head. -/
def headSums {F : FTy → Type} [FloatOps F] (t : FVec F S512x128 .f32) : FVec F S512x128 .f32 :=
  have z : FVec F S512x128 .f32 := broadcast S512x128 (Scalar.ofBits .f32 0x00000000#32 : F .f32)
  have lo : FVec F S512x1 .f32 := shapeCast S512x1 (multiReduction .add [1] S512 (select loLane (mulf t t) z) 0x00000000#32 reduces_S512x128_S512 (.inl rfl) rfl) shapeCasts_S512_S512x1
  have hi : FVec F S512x1 .f32 := shapeCast S512x1 (multiReduction .add [1] S512 (select loLane z (mulf t t)) 0x00000000#32 reduces_S512x128_S512 (.inl rfl) rfl) shapeCasts_S512_S512x1
  select loLane
    (broadcastTo S512x128 (shapeCast S512x1 lo shapeCasts_S512x1_S512x1) broadcasts_S512x1_S512x128)
    (broadcastTo S512x128 (shapeCast S512x1 hi shapeCasts_S512x1_S512x1) broadcasts_S512x1_S512x128)

/-- Two heads of a product, each normalised by its own mean square and scaled by the gain row. -/
def normPair {F : FTy → Type} [FloatOps F] (t : FVec F S512x128 .f32) (g : Vec F S1x128 .f32) : FVec F S512x128 .bf16 :=
  truncf .bf16 (mulf (mulf t (rsqrt (addf (mulf (headSums t) (broadcast S512x128 (Scalar.ofBits .f32 0x3C800000#32 : F .f32)))
      (broadcast S512x128 (Scalar.ofBits .f32 0x358637BD#32 : F .f32)))))
    (broadcastTo S512x128 (shapeCast S1x128 g shapeCasts_S1x128_S1x128) broadcasts_S1x128_S512x128)) bitsLt_bf16_f32

/-- A slab of 256 rows of the values' product, transposed: rows are value columns, columns are tokens. -/
def vSlab {F : FTy → Type} [FloatOps F] (hb : FVec F S512x1024 .bf16) (w : Vec F S256x1024 .bf16) : FVec F S1x256x512 .bf16 :=
  shapeCast S1x256x512 (truncf .bf16 (matmul dot_S256x1024_S512x1024_S256x512_1_1_0_0_n_n none
    (shapeCast S256x1024 w shapeCasts_S256x1024_S256x1024) hb (constant S256x512 .f32 0x00000000#32)) bitsLt_bf16_f32) shapeCasts_S256x512_S1x256x512

/-- `h` at row `r` and feature `k` is the layer's modulated norm of row `r` of the tile. -/
theorem hBlk_at (x : Vec Ideal S512x1024 .f32) (sh sc : Vec Ideal S1x1x1x1024 .f32) (g : Vec Ideal S1x1024 .f32) (r : Fin 512) (k : Fin 1024) :
    hBlk x sh sc g (ix2 r k)
      = hRow (fun d => x (ix2 r d)) (fun d => g (ix2 0 d)) (fun d => sc (ix4 0 0 0 d)) (fun d => sh (ix4 0 0 0 d)) k := by
  unfold hBlk k0_pay9 k0_pay5 k0_pay6 k0_pay7 k0_pay8
  pointwise
  rfl

/-- A slab's product at row `r` and column `k`. -/
theorem slabDot_at (hb : FVec Ideal S512x1024 .bf16) (w : Vec Ideal S1024x256 .bf16) (r : Fin 512) (k : Fin 256) :
    slabDot hb w (ix2 r k) = colDot (fun d => hb (ix2 r d)) (fun d => w (ix2 d k)) := by
  unfold slabDot
  pointwise
  rfl

/-- The mask's lane `l` is set exactly on the first head's lanes. -/
theorem loLane_at (r : Fin 512) (l : Fin 128) : loLane (ix2 r l) = if l.val < 64 then 1#1 else 0#1 := by
  unfold loLane k0_pay46
  pointwise
  revert l
  decide +kernel

/-- A lane's head sum is the sum of the squares of its head's 64 entries. -/
theorem headSums_at (t : FVec Ideal S512x128 .f32) (r : Fin 512) (l : Fin 128) :
    headSums t (ix2 r l) = ∑ e : Fin 64, t (ix2 r ⟨l.val / 64 * 64 + e.val, by omega⟩) * t (ix2 r ⟨l.val / 64 * 64 + e.val, by omega⟩) := by
  unfold headSums
  pointwise
  rw [← select_head_sum (fun x => t (ix2 r x) * t (ix2 r x)) l]
  simp only [loLane_at]
  have hs : ∀ (p : Prop) [Decidable p] (a b : EReal), Scalar.select (if p then 1#1 else 0#1) a b = if p then a else b := by
    intro p _ a b; by_cases h : p <;> simp [h, Scalar.select]
  simp only [hs]

/-- Two normalised heads at row `r` and lane `l`. -/
theorem normPair_at (t : FVec Ideal S512x128 .f32) (g : Vec Ideal S1x128 .f32) (r : Fin 512) (l : Fin 128) :
    normPair t g (ix2 r l)
      = headNorm (t (ix2 r l)) (∑ e : Fin 64, t (ix2 r ⟨l.val / 64 * 64 + e.val, by omega⟩) * t (ix2 r ⟨l.val / 64 * 64 + e.val, by omega⟩)) * g (ix2 0 l) := by
  unfold normPair
  pointwise
  rw [headSums_at, mul_inv64]
  rfl

/-- The transposed values' slab at value column `k` and token `r`. -/
theorem vSlab_at (hb : FVec Ideal S512x1024 .bf16) (w : Vec Ideal S256x1024 .bf16) (r : Fin 512) (k : Fin 256) :
    vSlab hb w (ix3 0 k r) = colDot (fun d => hb (ix2 r d)) (fun d => w (ix2 k d)) := by
  unfold vSlab
  pointwise
  exact Finset.sum_congr rfl fun d _ => mul_comm _ _

end Cert.Layer

end
-- ==== Proof.KernelBlocks.lean ====
/- The projection call's stored blocks at an entry: each stored piece of the queries, keys, values and gate is
   a slab function of the blocks the point read, whatever the carried state holds. -/
module

public import proofs.«01_k».proof.Proof.Gen.KernelIdeal.Frame
public import proofs.«01_k».proof.Proof.ProjBlock
import Idealize.ShloMosaic.Lib.Pipeline.ValueKit

@[expose] public section

set_option maxRecDepth 16384

noncomputable section

namespace Cert.Layer

open Cert.KernelIdeal Cert.KernelIdeal.Gen Idealize.ShloMosaic Idealize.ShloMosaic.TcCoe Idealize.SL.Sem

/-- The modulated norm of a point's row tile, from the point's input blocks. -/
def hTile (X : Vec Ideal S512x1024 .f32) (M : Vec Ideal S3x1x1x1024 .f32) (G : Vec Ideal S1x1024 .f32) : FVec Ideal S512x1024 .bf16 :=
  hBlk (View.ld X (Rect.unit ![0, 0] S512x1024.size inb_S512x1024_S512x1024_0_0))
    (View.ld M (Rect.unit ![0, 0, 0, 0] S1x1x1x1024.size inb_S3x1x1x1024_S1x1x1x1024_0_0_0_0))
    (View.ld M (Rect.unit ![1, 0, 0, 0] S1x1x1x1024.size inb_S3x1x1x1024_S1x1x1x1024_1_0_0_0))
    (View.ld G (Rect.unit ![0, 0] S1x1024.size inb_S1x1024_S1x1024_0_0))

/-- A tile's modulated norm at row `r` and feature `k`, read off the blocks. -/
theorem hTile_at (X : Vec Ideal S512x1024 .f32) (M : Vec Ideal S3x1x1x1024 .f32) (G : Vec Ideal S1x1024 .f32) (r : Fin 512) (k : Fin 1024) :
    hTile X M G (ix2 r k)
      = hRow (fun d => X (ix2 r d)) (fun d => G (ix2 0 d)) (fun d => M (ix4 1 0 0 d)) (fun d => M (ix4 0 0 0 d)) k := by
  unfold hTile
  rw [hBlk_at]
  pointwise

/-- The pair of heads a piece stores, at the block's entry `(r, j)`. -/
theorem normPiece_at (hb : FVec Ideal S512x1024 .bf16) (W : Vec Ideal S1024x1024 .bf16) (G : Vec Ideal S2x1024 .f32) (row : Fin 2)
    (off s o : ℕ) (hW : ∀ a, ![0, off] a + S1024x256.size a ≤ S1024x1024.size a) (hG : ∀ a, ![row.val, o] a + S1x128.size a ≤ S2x1024.size a)
    (hS : S512x256.Slices ![0, s] S512x128) (r : Fin 512) (j : Fin 1024) (x : S512x128.Idx) (h0 : r.val = (x 0).val) (h1 : j.val = o + (x 1).val)
    (ho : o = off + s) (d1 : off % 64 = 0) (d2 : s % 64 = 0) :
    normPair (extractStridedSlice S512x128 ![0, s] (slabDot hb (View.ld W (Rect.unit ![0, off] S1024x256.size hW))) hS)
        (View.ld G (Rect.unit ![row.val, o] S1x128.size hG)) x
      = headNorm (colDot (fun d => hb (ix2 r d)) (fun d => W (ix2 d j)))
          (∑ e : Fin 64, colDot (fun d => hb (ix2 r d)) (fun d => W (ix2 d ⟨j.val / 64 * 64 + e.val, by omega⟩))
            * colDot (fun d => hb (ix2 r d)) (fun d => W (ix2 d ⟨j.val / 64 * 64 + e.val, by omega⟩)))
        * G (ix2 row j) := by
  obtain ⟨b, hb1, hx⟩ : ∃ b : Fin 128, (x 1).val = b.val ∧ x = ix2 r b :=
    ⟨x 1, rfl, by funext a; match a with | 0 => exact Fin.ext h0.symm | 1 => rfl⟩
  rw [hb1] at h1
  have hl : b.val < 128 := b.isLt
  have hj : j.val < 1024 := j.isLt
  have key : ∀ (l : Fin 128) (j' : Fin 1024), j'.val = o + l.val →
      extractStridedSlice S512x128 ![0, s] (slabDot hb (View.ld W (Rect.unit ![0, off] S1024x256.size hW))) hS (ix2 r l)
        = colDot (fun d => hb (ix2 r d)) (fun d => W (ix2 d j')) := by
    intro l j' hj'
    have hs : s + l.val < 256 := by have := hS.2 1; simp at this; omega
    rw [show extractStridedSlice S512x128 ![0, s] (slabDot hb (View.ld W (Rect.unit ![0, off] S1024x256.size hW))) hS (ix2 r l)
        = slabDot hb (View.ld W (Rect.unit ![0, off] S1024x256.size hW)) (ix2 r ⟨s + l.val, hs⟩) from by pointwise, slabDot_at]
    congr 1
    funext d
    refine View.ld_unit_apply_of _ _ _ _ _ _ fun a => ?_
    match a with
    | 0 => simp [ix2]
    | 1 => simp [ix2]; omega
  refine (congrArg (normPair _ _) hx).trans ?_
  rw [normPair_at, key b j h1]
  congr 1
  · congr 1
    refine Finset.sum_congr rfl fun e _ => ?_
    rw [key _ ⟨j.val / 64 * 64 + e.val, by omega⟩ (by show j.val / 64 * 64 + e.val = o + (b.val / 64 * 64 + e.val); omega)]
  · refine View.ld_unit_apply_of _ _ _ _ _ _ fun a => ?_
    match a with
    | 0 => simp [ix2]
    | 1 => simp [ix2]; omega

/-- A slab of the gate's product as a piece stores it, at the block's entry `(r, j)`. -/
theorem gatePiece_at (hb : FVec Ideal S512x1024 .bf16) (W : Vec Ideal S1024x1024 .bf16)
    (off : ℕ) (hW : ∀ a, ![0, off] a + S1024x256.size a ≤ S1024x1024.size a) (hT : FTy.bits .bf16 < FTy.bits .f32)
    (r : Fin 512) (j : Fin 1024) (x : S512x256.Idx) (h0 : r.val = (x 0).val) (h1 : j.val = off + (x 1).val) :
    truncf .bf16 (slabDot hb (View.ld W (Rect.unit ![0, off] S1024x256.size hW))) hT x
      = colDot (fun d => hb (ix2 r d)) (fun d => W (ix2 d j)) := by
  obtain ⟨b, hb1, hx⟩ : ∃ b : Fin 256, (x 1).val = b.val ∧ x = ix2 r b :=
    ⟨x 1, rfl, by funext a; match a with | 0 => exact Fin.ext h0.symm | 1 => rfl⟩
  rw [hb1] at h1
  refine (congrArg _ hx).trans ?_
  rw [show truncf .bf16 (slabDot hb (View.ld W (Rect.unit ![0, off] S1024x256.size hW))) hT (ix2 r b)
      = slabDot hb (View.ld W (Rect.unit ![0, off] S1024x256.size hW)) (ix2 r b) from by pointwise, slabDot_at]
  congr 1
  funext d
  refine View.ld_unit_apply_of _ _ _ _ _ _ fun a => ?_
  match a with
  | 0 => simp [ix2]
  | 1 => simp [ix2]; omega

/-- A slab of the transposed values as a piece stores it, at value column `j` and row `r`. -/
theorem valuePiece_at (hb : FVec Ideal S512x1024 .bf16) (W : Vec Ideal S1024x1024 .bf16)
    (off : ℕ) (hW : ∀ a, ![off, 0] a + S256x1024.size a ≤ S1024x1024.size a)
    (r : Fin 512) (j : Fin 1024) (x : S1x256x512.Idx) (h0 : r.val = (x 2).val) (h1 : j.val = off + (x 1).val) :
    vSlab hb (View.ld W (Rect.unit ![off, 0] S256x1024.size hW)) x
      = colDot (fun d => hb (ix2 r d)) (fun d => W (ix2 j d)) := by
  obtain ⟨b, hb1, hx⟩ : ∃ b : Fin 256, (x 1).val = b.val ∧ x = ix3 0 b r :=
    ⟨x 1, rfl, by
      funext a
      match a with
      | 0 => exact Fin.ext (by have := (x 0).isLt; simp at this; simp [ix3, this])
      | 1 => rfl
      | 2 => exact Fin.ext h0.symm⟩
  rw [hb1] at h1
  refine (congrArg _ hx).trans ?_
  rw [vSlab_at]
  congr 1
  funext d
  refine View.ld_unit_apply_of _ _ _ _ _ _ fun a => ?_
  match a with
  | 0 => simp [ix2]; omega
  | 1 => simp [ix2]

variable (m : (ℓ : Loc nD τ sig) → Buf (Elt Ideal) ℓ) (c : Dev nD)

/-- The queries' block point `t` stores, at `(r, j)`. -/
theorem q_out (t : Fin cfg0.N) (r : Fin 512) (j : Fin 1024) :
    (outsAt0 m c t.val t.isLt).2.1 (ix2 r j)
      = headNorm (colDot (fun d => (hTile (iblk m c 0 t) (iblk m c 1 t) (iblk m c 2 t)) (ix2 r d)) (fun d => iblk m c 13 t (ix2 d j)))
          (∑ e : Fin 64, colDot (fun d => (hTile (iblk m c 0 t) (iblk m c 1 t) (iblk m c 2 t)) (ix2 r d)) (fun d => iblk m c 13 t (ix2 d ⟨j.val / 64 * 64 + e.val, by omega⟩))
            * colDot (fun d => (hTile (iblk m c 0 t) (iblk m c 1 t) (iblk m c 2 t)) (ix2 r d)) (fun d => iblk m c 13 t (ix2 d ⟨j.val / 64 * 64 + e.val, by omega⟩)))
        * iblk m c 3 t (ix2 0 j) := by
  by_cases h : t.val % 16 = 0
  · rw [outsAt0_A m c t h]
    dsimp only
    unfold out0_A_18
    rw [View.read_writes_eq_canon _ _ _ (fun y => cover0_A_18 (y := y) ..)]
    unfold kernelRun0_A
    dsimp only
    generalize hy : (ix2 r j : S512x1024.Idx) = y
    canon_tiles x h
    all_goals
      subst hy
      sl_unfold_words
      simp only [View.readAt_eq_ld, Memref.IsWhole.read_unread]
      exact normPiece_at (hTile (iblk m c 0 t) (iblk m c 1 t) (iblk m c 2 t)) (iblk m c 13 t) (iblk m c 3 t) 0 _ _ _ _ _ _ r j x h0 (by first | exact h1 | exact h1.trans (Nat.zero_add _).symm) rfl rfl rfl
  · rw [outsAt0_B m c t h]
    dsimp only
    unfold out0_B_18
    rw [View.read_writes_eq_canon _ _ _ (fun y => cover0_B_18 (y := y) ..)]
    unfold kernelRun0_B
    dsimp only
    generalize hy : (ix2 r j : S512x1024.Idx) = y
    canon_tiles x h
    all_goals
      subst hy
      sl_unfold_words
      simp only [View.readAt_eq_ld, Memref.IsWhole.read_unread]
      exact normPiece_at (hTile (iblk m c 0 t) (iblk m c 1 t) (iblk m c 2 t)) (iblk m c 13 t) (iblk m c 3 t) 0 _ _ _ _ _ _ r j x h0 (by first | exact h1 | exact h1.trans (Nat.zero_add _).symm) rfl rfl rfl

/-- The keys' block point `t` stores, at `(r, j)`. -/
theorem k_out (t : Fin cfg0.N) (r : Fin 512) (j : Fin 1024) :
    (outsAt0 m c t.val t.isLt).2.2.1 (ix2 r j)
      = headNorm (colDot (fun d => (hTile (iblk m c 0 t) (iblk m c 1 t) (iblk m c 2 t)) (ix2 r d)) (fun d => iblk m c 14 t (ix2 d j)))
          (∑ e : Fin 64, colDot (fun d => (hTile (iblk m c 0 t) (iblk m c 1 t) (iblk m c 2 t)) (ix2 r d)) (fun d => iblk m c 14 t (ix2 d ⟨j.val / 64 * 64 + e.val, by omega⟩))
            * colDot (fun d => (hTile (iblk m c 0 t) (iblk m c 1 t) (iblk m c 2 t)) (ix2 r d)) (fun d => iblk m c 14 t (ix2 d ⟨j.val / 64 * 64 + e.val, by omega⟩)))
        * iblk m c 3 t (ix2 1 j) := by
  by_cases h : t.val % 16 = 0
  · rw [outsAt0_A m c t h]
    dsimp only
    unfold out0_A_19
    rw [View.read_writes_eq_canon _ _ _ (fun y => cover0_A_19 (y := y) ..)]
    unfold kernelRun0_A
    dsimp only
    generalize hy : (ix2 r j : S512x1024.Idx) = y
    canon_tiles x h
    all_goals
      subst hy
      sl_unfold_words
      simp only [View.readAt_eq_ld, Memref.IsWhole.read_unread]
      exact normPiece_at (hTile (iblk m c 0 t) (iblk m c 1 t) (iblk m c 2 t)) (iblk m c 14 t) (iblk m c 3 t) 1 _ _ _ _ _ _ r j x h0 (by first | exact h1 | exact h1.trans (Nat.zero_add _).symm) rfl rfl rfl
  · rw [outsAt0_B m c t h]
    dsimp only
    unfold out0_B_19
    rw [View.read_writes_eq_canon _ _ _ (fun y => cover0_B_19 (y := y) ..)]
    unfold kernelRun0_B
    dsimp only
    generalize hy : (ix2 r j : S512x1024.Idx) = y
    canon_tiles x h
    all_goals
      subst hy
      sl_unfold_words
      simp only [View.readAt_eq_ld, Memref.IsWhole.read_unread]
      exact normPiece_at (hTile (iblk m c 0 t) (iblk m c 1 t) (iblk m c 2 t)) (iblk m c 14 t) (iblk m c 3 t) 1 _ _ _ _ _ _ r j x h0 (by first | exact h1 | exact h1.trans (Nat.zero_add _).symm) rfl rfl rfl

/-- The transposed values' block point `t` stores, at value column `j` and row `r`. -/
theorem v_out (t : Fin cfg0.N) (r : Fin 512) (j : Fin 1024) :
    (outsAt0 m c t.val t.isLt).2.2.2.1 (ix3 0 j r)
      = colDot (fun d => (hTile (iblk m c 0 t) (iblk m c 1 t) (iblk m c 2 t)) (ix2 r d)) (fun d => iblk m c 15 t (ix2 j d)) := by
  by_cases h : t.val % 16 = 0
  · rw [outsAt0_A m c t h]
    dsimp only
    unfold out0_A_20
    rw [View.read_writes_eq_canon _ _ _ (fun y => cover0_A_20 (y := y) ..)]
    unfold kernelRun0_A
    dsimp only
    generalize hy : (ix3 0 j r : S1x1024x512.Idx) = y
    canon_tiles x h
    all_goals
      subst hy
      sl_unfold_words
      simp only [View.readAt_eq_ld, Memref.IsWhole.read_unread]
      exact valuePiece_at (hTile (iblk m c 0 t) (iblk m c 1 t) (iblk m c 2 t)) (iblk m c 15 t) _ _ r j x h2 (by first | exact h1 | exact h1.trans (Nat.zero_add _).symm)
  · rw [outsAt0_B m c t h]
    dsimp only
    unfold out0_B_20
    rw [View.read_writes_eq_canon _ _ _ (fun y => cover0_B_20 (y := y) ..)]
    unfold kernelRun0_B
    dsimp only
    generalize hy : (ix3 0 j r : S1x1024x512.Idx) = y
    canon_tiles x h
    all_goals
      subst hy
      sl_unfold_words
      simp only [View.readAt_eq_ld, Memref.IsWhole.read_unread]
      exact valuePiece_at (hTile (iblk m c 0 t) (iblk m c 1 t) (iblk m c 2 t)) (iblk m c 15 t) _ _ r j x h2 (by first | exact h1 | exact h1.trans (Nat.zero_add _).symm)

/-- The gate's block point `t` stores, at `(r, j)`. -/
theorem za_out (t : Fin cfg0.N) (r : Fin 512) (j : Fin 1024) :
    (outsAt0 m c t.val t.isLt).2.2.2.2.1 (ix2 r j)
      = colDot (fun d => (hTile (iblk m c 0 t) (iblk m c 1 t) (iblk m c 2 t)) (ix2 r d)) (fun d => iblk m c 16 t (ix2 d j)) := by
  by_cases h : t.val % 16 = 0
  · rw [outsAt0_A m c t h]
    dsimp only
    unfold out0_A_21
    rw [View.read_writes_eq_canon _ _ _ (fun y => cover0_A_21 (y := y) ..)]
    unfold kernelRun0_A
    dsimp only
    generalize hy : (ix2 r j : S512x1024.Idx) = y
    canon_tiles x h
    all_goals
      subst hy
      sl_unfold_words
      simp only [View.readAt_eq_ld, Memref.IsWhole.read_unread]
      exact gatePiece_at (hTile (iblk m c 0 t) (iblk m c 1 t) (iblk m c 2 t)) (iblk m c 16 t) _ _ _ r j x h0 (by first | exact h1 | exact h1.trans (Nat.zero_add _).symm)
  · rw [outsAt0_B m c t h]
    dsimp only
    unfold out0_B_21
    rw [View.read_writes_eq_canon _ _ _ (fun y => cover0_B_21 (y := y) ..)]
    unfold kernelRun0_B
    dsimp only
    generalize hy : (ix2 r j : S512x1024.Idx) = y
    canon_tiles x h
    all_goals
      subst hy
      sl_unfold_words
      simp only [View.readAt_eq_ld, Memref.IsWhole.read_unread]
      exact gatePiece_at (hTile (iblk m c 0 t) (iblk m c 1 t) (iblk m c 2 t)) (iblk m c 16 t) _ _ _ r j x h0 (by first | exact h1 | exact h1.trans (Nat.zero_add _).symm)

end Cert.Layer

end
-- ==== Proof.Hosts.lean ====
/- The arrays the kernel region finds: what the host lines before it make of the arguments, at an index. -/
module

public import proofs.«01_k».proof.Proof.Gen.KernelIdeal.Frame.Runs
public import Idealize.ShloMosaic.Lib.Pointwise
public import Idealize.ShloMosaic.Lib.Claim
public import Idealize.ShloMosaic.Lib.StableHlo.RunRead
public import Idealize.ShloMosaic.Lib.IdealHost

@[expose] public section
set_option maxRecDepth 16384
open Cert.KernelIdeal Cert.KernelIdeal.Gen Idealize.ShloMosaic Idealize.ShloMosaic.TcCoe Idealize.SL.Sem
noncomputable section
namespace Cert.Layer.Host

variable (m : (ℓ : Loc nD τ sig) → Buf (Elt Ideal) ℓ) (c : Dev nD)

/-- The tokens, as rows. -/
theorem x_at (r : Fin 65536) (d : Fin 1024) : (V m c main_v0 : FVec Ideal S65536x1024 .f32) (ix2 r d)
    = (m ((c : Thread nD τ).loc main_arg0) : FVec Ideal S8x8192x1024 .f32) (ix3 ⟨r / 8192, by omega⟩ ⟨r % 8192, by omega⟩ d) := by
  simp only [V, List.flatten_cons, List.flatten_nil, List.append_nil]
  after_reads_simp
  pointwise

/-- The modulation, with an axis of one row. -/
theorem mod_at (k : Fin 3) (b : Fin 8) (d : Fin 1024) : (V m c main_v1 : FVec Ideal S3x8x1x1024 .f32) (ix4 k b 0 d)
    = (m ((c : Thread nD τ).loc main_arg1) : FVec Ideal S3x8x1024 .f32) (ix3 k b d) := by
  simp only [V, List.flatten_cons, List.flatten_nil, List.append_nil]
  after_reads_simp
  pointwise

/-- The gain of the modulated norm, as a row. -/
theorem gain_at (d : Fin 1024) : (V m c main_v72 : FVec Ideal S1x1024 .f32) (ix2 0 d)
    = (m ((c : Thread nD τ).loc main_arg2) : FVec Ideal S1024 .f32) (ix1 d) := by
  simp only [V, List.flatten_cons, List.flatten_nil, List.append_nil]
  after_reads_simp
  pointwise

/-- The weight columns of the queries. -/
theorem wq_at (d j : Fin 1024) : (V m c main_v18 : FVec Ideal S1024x1024 .bf16) (ix2 d j)
    = (m ((c : Thread nD τ).loc main_arg3) : FVec Ideal S1024x6688 .f32) (ix2 d ⟨2576 + j, by omega⟩) := by
  simp only [V, List.flatten_cons, List.flatten_nil, List.append_nil]
  after_reads_simp
  pointwise

/-- The weight columns of the keys. -/
theorem wk_at (d j : Fin 1024) : (V m c main_v19 : FVec Ideal S1024x1024 .bf16) (ix2 d j)
    = (m ((c : Thread nD τ).loc main_arg3) : FVec Ideal S1024x6688 .f32) (ix2 d ⟨3600 + j, by omega⟩) := by
  simp only [V, List.flatten_cons, List.flatten_nil, List.append_nil]
  after_reads_simp
  pointwise

/-- The weight columns of the values, transposed. -/
theorem wv_at (j d : Fin 1024) : (V m c main_v20 : FVec Ideal S1024x1024 .bf16) (ix2 j d)
    = (m ((c : Thread nD τ).loc main_arg3) : FVec Ideal S1024x6688 .f32) (ix2 d ⟨4624 + j, by omega⟩) := by
  simp only [V, List.flatten_cons, List.flatten_nil, List.append_nil]
  after_reads_simp
  pointwise

/-- The weight columns of the attention gate. -/
theorem wza_at (d j : Fin 1024) : (V m c main_v21 : FVec Ideal S1024x1024 .bf16) (ix2 d j)
    = (m ((c : Thread nD τ).loc main_arg3) : FVec Ideal S1024x6688 .f32) (ix2 d ⟨5648 + j, by omega⟩) := by
  simp only [V, List.flatten_cons, List.flatten_nil, List.append_nil]
  after_reads_simp
  pointwise

/-- The gains of the keys, one per feature. -/
theorem gk_at (j : Fin 1024) : (V m c main_v32 : FVec Ideal S2x1024 .f32) (ix2 1 j)
    = (m ((c : Thread nD τ).loc main_arg11) : FVec Ideal S64 .f32) (ix1 ⟨j % 64, by omega⟩) := by
  simp only [V, List.flatten_cons, List.flatten_nil, List.append_nil]
  after_reads_simp
  pointwise

/-- The weight columns of the output gate. -/
theorem wz_at (d j : Fin 1024) : (V m c main_v15 : FVec Ideal S1024x1024 .bf16) (ix2 d j)
    = (m ((c : Thread nD τ).loc main_arg3) : FVec Ideal S1024x6688 .f32) (ix2 d ⟨j, by omega⟩) := by
  simp only [V, List.flatten_cons, List.flatten_nil, List.append_nil]
  after_reads_simp
  pointwise

/-- The weight columns of the convolution. -/
theorem wxbc_at (d : Fin 1024) (j : Fin 1536) : (V m c main_v16 : FVec Ideal S1024x1536 .bf16) (ix2 d j)
    = (m ((c : Thread nD τ).loc main_arg3) : FVec Ideal S1024x6688 .f32) (ix2 d ⟨1024 + j, by omega⟩) := by
  simp only [V, List.flatten_cons, List.flatten_nil, List.append_nil]
  after_reads_simp
  pointwise

/-- The bias of the convolution, as a row. -/
theorem cb_at (j : Fin 1536) : (V m c main_v106 : FVec Ideal S1x1536 .f32) (ix2 0 j)
    = (m ((c : Thread nD τ).loc main_arg5) : FVec Ideal S1536 .f32) (ix1 j) := by
  simp only [V, List.flatten_cons, List.flatten_nil, List.append_nil]
  after_reads_simp
  pointwise

/-- The skip factors, one per feature. -/
theorem dskip_at (j : Fin 1024) : (V m c main_v109 : FVec Ideal S1x1024 .f32) (ix2 0 j)
    = (m ((c : Thread nD τ).loc main_arg8) : FVec Ideal S16 .f32) (ix1 ⟨j / 64, by omega⟩) := by
  simp only [V, List.flatten_cons, List.flatten_nil, List.append_nil]
  after_reads_simp
  pointwise

/-- The gains of the grouped norm, as a row. -/
theorem ygain_at (j : Fin 1024) : (V m c main_v110 : FVec Ideal S1x1024 .f32) (ix2 0 j)
    = (m ((c : Thread nD τ).loc main_arg9) : FVec Ideal S1024 .f32) (ix1 j) := by
  simp only [V, List.flatten_cons, List.flatten_nil, List.append_nil]
  after_reads_simp
  pointwise

/-- The gains of the queries, one per feature, times the scale of the scores. -/
theorem gq_at (j : Fin 1024) : (V m c main_v32 : FVec Ideal S2x1024 .f32) (ix2 0 j)
    = (show EReal from (m ((c : Thread nD τ).loc main_arg10) : FVec Ideal S64 .f32) (ix1 ⟨j % 64, by omega⟩)) * Ideal.ofBits .f32 0x3E38AA3B#32 := by
  simp only [V, List.flatten_cons, List.flatten_nil, List.append_nil]
  after_reads_simp
  pointwise

end Cert.Layer.Host
-- ==== Proof.KernelArrays.lean ====
/- The projection call's arrays at an entry: the input blocks as parts of the arguments, the stored blocks
   through them, and the four result arrays at the point that stores each entry. -/
module

public import proofs.«01_k».proof.Proof.Gen.KernelIdeal.Value
public import proofs.«01_k».proof.Proof.KernelBlocks
public import proofs.«01_k».proof.Proof.Hosts
import Idealize.ShloMosaic.Lib.Pipeline.ValueKit

@[expose] public section

set_option maxRecDepth 16384

noncomputable section

namespace Cert.Layer

open Cert.KernelIdeal Cert.KernelIdeal.Gen Idealize.ShloMosaic Idealize.ShloMosaic.TcCoe Idealize.SL.Sem

variable (m : (ℓ : Loc nD τ sig) → Buf (Elt Ideal) ℓ) (c : Dev nD)

theorem idx_x : ∀ t : Fin cfg0.N, win0_0.index t = ![t.val, 0] :=
  (by decide +kernel : ∀ t : Fin grid0.N, win0_0.index t = ![t.val, 0])

theorem idx_mod : ∀ t : Fin cfg0.N, win0_1.index t = ![0, t.val / 16, 0, 0] :=
  (by decide +kernel : ∀ t : Fin grid0.N, win0_1.index t = ![0, t.val / 16, 0, 0])

theorem idx_whole : ∀ t : Fin cfg0.N, win0_2.index t = ![0, 0] ∧ win0_3.index t = ![0, 0] ∧ win0_13.index t = ![0, 0]
    ∧ win0_14.index t = ![0, 0] ∧ win0_15.index t = ![0, 0] ∧ win0_16.index t = ![0, 0] :=
  (by decide +kernel : ∀ t : Fin grid0.N, win0_2.index t = ![0, 0] ∧ win0_3.index t = ![0, 0] ∧ win0_13.index t = ![0, 0]
    ∧ win0_14.index t = ![0, 0] ∧ win0_15.index t = ![0, 0] ∧ win0_16.index t = ![0, 0])

theorem tN (t : Fin cfg0.N) : t.val < 128 := t.isLt

/-- A point's row tile. -/
theorem x_blk (t : Fin cfg0.N) (r : Fin 512) (d : Fin 1024) : iblk m c 0 t (ix2 r d)
    = (V m c main_v0 : FVec Ideal S65536x1024 .f32) (ix2 ⟨512 * t.val + r.val, by have := tN t; omega⟩ d) := by
  have := tN t
  blk_ext [iblk, idx_x t]

/-- A point's batch row of the modulation. -/
theorem mod_blk (t : Fin cfg0.N) (k : Fin 3) (d : Fin 1024) : iblk m c 1 t (ix4 k 0 0 d)
    = (V m c main_v1 : FVec Ideal S3x8x1x1024 .f32) (ix4 k ⟨t.val / 16, by have := tN t; omega⟩ 0 d) := by
  have := tN t
  blk_ext [iblk, idx_mod t]

theorem gain_blk (t : Fin cfg0.N) (d : Fin 1024) : iblk m c 2 t (ix2 0 d) = (V m c main_v72 : FVec Ideal S1x1024 .f32) (ix2 0 d) := by
  blk_ext [iblk, (idx_whole t).1]

theorem gqk_blk (t : Fin cfg0.N) (k : Fin 2) (d : Fin 1024) : iblk m c 3 t (ix2 k d) = (V m c main_v32 : FVec Ideal S2x1024 .f32) (ix2 k d) := by
  blk_ext [iblk, (idx_whole t).2.1]

theorem wq_blk (t : Fin cfg0.N) (d j : Fin 1024) : iblk m c 13 t (ix2 d j) = (V m c main_v18 : FVec Ideal S1024x1024 .bf16) (ix2 d j) := by
  blk_ext [iblk, (idx_whole t).2.2.1]

theorem wk_blk (t : Fin cfg0.N) (d j : Fin 1024) : iblk m c 14 t (ix2 d j) = (V m c main_v19 : FVec Ideal S1024x1024 .bf16) (ix2 d j) := by
  blk_ext [iblk, (idx_whole t).2.2.2.1]

theorem wv_blk (t : Fin cfg0.N) (d j : Fin 1024) : iblk m c 15 t (ix2 d j) = (V m c main_v20 : FVec Ideal S1024x1024 .bf16) (ix2 d j) := by
  blk_ext [iblk, (idx_whole t).2.2.2.2.1]

theorem wza_blk (t : Fin cfg0.N) (d j : Fin 1024) : iblk m c 16 t (ix2 d j) = (V m c main_v21 : FVec Ideal S1024x1024 .bf16) (ix2 d j) := by
  blk_ext [iblk, (idx_whole t).2.2.2.2.2]

/-- A point named by its number. -/
theorem outs_congr (n : ℕ) (hn : n < cfg0.N) (t : Fin cfg0.N) (e : n = t.val) : outsAt0 m c n hn = outsAt0 m c t.val t.isLt := by
  subst e
  rfl

/-- The queries' array at row `512 t + r`. -/
theorem q_arr (t : Fin cfg0.N) (r : Fin 512) (j : Fin 1024) :
    Value.G18 m c (ix2 ⟨512 * t.val + r.val, by have := tN t; omega⟩ j) = (outsAt0 m c t.val t.isLt).2.1 (ix2 r j) := by
  have ht := tN t
  unfold Value.G18
  have hp : Value.pt18Of (ix2 ⟨512 * t.val + r.val, by omega⟩ j) = t.val := by
    show 1 * ((512 * t.val + r.val) / 512 - 0) + 1 * (j.val / 1024 - 0) = t.val
    omega
  have hl : Value.loc18Of (ix2 ⟨512 * t.val + r.val, by omega⟩ j) = ix2 r j := by
    funext a
    match a with
    | ⟨0, _⟩ => exact Fin.ext (by show (512 * t.val + r.val) % 512 = r.val; omega)
    | ⟨1, _⟩ => exact Fin.ext (by show j.val % 1024 = j.val; omega)
  have hn : Value.pt18Of (ix2 ⟨512 * t.val + r.val, by omega⟩ j) < cfg0.N := by rw [hp]; exact t.isLt
  rw [dif_pos hn, hl, ← Value.outsAt0_sweep m c _ hn, outs_congr m c _ hn t hp]

/-- The keys' array at row `512 t + r`. -/
theorem k_arr (t : Fin cfg0.N) (r : Fin 512) (j : Fin 1024) :
    Value.G19 m c (ix2 ⟨512 * t.val + r.val, by have := tN t; omega⟩ j) = (outsAt0 m c t.val t.isLt).2.2.1 (ix2 r j) := by
  have ht := tN t
  unfold Value.G19
  have hp : Value.pt19Of (ix2 ⟨512 * t.val + r.val, by omega⟩ j) = t.val := by
    show 1 * ((512 * t.val + r.val) / 512 - 0) + 1 * (j.val / 1024 - 0) = t.val
    omega
  have hl : Value.loc19Of (ix2 ⟨512 * t.val + r.val, by omega⟩ j) = ix2 r j := by
    funext a
    match a with
    | ⟨0, _⟩ => exact Fin.ext (by show (512 * t.val + r.val) % 512 = r.val; omega)
    | ⟨1, _⟩ => exact Fin.ext (by show j.val % 1024 = j.val; omega)
  have hn : Value.pt19Of (ix2 ⟨512 * t.val + r.val, by omega⟩ j) < cfg0.N := by rw [hp]; exact t.isLt
  rw [dif_pos hn, hl, ← Value.outsAt0_sweep m c _ hn, outs_congr m c _ hn t hp]

/-- The gate's array at row `512 t + r`. -/
theorem za_arr (t : Fin cfg0.N) (r : Fin 512) (j : Fin 1024) :
    Value.G21 m c (ix2 ⟨512 * t.val + r.val, by have := tN t; omega⟩ j) = (outsAt0 m c t.val t.isLt).2.2.2.2.1 (ix2 r j) := by
  have ht := tN t
  unfold Value.G21
  have hp : Value.pt21Of (ix2 ⟨512 * t.val + r.val, by omega⟩ j) = t.val := by
    show 1 * ((512 * t.val + r.val) / 512 - 0) + 1 * (j.val / 1024 - 0) = t.val
    omega
  have hl : Value.loc21Of (ix2 ⟨512 * t.val + r.val, by omega⟩ j) = ix2 r j := by
    funext a
    match a with
    | ⟨0, _⟩ => exact Fin.ext (by show (512 * t.val + r.val) % 512 = r.val; omega)
    | ⟨1, _⟩ => exact Fin.ext (by show j.val % 1024 = j.val; omega)
  have hn : Value.pt21Of (ix2 ⟨512 * t.val + r.val, by omega⟩ j) < cfg0.N := by rw [hp]; exact t.isLt
  rw [dif_pos hn, hl, ← Value.outsAt0_sweep m c _ hn, outs_congr m c _ hn t hp]

/-- The transposed values' array at batch `t / 16`, value column `j` and token `512 (t % 16) + r`. -/
theorem v_arr (t : Fin cfg0.N) (r : Fin 512) (j : Fin 1024) :
    Value.G20 m c (ix3 ⟨t.val / 16, by have := tN t; omega⟩ j ⟨512 * (t.val % 16) + r.val, by omega⟩) = (outsAt0 m c t.val t.isLt).2.2.2.1 (ix3 0 j r) := by
  have ht := tN t
  unfold Value.G20
  have hp : Value.pt20Of (ix3 ⟨t.val / 16, by omega⟩ j ⟨512 * (t.val % 16) + r.val, by omega⟩) = t.val := by
    show 16 * (t.val / 16 / 1 - 0) + 16 * (j.val / 1024 - 0) + 1 * ((512 * (t.val % 16) + r.val) / 512 - 0) = t.val
    omega
  have hl : Value.loc20Of (ix3 ⟨t.val / 16, by omega⟩ j ⟨512 * (t.val % 16) + r.val, by omega⟩) = ix3 0 j r := by
    funext a
    match a with
    | ⟨0, _⟩ => exact Fin.ext (by show t.val / 16 % 1 = 0; omega)
    | ⟨1, _⟩ => exact Fin.ext (by show j.val % 1024 = j.val; omega)
    | ⟨2, _⟩ => exact Fin.ext (by show (512 * (t.val % 16) + r.val) % 512 = r.val; omega)
  have hn : Value.pt20Of (ix3 ⟨t.val / 16, by omega⟩ j ⟨512 * (t.val % 16) + r.val, by omega⟩) < cfg0.N := by rw [hp]; exact t.isLt
  rw [dif_pos hn, hl, ← Value.outsAt0_sweep m c _ hn, outs_congr m c _ hn t hp]

/-- A tile's modulated norm is the layer's, of the token the row stands for. -/
theorem hTile_arr (t : Fin cfg0.N) (r : Fin 512) (b : Fin 8) (l : Fin 8192) (hb : b.val = t.val / 16) (hl : l.val = 512 * (t.val % 16) + r.val) (k : Fin 1024) :
    hTile (iblk m c 0 t) (iblk m c 1 t) (iblk m c 2 t) (ix2 r k)
      = hRow (fun d => (m ((c : Thread nD τ).loc main_arg0) : FVec Ideal S8x8192x1024 .f32) (ix3 b l d))
          (fun d => (m ((c : Thread nD τ).loc main_arg2) : FVec Ideal S1024 .f32) (ix1 d))
          (fun d => (m ((c : Thread nD τ).loc main_arg1) : FVec Ideal S3x8x1024 .f32) (ix3 1 b d))
          (fun d => (m ((c : Thread nD τ).loc main_arg1) : FVec Ideal S3x8x1024 .f32) (ix3 0 b d)) k := by
  have ht := tN t
  rw [hTile_at]
  have e0 : (⟨(512 * t.val + r.val) / 8192, by omega⟩ : Fin 8) = b := Fin.ext (by show (512 * t.val + r.val) / 8192 = b.val; omega)
  have e1 : (⟨(512 * t.val + r.val) % 8192, by omega⟩ : Fin 8192) = l := Fin.ext (by show (512 * t.val + r.val) % 8192 = l.val; omega)
  have e2 : (⟨t.val / 16, by omega⟩ : Fin 8) = b := Fin.ext hb.symm
  simp only [x_blk, mod_blk, gain_blk, e2]
  congr 1 <;> funext d
  · refine (Host.x_at m c _ d).trans ?_
    exact congrArg₂ (fun b l => (m ((c : Thread nD τ).loc main_arg0) : FVec Ideal S8x8192x1024 .f32) (ix3 b l d)) e0 e1
  · exact Host.gain_at m c d
  · exact Host.mod_at m c 1 b d
  · exact Host.mod_at m c 0 b d

end Cert.Layer

end
-- ==== Proof.Reference.lean ====
/- What the reference computes: its four results as functions of the argument arrays, and each of them at an index in
   the vocabulary of `RowMath`. -/
module

public import proofs.«01_k».proof.Proof.Gen.ReferenceIdeal.Run
public import proofs.«01_k».proof.Proof.RowMath

@[expose] public section

set_option maxRecDepth 16384

noncomputable section

namespace Cert.Layer.Ref

open Cert.ReferenceIdeal Cert.ReferenceIdeal.Gen Idealize.ShloMosaic Idealize.SL.Sem

/-- The modulated norm of all the rows. -/
def hArr (x : FVec Ideal S8x8192x1024 .f32) (mod : FVec Ideal S3x8x1024 .f32) (gain : FVec Ideal S1024 .f32) : FVec Ideal S8x8192x1024 .f32 :=
  addf (mulf (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 gain))) (broadcastInDim S8x8192x1024 ![0, 1, 2] bcast_S8x1x1024_S8x8192x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S1x8x1024 ![1, 0, 0] mod slices_S3x8x1024_S1x8x1024_1_0_0) shapeCasts_S1x8x1024_S8x1024))))) (broadcastInDim S8x8192x1024 ![0, 1, 2] bcast_S8x1x1024_S8x8192x1024_0_1_2 (broadcastInDim S8x1x1024 ![0, 2] bcast_S8x1024_S8x1x1024_0_2 (shapeCast _ (extractStridedSlice S1x8x1024 ![0, 0, 0] mod slices_S3x8x1024_S1x8x1024_0_0_0) shapeCasts_S1x8x1024_S8x1024)))

/-- The input projection of all the rows. -/
def projArr (x : FVec Ideal S8x8192x1024 .f32) (mod : FVec Ideal S3x8x1024 .f32) (gain : FVec Ideal S1024 .f32) (w : FVec Ideal S1024x6688 .f32) : FVec Ideal S8x8192x6688 .f32 :=
  Host.dotGeneral dot_S8x8192x1024_S1024x6688_S8x8192x6688_2_0_01_1_n_n none (hArr x mod gain) w

/-- The heads cut out of the projection at column `o`, each normalised and scaled by the gain. -/
def normArr (o : Nat) (h : S8x8192x6688.Slices ![0, 0, o] S8x8192x1024) (P : FVec Ideal S8x8192x6688 .f32) (g : FVec Ideal S64 .f32) : FVec Ideal S8x8192x16x64 .f32 :=
  have t : FVec Ideal S8x8192x16x64 .f32 := shapeCast S8x8192x16x64 (extractStridedSlice S8x8192x1024 ![0, 0, o] P h) shapeCasts_S8x8192x1024_S8x8192x16x64
  mulf (mulf t (broadcastInDim S8x8192x16x64 ![0, 1, 2, 3] bcast_S8x8192x16x1_S8x8192x16x64_0_1_2_3 (Host.rsqrt (addf (Host.divf (broadcastInDim S8x8192x16x1 ![0, 1, 2] bcast_S8x8192x16_S8x8192x16x1_0_1_2 (Host.reduceAdd (mulf t t) (constant S_ .f32 0x00000000#32) reducesTo_S8x8192x16x64_S8x8192x16_d3 h_S_)) (broadcastInDim S8x8192x16x1 ![] bcast_S_S8x8192x16x1 (constant S_ .f32 0x42800000#32))) (broadcastInDim S8x8192x16x1 ![] bcast_S_S8x8192x16x1 (constant S_ .f32 0x358637BD#32)))))) (broadcastInDim S8x8192x16x64 ![0, 1, 2, 3] bcast_S1x1x1x64_S8x8192x16x64_0_1_2_3 (broadcastInDim S1x1x1x64 ![3] bcast_S64_S1x1x1x64_3 g))

/-- The queries of the projection `P`: normalised heads, scaled for the exponential, as rows. -/
def qArr (P : FVec Ideal S8x8192x6688 .f32) (g : FVec Ideal S64 .f32) : FVec Ideal S65536x1024 .bf16 :=
  truncf .bf16 (shapeCast S65536x1024 (mulf (normArr 2576 slices_S8x8192x6688_S8x8192x1024_0_0_2576 P g) (broadcastInDim S8x8192x16x64 ![] bcast_S_S8x8192x16x64 (constant S_ .f32 0x3E38AA3B#32))) shapeCasts_S8x8192x16x64_S65536x1024) bitsLt_bf16_f32

/-- The keys of the projection `P`: normalised heads, as rows. -/
def kArr (P : FVec Ideal S8x8192x6688 .f32) (g : FVec Ideal S64 .f32) : FVec Ideal S65536x1024 .bf16 :=
  truncf .bf16 (shapeCast S65536x1024 (normArr 3600 slices_S8x8192x6688_S8x8192x1024_0_0_3600 P g) shapeCasts_S8x8192x16x64_S65536x1024) bitsLt_bf16_f32

/-- The values of the projection `P`, transposed. -/
def vArr (P : FVec Ideal S8x8192x6688 .f32) : FVec Ideal S8x1024x8192 .bf16 :=
  truncf .bf16 (transpose S8x1024x8192 [0, 2, 1] (extractStridedSlice S8x8192x1024 ![0, 0, 4624] P slices_S8x8192x6688_S8x8192x1024_0_0_4624) transposes_S8x8192x1024_S8x1024x8192_0_2_1) bitsLt_bf16_f32

/-- The attention gate of the projection `P`, as rows. -/
def zArr (P : FVec Ideal S8x8192x6688 .f32) : FVec Ideal S65536x1024 .bf16 :=
  truncf .bf16 (shapeCast S65536x1024 (extractStridedSlice S8x8192x1024 ![0, 0, 5648] P slices_S8x8192x6688_S8x8192x1024_0_0_5648) shapeCasts_S8x8192x1024_S65536x1024) bitsLt_bf16_f32

/-- The modulated norm at batch `b`, token `l`, feature `k`. -/
theorem hArr_at (x : FVec Ideal S8x8192x1024 .f32) (mod : FVec Ideal S3x8x1024 .f32) (gain : FVec Ideal S1024 .f32) (b : Fin 8) (l : Fin 8192) (k : Fin 1024) :
    hArr x mod gain (ix3 b l k)
      = hRow (fun d => x (ix3 b l d)) (fun d => gain (ix1 d)) (fun d => mod (ix3 1 b d)) (fun d => mod (ix3 0 b d)) k := by
  unfold hArr
  pointwise
  rfl

/-- A token's modulated norm, from the argument arrays. -/
def hTok (x : FVec Ideal S8x8192x1024 .f32) (mod : FVec Ideal S3x8x1024 .f32) (gain : FVec Ideal S1024 .f32) (b : Fin 8) (l : Fin 8192) : Fin 1024 → EReal :=
  hRow (fun d => x (ix3 b l d)) (fun d => gain (ix1 d)) (fun d => mod (ix3 1 b d)) (fun d => mod (ix3 0 b d))

/-- The projection at batch `b`, token `l`, column `n`. -/
theorem projArr_at (x : FVec Ideal S8x8192x1024 .f32) (mod : FVec Ideal S3x8x1024 .f32) (gain : FVec Ideal S1024 .f32) (w : FVec Ideal S1024x6688 .f32) (b : Fin 8) (l : Fin 8192) (n : Fin 6688) :
    projArr x mod gain w (ix3 b l n) = colDot (hTok x mod gain b l) (fun d => w (ix2 d n)) := by
  unfold projArr
  pointwise
  simp only [hArr_at]
  rfl

/-- The queries at row `r` and column `j`. -/
theorem qArr_at (P : FVec Ideal S8x8192x6688 .f32) (g : FVec Ideal S64 .f32) (r : Fin 65536) (j : Fin 1024) :
    qArr P g (ix2 r j)
      = headNorm (P (ix3 ⟨r.val / 8192, by omega⟩ ⟨r.val % 8192, by omega⟩ ⟨2576 + j.val, by omega⟩))
          (∑ e : Fin 64, P (ix3 ⟨r.val / 8192, by omega⟩ ⟨r.val % 8192, by omega⟩ ⟨2576 + (j.val / 64 * 64 + e.val), by omega⟩)
            * P (ix3 ⟨r.val / 8192, by omega⟩ ⟨r.val % 8192, by omega⟩ ⟨2576 + (j.val / 64 * 64 + e.val), by omega⟩))
        * g (ix1 ⟨j.val % 64, by omega⟩) * Ideal.ofBits .f32 0x3E38AA3B#32 := by
  unfold qArr normArr
  pointwise
  rfl

/-- The keys at row `r` and column `j`. -/
theorem kArr_at (P : FVec Ideal S8x8192x6688 .f32) (g : FVec Ideal S64 .f32) (r : Fin 65536) (j : Fin 1024) :
    kArr P g (ix2 r j)
      = headNorm (P (ix3 ⟨r.val / 8192, by omega⟩ ⟨r.val % 8192, by omega⟩ ⟨3600 + j.val, by omega⟩))
          (∑ e : Fin 64, P (ix3 ⟨r.val / 8192, by omega⟩ ⟨r.val % 8192, by omega⟩ ⟨3600 + (j.val / 64 * 64 + e.val), by omega⟩)
            * P (ix3 ⟨r.val / 8192, by omega⟩ ⟨r.val % 8192, by omega⟩ ⟨3600 + (j.val / 64 * 64 + e.val), by omega⟩))
        * g (ix1 ⟨j.val % 64, by omega⟩) := by
  unfold kArr normArr
  pointwise
  rfl

/-- The transposed values at batch `b`, column `n`, token `l`. -/
theorem vArr_at (P : FVec Ideal S8x8192x6688 .f32) (b : Fin 8) (n : Fin 1024) (l : Fin 8192) :
    vArr P (ix3 b n l) = P (ix3 b l ⟨4624 + n.val, by omega⟩) := by
  unfold vArr
  pointwise

/-- The attention gate at row `r` and column `j`. -/
theorem zArr_at (P : FVec Ideal S8x8192x6688 .f32) (r : Fin 65536) (j : Fin 1024) :
    zArr P (ix2 r j) = P (ix3 ⟨r.val / 8192, by omega⟩ ⟨r.val % 8192, by omega⟩ ⟨5648 + j.val, by omega⟩) := by
  unfold zArr
  pointwise

variable (m : (ℓ : Loc nD τ sig) → Buf (Elt Ideal) ℓ) (c : Dev nD)

/-- The projection of the arrays a memory holds. -/
def projOf : FVec Ideal S8x8192x6688 .f32 :=
  projArr (m ((c.tc : Thread nD τ).loc main_arg0)) (m ((c.tc : Thread nD τ).loc main_arg1))
    (m ((c.tc : Thread nD τ).loc main_arg2)) (m ((c.tc : Thread nD τ).loc main_arg3))

end Cert.Layer.Ref

end
-- ==== Proof.Equation.lean ====
/- The kernel's four arrays are the reference's: entry by entry, the stored block's entry is the projection's
   entry of the row's token, and the queries' and keys' heads are normalised alike. -/
module

public import proofs.«01_k».proof.Proof.KernelArrays
public import proofs.«01_k».proof.Proof.Reference

@[expose] public section

set_option maxRecDepth 16384

noncomputable section

namespace Cert.Layer

open Cert.KernelIdeal Cert.KernelIdeal.Gen Idealize.ShloMosaic Idealize.ShloMosaic.TcCoe Idealize.SL.Sem

variable (m : (ℓ : Loc nD τ sig) → Buf (Elt Ideal) ℓ) (c : Dev nD)

/-- The projection of the kernel's own arguments. -/
def proj : FVec Ideal Cert.ReferenceIdeal.S8x8192x6688 .f32 :=
  Ref.projArr (m ((c : Thread nD τ).loc main_arg0)) (m ((c : Thread nD τ).loc main_arg1))
    (m ((c : Thread nD τ).loc main_arg2)) (m ((c : Thread nD τ).loc main_arg3))

/-- A tile row's product with columns that are the weight's column `n` is the projection's entry. -/
theorem dot_proj (t : Fin cfg0.N) (r : Fin 512) (b : Fin 8) (l : Fin 8192) (hb : b.val = t.val / 16) (hl : l.val = 512 * (t.val % 16) + r.val)
    (n : Fin 6688) (w : Fin 1024 → EReal) (hw : ∀ d, w d = (m ((c : Thread nD τ).loc main_arg3) : FVec Ideal S1024x6688 .f32) (ix2 d n)) :
    colDot (fun d => hTile (iblk m c 0 t) (iblk m c 1 t) (iblk m c 2 t) (ix2 r d)) w = proj m c (ix3 b l n) := by
  unfold proj
  rw [Ref.projArr_at]
  exact congrArg₂ colDot (funext fun d => hTile_arr m c t r b l hb hl d) (funext hw)

/-- The point and row of the tile that hold a row of the arrays. -/
theorem row_split (r : Fin 65536) : ∃ (t : Fin cfg0.N) (q : Fin 512), r = ⟨512 * t.val + q.val, by have := tN t; omega⟩ :=
  ⟨⟨r.val / 512, by show r.val / 512 < 128; omega⟩, ⟨r.val % 512, by omega⟩, Fin.ext (by show r.val = 512 * (r.val / 512) + r.val % 512; omega)⟩

/-- The queries' array is the reference's. -/
theorem q_eq : (Value.G18 m c : FVec Ideal S65536x1024 .bf16) = Ref.qArr (proj m c) (m ((c : Thread nD τ).loc main_arg10)) := by
  funext y
  obtain ⟨R, j, rfl⟩ : ∃ (R : Fin 65536) (j : Fin 1024), y = ix2 R j := ⟨y 0, y 1, (ix2_eta y).symm⟩
  obtain ⟨t, r, rfl⟩ := row_split R
  have ht := tN t
  have hdot : ∀ j : Fin 1024, colDot (fun d => hTile (iblk m c 0 t) (iblk m c 1 t) (iblk m c 2 t) (ix2 r d)) (fun d => iblk m c 13 t (ix2 d j))
      = proj m c (ix3 ⟨(512 * t.val + r.val) / 8192, by omega⟩ ⟨(512 * t.val + r.val) % 8192, by omega⟩ ⟨2576 + j.val, by omega⟩) := fun j =>
    dot_proj m c t r _ _ (by show (512 * t.val + r.val) / 8192 = t.val / 16; omega)
      (by show (512 * t.val + r.val) % 8192 = 512 * (t.val % 16) + r.val; omega) _ _ fun d => (wq_blk m c t d j).trans (Host.wq_at m c d j)
  rw [Ref.qArr_at]
  refine (q_arr m c t r j).trans ((q_out m c t r j).trans ?_)
  simp only [hdot, gqk_blk]
  refine (congrArg (_ * ·) (Host.gq_at m c j)).trans ?_
  exact (mul_assoc _ _ _).symm

/-- The keys' array is the reference's. -/
theorem k_eq : (Value.G19 m c : FVec Ideal S65536x1024 .bf16) = Ref.kArr (proj m c) (m ((c : Thread nD τ).loc main_arg11)) := by
  funext y
  obtain ⟨R, j, rfl⟩ : ∃ (R : Fin 65536) (j : Fin 1024), y = ix2 R j := ⟨y 0, y 1, (ix2_eta y).symm⟩
  obtain ⟨t, r, rfl⟩ := row_split R
  have ht := tN t
  have hdot : ∀ j : Fin 1024, colDot (fun d => hTile (iblk m c 0 t) (iblk m c 1 t) (iblk m c 2 t) (ix2 r d)) (fun d => iblk m c 14 t (ix2 d j))
      = proj m c (ix3 ⟨(512 * t.val + r.val) / 8192, by omega⟩ ⟨(512 * t.val + r.val) % 8192, by omega⟩ ⟨3600 + j.val, by omega⟩) := fun j =>
    dot_proj m c t r _ _ (by show (512 * t.val + r.val) / 8192 = t.val / 16; omega)
      (by show (512 * t.val + r.val) % 8192 = 512 * (t.val % 16) + r.val; omega) _ _ fun d => (wk_blk m c t d j).trans (Host.wk_at m c d j)
  rw [Ref.kArr_at]
  refine (k_arr m c t r j).trans ((k_out m c t r j).trans ?_)
  simp only [hdot, gqk_blk]
  exact congrArg (_ * ·) (Host.gk_at m c j)

/-- The transposed values' array is the reference's. -/
theorem v_eq : (Value.G20 m c : FVec Ideal S8x1024x8192 .bf16) = Ref.vArr (proj m c) := by
  funext y
  obtain ⟨b, j, l, rfl⟩ : ∃ (b : Fin 8) (j : Fin 1024) (l : Fin 8192), y = ix3 b j l := ⟨y 0, y 1, y 2, (ix3_eta y).symm⟩
  obtain ⟨t, r, rfl, rfl⟩ : ∃ (t : Fin cfg0.N) (r : Fin 512), b = ⟨t.val / 16, by have := tN t; omega⟩ ∧ l = ⟨512 * (t.val % 16) + r.val, by omega⟩ :=
    ⟨⟨16 * b.val + l.val / 512, by show 16 * b.val + l.val / 512 < 128; omega⟩, ⟨l.val % 512, by omega⟩,
      Fin.ext (by show b.val = (16 * b.val + l.val / 512) / 16; omega), Fin.ext (by show l.val = 512 * ((16 * b.val + l.val / 512) % 16) + l.val % 512; omega)⟩
  have ht := tN t
  rw [Ref.vArr_at, ← dot_proj m c t r _ _ rfl rfl ⟨4624 + j.val, by omega⟩ (fun d => iblk m c 15 t (ix2 j d)) fun d => (wv_blk m c t j d).trans (Host.wv_at m c j d)]
  exact (v_arr m c t r j).trans (v_out m c t r j)

/-- The gate's array is the reference's. -/
theorem za_eq : (Value.G21 m c : FVec Ideal S65536x1024 .bf16) = Ref.zArr (proj m c) := by
  funext y
  obtain ⟨R, j, rfl⟩ : ∃ (R : Fin 65536) (j : Fin 1024), y = ix2 R j := ⟨y 0, y 1, (ix2_eta y).symm⟩
  obtain ⟨t, r, rfl⟩ := row_split R
  have ht := tN t
  rw [Ref.zArr_at]
  refine (za_arr m c t r j).trans ((za_out m c t r j).trans ?_)
  exact dot_proj m c t r _ _ (by show (512 * t.val + r.val) / 8192 = t.val / 16; omega)
      (by show (512 * t.val + r.val) % 8192 = 512 * (t.val % 16) + r.val; omega) _ _ fun d => (wza_blk m c t d j).trans (Host.wza_at m c d j)

end Cert.Layer

end
-- ==== Proof.SsdPair.lean ====
/- One chunk of the state-space layer for a pair of heads: the pair's lanes of the output and the pair's
   new state, as functions of the chunk's vectors and then as sums at an index. -/
module

public import proofs.«01_k».proof.Proof.Gen.KernelIdeal.Skeleton
public import proofs.«01_k».proof.Proof.RowMath

@[expose] public section

set_option maxRecDepth 16384

noncomputable section

namespace Cert.Layer

open Cert.KernelIdeal Cert.KernelIdeal.Gen Idealize.ShloMosaic Idealize.SL.Sem

/-- Which of 128 lanes belong to the first of the two heads, in each of 128 rows. -/
def loLanes : IVec S128x128 1 :=
  broadcastTo S128x128 (shapeCast S1x128 k0_pay46 shapeCasts_S1x128_S1x128) broadcasts_S1x128_S128x128

/-- Which entries lie on or below the diagonal. -/
def onOrBelow : IVec S128x128 1 := cmpi .sge (iota .tc S128x128 32 [0] (by decide)) (iota .tc S128x128 32 [1] (by decide))

/-- Which rows belong to the first of the two heads. -/
def loRows : IVec S128x128 1 := cmpi .slt (iota .tc S128x128 32 [0] (by decide)) (broadcast S128x128 64#32)

/-- A head's weights of earlier tokens: the product of the two projections, decayed and stepped. -/
def headMask (cc : FVec Ideal S128x1 .f32) (rc rd : FVec Ideal S1x128 .f32) (cb : FVec Ideal S128x128 .f32) : FVec Ideal S128x128 .bf16 :=
  truncf .bf16 (mulf (mulf cb (select onOrBelow
      (exp2 (subf (broadcastTo S128x128 cc broadcasts_S128x1_S128x128) (broadcastTo S128x128 rc broadcasts_S1x128_S128x128)))
      (broadcast S128x128 (Scalar.ofBits .f32 0x00000000#32 : Ideal .f32))))
    (broadcastTo S128x128 rd broadcasts_S1x128_S128x128)) bitsLt_bf16_f32

/-- The pair's output from the chunk's own tokens. -/
def pairDiag (cb xp : FVec Ideal S128x128 .f32) (cc0 : FVec Ideal S128x1 .f32) (rc0 rd0 : FVec Ideal S1x128 .f32)
    (cc1 : FVec Ideal S128x1 .f32) (rc1 rd1 : FVec Ideal S1x128 .f32) : FVec Ideal S128x128 .f32 :=
  have M : FVec Ideal S256x128 .f32 := matmul dot_S256x128_S128x128_S256x128_1_0_0_1_n_n none
    (concatenate S256x128 0 [⟨S128x128, headMask cc0 rc0 rd0 cb⟩, ⟨S128x128, headMask cc1 rc1 rd1 cb⟩] concatenates_S128x128_S128x128_S256x128_d0)
    (truncf .bf16 xp bitsLt_bf16_f32) (constant S256x128 .f32 0x00000000#32)
  select loLanes (extractStridedSlice S128x128 ![0, 0] M slices_S256x128_o0_0_S128x128)
    (extractStridedSlice S128x128 ![128, 0] M slices_S256x128_o128_0_S128x128)

/-- Two columns, spread each over the lanes of its head. -/
def spread (a b : FVec Ideal S128x1 .f32) : FVec Ideal S128x128 .f32 :=
  select loLanes (broadcastTo S128x128 (shapeCast S128x1 a shapeCasts_S128x1_S128x1) broadcasts_S128x1_S128x128)
    (broadcastTo S128x128 (shapeCast S128x1 b shapeCasts_S128x1_S128x1) broadcasts_S128x1_S128x128)

/-- What a token still counts at the chunk's end. -/
def atEnd (dd cc : FVec Ideal S128x1 .f32) : FVec Ideal S128x1 .f32 :=
  mulf dd (exp2 (subf (broadcastTo S128x1 (extractStridedSlice S1x1 ![127, 0] cc slices_S128x1_o127_0_S1x1) broadcasts_S1x1_S128x1) cc))

/-- A chunk's whole decay, as one entry. -/
def wholeDecay (cc : FVec Ideal S128x1 .f32) : FVec Ideal S128x128 .f32 :=
  broadcastTo S128x128 (shapeCast S1x1 (exp2 (extractStridedSlice S1x1 ![127, 0] cc slices_S128x1_o127_0_S1x1)) shapeCasts_S1x1_S1x1) broadcasts_S1x1_S128x128

/-- The pair's state after the chunk. -/
def pairState (st xp : FVec Ideal S128x128 .f32) (bg : FVec Ideal S128x128 .bf16) (cc0 dd0 cc1 dd1 : FVec Ideal S128x1 .f32) : FVec Ideal S128x128 .f32 :=
  addf (mulf st (select loRows (wholeDecay cc0) (wholeDecay cc1)))
    (matmul dot_S128x128_S128x128_S128x128_0_0_1_1_n_n none
      (truncf .bf16 (mulf xp (spread (atEnd dd0 cc0) (atEnd dd1 cc1))) bitsLt_bf16_f32) bg (constant S128x128 .f32 0x00000000#32))

/-- The pair's output: the chunk's own tokens, the state before the chunk, and the skip. -/
def pairOut (cb xp : FVec Ideal S128x128 .f32) (cg : FVec Ideal S128x128 .bf16) (st : FVec Ideal S128x128 .f32) (dk : FVec Ideal S1x128 .f32)
    (cc0 : FVec Ideal S128x1 .f32) (rc0 rd0 : FVec Ideal S1x128 .f32)
    (cc1 : FVec Ideal S128x1 .f32) (rc1 rd1 : FVec Ideal S1x128 .f32) : FVec Ideal S128x128 .f32 :=
  addf (addf (pairDiag cb xp cc0 rc0 rd0 cc1 rc1 rd1)
      (mulf (matmul dot_S128x128_S128x128_S128x128_1_1_0_0_n_n none cg (truncf .bf16 st bitsLt_bf16_f32) (constant S128x128 .f32 0x00000000#32))
        (spread (exp2 cc0) (exp2 cc1))))
    (mulf xp (broadcastTo S128x128 dk broadcasts_S1x128_S128x128))

theorem select_ite (p : Prop) [Decidable p] (a b : EReal) : Scalar.select (if p then 1#1 else 0#1) a b = if p then a else b := by
  by_cases h : p <;> simp [h, Scalar.select]

theorem loLanes_at (r l : Fin 128) : loLanes (ix2 r l) = if l.val < 64 then 1#1 else 0#1 := by
  unfold loLanes k0_pay46
  pointwise
  revert l
  decide +kernel

theorem onOrBelow_at (r l : Fin 128) : onOrBelow (ix2 r l) = if l.val ≤ r.val then 1#1 else 0#1 := by
  unfold onOrBelow
  pointwise
  revert r l
  decide +kernel

theorem loRows_at (r l : Fin 128) : loRows (ix2 r l) = if r.val < 64 then 1#1 else 0#1 := by
  unfold loRows
  pointwise
  revert r
  decide +kernel

theorem spread_at (a b : FVec Ideal S128x1 .f32) (r l : Fin 128) :
    spread a b (ix2 r l) = if l.val < 64 then (a (ix2 r 0) : EReal) else b (ix2 r 0) := by
  unfold spread
  pointwise
  rw [loLanes_at, select_ite]

theorem wholeDecay_at (a : FVec Ideal S128x1 .f32) (r l : Fin 128) : wholeDecay a (ix2 r l) = Ideal.exp2 (a (ix2 127 0)) := by
  unfold wholeDecay
  pointwise
  rfl

theorem atEnd_at (dd cc : FVec Ideal S128x1 .f32) (r : Fin 128) :
    atEnd dd cc (ix2 r 0) = (dd (ix2 r 0) : EReal) * Ideal.exp2 ((cc (ix2 127 0) : EReal) - cc (ix2 r 0)) := by
  unfold atEnd
  pointwise
  rfl

theorem headMask_at (cc : FVec Ideal S128x1 .f32) (rc rd : FVec Ideal S1x128 .f32) (cb : FVec Ideal S128x128 .f32) (r s : Fin 128) :
    headMask cc rc rd cb (ix2 r s) = (cb (ix2 r s) : EReal) * (if s.val ≤ r.val then Ideal.exp2 ((cc (ix2 r 0) : EReal) - rc (ix2 0 s)) else 0) * rd (ix2 0 s) := by
  unfold headMask
  pointwise
  rw [onOrBelow_at, select_ite]
  by_cases h : s.val ≤ r.val
  · simp only [h, if_true]; rfl
  · simp only [h, if_false, mul_zero, zero_mul]

theorem pairState_at (st xp : FVec Ideal S128x128 .f32) (bg : FVec Ideal S128x128 .bf16) (cc0 dd0 cc1 dd1 : FVec Ideal S128x1 .f32) (a n : Fin 128) :
    pairState st xp bg cc0 dd0 cc1 dd1 (ix2 a n)
      = (st (ix2 a n) : EReal) * Ideal.exp2 (if a.val < 64 then cc0 (ix2 127 0) else cc1 (ix2 127 0))
        + ∑ s : Fin 128, ((xp (ix2 s a) : EReal) * (if a.val < 64 then (dd0 (ix2 s 0) : EReal) * Ideal.exp2 ((cc0 (ix2 127 0) : EReal) - cc0 (ix2 s 0))
            else (dd1 (ix2 s 0) : EReal) * Ideal.exp2 ((cc1 (ix2 127 0) : EReal) - cc1 (ix2 s 0)))) * bg (ix2 s n) := by
  unfold pairState
  pointwise
  simp only [loRows_at, select_ite, wholeDecay_at, spread_at, atEnd_at]
  by_cases h : a.val < 64 <;> simp only [h, if_true, if_false]

theorem pairDiag_at (cb xp : FVec Ideal S128x128 .f32) (cc0 : FVec Ideal S128x1 .f32) (rc0 rd0 : FVec Ideal S1x128 .f32)
    (cc1 : FVec Ideal S128x1 .f32) (rc1 rd1 : FVec Ideal S1x128 .f32) (r l : Fin 128) :
    pairDiag cb xp cc0 rc0 rd0 cc1 rc1 rd1 (ix2 r l)
      = ∑ s : Fin 128, ((cb (ix2 r s) : EReal) * (if s.val ≤ r.val then Ideal.exp2 (if l.val < 64 then (cc0 (ix2 r 0) : EReal) - rc0 (ix2 0 s) else (cc1 (ix2 r 0) : EReal) - rc1 (ix2 0 s)) else 0)
          * (if l.val < 64 then rd0 (ix2 0 s) else rd1 (ix2 0 s))) * xp (ix2 s l) := by
  unfold pairDiag
  pointwise
  simp only [loLanes_at, select_ite, headMask_at]
  by_cases h : l.val < 64 <;> simp only [h, if_true, if_false]

theorem pairOut_at (cb xp : FVec Ideal S128x128 .f32) (cg : FVec Ideal S128x128 .bf16) (st : FVec Ideal S128x128 .f32) (dk : FVec Ideal S1x128 .f32)
    (cc0 : FVec Ideal S128x1 .f32) (rc0 rd0 : FVec Ideal S1x128 .f32)
    (cc1 : FVec Ideal S128x1 .f32) (rc1 rd1 : FVec Ideal S1x128 .f32) (r l : Fin 128) :
    pairOut cb xp cg st dk cc0 rc0 rd0 cc1 rc1 rd1 (ix2 r l)
      = (∑ s : Fin 128, ((cb (ix2 r s) : EReal) * (if s.val ≤ r.val then Ideal.exp2 (if l.val < 64 then (cc0 (ix2 r 0) : EReal) - rc0 (ix2 0 s) else (cc1 (ix2 r 0) : EReal) - rc1 (ix2 0 s)) else 0)
          * (if l.val < 64 then rd0 (ix2 0 s) else rd1 (ix2 0 s))) * xp (ix2 s l))
        + (∑ n : Fin 128, (cg (ix2 r n) : EReal) * st (ix2 l n)) * Ideal.exp2 (if l.val < 64 then cc0 (ix2 r 0) else cc1 (ix2 r 0))
        + (xp (ix2 r l) : EReal) * dk (ix2 0 l) := by
  rw [← pairDiag_at]
  unfold pairOut
  pointwise
  simp only [spread_at]
  by_cases h : l.val < 64 <;> simp only [h, if_true, if_false] <;> rfl

end Cert.Layer

end
-- ==== Proof.SsdStep.lean ====
/- A chunk's step of the state-space layer over all features: what one pair of heads computes is the pair's
   share of it. -/
module

public import proofs.«01_k».proof.Proof.SsdPair

@[expose] public section

set_option maxRecDepth 16384

noncomputable section

namespace Cert.Layer

open Cert.KernelIdeal Cert.KernelIdeal.Gen Idealize.ShloMosaic Idealize.SL.Sem

/-- A feature's head. -/
abbrev headOf (f : Fin 1024) : Fin 16 := ⟨f.val / 64, by omega⟩
/-- The column of the convolution's output that holds entry `n` of a feature's group's input projection. -/
abbrev colB (f : Fin 1024) (n : Fin 128) : Fin 1536 := ⟨1024 + 128 * (f.val / 512) + n.val, by omega⟩
/-- The same of the output projection. -/
abbrev colC (f : Fin 1024) (n : Fin 128) : Fin 1536 := ⟨1280 + 128 * (f.val / 512) + n.val, by omega⟩
/-- A feature's own column. -/
abbrev colX (f : Fin 1024) : Fin 1536 := ⟨f.val, by omega⟩
/-- The gate column of a head's step. -/
abbrev colD (f : Fin 1024) : Fin 128 := ⟨f.val / 64, by omega⟩
/-- The gate column of a head's summed decay. -/
abbrev colA (f : Fin 1024) : Fin 128 := ⟨16 + f.val / 64, by omega⟩

/-- The state after a chunk. -/
def stepState (xb : FVec Ideal S128x1536 .f32) (nat : FVec Ideal S128x128 .f32) (S : Fin 1024 → Fin 128 → EReal) (f : Fin 1024) (n : Fin 128) : EReal :=
  S f n * Ideal.exp2 (nat (ix2 127 (colA f)))
    + ∑ s : Fin 128, ((xb (ix2 s (colX f)) : EReal) * ((nat (ix2 s (colD f)) : EReal) * Ideal.exp2 ((nat (ix2 127 (colA f)) : EReal) - nat (ix2 s (colA f)))))
        * xb (ix2 s (colB f n))

/-- The output of a chunk. -/
def stepOut (xb : FVec Ideal S128x1536 .f32) (nat : FVec Ideal S128x128 .f32) (gt : FVec Ideal S32x128 .f32) (S : Fin 1024 → Fin 128 → EReal)
    (dk : Fin 1024 → EReal) (r : Fin 128) (f : Fin 1024) : EReal :=
  (∑ s : Fin 128, ((∑ n : Fin 128, (xb (ix2 r (colC f n)) : EReal) * xb (ix2 s (colB f n)))
      * (if s.val ≤ r.val then Ideal.exp2 ((nat (ix2 r (colA f)) : EReal) - gt (ix2 ⟨16 + f.val / 64, by omega⟩ s)) else 0)
      * gt (ix2 ⟨f.val / 64, by omega⟩ s)) * xb (ix2 s (colX f)))
    + (∑ n : Fin 128, (xb (ix2 r (colC f n)) : EReal) * S f n) * Ideal.exp2 (nat (ix2 r (colA f)))
    + (xb (ix2 r (colX f)) : EReal) * dk f

/-- The pair's feature of lane `l`. -/
abbrev pairF (p : Fin 8) (l : Fin 128) : Fin 1024 := ⟨128 * p.val + l.val, by omega⟩

theorem slice_wide (xb : FVec Ideal S128x1536 .f32) (o : ℕ) (h : S128x1536.Slices ![0, o] S128x128) (r l : Fin 128) (c : Fin 1536) (e : c.val = o + l.val) :
    extractStridedSlice S128x128 ![0, o] xb h (ix2 r l) = xb (ix2 r c) := by
  have : o + l.val < 1536 := by omega
  have e' : c = ⟨o + l.val, this⟩ := Fin.ext e
  subst e'
  pointwise

theorem slice_col (nat : FVec Ideal S128x128 .f32) (o : ℕ) (h : S128x128.Slices ![0, o] S128x1) (r : Fin 128) (c : Fin 128) (e : c.val = o) :
    extractStridedSlice S128x1 ![0, o] nat h (ix2 r 0) = nat (ix2 r c) := by
  subst e
  pointwise

theorem slice_row (gt : FVec Ideal S32x128 .f32) (o : ℕ) (h : S32x128.Slices ![o, 0] S1x128) (s : Fin 128) (c : Fin 32) (e : c.val = o) :
    extractStridedSlice S1x128 ![o, 0] gt h (ix2 0 s) = gt (ix2 c s) := by
  subst e
  pointwise

/-- The pair's product of the two projections. -/
theorem pairCb_at (xb : FVec Ideal S128x1536 .f32) (cg bg : FVec Ideal S128x128 .bf16) (r s : Fin 128) :
    (matmul dot_S128x128_S128x128_S128x128_1_1_0_0_n_n none cg bg (constant S128x128 .f32 0x00000000#32) : FVec Ideal S128x128 .f32) (ix2 r s)
      = ∑ n : Fin 128, (cg (ix2 r n) : EReal) * bg (ix2 s n) := by
  pointwise

theorem trunc_wide (xb : FVec Ideal S128x1536 .f32) (o : ℕ) (h : S128x1536.Slices ![0, o] S128x128) (hT : FTy.bits .bf16 < FTy.bits .f32) (r l : Fin 128) (c : Fin 1536) (e : c.val = o + l.val) :
    (truncf .bf16 (extractStridedSlice S128x128 ![0, o] xb h) hT : FVec Ideal S128x128 .bf16) (ix2 r l) = xb (ix2 r c) := by
  rw [← slice_wide xb o h r l c e]
  pointwise

/-- The pair's new state is its share of the step's. -/
theorem pairState_step (p : Fin 8) (ox ob c0 d0 c1 d1 : ℕ) (ex : ox = 128 * p.val) (eb : ob = 1024 + 128 * (p.val / 4))
    (ec0 : c0 = 16 + 2 * p.val) (ed0 : d0 = 2 * p.val) (ec1 : c1 = 17 + 2 * p.val) (ed1 : d1 = 1 + 2 * p.val)
    (xb : FVec Ideal S128x1536 .f32) (nat : FVec Ideal S128x128 .f32) (st : FVec Ideal S128x128 .f32) (S : Fin 1024 → Fin 128 → EReal)
    (hx : S128x1536.Slices ![0, ox] S128x128) (hb : S128x1536.Slices ![0, ob] S128x128) (hT : FTy.bits .bf16 < FTy.bits .f32)
    (hc0 : S128x128.Slices ![0, c0] S128x1) (hd0 : S128x128.Slices ![0, d0] S128x1) (hc1 : S128x128.Slices ![0, c1] S128x1) (hd1 : S128x128.Slices ![0, d1] S128x1)
    (hst : ∀ a n, st (ix2 a n) = S (pairF p a) n) (a n : Fin 128) :
    pairState st (extractStridedSlice S128x128 ![0, ox] xb hx) (truncf .bf16 (extractStridedSlice S128x128 ![0, ob] xb hb) hT)
        (extractStridedSlice S128x1 ![0, c0] nat hc0) (extractStridedSlice S128x1 ![0, d0] nat hd0)
        (extractStridedSlice S128x1 ![0, c1] nat hc1) (extractStridedSlice S128x1 ![0, d1] nat hd1) (ix2 a n)
      = stepState xb nat S (pairF p a) n := by
  have hp := p.isLt
  have ha := a.isLt
  rw [pairState_at, hst]
  unfold stepState
  by_cases h : a.val < 64
  · simp only [h, if_true]
    simp only [slice_col nat c0 hc0 _ (colA (pairF p a)) (by show 16 + (128 * p.val + a.val) / 64 = c0; omega),
      slice_col nat d0 hd0 _ (colD (pairF p a)) (by show (128 * p.val + a.val) / 64 = d0; omega),
      slice_wide xb ox hx _ a (colX (pairF p a)) (by show 128 * p.val + a.val = ox + a.val; omega),
      trunc_wide xb ob hb hT _ n (colB (pairF p a) n) (by show 1024 + 128 * ((128 * p.val + a.val) / 512) + n.val = ob + n.val; omega)]
  · simp only [h, if_false]
    simp only [slice_col nat c1 hc1 _ (colA (pairF p a)) (by show 16 + (128 * p.val + a.val) / 64 = c1; omega),
      slice_col nat d1 hd1 _ (colD (pairF p a)) (by show (128 * p.val + a.val) / 64 = d1; omega),
      slice_wide xb ox hx _ a (colX (pairF p a)) (by show 128 * p.val + a.val = ox + a.val; omega),
      trunc_wide xb ob hb hT _ n (colB (pairF p a) n) (by show 1024 + 128 * ((128 * p.val + a.val) / 512) + n.val = ob + n.val; omega)]

/-- The pair's output is its share of the step's. -/
theorem pairOut_step (p : Fin 8) (ox ob oc c0 d0 c1 d1 : ℕ) (ex : ox = 128 * p.val) (eb : ob = 1024 + 128 * (p.val / 4)) (eo : oc = 1280 + 128 * (p.val / 4))
    (ec0 : c0 = 16 + 2 * p.val) (ed0 : d0 = 2 * p.val) (ec1 : c1 = 17 + 2 * p.val) (ed1 : d1 = 1 + 2 * p.val)
    (xb : FVec Ideal S128x1536 .f32) (nat : FVec Ideal S128x128 .f32) (gt : FVec Ideal S32x128 .f32) (st : FVec Ideal S128x128 .f32) (dk : FVec Ideal S1x128 .f32)
    (S : Fin 1024 → Fin 128 → EReal) (D : Fin 1024 → EReal)
    (hx : S128x1536.Slices ![0, ox] S128x128) (hb : S128x1536.Slices ![0, ob] S128x128) (ho : S128x1536.Slices ![0, oc] S128x128) (hT hU : FTy.bits .bf16 < FTy.bits .f32)
    (hc0 : S128x128.Slices ![0, c0] S128x1) (hc1 : S128x128.Slices ![0, c1] S128x1)
    (gc0 : S32x128.Slices ![c0, 0] S1x128) (gd0 : S32x128.Slices ![d0, 0] S1x128) (gc1 : S32x128.Slices ![c1, 0] S1x128) (gd1 : S32x128.Slices ![d1, 0] S1x128)
    (hst : ∀ a n, st (ix2 a n) = S (pairF p a) n) (hdk : ∀ l, dk (ix2 0 l) = D (pairF p l)) (r l : Fin 128) :
    pairOut (matmul dot_S128x128_S128x128_S128x128_1_1_0_0_n_n none (truncf .bf16 (extractStridedSlice S128x128 ![0, oc] xb ho) hU)
          (truncf .bf16 (extractStridedSlice S128x128 ![0, ob] xb hb) hT) (constant S128x128 .f32 0x00000000#32))
        (extractStridedSlice S128x128 ![0, ox] xb hx) (truncf .bf16 (extractStridedSlice S128x128 ![0, oc] xb ho) hU) st dk
        (extractStridedSlice S128x1 ![0, c0] nat hc0) (extractStridedSlice S1x128 ![c0, 0] gt gc0) (extractStridedSlice S1x128 ![d0, 0] gt gd0)
        (extractStridedSlice S128x1 ![0, c1] nat hc1) (extractStridedSlice S1x128 ![c1, 0] gt gc1) (extractStridedSlice S1x128 ![d1, 0] gt gd1) (ix2 r l)
      = stepOut xb nat gt S D r (pairF p l) := by
  have hp := p.isLt
  have hl := l.isLt
  rw [pairOut_at, hdk]
  unfold stepOut
  simp only [pairCb_at xb, hst]
  by_cases h : l.val < 64
  · simp only [h, if_true]
    simp only [slice_col nat c0 hc0 _ (colA (pairF p l)) (by show 16 + (128 * p.val + l.val) / 64 = c0; omega),
      slice_row gt c0 gc0 _ ⟨16 + (pairF p l).val / 64, by omega⟩ (by show 16 + (128 * p.val + l.val) / 64 = c0; omega),
      slice_row gt d0 gd0 _ ⟨(pairF p l).val / 64, by omega⟩ (by show (128 * p.val + l.val) / 64 = d0; omega),
      slice_wide xb ox hx _ l (colX (pairF p l)) (by show 128 * p.val + l.val = ox + l.val; omega),
      fun r n => trunc_wide xb ob hb hT r n (colB (pairF p l) n) (by show 1024 + 128 * ((128 * p.val + l.val) / 512) + n.val = ob + n.val; omega),
      fun r n => trunc_wide xb oc ho hU r n (colC (pairF p l) n) (by show 1280 + 128 * ((128 * p.val + l.val) / 512) + n.val = oc + n.val; omega)]
  · simp only [h, if_false]
    simp only [slice_col nat c1 hc1 _ (colA (pairF p l)) (by show 16 + (128 * p.val + l.val) / 64 = c1; omega),
      slice_row gt c1 gc1 _ ⟨16 + (pairF p l).val / 64, by omega⟩ (by show 16 + (128 * p.val + l.val) / 64 = c1; omega),
      slice_row gt d1 gd1 _ ⟨(pairF p l).val / 64, by omega⟩ (by show (128 * p.val + l.val) / 64 = d1; omega),
      slice_wide xb ox hx _ l (colX (pairF p l)) (by show 128 * p.val + l.val = ox + l.val; omega),
      fun r n => trunc_wide xb ob hb hT r n (colB (pairF p l) n) (by show 1024 + 128 * ((128 * p.val + l.val) / 512) + n.val = ob + n.val; omega),
      fun r n => trunc_wide xb oc ho hU r n (colC (pairF p l) n) (by show 1280 + 128 * ((128 * p.val + l.val) / 512) + n.val = oc + n.val; omega)]

theorem cast_down (a n : Fin 128) (v : Vec Ideal S1x128x128 .f32) (hh : _) : (shapeCast S128x128 v hh : FVec Ideal S128x128 .f32) (ix2 a n) = v (ix3 0 a n) := by
  pointwise
theorem cast_up (a n : Fin 128) (v : FVec Ideal S128x128 .f32) (hh : _) : (shapeCast S1x128x128 v hh : FVec Ideal S1x128x128 .f32) (ix3 0 a n) = v (ix2 a n) := by
  pointwise
theorem cast_same (a n : Fin 128) (v : FVec Ideal S128x128 .f32) (hh : _) : (shapeCast S128x128 v hh : FVec Ideal S128x128 .f32) (ix2 a n) = v (ix2 a n) := by
  pointwise
theorem cast_row (l : Fin 128) (v : Vec Ideal S1x128 .f32) (hh : _) : (shapeCast S1x128 v hh : FVec Ideal S1x128 .f32) (ix2 0 l) = v (ix2 0 l) := by
  pointwise

end Cert.Layer

end
-- ==== Proof.StatesA.lean ====
/- The state a tile keeps after each chunk, one pair of heads at a time, where a batch begins. -/
module

public import proofs.«01_k».proof.Proof.Gen.KernelIdeal.Frame.RunA
public import proofs.«01_k».proof.Proof.SsdStep
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_A.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m12 : Memref sig .tc .vmem S1024x1536 .bf16) (w12 : m12.IsWhole) (m13 : Memref sig .tc .vmem S1024x128 .bf16) (w13 : m13.IsWhole) (m25 : Memref sig .tc .vmem S1x128 .f32) (m26 : Memref sig .tc .vmem S528x1536 .bf16) (m28 : Memref sig .tc .vmem S512x128 .f32) (m30 : Memref sig .tc .vmem S8x128x128 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x11 : Vec Ideal S1024x1536 .bf16) (x12 : Vec Ideal S1024x128 .bf16)

theorem prA_0_0 (S : Fin 1024 → Fin 128 → EReal) (h : ∀ a n, S (pairF 0 a) n = 0) (a n : Fin 128) : (v384 (F := Ideal) c m30) (ix2 a n) = S (pairF 0 a) n := by
  unfold v384 v383
  rw [cast_down]
  simp (disch := decide) only [↓ View.readCov_skip, ↓ View.readCov_cons_toLoadRect, ↓ View.readCov_fill, HS5_1]
  rw [h a n]
  exact (show Ideal.ofBits .f32 0#32 = 0 by simp [Ideal.ofBits, Ideal.ieee])

theorem stA_0_0 (S : Fin 1024 → Fin 128 → EReal) (h : ∀ a n, S (pairF 0 a) n = 0) (a n : Fin 128) :
    (v414 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 0 a) n := by
  unfold v414
  rw [cast_up]
  exact pairState_step 0 0 1024 16 0 17 1 rfl rfl rfl rfl rfl rfl _ _ _ S _ _ _ _ _ _ _ (fun a n => prA_0_0 (h := h) ..) a n

theorem prA_0_1 (S : Fin 1024 → Fin 128 → EReal) (h : ∀ a n, S (pairF 1 a) n = 0) (a n : Fin 128) : (v476 c m1 w1 m2 w2 m3 w3 m5 w5 m6 w6 m7 w7 m8 w8 m12 w12 m13 w13 m25 m26 m28 m30 x0 x1 x2 x4 x5 x6 x7 x11 x12) (ix2 a n) = S (pairF 1 a) n := by
  unfold v476 v475
  rw [cast_down]
  simp (disch := decide) only [↓ View.readCov_skip, ↓ View.readCov_cons_toLoadRect, ↓ View.readCov_fill, HS5_2, HS5_1]
  rw [h a n]
  exact (show Ideal.ofBits .f32 0#32 = 0 by simp [Ideal.ofBits, Ideal.ieee])

theorem stA_0_1 (S : Fin 1024 → Fin 128 → EReal) (h : ∀ a n, S (pairF 1 a) n = 0) (a n : Fin 128) :
    (v506 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 1 a) n := by
  unfold v506
  rw [cast_up]
  exact pairState_step 1 128 1024 18 2 19 3 rfl rfl rfl rfl rfl rfl _ _ _ S _ _ _ _ _ _ _ (fun a n => prA_0_1 (h := h) ..) a n

theorem prA_0_2 (S : Fin 1024 → Fin 128 → EReal) (h : ∀ a n, S (pairF 2 a) n = 0) (a n : Fin 128) : (v637 c m1 w1 m2 w2 m3 w3 m5 w5 m6 w6 m7 w7 m8 w8 m12 w12 m13 w13 m25 m26 m28 m30 x0 x1 x2 x4 x5 x6 x7 x11 x12) (ix2 a n) = S (pairF 2 a) n := by
  unfold v637 v636
  rw [cast_down]
  simp (disch := decide) only [↓ View.readCov_skip, ↓ View.readCov_cons_toLoadRect, ↓ View.readCov_fill, HS5_3, HS5_2, HS5_1]
  rw [h a n]
  exact (show Ideal.ofBits .f32 0#32 = 0 by simp [Ideal.ofBits, Ideal.ieee])

theorem stA_0_2 (S : Fin 1024 → Fin 128 → EReal) (h : ∀ a n, S (pairF 2 a) n = 0) (a n : Fin 128) :
    (v667 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 2 a) n := by
  unfold v667
  rw [cast_up]
  exact pairState_step 2 256 1024 20 4 21 5 rfl rfl rfl rfl rfl rfl _ _ _ S _ _ _ _ _ _ _ (fun a n => prA_0_2 (h := h) ..) a n

theorem prA_0_3 (S : Fin 1024 → Fin 128 → EReal) (h : ∀ a n, S (pairF 3 a) n = 0) (a n : Fin 128) : (v729 c m1 w1 m2 w2 m3 w3 m5 w5 m6 w6 m7 w7 m8 w8 m12 w12 m13 w13 m25 m26 m28 m30 x0 x1 x2 x4 x5 x6 x7 x11 x12) (ix2 a n) = S (pairF 3 a) n := by
  unfold v729 v728
  rw [cast_down]
  simp (disch := decide) only [↓ View.readCov_skip, ↓ View.readCov_cons_toLoadRect, ↓ View.readCov_fill, HS5_4, HS5_3, HS5_2, HS5_1]
  rw [h a n]
  exact (show Ideal.ofBits .f32 0#32 = 0 by simp [Ideal.ofBits, Ideal.ieee])

theorem stA_0_3 (S : Fin 1024 → Fin 128 → EReal) (h : ∀ a n, S (pairF 3 a) n = 0) (a n : Fin 128) :
    (v759 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 3 a) n := by
  unfold v759
  rw [cast_up]
  exact pairState_step 3 384 1024 22 6 23 7 rfl rfl rfl rfl rfl rfl _ _ _ S _ _ _ _ _ _ _ (fun a n => prA_0_3 (h := h) ..) a n

theorem prA_0_4 (S : Fin 1024 → Fin 128 → EReal) (h : ∀ a n, S (pairF 4 a) n = 0) (a n : Fin 128) : (v895 c m1 w1 m2 w2 m3 w3 m5 w5 m6 w6 m7 w7 m8 w8 m12 w12 m13 w13 m25 m26 m28 m30 x0 x1 x2 x4 x5 x6 x7 x11 x12) (ix2 a n) = S (pairF 4 a) n := by
  unfold v895 v894
  rw [cast_down]
  simp (disch := decide) only [↓ View.readCov_skip, ↓ View.readCov_cons_toLoadRect, ↓ View.readCov_fill, HS5_5, HS5_4, HS5_3, HS5_2, HS5_1]
  rw [h a n]
  exact (show Ideal.ofBits .f32 0#32 = 0 by simp [Ideal.ofBits, Ideal.ieee])

theorem stA_0_4 (S : Fin 1024 → Fin 128 → EReal) (h : ∀ a n, S (pairF 4 a) n = 0) (a n : Fin 128) :
    (v925 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 4 a) n := by
  unfold v925
  rw [cast_up]
  exact pairState_step 4 512 1152 24 8 25 9 rfl rfl rfl rfl rfl rfl _ _ _ S _ _ _ _ _ _ _ (fun a n => prA_0_4 (h := h) ..) a n

theorem prA_0_5 (S : Fin 1024 → Fin 128 → EReal) (h : ∀ a n, S (pairF 5 a) n = 0) (a n : Fin 128) : (v987 c m1 w1 m2 w2 m3 w3 m5 w5 m6 w6 m7 w7 m8 w8 m12 w12 m13 w13 m25 m26 m28 m30 x0 x1 x2 x4 x5 x6 x7 x11 x12) (ix2 a n) = S (pairF 5 a) n := by
  unfold v987 v986
  rw [cast_down]
  simp (disch := decide) only [↓ View.readCov_skip, ↓ View.readCov_cons_toLoadRect, ↓ View.readCov_fill, HS5_6, HS5_5, HS5_4, HS5_3, HS5_2, HS5_1]
  rw [h a n]
  exact (show Ideal.ofBits .f32 0#32 = 0 by simp [Ideal.ofBits, Ideal.ieee])

theorem stA_0_5 (S : Fin 1024 → Fin 128 → EReal) (h : ∀ a n, S (pairF 5 a) n = 0) (a n : Fin 128) :
    (v1017 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 5 a) n := by
  unfold v1017
  rw [cast_up]
  exact pairState_step 5 640 1152 26 10 27 11 rfl rfl rfl rfl rfl rfl _ _ _ S _ _ _ _ _ _ _ (fun a n => prA_0_5 (h := h) ..) a n

theorem prA_0_6 (S : Fin 1024 → Fin 128 → EReal) (h : ∀ a n, S (pairF 6 a) n = 0) (a n : Fin 128) : (v1148 c m1 w1 m2 w2 m3 w3 m5 w5 m6 w6 m7 w7 m8 w8 m12 w12 m13 w13 m25 m26 m28 m30 x0 x1 x2 x4 x5 x6 x7 x11 x12) (ix2 a n) = S (pairF 6 a) n := by
  unfold v1148 v1147
  rw [cast_down]
  simp (disch := decide) only [↓ View.readCov_skip, ↓ View.readCov_cons_toLoadRect, ↓ View.readCov_fill, HS5_7, HS5_6, HS5_5, HS5_4, HS5_3, HS5_2, HS5_1]
  rw [h a n]
  exact (show Ideal.ofBits .f32 0#32 = 0 by simp [Ideal.ofBits, Ideal.ieee])

theorem stA_0_6 (S : Fin 1024 → Fin 128 → EReal) (h : ∀ a n, S (pairF 6 a) n = 0) (a n : Fin 128) :
    (v1178 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 6 a) n := by
  unfold v1178
  rw [cast_up]
  exact pairState_step 6 768 1152 28 12 29 13 rfl rfl rfl rfl rfl rfl _ _ _ S _ _ _ _ _ _ _ (fun a n => prA_0_6 (h := h) ..) a n

theorem prA_0_7 (S : Fin 1024 → Fin 128 → EReal) (h : ∀ a n, S (pairF 7 a) n = 0) (a n : Fin 128) : (v1240 c m1 w1 m2 w2 m3 w3 m5 w5 m6 w6 m7 w7 m8 w8 m12 w12 m13 w13 m25 m26 m28 m30 x0 x1 x2 x4 x5 x6 x7 x11 x12) (ix2 a n) = S (pairF 7 a) n := by
  unfold v1240 v1239
  rw [cast_down]
  simp (disch := decide) only [↓ View.readCov_skip, ↓ View.readCov_cons_toLoadRect, ↓ View.readCov_fill, HS5_8, HS5_7, HS5_6, HS5_5, HS5_4, HS5_3, HS5_2, HS5_1]
  rw [h a n]
  exact (show Ideal.ofBits .f32 0#32 = 0 by simp [Ideal.ofBits, Ideal.ieee])

theorem stA_0_7 (S : Fin 1024 → Fin 128 → EReal) (h : ∀ a n, S (pairF 7 a) n = 0) (a n : Fin 128) :
    (v1270 c m1 w1 m2 w2 m3 w3 m5 w5 m6 w6 m7 w7 m8 w8 m12 w12 m13 w13 m25 m26 m28 m30 x0 x1 x2 x4 x5 x6 x7 x11 x12) (ix3 0 a n) = stepState (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) S (pairF 7 a) n := by
  unfold v1270
  rw [cast_up]
  exact pairState_step 7 896 1152 30 14 31 15 rfl rfl rfl rfl rfl rfl _ _ _ S _ _ _ _ _ _ _ (fun a n => prA_0_7 (h := h) ..) a n

theorem prA_1_0 (S : Fin 1024 → Fin 128 → EReal) (h : ∀ a n, (v414 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) : (v1486 c m1 w1 m2 w2 m3 w3 m5 w5 m6 w6 m7 w7 m8 w8 m12 w12 m13 w13 m25 m26 m28 m30 x0 x1 x2 x4 x5 x6 x7 x11 x12) (ix2 a n) = S (pairF 0 a) n := by
  unfold v1486 v1485
  rw [cast_down]
  simp (disch := decide) only [↓ View.readCov_skip, ↓ View.readCov_cons_toLoadRect, ↓ View.readCov_fill, HS5_9, HS5_8, HS5_7, HS5_6, HS5_5, HS5_4, HS5_3, HS5_2, HS5_1]
  exact h a n

theorem stA_1_0 (S : Fin 1024 → Fin 128 → EReal) (h : ∀ a n, (v414 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) :
    (v1516 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 0 a) n := by
  unfold v1516
  rw [cast_up]
  exact pairState_step 0 0 1024 16 0 17 1 rfl rfl rfl rfl rfl rfl _ _ _ S _ _ _ _ _ _ _ (fun a n => prA_1_0 (h := h) ..) a n

theorem prA_1_1 (S : Fin 1024 → Fin 128 → EReal) (h : ∀ a n, (v506 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) : (v1578 c m1 w1 m2 w2 m3 w3 m5 w5 m6 w6 m7 w7 m8 w8 m12 w12 m13 w13 m25 m26 m28 m30 x0 x1 x2 x4 x5 x6 x7 x11 x12) (ix2 a n) = S (pairF 1 a) n := by
  unfold v1578 v1577
  rw [cast_down]
  simp (disch := decide) only [↓ View.readCov_skip, ↓ View.readCov_cons_toLoadRect, ↓ View.readCov_fill, HS5_10, HS5_9, HS5_8, HS5_7, HS5_6, HS5_5, HS5_4, HS5_3, HS5_2, HS5_1]
  exact h a n

theorem stA_1_1 (S : Fin 1024 → Fin 128 → EReal) (h : ∀ a n, (v506 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) :
    (v1608 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 1 a) n := by
  unfold v1608
  rw [cast_up]
  exact pairState_step 1 128 1024 18 2 19 3 rfl rfl rfl rfl rfl rfl _ _ _ S _ _ _ _ _ _ _ (fun a n => prA_1_1 (h := h) ..) a n

theorem prA_1_2 (S : Fin 1024 → Fin 128 → EReal) (h : ∀ a n, (v667 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) : (v1739 c m1 w1 m2 w2 m3 w3 m5 w5 m6 w6 m7 w7 m8 w8 m12 w12 m13 w13 m25 m26 m28 m30 x0 x1 x2 x4 x5 x6 x7 x11 x12) (ix2 a n) = S (pairF 2 a) n := by
  unfold v1739 v1738
  rw [cast_down]
  simp (disch := decide) only [↓ View.readCov_skip, ↓ View.readCov_cons_toLoadRect, ↓ View.readCov_fill, HS5_11, HS5_10, HS5_9, HS5_8, HS5_7, HS5_6, HS5_5, HS5_4, HS5_3, HS5_2, HS5_1]
  exact h a n

theorem stA_1_2 (S : Fin 1024 → Fin 128 → EReal) (h : ∀ a n, (v667 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) :
    (v1769 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 2 a) n := by
  unfold v1769
  rw [cast_up]
  exact pairState_step 2 256 1024 20 4 21 5 rfl rfl rfl rfl rfl rfl _ _ _ S _ _ _ _ _ _ _ (fun a n => prA_1_2 (h := h) ..) a n

theorem prA_1_3 (S : Fin 1024 → Fin 128 → EReal) (h : ∀ a n, (v759 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) : (v1831 c m1 w1 m2 w2 m3 w3 m5 w5 m6 w6 m7 w7 m8 w8 m12 w12 m13 w13 m25 m26 m28 m30 x0 x1 x2 x4 x5 x6 x7 x11 x12) (ix2 a n) = S (pairF 3 a) n := by
  unfold v1831 v1830
  rw [cast_down]
  simp (disch := decide) only [↓ View.readCov_skip, ↓ View.readCov_cons_toLoadRect, ↓ View.readCov_fill, HS5_12, HS5_11, HS5_10, HS5_9, HS5_8, HS5_7, HS5_6, HS5_5, HS5_4, HS5_3, HS5_2, HS5_1]
  exact h a n

theorem stA_1_3 (S : Fin 1024 → Fin 128 → EReal) (h : ∀ a n, (v759 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) :
    (v1861 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 3 a) n := by
  unfold v1861
  rw [cast_up]
  exact pairState_step 3 384 1024 22 6 23 7 rfl rfl rfl rfl rfl rfl _ _ _ S _ _ _ _ _ _ _ (fun a n => prA_1_3 (h := h) ..) a n

theorem prA_1_4 (S : Fin 1024 → Fin 128 → EReal) (h : ∀ a n, (v925 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) : (v1997 c m1 w1 m2 w2 m3 w3 m5 w5 m6 w6 m7 w7 m8 w8 m12 w12 m13 w13 m25 m26 m28 m30 x0 x1 x2 x4 x5 x6 x7 x11 x12) (ix2 a n) = S (pairF 4 a) n := by
  unfold v1997 v1996
  rw [cast_down]
  simp (disch := decide) only [↓ View.readCov_skip, ↓ View.readCov_cons_toLoadRect, ↓ View.readCov_fill, HS5_13, HS5_12, HS5_11, HS5_10, HS5_9, HS5_8, HS5_7, HS5_6, HS5_5, HS5_4, HS5_3, HS5_2, HS5_1]
  exact h a n

theorem stA_1_4 (S : Fin 1024 → Fin 128 → EReal) (h : ∀ a n, (v925 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) :
    (v2027 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 4 a) n := by
  unfold v2027
  rw [cast_up]
  exact pairState_step 4 512 1152 24 8 25 9 rfl rfl rfl rfl rfl rfl _ _ _ S _ _ _ _ _ _ _ (fun a n => prA_1_4 (h := h) ..) a n

theorem prA_1_5 (S : Fin 1024 → Fin 128 → EReal) (h : ∀ a n, (v1017 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) : (v2089 c m1 w1 m2 w2 m3 w3 m5 w5 m6 w6 m7 w7 m8 w8 m12 w12 m13 w13 m25 m26 m28 m30 x0 x1 x2 x4 x5 x6 x7 x11 x12) (ix2 a n) = S (pairF 5 a) n := by
  unfold v2089 v2088
  rw [cast_down]
  simp (disch := decide) only [↓ View.readCov_skip, ↓ View.readCov_cons_toLoadRect, ↓ View.readCov_fill, HS5_14, HS5_13, HS5_12, HS5_11, HS5_10, HS5_9, HS5_8, HS5_7, HS5_6, HS5_5, HS5_4, HS5_3, HS5_2, HS5_1]
  exact h a n

theorem stA_1_5 (S : Fin 1024 → Fin 128 → EReal) (h : ∀ a n, (v1017 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) :
    (v2119 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 5 a) n := by
  unfold v2119
  rw [cast_up]
  exact pairState_step 5 640 1152 26 10 27 11 rfl rfl rfl rfl rfl rfl _ _ _ S _ _ _ _ _ _ _ (fun a n => prA_1_5 (h := h) ..) a n

theorem prA_1_6 (S : Fin 1024 → Fin 128 → EReal) (h : ∀ a n, (v1178 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) : (v2250 c m1 w1 m2 w2 m3 w3 m5 w5 m6 w6 m7 w7 m8 w8 m12 w12 m13 w13 m25 m26 m28 m30 x0 x1 x2 x4 x5 x6 x7 x11 x12) (ix2 a n) = S (pairF 6 a) n := by
  unfold v2250 v2249
  rw [cast_down]
  simp (disch := decide) only [↓ View.readCov_skip, ↓ View.readCov_cons_toLoadRect, ↓ View.readCov_fill, HS5_15, HS5_14, HS5_13, HS5_12, HS5_11, HS5_10, HS5_9, HS5_8, HS5_7, HS5_6, HS5_5, HS5_4, HS5_3, HS5_2, HS5_1]
  exact h a n

theorem stA_1_6 (S : Fin 1024 → Fin 128 → EReal) (h : ∀ a n, (v1178 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) :
    (v2280 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 6 a) n := by
  unfold v2280
  rw [cast_up]
  exact pairState_step 6 768 1152 28 12 29 13 rfl rfl rfl rfl rfl rfl _ _ _ S _ _ _ _ _ _ _ (fun a n => prA_1_6 (h := h) ..) a n

theorem prA_1_7 (S : Fin 1024 → Fin 128 → EReal) (h : ∀ a n, (v1270 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) : (v2342 c m1 w1 m2 w2 m3 w3 m5 w5 m6 w6 m7 w7 m8 w8 m12 w12 m13 w13 m25 m26 m28 m30 x0 x1 x2 x4 x5 x6 x7 x11 x12) (ix2 a n) = S (pairF 7 a) n := by
  unfold v2342 v2341
  rw [cast_down]
  simp (disch := decide) only [↓ View.readCov_skip, ↓ View.readCov_cons_toLoadRect, ↓ View.readCov_fill, HS5_16, HS5_15, HS5_14, HS5_13, HS5_12, HS5_11, HS5_10, HS5_9, HS5_8, HS5_7, HS5_6, HS5_5, HS5_4, HS5_3, HS5_2, HS5_1]
  exact h a n

theorem stA_1_7 (S : Fin 1024 → Fin 128 → EReal) (h : ∀ a n, (v1270 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) :
    (v2372 c m1 w1 m2 w2 m3 w3 m5 w5 m6 w6 m7 w7 m8 w8 m12 w12 m13 w13 m25 m26 m28 m30 x0 x1 x2 x4 x5 x6 x7 x11 x12) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) S (pairF 7 a) n := by
  unfold v2372
  rw [cast_up]
  exact pairState_step 7 896 1152 30 14 31 15 rfl rfl rfl rfl rfl rfl _ _ _ S _ _ _ _ _ _ _ (fun a n => prA_1_7 (h := h) ..) a n

theorem prA_2_0 (S : Fin 1024 → Fin 128 → EReal) (h : ∀ a n, (v1516 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) : (v2526 c m1 w1 m2 w2 m3 w3 m5 w5 m6 w6 m7 w7 m8 w8 m12 w12 m13 w13 m25 m26 m28 m30 x0 x1 x2 x4 x5 x6 x7 x11 x12) (ix2 a n) = S (pairF 0 a) n := by
  unfold v2526 v2525
  rw [cast_down]
  simp (disch := decide) only [↓ View.readCov_skip, ↓ View.readCov_cons_toLoadRect, ↓ View.readCov_fill, HS5_17, HS5_16, HS5_15, HS5_14, HS5_13, HS5_12, HS5_11, HS5_10, HS5_9, HS5_8, HS5_7, HS5_6, HS5_5, HS5_4, HS5_3, HS5_2, HS5_1]
  exact h a n

theorem stA_2_0 (S : Fin 1024 → Fin 128 → EReal) (h : ∀ a n, (v1516 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) :
    (v2556 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 0 a) n := by
  unfold v2556
  rw [cast_up]
  exact pairState_step 0 0 1024 16 0 17 1 rfl rfl rfl rfl rfl rfl _ _ _ S _ _ _ _ _ _ _ (fun a n => prA_2_0 (h := h) ..) a n

theorem prA_2_1 (S : Fin 1024 → Fin 128 → EReal) (h : ∀ a n, (v1608 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) : (v2618 c m1 w1 m2 w2 m3 w3 m5 w5 m6 w6 m7 w7 m8 w8 m12 w12 m13 w13 m25 m26 m28 m30 x0 x1 x2 x4 x5 x6 x7 x11 x12) (ix2 a n) = S (pairF 1 a) n := by
  unfold v2618 v2617
  rw [cast_down]
  simp (disch := decide) only [↓ View.readCov_skip, ↓ View.readCov_cons_toLoadRect, ↓ View.readCov_fill, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_1 (S : Fin 1024 → Fin 128 → EReal) (h : ∀ a n, (v1608 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) :
    (v2648 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 1 a) n := by
  unfold v2648
  rw [cast_up]
  exact pairState_step 1 128 1024 18 2 19 3 rfl rfl rfl rfl rfl rfl _ _ _ S _ _ _ _ _ _ _ (fun a n => prA_2_1 (h := h) ..) a n

theorem prA_2_2 (S : Fin 1024 → Fin 128 → EReal) (h : ∀ a n, (v1769 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) : (v2717 c m1 w1 m2 w2 m3 w3 m5 w5 m6 w6 m7 w7 m8 w8 m12 w12 m13 w13 m25 m26 m28 m30 x0 x1 x2 x4 x5 x6 x7 x11 x12) (ix2 a n) = S (pairF 2 a) n := by
  unfold v2717 v2716
  rw [cast_down]
  simp (disch := decide) only [↓ View.readCov_skip, ↓ View.readCov_cons_toLoadRect, ↓ View.readCov_fill, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_2 (S : Fin 1024 → Fin 128 → EReal) (h : ∀ a n, (v1769 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) :
    (v2747 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 2 a) n := by
  unfold v2747
  rw [cast_up]
  exact pairState_step 2 256 1024 20 4 21 5 rfl rfl rfl rfl rfl rfl _ _ _ S _ _ _ _ _ _ _ (fun a n => prA_2_2 (h := h) ..) a n

theorem prA_2_3 (S : Fin 1024 → Fin 128 → EReal) (h : ∀ a n, (v1861 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) : (v2809 c m1 w1 m2 w2 m3 w3 m5 w5 m6 w6 m7 w7 m8 w8 m12 w12 m13 w13 m25 m26 m28 m30 x0 x1 x2 x4 x5 x6 x7 x11 x12) (ix2 a n) = S (pairF 3 a) n := by
  unfold v2809 v2808
  rw [cast_down]
  simp (disch := decide) only [↓ View.readCov_skip, ↓ View.readCov_cons_toLoadRect, ↓ View.readCov_fill, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_3 (S : Fin 1024 → Fin 128 → EReal) (h : ∀ a n, (v1861 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) :
    (v2839 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 3 a) n := by
  unfold v2839
  rw [cast_up]
  exact pairState_step 3 384 1024 22 6 23 7 rfl rfl rfl rfl rfl rfl _ _ _ S _ _ _ _ _ _ _ (fun a n => prA_2_3 (h := h) ..) a n

theorem prA_2_4 (S : Fin 1024 → Fin 128 → EReal) (h : ∀ a n, (v2027 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) : (v2913 c m1 w1 m2 w2 m3 w3 m5 w5 m6 w6 m7 w7 m8 w8 m12 w12 m13 w13 m25 m26 m28 m30 x0 x1 x2 x4 x5 x6 x7 x11 x12) (ix2 a n) = S (pairF 4 a) n := by
  unfold v2913 v2912
  rw [cast_down]
  simp (disch := decide) only [↓ View.readCov_skip, ↓ View.readCov_cons_toLoadRect, ↓ View.readCov_fill, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_4 (S : Fin 1024 → Fin 128 → EReal) (h : ∀ a n, (v2027 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) :
    (v2943 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 4 a) n := by
  unfold v2943
  rw [cast_up]
  exact pairState_step 4 512 1152 24 8 25 9 rfl rfl rfl rfl rfl rfl _ _ _ S _ _ _ _ _ _ _ (fun a n => prA_2_4 (h := h) ..) a n

theorem prA_2_5 (S : Fin 1024 → Fin 128 → EReal) (h : ∀ a n, (v2119 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) : (v3005 c m1 w1 m2 w2 m3 w3 m5 w5 m6 w6 m7 w7 m8 w8 m12 w12 m13 w13 m25 m26 m28 m30 x0 x1 x2 x4 x5 x6 x7 x11 x12) (ix2 a n) = S (pairF 5 a) n := by
  unfold v3005 v3004
  rw [cast_down]
  simp (disch := decide) only [↓ View.readCov_skip, ↓ View.readCov_cons_toLoadRect, ↓ View.readCov_fill, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_5 (S : Fin 1024 → Fin 128 → EReal) (h : ∀ a n, (v2119 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) :
    (v3035 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 5 a) n := by
  unfold v3035
  rw [cast_up]
  exact pairState_step 5 640 1152 26 10 27 11 rfl rfl rfl rfl rfl rfl _ _ _ S _ _ _ _ _ _ _ (fun a n => prA_2_5 (h := h) ..) a n

theorem prA_2_6 (S : Fin 1024 → Fin 128 → EReal) (h : ∀ a n, (v2280 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) : (v3104 c m1 w1 m2 w2 m3 w3 m5 w5 m6 w6 m7 w7 m8 w8 m12 w12 m13 w13 m25 m26 m28 m30 x0 x1 x2 x4 x5 x6 x7 x11 x12) (ix2 a n) = S (pairF 6 a) n := by
  unfold v3104 v3103
  rw [cast_down]
  simp (disch := decide) only [↓ View.readCov_skip, ↓ View.readCov_cons_toLoadRect, ↓ View.readCov_fill, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_6 (S : Fin 1024 → Fin 128 → EReal) (h : ∀ a n, (v2280 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) :
    (v3134 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 6 a) n := by
  unfold v3134
  rw [cast_up]
  exact pairState_step 6 768 1152 28 12 29 13 rfl rfl rfl rfl rfl rfl _ _ _ S _ _ _ _ _ _ _ (fun a n => prA_2_6 (h := h) ..) a n

theorem prA_2_7 (S : Fin 1024 → Fin 128 → EReal) (h : ∀ a n, (v2372 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) : (v3196 c m1 w1 m2 w2 m3 w3 m5 w5 m6 w6 m7 w7 m8 w8 m12 w12 m13 w13 m25 m26 m28 m30 x0 x1 x2 x4 x5 x6 x7 x11 x12) (ix2 a n) = S (pairF 7 a) n := by
  unfold v3196 v3195
  rw [cast_down]
  simp (disch := decide) only [↓ View.readCov_skip, ↓ View.readCov_cons_toLoadRect, ↓ View.readCov_fill, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_2_7 (S : Fin 1024 → Fin 128 → EReal) (h : ∀ a n, (v2372 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) :
    (v3226 c m1 w1 m2 w2 m3 w3 m5 w5 m6 w6 m7 w7 m8 w8 m12 w12 m13 w13 m25 m26 m28 m30 x0 x1 x2 x4 x5 x6 x7 x11 x12) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) S (pairF 7 a) n := by
  unfold v3226
  rw [cast_up]
  exact pairState_step 7 896 1152 30 14 31 15 rfl rfl rfl rfl rfl rfl _ _ _ S _ _ _ _ _ _ _ (fun a n => prA_2_7 (h := h) ..) a n

theorem prA_3_0 (S : Fin 1024 → Fin 128 → EReal) (h : ∀ a n, (v2556 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) : (v3378 c m1 w1 m2 w2 m3 w3 m5 w5 m6 w6 m7 w7 m8 w8 m12 w12 m13 w13 m25 m26 m28 m30 x0 x1 x2 x4 x5 x6 x7 x11 x12) (ix2 a n) = S (pairF 0 a) n := by
  unfold v3378 v3377
  rw [cast_down]
  simp (disch := decide) only [↓ View.readCov_skip, ↓ View.readCov_cons_toLoadRect, ↓ View.readCov_fill, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_0 (S : Fin 1024 → Fin 128 → EReal) (h : ∀ a n, (v2556 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) :
    (v3408 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 0 a) n := by
  unfold v3408
  rw [cast_up]
  exact pairState_step 0 0 1024 16 0 17 1 rfl rfl rfl rfl rfl rfl _ _ _ S _ _ _ _ _ _ _ (fun a n => prA_3_0 (h := h) ..) a n

theorem prA_3_1 (S : Fin 1024 → Fin 128 → EReal) (h : ∀ a n, (v2648 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) : (v3470 c m1 w1 m2 w2 m3 w3 m5 w5 m6 w6 m7 w7 m8 w8 m12 w12 m13 w13 m25 m26 m28 m30 x0 x1 x2 x4 x5 x6 x7 x11 x12) (ix2 a n) = S (pairF 1 a) n := by
  unfold v3470 v3469
  rw [cast_down]
  simp (disch := decide) only [↓ View.readCov_skip, ↓ View.readCov_cons_toLoadRect, ↓ View.readCov_fill, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_1 (S : Fin 1024 → Fin 128 → EReal) (h : ∀ a n, (v2648 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) :
    (v3500 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 1 a) n := by
  unfold v3500
  rw [cast_up]
  exact pairState_step 1 128 1024 18 2 19 3 rfl rfl rfl rfl rfl rfl _ _ _ S _ _ _ _ _ _ _ (fun a n => prA_3_1 (h := h) ..) a n

theorem prA_3_2 (S : Fin 1024 → Fin 128 → EReal) (h : ∀ a n, (v2747 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) : (v3567 c m1 w1 m2 w2 m3 w3 m5 w5 m6 w6 m7 w7 m8 w8 m12 w12 m13 w13 m25 m26 m28 m30 x0 x1 x2 x4 x5 x6 x7 x11 x12) (ix2 a n) = S (pairF 2 a) n := by
  unfold v3567 v3566
  rw [cast_down]
  simp (disch := decide) only [↓ View.readCov_skip, ↓ View.readCov_cons_toLoadRect, ↓ View.readCov_fill, HS5_27, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_2 (S : Fin 1024 → Fin 128 → EReal) (h : ∀ a n, (v2747 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) :
    (v3597 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 2 a) n := by
  unfold v3597
  rw [cast_up]
  exact pairState_step 2 256 1024 20 4 21 5 rfl rfl rfl rfl rfl rfl _ _ _ S _ _ _ _ _ _ _ (fun a n => prA_3_2 (h := h) ..) a n

theorem prA_3_3 (S : Fin 1024 → Fin 128 → EReal) (h : ∀ a n, (v2839 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) : (v3659 c m1 w1 m2 w2 m3 w3 m5 w5 m6 w6 m7 w7 m8 w8 m12 w12 m13 w13 m25 m26 m28 m30 x0 x1 x2 x4 x5 x6 x7 x11 x12) (ix2 a n) = S (pairF 3 a) n := by
  unfold v3659 v3658
  rw [cast_down]
  simp (disch := decide) only [↓ View.readCov_skip, ↓ View.readCov_cons_toLoadRect, ↓ View.readCov_fill, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_3 (S : Fin 1024 → Fin 128 → EReal) (h : ∀ a n, (v2839 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) :
    (v3689 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 3 a) n := by
  unfold v3689
  rw [cast_up]
  exact pairState_step 3 384 1024 22 6 23 7 rfl rfl rfl rfl rfl rfl _ _ _ S _ _ _ _ _ _ _ (fun a n => prA_3_3 (h := h) ..) a n

theorem prA_3_4 (S : Fin 1024 → Fin 128 → EReal) (h : ∀ a n, (v2943 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) : (v3761 c m1 w1 m2 w2 m3 w3 m5 w5 m6 w6 m7 w7 m8 w8 m12 w12 m13 w13 m25 m26 m28 m30 x0 x1 x2 x4 x5 x6 x7 x11 x12) (ix2 a n) = S (pairF 4 a) n := by
  unfold v3761 v3760
  rw [cast_down]
  simp (disch := decide) only [↓ View.readCov_skip, ↓ View.readCov_cons_toLoadRect, ↓ View.readCov_fill, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_4 (S : Fin 1024 → Fin 128 → EReal) (h : ∀ a n, (v2943 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) :
    (v3791 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 4 a) n := by
  unfold v3791
  rw [cast_up]
  exact pairState_step 4 512 1152 24 8 25 9 rfl rfl rfl rfl rfl rfl _ _ _ S _ _ _ _ _ _ _ (fun a n => prA_3_4 (h := h) ..) a n

theorem prA_3_5 (S : Fin 1024 → Fin 128 → EReal) (h : ∀ a n, (v3035 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) : (v3853 c m1 w1 m2 w2 m3 w3 m5 w5 m6 w6 m7 w7 m8 w8 m12 w12 m13 w13 m25 m26 m28 m30 x0 x1 x2 x4 x5 x6 x7 x11 x12) (ix2 a n) = S (pairF 5 a) n := by
  unfold v3853 v3852
  rw [cast_down]
  simp (disch := decide) only [↓ View.readCov_skip, ↓ View.readCov_cons_toLoadRect, ↓ View.readCov_fill, HS5_30, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_5 (S : Fin 1024 → Fin 128 → EReal) (h : ∀ a n, (v3035 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) :
    (v3883 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 5 a) n := by
  unfold v3883
  rw [cast_up]
  exact pairState_step 5 640 1152 26 10 27 11 rfl rfl rfl rfl rfl rfl _ _ _ S _ _ _ _ _ _ _ (fun a n => prA_3_5 (h := h) ..) a n

theorem prA_3_6 (S : Fin 1024 → Fin 128 → EReal) (h : ∀ a n, (v3134 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) : (v3950 c m1 w1 m2 w2 m3 w3 m5 w5 m6 w6 m7 w7 m8 w8 m12 w12 m13 w13 m25 m26 m28 m30 x0 x1 x2 x4 x5 x6 x7 x11 x12) (ix2 a n) = S (pairF 6 a) n := by
  unfold v3950 v3949
  rw [cast_down]
  simp (disch := decide) only [↓ View.readCov_skip, ↓ View.readCov_cons_toLoadRect, ↓ View.readCov_fill, HS5_31, HS5_30, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_6 (S : Fin 1024 → Fin 128 → EReal) (h : ∀ a n, (v3134 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) :
    (v3980 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 6 a) n := by
  unfold v3980
  rw [cast_up]
  exact pairState_step 6 768 1152 28 12 29 13 rfl rfl rfl rfl rfl rfl _ _ _ S _ _ _ _ _ _ _ (fun a n => prA_3_6 (h := h) ..) a n

theorem prA_3_7 (S : Fin 1024 → Fin 128 → EReal) (h : ∀ a n, (v3226 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) : (v4042 c m1 w1 m2 w2 m3 w3 m5 w5 m6 w6 m7 w7 m8 w8 m12 w12 m13 w13 m25 m26 m28 m30 x0 x1 x2 x4 x5 x6 x7 x11 x12) (ix2 a n) = S (pairF 7 a) n := by
  unfold v4042 v4041
  rw [cast_down]
  simp (disch := decide) only [↓ View.readCov_skip, ↓ View.readCov_cons_toLoadRect, ↓ View.readCov_fill, HS5_32, HS5_31, HS5_30, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8, HS5_7, HS5_6, HS5_5, HS5_4, HS5_3, HS5_2, HS5_1]
  exact h a n

theorem stA_3_7 (S : Fin 1024 → Fin 128 → EReal) (h : ∀ a n, (v3226 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) :
    (v4072 c m1 w1 m2 w2 m3 w3 m5 w5 m6 w6 m7 w7 m8 w8 m12 w12 m13 w13 m25 m26 m28 m30 x0 x1 x2 x4 x5 x6 x7 x11 x12) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) S (pairF 7 a) n := by
  unfold v4072
  rw [cast_up]
  exact pairState_step 7 896 1152 30 14 31 15 rfl rfl rfl rfl rfl rfl _ _ _ S _ _ _ _ _ _ _ (fun a n => prA_3_7 (h := h) ..) a n

end Cert.Layer

end
-- ==== Proof.OutputsA.lean ====
/- The outputs a tile computes in each chunk, one pair of heads at a time, where a batch begins. -/
module

public import proofs.«01_k».proof.Proof.Gen.KernelIdeal.Frame.RunA
public import proofs.«01_k».proof.Proof.StatesA
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_A.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m9 : Memref sig .tc .vmem S1x1024 .f32) (w9 : m9.IsWhole) (m12 : Memref sig .tc .vmem S1024x1536 .bf16) (w12 : m12.IsWhole) (m13 : Memref sig .tc .vmem S1024x128 .bf16) (w13 : m13.IsWhole) (m25 : Memref sig .tc .vmem S1x128 .f32) (m26 : Memref sig .tc .vmem S528x1536 .bf16) (m28 : Memref sig .tc .vmem S512x128 .f32) (m29 : Memref sig .tc .vmem S32x512 .f32) (m30 : Memref sig .tc .vmem S8x128x128 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x8 : Vec Ideal S1x1024 .f32) (x11 : Vec Ideal S1024x1536 .bf16) (x12 : Vec Ideal S1024x128 .bf16)

theorem dkA_v417 (l : Fin 128) : (v417 c m9 w9 x8) (ix2 0 l) = x8 (ix2 0 (pairF 0 l)) := by
  unfold v417
  rw [cast_row]
  simp only [View.readAt_eq_ld, Memref.IsWhole.read_unread]
  refine View.ld_unit_apply_of _ _ _ _ _ _ fun b => ?_
  match b with
  | 0 => simp [ix2]
  | 1 => simp [ix2]

theorem dkA_v509 (l : Fin 128) : (v509 c m9 w9 x8) (ix2 0 l) = x8 (ix2 0 (pairF 1 l)) := by
  unfold v509
  rw [cast_row]
  simp only [View.readAt_eq_ld, Memref.IsWhole.read_unread]
  refine View.ld_unit_apply_of _ _ _ _ _ _ fun b => ?_
  match b with
  | 0 => simp [ix2]
  | 1 => simp [ix2]

theorem dkA_v670 (l : Fin 128) : (v670 c m9 w9 x8) (ix2 0 l) = x8 (ix2 0 (pairF 2 l)) := by
  unfold v670
  rw [cast_row]
  simp only [View.readAt_eq_ld, Memref.IsWhole.read_unread]
  refine View.ld_unit_apply_of _ _ _ _ _ _ fun b => ?_
  match b with
  | 0 => simp [ix2]
  | 1 => simp [ix2]

theorem dkA_v762 (l : Fin 128) : (v762 c m9 w9 x8) (ix2 0 l) = x8 (ix2 0 (pairF 3 l)) := by
  unfold v762
  rw [cast_row]
  simp only [View.readAt_eq_ld, Memref.IsWhole.read_unread]
  refine View.ld_unit_apply_of _ _ _ _ _ _ fun b => ?_
  match b with
  | 0 => simp [ix2]
  | 1 => simp [ix2]

theorem dkA_v928 (l : Fin 128) : (v928 c m9 w9 x8) (ix2 0 l) = x8 (ix2 0 (pairF 4 l)) := by
  unfold v928
  rw [cast_row]
  simp only [View.readAt_eq_ld, Memref.IsWhole.read_unread]
  refine View.ld_unit_apply_of _ _ _ _ _ _ fun b => ?_
  match b with
  | 0 => simp [ix2]
  | 1 => simp [ix2]

theorem dkA_v1020 (l : Fin 128) : (v1020 c m9 w9 x8) (ix2 0 l) = x8 (ix2 0 (pairF 5 l)) := by
  unfold v1020
  rw [cast_row]
  simp only [View.readAt_eq_ld, Memref.IsWhole.read_unread]
  refine View.ld_unit_apply_of _ _ _ _ _ _ fun b => ?_
  match b with
  | 0 => simp [ix2]
  | 1 => simp [ix2]

theorem dkA_v1181 (l : Fin 128) : (v1181 c m9 w9 x8) (ix2 0 l) = x8 (ix2 0 (pairF 6 l)) := by
  unfold v1181
  rw [cast_row]
  simp only [View.readAt_eq_ld, Memref.IsWhole.read_unread]
  refine View.ld_unit_apply_of _ _ _ _ _ _ fun b => ?_
  match b with
  | 0 => simp [ix2]
  | 1 => simp [ix2]

theorem dkA_v1273 (l : Fin 128) : (v1273 c m9 w9 x8) (ix2 0 l) = x8 (ix2 0 (pairF 7 l)) := by
  unfold v1273
  rw [cast_row]
  simp only [View.readAt_eq_ld, Memref.IsWhole.read_unread]
  refine View.ld_unit_apply_of _ _ _ _ _ _ fun b => ?_
  match b with
  | 0 => simp [ix2]
  | 1 => simp [ix2]

theorem ouA_0_0 (S : Fin 1024 → Fin 128 → EReal) (h : ∀ a n, S (pairF 0 a) n = 0) (a n : Fin 128) :
    (v423 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 0 n) := by
  unfold v423
  rw [cast_same]
  exact pairOut_step 0 0 1024 1280 16 0 17 1 rfl rfl rfl rfl rfl rfl rfl _ _ _ _ _ S _ _ _ _ _ _ _ _ _ _ _ _ (fun a n => prA_0_0 (h := h) ..) (fun l => dkA_v417 ..) a n

theorem ouA_0_1 (S : Fin 1024 → Fin 128 → EReal) (h : ∀ a n, S (pairF 1 a) n = 0) (a n : Fin 128) :
    (v515 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 1 n) := by
  unfold v515
  rw [cast_same]
  exact pairOut_step 1 128 1024 1280 18 2 19 3 rfl rfl rfl rfl rfl rfl rfl _ _ _ _ _ S _ _ _ _ _ _ _ _ _ _ _ _ (fun a n => prA_0_1 (h := h) ..) (fun l => dkA_v509 ..) a n

theorem ouA_0_2 (S : Fin 1024 → Fin 128 → EReal) (h : ∀ a n, S (pairF 2 a) n = 0) (a n : Fin 128) :
    (v676 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 2 n) := by
  unfold v676
  rw [cast_same]
  exact pairOut_step 2 256 1024 1280 20 4 21 5 rfl rfl rfl rfl rfl rfl rfl _ _ _ _ _ S _ _ _ _ _ _ _ _ _ _ _ _ (fun a n => prA_0_2 (h := h) ..) (fun l => dkA_v670 ..) a n

theorem ouA_0_3 (S : Fin 1024 → Fin 128 → EReal) (h : ∀ a n, S (pairF 3 a) n = 0) (a n : Fin 128) :
    (v768 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 3 n) := by
  unfold v768
  rw [cast_same]
  exact pairOut_step 3 384 1024 1280 22 6 23 7 rfl rfl rfl rfl rfl rfl rfl _ _ _ _ _ S _ _ _ _ _ _ _ _ _ _ _ _ (fun a n => prA_0_3 (h := h) ..) (fun l => dkA_v762 ..) a n

theorem ouA_0_4 (S : Fin 1024 → Fin 128 → EReal) (h : ∀ a n, S (pairF 4 a) n = 0) (a n : Fin 128) :
    (v934 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 4 n) := by
  unfold v934
  rw [cast_same]
  exact pairOut_step 4 512 1152 1408 24 8 25 9 rfl rfl rfl rfl rfl rfl rfl _ _ _ _ _ S _ _ _ _ _ _ _ _ _ _ _ _ (fun a n => prA_0_4 (h := h) ..) (fun l => dkA_v928 ..) a n

theorem ouA_0_5 (S : Fin 1024 → Fin 128 → EReal) (h : ∀ a n, S (pairF 5 a) n = 0) (a n : Fin 128) :
    (v1026 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 5 n) := by
  unfold v1026
  rw [cast_same]
  exact pairOut_step 5 640 1152 1408 26 10 27 11 rfl rfl rfl rfl rfl rfl rfl _ _ _ _ _ S _ _ _ _ _ _ _ _ _ _ _ _ (fun a n => prA_0_5 (h := h) ..) (fun l => dkA_v1020 ..) a n

theorem ouA_0_6 (S : Fin 1024 → Fin 128 → EReal) (h : ∀ a n, S (pairF 6 a) n = 0) (a n : Fin 128) :
    (v1187 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 6 n) := by
  unfold v1187
  rw [cast_same]
  exact pairOut_step 6 768 1152 1408 28 12 29 13 rfl rfl rfl rfl rfl rfl rfl _ _ _ _ _ S _ _ _ _ _ _ _ _ _ _ _ _ (fun a n => prA_0_6 (h := h) ..) (fun l => dkA_v1181 ..) a n

theorem ouA_0_7 (S : Fin 1024 → Fin 128 → EReal) (h : ∀ a n, S (pairF 7 a) n = 0) (a n : Fin 128) :
    (v1279 c m1 w1 m2 w2 m3 w3 m5 w5 m6 w6 m7 w7 m8 w8 m9 w9 m12 w12 m13 w13 m25 m26 m28 m29 m30 x0 x1 x2 x4 x5 x6 x7 x8 x11 x12) (ix2 a n) = stepOut (v324 c m1 w1 m2 w2 m3 w3 m6 w6 m7 w7 m8 w8 m12 w12 m26 x0 x1 x2 x5 x6 x7 x11) (v325 c m1 w1 m2 w2 m3 w3 m5 w5 m13 w13 m25 m28 x0 x1 x2 x4 x12) (v326 c m1 w1 m2 w2 m3 w3 m5 w5 m13 w13 m25 m29 x0 x1 x2 x4 x12) S (fun f => x8 (ix2 0 f)) a (pairF 7 n) := by
  unfold v1279
  rw [cast_same]
  exact pairOut_step 7 896 1152 1408 30 14 31 15 rfl rfl rfl rfl rfl rfl rfl _ _ _ _ _ S _ _ _ _ _ _ _ _ _ _ _ _ (fun a n => prA_0_7 (h := h) ..) (fun l => dkA_v1273 ..) a n

theorem ouA_1_0 (S : Fin 1024 → Fin 128 → EReal) (h : ∀ a n, (v414 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) :
    (v1525 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 0 n) := by
  unfold v1525
  rw [cast_same]
  exact pairOut_step 0 0 1024 1280 16 0 17 1 rfl rfl rfl rfl rfl rfl rfl _ _ _ _ _ S _ _ _ _ _ _ _ _ _ _ _ _ (fun a n => prA_1_0 (h := h) ..) (fun l => dkA_v417 ..) a n

theorem ouA_1_1 (S : Fin 1024 → Fin 128 → EReal) (h : ∀ a n, (v506 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) :
    (v1617 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 1 n) := by
  unfold v1617
  rw [cast_same]
  exact pairOut_step 1 128 1024 1280 18 2 19 3 rfl rfl rfl rfl rfl rfl rfl _ _ _ _ _ S _ _ _ _ _ _ _ _ _ _ _ _ (fun a n => prA_1_1 (h := h) ..) (fun l => dkA_v509 ..) a n

theorem ouA_1_2 (S : Fin 1024 → Fin 128 → EReal) (h : ∀ a n, (v667 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) :
    (v1778 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 2 n) := by
  unfold v1778
  rw [cast_same]
  exact pairOut_step 2 256 1024 1280 20 4 21 5 rfl rfl rfl rfl rfl rfl rfl _ _ _ _ _ S _ _ _ _ _ _ _ _ _ _ _ _ (fun a n => prA_1_2 (h := h) ..) (fun l => dkA_v670 ..) a n

theorem ouA_1_3 (S : Fin 1024 → Fin 128 → EReal) (h : ∀ a n, (v759 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) :
    (v1870 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 3 n) := by
  unfold v1870
  rw [cast_same]
  exact pairOut_step 3 384 1024 1280 22 6 23 7 rfl rfl rfl rfl rfl rfl rfl _ _ _ _ _ S _ _ _ _ _ _ _ _ _ _ _ _ (fun a n => prA_1_3 (h := h) ..) (fun l => dkA_v762 ..) a n

theorem ouA_1_4 (S : Fin 1024 → Fin 128 → EReal) (h : ∀ a n, (v925 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) :
    (v2036 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 4 n) := by
  unfold v2036
  rw [cast_same]
  exact pairOut_step 4 512 1152 1408 24 8 25 9 rfl rfl rfl rfl rfl rfl rfl _ _ _ _ _ S _ _ _ _ _ _ _ _ _ _ _ _ (fun a n => prA_1_4 (h := h) ..) (fun l => dkA_v928 ..) a n

theorem ouA_1_5 (S : Fin 1024 → Fin 128 → EReal) (h : ∀ a n, (v1017 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) :
    (v2128 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 5 n) := by
  unfold v2128
  rw [cast_same]
  exact pairOut_step 5 640 1152 1408 26 10 27 11 rfl rfl rfl rfl rfl rfl rfl _ _ _ _ _ S _ _ _ _ _ _ _ _ _ _ _ _ (fun a n => prA_1_5 (h := h) ..) (fun l => dkA_v1020 ..) a n

theorem ouA_1_6 (S : Fin 1024 → Fin 128 → EReal) (h : ∀ a n, (v1178 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) :
    (v2289 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 6 n) := by
  unfold v2289
  rw [cast_same]
  exact pairOut_step 6 768 1152 1408 28 12 29 13 rfl rfl rfl rfl rfl rfl rfl _ _ _ _ _ S _ _ _ _ _ _ _ _ _ _ _ _ (fun a n => prA_1_6 (h := h) ..) (fun l => dkA_v1181 ..) a n

theorem ouA_1_7 (S : Fin 1024 → Fin 128 → EReal) (h : ∀ a n, (v1270 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) :
    (v2381 c m1 w1 m2 w2 m3 w3 m5 w5 m6 w6 m7 w7 m8 w8 m9 w9 m12 w12 m13 w13 m25 m26 m28 m29 m30 x0 x1 x2 x4 x5 x6 x7 x8 x11 x12) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 m28 x0 x1 x2 x4 x12) (v1428 c m1 w1 m2 w2 m3 w3 m5 w5 m13 w13 m25 m29 x0 x1 x2 x4 x12) S (fun f => x8 (ix2 0 f)) a (pairF 7 n) := by
  unfold v2381
  rw [cast_same]
  exact pairOut_step 7 896 1152 1408 30 14 31 15 rfl rfl rfl rfl rfl rfl rfl _ _ _ _ _ S _ _ _ _ _ _ _ _ _ _ _ _ (fun a n => prA_1_7 (h := h) ..) (fun l => dkA_v1273 ..) a n

theorem ouA_2_0 (S : Fin 1024 → Fin 128 → EReal) (h : ∀ a n, (v1516 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) :
    (v2565 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 0 n) := by
  unfold v2565
  rw [cast_same]
  exact pairOut_step 0 0 1024 1280 16 0 17 1 rfl rfl rfl rfl rfl rfl rfl _ _ _ _ _ S _ _ _ _ _ _ _ _ _ _ _ _ (fun a n => prA_2_0 (h := h) ..) (fun l => dkA_v417 ..) a n

theorem ouA_2_1 (S : Fin 1024 → Fin 128 → EReal) (h : ∀ a n, (v1608 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) :
    (v2657 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 1 n) := by
  unfold v2657
  rw [cast_same]
  exact pairOut_step 1 128 1024 1280 18 2 19 3 rfl rfl rfl rfl rfl rfl rfl _ _ _ _ _ S _ _ _ _ _ _ _ _ _ _ _ _ (fun a n => prA_2_1 (h := h) ..) (fun l => dkA_v509 ..) a n

theorem ouA_2_2 (S : Fin 1024 → Fin 128 → EReal) (h : ∀ a n, (v1769 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) :
    (v2756 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 2 n) := by
  unfold v2756
  rw [cast_same]
  exact pairOut_step 2 256 1024 1280 20 4 21 5 rfl rfl rfl rfl rfl rfl rfl _ _ _ _ _ S _ _ _ _ _ _ _ _ _ _ _ _ (fun a n => prA_2_2 (h := h) ..) (fun l => dkA_v670 ..) a n

theorem ouA_2_3 (S : Fin 1024 → Fin 128 → EReal) (h : ∀ a n, (v1861 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) :
    (v2848 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 3 n) := by
  unfold v2848
  rw [cast_same]
  exact pairOut_step 3 384 1024 1280 22 6 23 7 rfl rfl rfl rfl rfl rfl rfl _ _ _ _ _ S _ _ _ _ _ _ _ _ _ _ _ _ (fun a n => prA_2_3 (h := h) ..) (fun l => dkA_v762 ..) a n

theorem ouA_2_4 (S : Fin 1024 → Fin 128 → EReal) (h : ∀ a n, (v2027 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) :
    (v2952 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 4 n) := by
  unfold v2952
  rw [cast_same]
  exact pairOut_step 4 512 1152 1408 24 8 25 9 rfl rfl rfl rfl rfl rfl rfl _ _ _ _ _ S _ _ _ _ _ _ _ _ _ _ _ _ (fun a n => prA_2_4 (h := h) ..) (fun l => dkA_v928 ..) a n

theorem ouA_2_5 (S : Fin 1024 → Fin 128 → EReal) (h : ∀ a n, (v2119 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) :
    (v3044 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 5 n) := by
  unfold v3044
  rw [cast_same]
  exact pairOut_step 5 640 1152 1408 26 10 27 11 rfl rfl rfl rfl rfl rfl rfl _ _ _ _ _ S _ _ _ _ _ _ _ _ _ _ _ _ (fun a n => prA_2_5 (h := h) ..) (fun l => dkA_v1020 ..) a n

theorem ouA_2_6 (S : Fin 1024 → Fin 128 → EReal) (h : ∀ a n, (v2280 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) :
    (v3143 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 6 n) := by
  unfold v3143
  rw [cast_same]
  exact pairOut_step 6 768 1152 1408 28 12 29 13 rfl rfl rfl rfl rfl rfl rfl _ _ _ _ _ S _ _ _ _ _ _ _ _ _ _ _ _ (fun a n => prA_2_6 (h := h) ..) (fun l => dkA_v1181 ..) a n

theorem ouA_2_7 (S : Fin 1024 → Fin 128 → EReal) (h : ∀ a n, (v2372 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) :
    (v3235 c m1 w1 m2 w2 m3 w3 m5 w5 m6 w6 m7 w7 m8 w8 m9 w9 m12 w12 m13 w13 m25 m26 m28 m29 m30 x0 x1 x2 x4 x5 x6 x7 x8 x11 x12) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 m28 x0 x1 x2 x4 x12) (v2468 c m1 w1 m2 w2 m3 w3 m5 w5 m13 w13 m25 m29 x0 x1 x2 x4 x12) S (fun f => x8 (ix2 0 f)) a (pairF 7 n) := by
  unfold v3235
  rw [cast_same]
  exact pairOut_step 7 896 1152 1408 30 14 31 15 rfl rfl rfl rfl rfl rfl rfl _ _ _ _ _ S _ _ _ _ _ _ _ _ _ _ _ _ (fun a n => prA_2_7 (h := h) ..) (fun l => dkA_v1273 ..) a n

theorem ouA_3_0 (S : Fin 1024 → Fin 128 → EReal) (h : ∀ a n, (v2556 c m1 w1 m2 w2 m3 w3 m5 w5 m6 w6 m7 w7 m8 w8 m12 w12 m13 w13 m25 m26 m28 m30 x0 x1 x2 x4 x5 x6 x7 x11 x12) (ix3 0 a n) = S (pairF 0 a) n) (a n : Fin 128) :
    (v3417 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 0 n) := by
  unfold v3417
  rw [cast_same]
  exact pairOut_step 0 0 1024 1280 16 0 17 1 rfl rfl rfl rfl rfl rfl rfl _ _ _ _ _ S _ _ _ _ _ _ _ _ _ _ _ _ (fun a n => prA_3_0 (h := h) ..) (fun l => dkA_v417 ..) a n

theorem ouA_3_1 (S : Fin 1024 → Fin 128 → EReal) (h : ∀ a n, (v2648 c m1 w1 m2 w2 m3 w3 m5 w5 m6 w6 m7 w7 m8 w8 m12 w12 m13 w13 m25 m26 m28 m30 x0 x1 x2 x4 x5 x6 x7 x11 x12) (ix3 0 a n) = S (pairF 1 a) n) (a n : Fin 128) :
    (v3509 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 1 n) := by
  unfold v3509
  rw [cast_same]
  exact pairOut_step 1 128 1024 1280 18 2 19 3 rfl rfl rfl rfl rfl rfl rfl _ _ _ _ _ S _ _ _ _ _ _ _ _ _ _ _ _ (fun a n => prA_3_1 (h := h) ..) (fun l => dkA_v509 ..) a n

theorem ouA_3_2 (S : Fin 1024 → Fin 128 → EReal) (h : ∀ a n, (v2747 c m1 w1 m2 w2 m3 w3 m5 w5 m6 w6 m7 w7 m8 w8 m12 w12 m13 w13 m25 m26 m28 m30 x0 x1 x2 x4 x5 x6 x7 x11 x12) (ix3 0 a n) = S (pairF 2 a) n) (a n : Fin 128) :
    (v3606 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 2 n) := by
  unfold v3606
  rw [cast_same]
  exact pairOut_step 2 256 1024 1280 20 4 21 5 rfl rfl rfl rfl rfl rfl rfl _ _ _ _ _ S _ _ _ _ _ _ _ _ _ _ _ _ (fun a n => prA_3_2 (h := h) ..) (fun l => dkA_v670 ..) a n

theorem ouA_3_3 (S : Fin 1024 → Fin 128 → EReal) (h : ∀ a n, (v2839 c m1 w1 m2 w2 m3 w3 m5 w5 m6 w6 m7 w7 m8 w8 m12 w12 m13 w13 m25 m26 m28 m30 x0 x1 x2 x4 x5 x6 x7 x11 x12) (ix3 0 a n) = S (pairF 3 a) n) (a n : Fin 128) :
    (v3698 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 3 n) := by
  unfold v3698
  rw [cast_same]
  exact pairOut_step 3 384 1024 1280 22 6 23 7 rfl rfl rfl rfl rfl rfl rfl _ _ _ _ _ S _ _ _ _ _ _ _ _ _ _ _ _ (fun a n => prA_3_3 (h := h) ..) (fun l => dkA_v762 ..) a n

theorem ouA_3_4 (S : Fin 1024 → Fin 128 → EReal) (h : ∀ a n, (v2943 c m1 w1 m2 w2 m3 w3 m5 w5 m6 w6 m7 w7 m8 w8 m12 w12 m13 w13 m25 m26 m28 m30 x0 x1 x2 x4 x5 x6 x7 x11 x12) (ix3 0 a n) = S (pairF 4 a) n) (a n : Fin 128) :
    (v3800 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 4 n) := by
  unfold v3800
  rw [cast_same]
  exact pairOut_step 4 512 1152 1408 24 8 25 9 rfl rfl rfl rfl rfl rfl rfl _ _ _ _ _ S _ _ _ _ _ _ _ _ _ _ _ _ (fun a n => prA_3_4 (h := h) ..) (fun l => dkA_v928 ..) a n

theorem ouA_3_5 (S : Fin 1024 → Fin 128 → EReal) (h : ∀ a n, (v3035 c m1 w1 m2 w2 m3 w3 m5 w5 m6 w6 m7 w7 m8 w8 m12 w12 m13 w13 m25 m26 m28 m30 x0 x1 x2 x4 x5 x6 x7 x11 x12) (ix3 0 a n) = S (pairF 5 a) n) (a n : Fin 128) :
    (v3892 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 5 n) := by
  unfold v3892
  rw [cast_same]
  exact pairOut_step 5 640 1152 1408 26 10 27 11 rfl rfl rfl rfl rfl rfl rfl _ _ _ _ _ S _ _ _ _ _ _ _ _ _ _ _ _ (fun a n => prA_3_5 (h := h) ..) (fun l => dkA_v1020 ..) a n

theorem ouA_3_6 (S : Fin 1024 → Fin 128 → EReal) (h : ∀ a n, (v3134 c m1 w1 m2 w2 m3 w3 m5 w5 m6 w6 m7 w7 m8 w8 m12 w12 m13 w13 m25 m26 m28 m30 x0 x1 x2 x4 x5 x6 x7 x11 x12) (ix3 0 a n) = S (pairF 6 a) n) (a n : Fin 128) :
    (v3989 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 6 n) := by
  unfold v3989
  rw [cast_same]
  exact pairOut_step 6 768 1152 1408 28 12 29 13 rfl rfl rfl rfl rfl rfl rfl _ _ _ _ _ S _ _ _ _ _ _ _ _ _ _ _ _ (fun a n => prA_3_6 (h := h) ..) (fun l => dkA_v1181 ..) a n

theorem ouA_3_7 (S : Fin 1024 → Fin 128 → EReal) (h : ∀ a n, (v3226 c m1 w1 m2 w2 m3 w3 m5 w5 m6 w6 m7 w7 m8 w8 m12 w12 m13 w13 m25 m26 m28 m30 x0 x1 x2 x4 x5 x6 x7 x11 x12) (ix3 0 a n) = S (pairF 7 a) n) (a n : Fin 128) :
    (v4081 c m1 w1 m2 w2 m3 w3 m5 w5 m6 w6 m7 w7 m8 w8 m9 w9 m12 w12 m13 w13 m25 m26 m28 m29 m30 x0 x1 x2 x4 x5 x6 x7 x8 x11 x12) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 m28 x0 x1 x2 x4 x12) (v3320 c m1 w1 m2 w2 m3 w3 m5 w5 m13 w13 m25 m29 x0 x1 x2 x4 x12) S (fun f => x8 (ix2 0 f)) a (pairF 7 n) := by
  unfold v4081
  rw [cast_same]
  exact pairOut_step 7 896 1152 1408 30 14 31 15 rfl rfl rfl rfl rfl rfl rfl _ _ _ _ _ S _ _ _ _ _ _ _ _ _ _ _ _ (fun a n => prA_3_7 (h := h) ..) (fun l => dkA_v1273 ..) a n

end Cert.Layer

end
-- ==== Proof.SsdGate.lean ====
/- The gates and the convolution of one tile: a chunk's steps and summed decays, and a chunk's convolved
   columns, as functions of the tile's vectors and then at an index. -/
module

public import proofs.«01_k».proof.Proof.SsdStep

@[expose] public section

set_option maxRecDepth 16384

noncomputable section

namespace Cert.Layer

open Cert.KernelIdeal Cert.KernelIdeal.Gen Idealize.ShloMosaic Idealize.SL.Sem

/-- The gate lanes below a number. -/
def lanesBelow (n : BitVec 32) : IVec S1x128 1 := cmpi .slt (iota .tc S1x128 32 [1] (by decide)) (broadcast S1x128 n)
/-- The gate lanes from 32 to 79. -/
def forgetLanes : IVec S1x128 1 := andi (cmpi .sge (iota .tc S1x128 32 [1] (by decide)) (broadcast S1x128 32#32)) (lanesBelow 80#32)

/-- The gates' raw values. -/
def gateRaw (hb : FVec Ideal S512x1024 .bf16) (wg : FVec Ideal S1024x128 .bf16) (p0 : Vec Ideal S1x128 .f32) : FVec Ideal S512x128 .f32 :=
  addf (matmul dot_S512x1024_S1024x128_S512x128_1_0_0_1_n_n none hb (shapeCast S1024x128 wg shapeCasts_S1024x128_S1024x128) (constant S512x128 .f32 0x00000000#32))
    (broadcastTo S512x128 (shapeCast S1x128 p0 shapeCasts_S1x128_S1x128) broadcasts_S1x128_S512x128)

/-- The soft part of both gates. -/
def gateSoft (g : FVec Ideal S512x128 .f32) : FVec Ideal S512x128 .f32 :=
  log1p (exp (subf (broadcast S512x128 (Scalar.ofBits .f32 0x00000000#32 : Ideal .f32)) (absf g)))

/-- The steps. -/
def gateStep (g : FVec Ideal S512x128 .f32) : FVec Ideal S512x128 .f32 :=
  addf (maximumf g (broadcast S512x128 (Scalar.ofBits .f32 0x00000000#32 : Ideal .f32))) (gateSoft g)

/-- What the prefix sums add up, per lane. -/
def gateSrc (g : FVec Ideal S512x128 .f32) (p1 : Vec Ideal S1x128 .f32) : FVec Ideal S512x128 .f32 :=
  have z : FVec Ideal S512x128 .f32 := broadcast S512x128 (Scalar.ofBits .f32 0x00000000#32 : Ideal .f32)
  select (broadcastTo S512x128 (shapeCast S1x128 (lanesBelow 16#32) shapeCasts_S1x128_S1x128) broadcasts_S1x128_S512x128) z
    (select (broadcastTo S512x128 (shapeCast S1x128 (lanesBelow 32#32) shapeCasts_S1x128_S1x128) broadcasts_S1x128_S512x128)
      (mulf (gateStep g) (broadcastTo S512x128 (shapeCast S1x128 p1 shapeCasts_S1x128_S1x128) broadcasts_S1x128_S512x128))
      (select (broadcastTo S512x128 (shapeCast S1x128 forgetLanes shapeCasts_S1x128_S1x128) broadcasts_S1x128_S512x128)
        (subf (minimumf g z) (gateSoft g)) z))

/-- The lower triangle of ones. -/
def lowerOnes : FVec Ideal S128x128 .f32 := sitofp .f32 (extui 32 onOrBelow)

/-- A chunk's rows of the gate buffer. -/
def gateChunk (dt src : FVec Ideal S128x128 .f32) (carry : FVec Ideal S1x128 .f32) : FVec Ideal S128x128 .f32 :=
  select (broadcastTo S128x128 (shapeCast S1x128 (lanesBelow 16#32) shapeCasts_S1x128_S1x128) broadcasts_S1x128_S128x128) dt
    (addf (matmul dot_S128x128_S128x128_S128x128_1_0_0_1_n_n (some .fp32) lowerOnes src (constant S128x128 .f32 0x00000000#32))
      (broadcastTo S128x128 (select forgetLanes carry (broadcast S1x128 (Scalar.ofBits .f32 0x00000000#32 : Ideal .f32))) broadcasts_S1x128_S128x128))

theorem lanesBelow16_at (k : Fin 128) : lanesBelow 16#32 (ix2 0 k) = if k.val < 16 then 1#1 else 0#1 := by
  unfold lanesBelow
  pointwise
  revert k
  decide +kernel

theorem lanesBelow32_at (k : Fin 128) : lanesBelow 32#32 (ix2 0 k) = if k.val < 32 then 1#1 else 0#1 := by
  unfold lanesBelow
  pointwise
  revert k
  decide +kernel

theorem forgetLanes_at (k : Fin 128) : forgetLanes (ix2 0 k) = if 32 ≤ k.val ∧ k.val < 80 then 1#1 else 0#1 := by
  unfold forgetLanes lanesBelow
  pointwise
  revert k
  decide +kernel

theorem lowerOnes_at (r s : Fin 128) : lowerOnes (ix2 r s) = if s.val ≤ r.val then (1 : EReal) else 0 := by
  unfold lowerOnes
  pointwise
  rw [onOrBelow_at]
  by_cases h : s.val ≤ r.val <;> simp [h] <;> first | exact Ideal.sitofp_one | exact (show (((0#32 : BitVec 32).toInt : ℝ) : EReal) = 0 by simp) | exact (show (((1#32 : BitVec 32).toInt : ℝ) : EReal) = 1 by simp)

/-- A gate's step from its raw value. -/
def stepOf (g : EReal) : EReal := max g 0 + Ideal.log1p (Ideal.exp (0 - max g (-g)))

theorem gateRaw_at (hb : FVec Ideal S512x1024 .bf16) (wg : FVec Ideal S1024x128 .bf16) (p0 : Vec Ideal S1x128 .f32) (r : Fin 512) (k : Fin 128) :
    gateRaw hb wg p0 (ix2 r k) = colDot (fun d => hb (ix2 r d)) (fun d => wg (ix2 d k)) + (p0 (ix2 0 k) : EReal) := by
  unfold gateRaw
  pointwise
  rfl

theorem gateStep_at (g : FVec Ideal S512x128 .f32) (r : Fin 512) (k : Fin 128) : gateStep g (ix2 r k) = stepOf (g (ix2 r k)) := by
  unfold gateStep gateSoft stepOf
  pointwise
  rfl

theorem gateSrc_at (g : FVec Ideal S512x128 .f32) (p1 : Vec Ideal S1x128 .f32) (r : Fin 512) (k : Fin 128) (h1 : 16 ≤ k.val) (h2 : k.val < 32) :
    gateSrc g p1 (ix2 r k) = stepOf (g (ix2 r k)) * (p1 (ix2 0 k) : EReal) := by
  unfold gateSrc
  pointwise
  rw [lanesBelow16_at, lanesBelow32_at, select_ite, select_ite, if_neg (by omega), if_pos h2, gateStep_at]

theorem gateChunk_dt (dt src : FVec Ideal S128x128 .f32) (carry : FVec Ideal S1x128 .f32) (r k : Fin 128) (h : k.val < 16) :
    gateChunk dt src carry (ix2 r k) = dt (ix2 r k) := by
  unfold gateChunk
  pointwise
  rw [lanesBelow16_at, select_ite, if_pos h]

theorem gateChunk_sum (dt src : FVec Ideal S128x128 .f32) (carry : FVec Ideal S1x128 .f32) (r k : Fin 128) (h1 : 16 ≤ k.val) (h2 : k.val < 32) :
    gateChunk dt src carry (ix2 r k) = ∑ s : Fin 128, if s.val ≤ r.val then (src (ix2 s k) : EReal) else 0 := by
  unfold gateChunk
  pointwise
  rw [lanesBelow16_at, forgetLanes_at, select_ite, select_ite, if_neg (by omega), if_neg (by omega)]
  simp only [lowerOnes_at, ite_mul, one_mul, zero_mul, add_zero]

/-- A chunk's convolved columns before the activation. -/
def convChunk (win : FVec Ideal S144x1536 .bf16) (sh : FVec Ideal S384x144 .bf16) (w0 w1 w2 w3 b : Vec Ideal S1x1536 .f32) : FVec Ideal S128x1536 .f32 :=
  have q : FVec Ideal S384x1536 .f32 := matmul dot_S384x144_S144x1536_S384x1536_1_0_0_1_n_n none (shapeCast S384x144 sh shapeCasts_S384x144_S384x144) win (constant S384x1536 .f32 0x00000000#32)
  addf (addf (addf (addf (mulf (broadcastTo S128x1536 w3 broadcasts_S1x1536_S128x1536) (extf .f32 (extractStridedSlice S128x1536 ![16, 0] win slices_S144x1536_o16_0_S128x1536) bitsLt_bf16_f32))
        (broadcastTo S128x1536 (shapeCast S1x1536 b shapeCasts_S1x1536_S1x1536) broadcasts_S1x1536_S128x1536))
      (mulf (broadcastTo S128x1536 w0 broadcasts_S1x1536_S128x1536) (extractStridedSlice S128x1536 ![0, 0] q slices_S384x1536_o0_0_S128x1536)))
      (mulf (broadcastTo S128x1536 w1 broadcasts_S1x1536_S128x1536) (extractStridedSlice S128x1536 ![128, 0] q slices_S384x1536_o128_0_S128x1536)))
      (mulf (broadcastTo S128x1536 w2 broadcasts_S1x1536_S128x1536) (extractStridedSlice S128x1536 ![256, 0] q slices_S384x1536_o256_0_S128x1536))

/-- The activation. -/
def actChunk (u : FVec Ideal S128x1536 .f32) : FVec Ideal S128x1536 .f32 := mulf u (logistic u)

/-- The activation of one entry. -/
def siluOf (u : EReal) : EReal := u * Ideal.div 1 (1 + Ideal.exp (-u))

/-- One entry of the convolution, from the four rows it reads. -/
def convOf (w0 w1 w2 w3 b u0 u1 u2 u3 : EReal) : EReal := w3 * u3 + b + w0 * u0 + w1 * u1 + w2 * u2

theorem actChunk_at (u : FVec Ideal S128x1536 .f32) (s : Fin 128) (j : Fin 1536) : actChunk u (ix2 s j) = siluOf (u (ix2 s j)) := by
  unfold actChunk siluOf
  pointwise
  rfl

theorem convChunk_at (win : FVec Ideal S144x1536 .bf16) (sh : FVec Ideal S384x144 .bf16) (w0 w1 w2 w3 b : Vec Ideal S1x1536 .f32)
    (hsh : ∀ (q : Fin 384) (r : Fin 144), sh (ix2 q r) = if r.val = q.val % 128 + 13 + q.val / 128 then (1 : EReal) else 0) (s : Fin 128) (j : Fin 1536) :
    convChunk win sh w0 w1 w2 w3 b (ix2 s j)
      = convOf (w0 (ix2 0 j)) (w1 (ix2 0 j)) (w2 (ix2 0 j)) (w3 (ix2 0 j)) (b (ix2 0 j))
          (win (ix2 ⟨s.val + 13, by omega⟩ j)) (win (ix2 ⟨s.val + 14, by omega⟩ j)) (win (ix2 ⟨s.val + 15, by omega⟩ j)) (win (ix2 ⟨s.val + 16, by omega⟩ j)) := by
  have key : ∀ (q : Fin 384) (a : Fin 144), a.val = q.val % 128 + 13 + q.val / 128 →
      (∑ r : Fin 144, (sh (ix2 q r) : EReal) * win (ix2 r j)) = win (ix2 a j) := by
    intro q a e
    rw [Finset.sum_eq_single a]
    · rw [hsh, if_pos e, one_mul]
    · intro r _ hr
      rw [hsh, if_neg (fun h => hr (Fin.ext (h.trans e.symm))), zero_mul]
    · exact fun h => absurd (Finset.mem_univ _) h
  unfold convChunk convOf
  pointwise
  have e0 := key ⟨s.val, by omega⟩ ⟨s.val + 13, by omega⟩ (by simp; omega)
  have e1 := key ⟨128 + s.val, by omega⟩ ⟨s.val + 14, by omega⟩ (by simp; omega)
  have e2 := key ⟨256 + s.val, by omega⟩ ⟨s.val + 15, by omega⟩ (by simp; omega)
  rw [e0, e1, e2, show (⟨16 + s.val, by omega⟩ : Fin 144) = ⟨s.val + 16, by omega⟩ from Fin.ext (by simp; omega)]

end Cert.Layer

end
-- ==== Proof.SsdTile.lean ====
/- The recurrence over one tile, as plain functions: the chunk's step and output on entries, and what the tile's
   buffers hold where several stores lie over each other. -/
module

public import proofs.«01_k».proof.Proof.SsdGate
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Idealize.ShloMosaic Idealize.SL.Sem

/-- The state after a chunk with convolved columns `X`, steps `D` and summed decays `A`. -/
def ssdState (X : Fin 128 → Fin 1536 → EReal) (D A : Fin 128 → Fin 16 → EReal) (S : Fin 1024 → Fin 128 → EReal) (f : Fin 1024) (n : Fin 128) : EReal :=
  S f n * Ideal.exp2 (A 127 (headOf f))
    + ∑ s : Fin 128, (X s (colX f) * (D s (headOf f) * Ideal.exp2 (A 127 (headOf f) - A s (headOf f)))) * X s (colB f n)

/-- The chunk's output. -/
def ssdOut (X : Fin 128 → Fin 1536 → EReal) (D A : Fin 128 → Fin 16 → EReal) (S : Fin 1024 → Fin 128 → EReal)
    (dk : Fin 1024 → EReal) (r : Fin 128) (f : Fin 1024) : EReal :=
  (∑ s : Fin 128, ((∑ n : Fin 128, X r (colC f n) * X s (colB f n))
      * (if s.val ≤ r.val then Ideal.exp2 (A r (headOf f) - A s (headOf f)) else 0) * D s (headOf f)) * X s (colX f))
    + (∑ n : Fin 128, X r (colC f n) * S f n) * Ideal.exp2 (A r (headOf f))
    + X r (colX f) * dk f

/-- A chunk's rows of the gate buffer, on entries. -/
def gateFn (stp : Fin 512 → Fin 128 → EReal) (p1 : Fin 128 → EReal) (o : ℕ) (ho : o + 128 ≤ 512) (s k : Fin 128) : EReal :=
  if k.val < 16 then stp ⟨o + s.val, by omega⟩ k
  else ∑ q : Fin 128, if q.val ≤ s.val then stp ⟨o + q.val, by omega⟩ k * p1 k else 0

/-- A tile's steps. -/
def stepFn (hb : FVec Ideal S512x1024 .bf16) (W : Vec Ideal S1024x128 .bf16) (P : Vec Ideal S8x128 .f32) (r : Fin 512) (k : Fin 128) : EReal :=
  stepOf (colDot (fun d => hb (ix2 r d)) (fun d => W (ix2 d k)) + (P (ix2 0 k) : EReal))

theorem gateChunk_at (hb : FVec Ideal S512x1024 .bf16) (W : Vec Ideal S1024x128 .bf16) (P : Vec Ideal S8x128 .f32)
    (wg : FVec Ideal S1024x128 .bf16) (p0 p1 : Vec Ideal S1x128 .f32) (carry : FVec Ideal S1x128 .f32) (o : ℕ) (ho : o + 128 ≤ 512)
    (h1 h2 : S512x128.Slices ![o, 0] S128x128) (hw : ∀ d k, wg (ix2 d k) = W (ix2 d k)) (hp0 : ∀ k, p0 (ix2 0 k) = P (ix2 0 k)) (hp1 : ∀ k, p1 (ix2 0 k) = P (ix2 1 k))
    (s k : Fin 128) (hk : k.val < 32) :
    gateChunk (extractStridedSlice S128x128 ![o, 0] (gateStep (gateRaw hb wg p0)) h1) (extractStridedSlice S128x128 ![o, 0] (gateSrc (gateRaw hb wg p0) p1) h2) carry (ix2 s k)
      = gateFn (stepFn hb W P) (fun k => P (ix2 1 k)) o ho s k := by
  unfold gateFn stepFn
  have sl : ∀ (v : FVec Ideal S512x128 .f32) hh (q : Fin 128), extractStridedSlice S128x128 ![o, 0] v hh (ix2 q k) = v (ix2 ⟨o + q.val, by omega⟩ k) := by
    intro v hh q
    pointwise
  by_cases h : k.val < 16
  · rw [gateChunk_dt _ _ _ _ _ h, if_pos h, sl, gateStep_at, gateRaw_at, hp0]
    simp only [hw]
  · rw [gateChunk_sum _ _ _ _ _ (by omega) hk, if_neg h]
    refine Finset.sum_congr rfl fun q _ => ?_
    rw [sl, gateSrc_at _ _ _ _ (by omega) hk, gateRaw_at, hp0, hp1]
    simp only [hw]

/-- The rows of the convolution's buffer: the kept rows, then the tile's own. -/
def rowsFn (prev : Fin 16 → Fin 1536 → EReal) (hb : FVec Ideal S512x1024 .bf16) (W : Vec Ideal S1024x1536 .bf16) (q : Fin 528) (j : Fin 1536) : EReal :=
  if h : q.val < 16 then prev ⟨q.val, h⟩ j else colDot (fun d => hb (ix2 ⟨q.val - 16, by omega⟩ d)) (fun d => W (ix2 d j))

/-- A chunk's convolved columns. -/
def convFn (U : Fin 528 → Fin 1536 → EReal) (w : Vec Ideal S4x1536 .f32) (b : Vec Ideal S1x1536 .f32) (o : ℕ) (ho : o + 128 ≤ 512) (s : Fin 128) (j : Fin 1536) : EReal :=
  siluOf (convOf (w (ix2 0 j)) (w (ix2 1 j)) (w (ix2 2 j)) (w (ix2 3 j)) (b (ix2 0 j))
    (U ⟨o + s.val + 13, by omega⟩ j) (U ⟨o + s.val + 14, by omega⟩ j) (U ⟨o + s.val + 15, by omega⟩ j) (U ⟨o + s.val + 16, by omega⟩ j))

theorem convFn_of (win : FVec Ideal S144x1536 .bf16) (sh : FVec Ideal S384x144 .bf16) (w0 w1 w2 w3 b : Vec Ideal S1x1536 .f32)
    (U : Fin 528 → Fin 1536 → EReal) (w : Vec Ideal S4x1536 .f32) (b' : Vec Ideal S1x1536 .f32) (o : ℕ) (ho : o + 128 ≤ 512)
    (hsh : ∀ (q : Fin 384) (r : Fin 144), sh (ix2 q r) = if r.val = q.val % 128 + 13 + q.val / 128 then (1 : EReal) else 0)
    (hwin : ∀ (q : Fin 144) j, win (ix2 q j) = U ⟨o + q.val, by omega⟩ j)
    (h0 : ∀ j, w0 (ix2 0 j) = w (ix2 0 j)) (h1 : ∀ j, w1 (ix2 0 j) = w (ix2 1 j)) (h2 : ∀ j, w2 (ix2 0 j) = w (ix2 2 j)) (h3 : ∀ j, w3 (ix2 0 j) = w (ix2 3 j))
    (hb : ∀ j, b (ix2 0 j) = b' (ix2 0 j)) (s : Fin 128) (j : Fin 1536) :
    actChunk (convChunk win sh w0 w1 w2 w3 b) (ix2 s j) = convFn U w b' o ho s j := by
  rw [actChunk_at, convChunk_at win sh w0 w1 w2 w3 b hsh, h0, h1, h2, h3, hb, hwin, hwin, hwin, hwin]
  rfl

theorem stepState_eq (xb : FVec Ideal S128x1536 .f32) (nat : FVec Ideal S128x128 .f32) (X : Fin 128 → Fin 1536 → EReal) (D A : Fin 128 → Fin 16 → EReal)
    (S : Fin 1024 → Fin 128 → EReal) (hX : ∀ s j, xb (ix2 s j) = X s j) (hD : ∀ s h, nat (ix2 s ⟨h.val, by omega⟩) = D s h) (hA : ∀ s h, nat (ix2 s ⟨16 + h.val, by omega⟩) = A s h)
    (f : Fin 1024) (n : Fin 128) : stepState xb nat S f n = ssdState X D A S f n := by
  unfold stepState ssdState
  have hD' : ∀ s, nat (ix2 s (colD f)) = D s (headOf f) := fun s => hD s (headOf f)
  have hA' : ∀ s, nat (ix2 s (colA f)) = A s (headOf f) := fun s => hA s (headOf f)
  simp only [hX, hD', hA']

theorem stepOut_eq (xb : FVec Ideal S128x1536 .f32) (nat : FVec Ideal S128x128 .f32) (gt : FVec Ideal S32x128 .f32) (X : Fin 128 → Fin 1536 → EReal) (D A : Fin 128 → Fin 16 → EReal)
    (S : Fin 1024 → Fin 128 → EReal) (dk : Fin 1024 → EReal) (hX : ∀ s j, xb (ix2 s j) = X s j)
    (hA : ∀ s h, nat (ix2 s ⟨16 + h.val, by omega⟩) = A s h)
    (gD : ∀ s (h : Fin 16), gt (ix2 ⟨h.val, by omega⟩ s) = D s h) (gA : ∀ s (h : Fin 16), gt (ix2 ⟨16 + h.val, by omega⟩ s) = A s h)
    (r : Fin 128) (f : Fin 1024) : stepOut xb nat gt S dk r f = ssdOut X D A S dk r f := by
  unfold stepOut ssdOut
  have hA' : ∀ s, nat (ix2 s (colA f)) = A s (headOf f) := fun s => hA s (headOf f)
  have gD' : ∀ s, gt (ix2 ⟨f.val / 64, by omega⟩ s) = D s (headOf f) := fun s => gD s (headOf f)
  have gA' : ∀ s, gt (ix2 ⟨16 + f.val / 64, by omega⟩ s) = A s (headOf f) := fun s => gA s (headOf f)
  simp only [hX, hA', gD', gA']

/-- The state after `k` chunks of a tile. -/
def tileState (X : ℕ → Fin 128 → Fin 1536 → EReal) (D A : ℕ → Fin 128 → Fin 16 → EReal) (S : Fin 1024 → Fin 128 → EReal) : ℕ → Fin 1024 → Fin 128 → EReal
  | 0 => S
  | k + 1 => ssdState (X k) (D k) (A k) (tileState X D A S k)

section ReadBack
variable {Val : EltTy → Type} [∀ e, Nonempty (Val e)] {e : EltTy}

theorem canon_hit2 {n m n' m' : ℕ} (o0 o1 : ℕ) (inb) (w : (⟨2, ![n', m']⟩ : Shape).Idx → Val e) (L : List (View.Piece Val ⟨2, ![n, m]⟩ e))
    (q : Fin n) (j : Fin m) (a : Fin n') (b : Fin m') (h0 : q.val = o0 + a.val) (h1 : j.val = o1 + b.val) :
    View.canon ((⟨Rect.unit (s := ⟨2, ![n, m]⟩) ![o0, o1] ![n', m'] inb, w⟩ : View.Piece Val ⟨2, ![n, m]⟩ e) :: L) (ix2 q j) = w (ix2 a b) := by
  have e0 : (Rect.unit (s := ⟨2, ![n, m]⟩) ![o0, o1] ![n', m'] inb).emb (ix2 a b) = ix2 q j := by
    funext x
    match x with
    | 0 => exact Fin.ext (by show o0 + 1 * a.val = q.val; omega)
    | 1 => exact Fin.ext (by show o1 + 1 * b.val = j.val; omega)
  rw [← e0]
  exact View.canon_cons_emb (Rect.unit (s := ⟨2, ![n, m]⟩) ![o0, o1] ![n', m'] inb) w L (ix2 a b)

theorem canon_miss2 {n m n' m' : ℕ} (o0 o1 : ℕ) (inb) (w : (⟨2, ![n', m']⟩ : Shape).Idx → Val e) (L : List (View.Piece Val ⟨2, ![n, m]⟩ e))
    (q : Fin n) (j : Fin m) (h : q.val < o0 ∨ o0 + n' ≤ q.val ∨ j.val < o1 ∨ o1 + m' ≤ j.val) :
    View.canon ((⟨Rect.unit (s := ⟨2, ![n, m]⟩) ![o0, o1] ![n', m'] inb, w⟩ : View.Piece Val ⟨2, ![n, m]⟩ e) :: L) (ix2 q j) = View.canon L (ix2 q j) := by
  refine View.canon_cons_of_not_mem _ L ?_
  intro hy
  have hy' := (Rect.mem_set_unit (inb := inb)).mp hy
  have a0 : o0 ≤ q.val ∧ q.val < o0 + n' := hy' 0
  have a1 : o1 ≤ j.val ∧ j.val < o1 + m' := hy' 1
  omega

theorem canon_hit3 {l n m l' n' m' : ℕ} (o0 o1 o2 : ℕ) (inb) (w : (⟨3, ![l', n', m']⟩ : Shape).Idx → Val e) (L : List (View.Piece Val ⟨3, ![l, n, m]⟩ e))
    (p : Fin l) (q : Fin n) (j : Fin m) (c : Fin l') (a : Fin n') (b : Fin m') (hp : p.val = o0 + c.val) (h0 : q.val = o1 + a.val) (h1 : j.val = o2 + b.val) :
    View.canon ((⟨Rect.unit (s := ⟨3, ![l, n, m]⟩) ![o0, o1, o2] ![l', n', m'] inb, w⟩ : View.Piece Val ⟨3, ![l, n, m]⟩ e) :: L) (ix3 p q j) = w (ix3 c a b) := by
  have e0 : (Rect.unit (s := ⟨3, ![l, n, m]⟩) ![o0, o1, o2] ![l', n', m'] inb).emb (ix3 c a b) = ix3 p q j := by
    funext x
    match x with
    | 0 => exact Fin.ext (by show o0 + 1 * c.val = p.val; omega)
    | 1 => exact Fin.ext (by show o1 + 1 * a.val = q.val; omega)
    | 2 => exact Fin.ext (by show o2 + 1 * b.val = j.val; omega)
  rw [← e0]
  exact View.canon_cons_emb (Rect.unit (s := ⟨3, ![l, n, m]⟩) ![o0, o1, o2] ![l', n', m'] inb) w L (ix3 c a b)

theorem canon_miss3 {l n m l' n' m' : ℕ} (o0 o1 o2 : ℕ) (inb) (w : (⟨3, ![l', n', m']⟩ : Shape).Idx → Val e) (L : List (View.Piece Val ⟨3, ![l, n, m]⟩ e))
    (p : Fin l) (q : Fin n) (j : Fin m) (h : p.val < o0 ∨ o0 + l' ≤ p.val) :
    View.canon ((⟨Rect.unit (s := ⟨3, ![l, n, m]⟩) ![o0, o1, o2] ![l', n', m'] inb, w⟩ : View.Piece Val ⟨3, ![l, n, m]⟩ e) :: L) (ix3 p q j) = View.canon L (ix3 p q j) := by
  refine View.canon_cons_of_not_mem _ L ?_
  intro hy
  have a0 : o0 ≤ p.val ∧ p.val < o0 + l' := (Rect.mem_set_unit (inb := inb)).mp hy 0
  omega

end ReadBack

/-- The output buffer under a chunk's eight stores. -/
theorem outs_canon (G : Fin 128 → Fin 1024 → EReal) (w0 w1 w2 w3 w4 w5 w6 w7 : FVec Ideal S128x128 .f32)
    (i0 i1 i2 i3 i4 i5 i6 i7) (L : List (View.Piece (Elt Ideal) S128x1024 .f32))
    (h0 : ∀ a n, w0 (ix2 a n) = G a (pairF 0 n)) (h1 : ∀ a n, w1 (ix2 a n) = G a (pairF 1 n)) (h2 : ∀ a n, w2 (ix2 a n) = G a (pairF 2 n)) (h3 : ∀ a n, w3 (ix2 a n) = G a (pairF 3 n))
    (h4 : ∀ a n, w4 (ix2 a n) = G a (pairF 4 n)) (h5 : ∀ a n, w5 (ix2 a n) = G a (pairF 5 n)) (h6 : ∀ a n, w6 (ix2 a n) = G a (pairF 6 n)) (h7 : ∀ a n, w7 (ix2 a n) = G a (pairF 7 n))
    (r : Fin 128) (f : Fin 1024) :
    View.canon ((⟨Rect.unit (s := S128x1024) ![0, 896] S128x128.size i7, w7⟩ : View.Piece (Elt Ideal) S128x1024 .f32) :: ⟨Rect.unit (s := S128x1024) ![0, 768] S128x128.size i6, w6⟩
      :: ⟨Rect.unit (s := S128x1024) ![0, 640] S128x128.size i5, w5⟩ :: ⟨Rect.unit (s := S128x1024) ![0, 512] S128x128.size i4, w4⟩
      :: ⟨Rect.unit (s := S128x1024) ![0, 384] S128x128.size i3, w3⟩ :: ⟨Rect.unit (s := S128x1024) ![0, 256] S128x128.size i2, w2⟩
      :: ⟨Rect.unit (s := S128x1024) ![0, 128] S128x128.size i1, w1⟩ :: ⟨Rect.unit (s := S128x1024) ![0, 0] S128x128.size i0, w0⟩ :: L) (ix2 r f) = G r f := by
  have hf := f.isLt
  have hr := r.isLt
  have fin : ∀ (p : Fin 8) (b : Fin 128), f.val = 128 * p.val + b.val → G r (pairF p b) = G r f := fun p b e => congrArg (G r) (Fin.ext e.symm)
  by_cases c7 : 896 ≤ f.val
  · exact (canon_hit2 (Val := Elt Ideal) (e := .f32) 0 896 i7 w7 _ r f r ⟨f.val - 896, by omega⟩ (by omega) (by show f.val = 896 + (f.val - 896); omega)).trans ((h7 _ _).trans (fin 7 ⟨f.val - 896, by omega⟩ (by show f.val = 128 * 7 + (f.val - 896); omega)))
  refine (canon_miss2 (Val := Elt Ideal) (e := .f32) 0 896 i7 w7 _ r f (by omega)).trans ?_
  by_cases c6 : 768 ≤ f.val
  · exact (canon_hit2 (Val := Elt Ideal) (e := .f32) 0 768 i6 w6 _ r f r ⟨f.val - 768, by omega⟩ (by omega) (by show f.val = 768 + (f.val - 768); omega)).trans ((h6 _ _).trans (fin 6 ⟨f.val - 768, by omega⟩ (by show f.val = 128 * 6 + (f.val - 768); omega)))
  refine (canon_miss2 (Val := Elt Ideal) (e := .f32) 0 768 i6 w6 _ r f (by omega)).trans ?_
  by_cases c5 : 640 ≤ f.val
  · exact (canon_hit2 (Val := Elt Ideal) (e := .f32) 0 640 i5 w5 _ r f r ⟨f.val - 640, by omega⟩ (by omega) (by show f.val = 640 + (f.val - 640); omega)).trans ((h5 _ _).trans (fin 5 ⟨f.val - 640, by omega⟩ (by show f.val = 128 * 5 + (f.val - 640); omega)))
  refine (canon_miss2 (Val := Elt Ideal) (e := .f32) 0 640 i5 w5 _ r f (by omega)).trans ?_
  by_cases c4 : 512 ≤ f.val
  · exact (canon_hit2 (Val := Elt Ideal) (e := .f32) 0 512 i4 w4 _ r f r ⟨f.val - 512, by omega⟩ (by omega) (by show f.val = 512 + (f.val - 512); omega)).trans ((h4 _ _).trans (fin 4 ⟨f.val - 512, by omega⟩ (by show f.val = 128 * 4 + (f.val - 512); omega)))
  refine (canon_miss2 (Val := Elt Ideal) (e := .f32) 0 512 i4 w4 _ r f (by omega)).trans ?_
  by_cases c3 : 384 ≤ f.val
  · exact (canon_hit2 (Val := Elt Ideal) (e := .f32) 0 384 i3 w3 _ r f r ⟨f.val - 384, by omega⟩ (by omega) (by show f.val = 384 + (f.val - 384); omega)).trans ((h3 _ _).trans (fin 3 ⟨f.val - 384, by omega⟩ (by show f.val = 128 * 3 + (f.val - 384); omega)))
  refine (canon_miss2 (Val := Elt Ideal) (e := .f32) 0 384 i3 w3 _ r f (by omega)).trans ?_
  by_cases c2 : 256 ≤ f.val
  · exact (canon_hit2 (Val := Elt Ideal) (e := .f32) 0 256 i2 w2 _ r f r ⟨f.val - 256, by omega⟩ (by omega) (by show f.val = 256 + (f.val - 256); omega)).trans ((h2 _ _).trans (fin 2 ⟨f.val - 256, by omega⟩ (by show f.val = 128 * 2 + (f.val - 256); omega)))
  refine (canon_miss2 (Val := Elt Ideal) (e := .f32) 0 256 i2 w2 _ r f (by omega)).trans ?_
  by_cases c1 : 128 ≤ f.val
  · exact (canon_hit2 (Val := Elt Ideal) (e := .f32) 0 128 i1 w1 _ r f r ⟨f.val - 128, by omega⟩ (by omega) (by show f.val = 128 + (f.val - 128); omega)).trans ((h1 _ _).trans (fin 1 ⟨f.val - 128, by omega⟩ (by show f.val = 128 * 1 + (f.val - 128); omega)))
  refine (canon_miss2 (Val := Elt Ideal) (e := .f32) 0 128 i1 w1 _ r f (by omega)).trans ?_
  exact (canon_hit2 (Val := Elt Ideal) (e := .f32) 0 0 i0 w0 _ r f r ⟨f.val, by omega⟩ (by omega) (by show f.val = 0 + f.val; omega)).trans ((h0 _ _).trans (fin 0 ⟨f.val, by omega⟩ (by show f.val = 128 * 0 + f.val; omega)))

/-- The state buffer under a chunk's eight stores. -/
theorem states_canon (G : Fin 1024 → Fin 128 → EReal) (w0 w1 w2 w3 w4 w5 w6 w7 : FVec Ideal S1x128x128 .f32)
    (i0 i1 i2 i3 i4 i5 i6 i7) (L : List (View.Piece (Elt Ideal) S8x128x128 .f32))
    (h0 : ∀ a n, w0 (ix3 0 a n) = G (pairF 0 a) n) (h1 : ∀ a n, w1 (ix3 0 a n) = G (pairF 1 a) n) (h2 : ∀ a n, w2 (ix3 0 a n) = G (pairF 2 a) n) (h3 : ∀ a n, w3 (ix3 0 a n) = G (pairF 3 a) n)
    (h4 : ∀ a n, w4 (ix3 0 a n) = G (pairF 4 a) n) (h5 : ∀ a n, w5 (ix3 0 a n) = G (pairF 5 a) n) (h6 : ∀ a n, w6 (ix3 0 a n) = G (pairF 6 a) n) (h7 : ∀ a n, w7 (ix3 0 a n) = G (pairF 7 a) n)
    (p : Fin 8) (a n : Fin 128) :
    View.canon ((⟨Rect.unit (s := S8x128x128) ![7, 0, 0] S1x128x128.size i7, w7⟩ : View.Piece (Elt Ideal) S8x128x128 .f32) :: ⟨Rect.unit (s := S8x128x128) ![6, 0, 0] S1x128x128.size i6, w6⟩
      :: ⟨Rect.unit (s := S8x128x128) ![5, 0, 0] S1x128x128.size i5, w5⟩ :: ⟨Rect.unit (s := S8x128x128) ![4, 0, 0] S1x128x128.size i4, w4⟩
      :: ⟨Rect.unit (s := S8x128x128) ![3, 0, 0] S1x128x128.size i3, w3⟩ :: ⟨Rect.unit (s := S8x128x128) ![2, 0, 0] S1x128x128.size i2, w2⟩
      :: ⟨Rect.unit (s := S8x128x128) ![1, 0, 0] S1x128x128.size i1, w1⟩ :: ⟨Rect.unit (s := S8x128x128) ![0, 0, 0] S1x128x128.size i0, w0⟩ :: L) (ix3 p a n) = G (pairF p a) n := by
  have hp := p.isLt
  have fin : ∀ (p' : Fin 8), p.val = p'.val → G (pairF p' a) n = G (pairF p a) n := fun p' e => by rw [Fin.ext e]
  by_cases c7 : p.val = 7
  · exact (canon_hit3 (Val := Elt Ideal) (e := .f32) 7 0 0 i7 w7 _ p a n 0 a n (by show p.val = 7 + 0; omega) (by omega) (by omega)).trans ((h7 _ _).trans (fin 7 c7))
  refine (canon_miss3 (Val := Elt Ideal) (e := .f32) 7 0 0 i7 w7 _ p a n (by omega)).trans ?_
  by_cases c6 : p.val = 6
  · exact (canon_hit3 (Val := Elt Ideal) (e := .f32) 6 0 0 i6 w6 _ p a n 0 a n (by show p.val = 6 + 0; omega) (by omega) (by omega)).trans ((h6 _ _).trans (fin 6 c6))
  refine (canon_miss3 (Val := Elt Ideal) (e := .f32) 6 0 0 i6 w6 _ p a n (by omega)).trans ?_
  by_cases c5 : p.val = 5
  · exact (canon_hit3 (Val := Elt Ideal) (e := .f32) 5 0 0 i5 w5 _ p a n 0 a n (by show p.val = 5 + 0; omega) (by omega) (by omega)).trans ((h5 _ _).trans (fin 5 c5))
  refine (canon_miss3 (Val := Elt Ideal) (e := .f32) 5 0 0 i5 w5 _ p a n (by omega)).trans ?_
  by_cases c4 : p.val = 4
  · exact (canon_hit3 (Val := Elt Ideal) (e := .f32) 4 0 0 i4 w4 _ p a n 0 a n (by show p.val = 4 + 0; omega) (by omega) (by omega)).trans ((h4 _ _).trans (fin 4 c4))
  refine (canon_miss3 (Val := Elt Ideal) (e := .f32) 4 0 0 i4 w4 _ p a n (by omega)).trans ?_
  by_cases c3 : p.val = 3
  · exact (canon_hit3 (Val := Elt Ideal) (e := .f32) 3 0 0 i3 w3 _ p a n 0 a n (by show p.val = 3 + 0; omega) (by omega) (by omega)).trans ((h3 _ _).trans (fin 3 c3))
  refine (canon_miss3 (Val := Elt Ideal) (e := .f32) 3 0 0 i3 w3 _ p a n (by omega)).trans ?_
  by_cases c2 : p.val = 2
  · exact (canon_hit3 (Val := Elt Ideal) (e := .f32) 2 0 0 i2 w2 _ p a n 0 a n (by show p.val = 2 + 0; omega) (by omega) (by omega)).trans ((h2 _ _).trans (fin 2 c2))
  refine (canon_miss3 (Val := Elt Ideal) (e := .f32) 2 0 0 i2 w2 _ p a n (by omega)).trans ?_
  by_cases c1 : p.val = 1
  · exact (canon_hit3 (Val := Elt Ideal) (e := .f32) 1 0 0 i1 w1 _ p a n 0 a n (by show p.val = 1 + 0; omega) (by omega) (by omega)).trans ((h1 _ _).trans (fin 1 c1))
  refine (canon_miss3 (Val := Elt Ideal) (e := .f32) 1 0 0 i1 w1 _ p a n (by omega)).trans ?_
  exact (canon_hit3 (Val := Elt Ideal) (e := .f32) 0 0 0 i0 w0 _ p a n 0 a n (by show p.val = 0 + 0; omega) (by omega) (by omega)).trans ((h0 _ _).trans (fin 0 (by show p.val = 0; omega)))

/-- A row of a tile's gated output, normed over its group. -/
def groupNorm (v g : Fin 1024 → EReal) (j : Fin 1024) : EReal :=
  v j * Ideal.rsqrt (Ideal.div (∑ e : Fin 512, v ⟨j.val / 512 * 512 + e.val, by omega⟩ * v ⟨j.val / 512 * 512 + e.val, by omega⟩) (Ideal.ofBits .f32 0x44000000#32) + Ideal.ofBits .f32 0x358637bd#32) * g j

end Cert.Layer

end
-- ==== Proof.SsdRead.lean ====
/- A tile's gated output and the layout of its stores: the group norm of half a chunk, the eight stored blocks,
   and the tile's quantities indexed by chunk. -/
module

public import proofs.«01_k».proof.Proof.SsdTile
public import proofs.«01_k».proof.Proof.ProjBlock

@[expose] public section

set_option maxRecDepth 16384

noncomputable section

namespace Cert.Layer

open Cert.KernelIdeal Cert.KernelIdeal.Gen Idealize.ShloMosaic Idealize.SL.Sem

theorem readCov2 {sg : RefSig} {κ : Kind} {sp : Space} {Val : EltTy → Type} [∀ e, Nonempty (Val e)] {e : EltTy} {n m n' m' : ℕ}
    (v : View sg κ sp ⟨2, ![n, m]⟩ e) (L : List (View.Piece Val ⟨2, ![n, m]⟩ e)) (o0 o1 : ℕ) (inb) (a : Fin n') (b : Fin m') (q : Fin n) (j : Fin m)
    (h0 : q.val = o0 + a.val) (h1 : j.val = o1 + b.val) :
    v.readCov L (Rect.unit (s := ⟨2, ![n, m]⟩) ![o0, o1] ![n', m'] inb).toLoadRect (ix2 a b) = View.canon L (ix2 q j) := by
  rw [View.readCov_eq_canon']
  refine congrArg (View.canon L) ?_
  funext x
  match x with
  | 0 => exact Fin.ext (by show o0 + 1 * a.val = q.val; omega)
  | 1 => exact Fin.ext (by show o1 + 1 * b.val = j.val; omega)

/-- The convolution's buffer read past its kept rows. -/
theorem rows_own (w : FVec Ideal S512x1536 .bf16) (i0) (L : List (View.Piece (Elt Ideal) S528x1536 .bf16)) (prev : Fin 16 → Fin 1536 → EReal)
    (hb : FVec Ideal S512x1024 .bf16) (W : Vec Ideal S1024x1536 .bf16)
    (hw : ∀ r j, w (ix2 r j) = colDot (fun d => hb (ix2 r d)) (fun d => W (ix2 d j))) (q : Fin 528) (j : Fin 1536)
    (hL : ∀ h : q.val < 16, View.canon L (ix2 q j) = prev ⟨q.val, h⟩ j) :
    View.canon ((⟨Rect.unit (s := S528x1536) ![16, 0] S512x1536.size i0, w⟩ : View.Piece (Elt Ideal) S528x1536 .bf16) :: L) (ix2 q j) = rowsFn prev hb W q j := by
  unfold rowsFn
  by_cases h : q.val < 16
  · rw [dif_pos h]
    exact (canon_miss2 (Val := Elt Ideal) (e := .bf16) 16 0 i0 w L q j (by omega)).trans (hL h)
  · rw [dif_neg h]
    exact (canon_hit2 (Val := Elt Ideal) (e := .bf16) 16 0 i0 w L q j ⟨q.val - 16, by omega⟩ j (by show q.val = 16 + (q.val - 16); omega) (by omega)).trans (hw _ _)

/-- The convolution's buffer read from its start, where the batch goes on: the kept rows and the tile's own. -/
theorem rows_kept (m : Memref sig .tc .vmem S528x1536 .bf16) (hm : m.IsWhole) (xs1 : Vec Ideal S528x1536 .bf16) (w : FVec Ideal S512x1536 .bf16) (i0) (i1)
    (hb : FVec Ideal S512x1024 .bf16) (W : Vec Ideal S1024x1536 .bf16)
    (hw : ∀ r j, w (ix2 r j) = colDot (fun d => hb (ix2 r d)) (fun d => W (ix2 d j))) (q : Fin 144) (j : Fin 1536) :
    m.view.readAt (Elt Ideal) (Rect.unit (s := S528x1536) ![0, 0] S144x1536.size i1).toLoadRect
        (m.view.writes (Elt Ideal) (hm.unread xs1) [(⟨Rect.unit (s := S528x1536) ![16, 0] S512x1536.size i0, w⟩ : View.Piece (Elt Ideal) S528x1536 .bf16)]) (ix2 q j)
      = rowsFn (fun q j => xs1 (ix2 ⟨q.val, by omega⟩ j)) hb W ⟨0 + q.val, by omega⟩ j := by
  have e0 : (Rect.unit (s := S528x1536) ![0, 0] S144x1536.size i1).toLoadRect.idx (ix2 q j) = ix2 (⟨0 + q.val, by omega⟩ : Fin 528) j := by
    funext x
    match x with
    | 0 => exact Fin.ext (by show 0 + 1 * q.val = 0 + q.val; omega)
    | 1 => exact Fin.ext (by show 0 + 1 * j.val = j.val; omega)
  rw [View.readAt_apply, e0]
  unfold rowsFn
  by_cases h : (0 + q.val) < 16
  · rw [dif_pos h, View.read_writes_cons_miss_of_axis _ _ _ _ _ (0 : Fin 2) 16 512 rfl rfl rfl (by left; exact h)]
    show View.read (Elt Ideal) m.view (hm.unread xs1) _ = _
    rw [Memref.IsWhole.read_unread]
  · rw [dif_neg h, View.read_writes_cons_hit_of_coords (Val := Elt Ideal) m.view _ (Rect.unit (s := S528x1536) ![16, 0] S512x1536.size i0) w [] (ix2 (⟨0 + q.val - 16, by omega⟩ : Fin 512) j) (ix2 (⟨0 + q.val, by omega⟩ : Fin 528) j) (fun x => by
      match x with
      | 0 => show 0 + q.val = 16 + 1 * (0 + q.val - 16); omega
      | 1 => show j.val = 0 + 1 * j.val; omega)]
    exact hw _ _

/-- A tile's convolved columns, per chunk. -/
def tX (U : Fin 528 → Fin 1536 → EReal) (w : Vec Ideal S4x1536 .f32) (b : Vec Ideal S1x1536 .f32) (i : ℕ) (s : Fin 128) (j : Fin 1536) : EReal :=
  if h : 128 * i + 128 ≤ 512 then convFn U w b (128 * i) h s j else 0
/-- A tile's steps, per chunk. -/
def tD (stp : Fin 512 → Fin 128 → EReal) (p1 : Fin 128 → EReal) (i : ℕ) (s : Fin 128) (h : Fin 16) : EReal :=
  if hh : 128 * i + 128 ≤ 512 then gateFn stp p1 (128 * i) hh s ⟨h.val, by omega⟩ else 0
/-- A tile's summed decays, per chunk. -/
def tA (stp : Fin 512 → Fin 128 → EReal) (p1 : Fin 128 → EReal) (i : ℕ) (s : Fin 128) (h : Fin 16) : EReal :=
  if hh : 128 * i + 128 ≤ 512 then gateFn stp p1 (128 * i) hh s ⟨16 + h.val, by omega⟩ else 0

theorem tX_eq (U : Fin 528 → Fin 1536 → EReal) (w : Vec Ideal S4x1536 .f32) (b : Vec Ideal S1x1536 .f32) (i o : ℕ) (e : o = 128 * i) (ho : o + 128 ≤ 512)
    (s : Fin 128) (j : Fin 1536) : convFn U w b o ho s j = tX U w b i s j := by
  subst e
  unfold tX
  rw [dif_pos ho]
theorem tD_eq (stp : Fin 512 → Fin 128 → EReal) (p1 : Fin 128 → EReal) (i o : ℕ) (e : o = 128 * i) (ho : o + 128 ≤ 512) (s : Fin 128) (h : Fin 16) (k : Fin 128) (ek : k.val = h.val) :
    gateFn stp p1 o ho s k = tD stp p1 i s h := by
  subst e
  have ek' : k = ⟨h.val, by omega⟩ := Fin.ext ek
  unfold tD
  rw [dif_pos ho, ek']
theorem tA_eq (stp : Fin 512 → Fin 128 → EReal) (p1 : Fin 128 → EReal) (i o : ℕ) (e : o = 128 * i) (ho : o + 128 ≤ 512) (s : Fin 128) (h : Fin 16) (k : Fin 128) (ek : k.val = 16 + h.val) :
    gateFn stp p1 o ho s k = tA stp p1 i s h := by
  subst e
  have ek' : k = ⟨16 + h.val, by omega⟩ := Fin.ext ek
  unfold tA
  rw [dif_pos ho, ek']

/-- A chunk's outputs times their gate. -/
def gated (y : FVec Ideal S128x1024 .f32) (z : FVec Ideal S128x1024 .bf16) : FVec Ideal S128x1024 .f32 :=
  mulf y (mulf (extf .f32 z bitsLt_bf16_f32) (logistic (extf .f32 z bitsLt_bf16_f32)))

/-- One group's columns, normed. -/
def normHalf (t : FVec Ideal S128x512 .f32) (g : Vec Ideal S1x512 .f32) (h1 : S128x512.Reduces [1] S128) (h2 : FKind.Formats .f32) (h3 : 0x00000000#32 = FKind.add.neutral .f32 h2) : FVec Ideal S128x512 .bf16 :=
  truncf .bf16 (mulf (mulf t (broadcastTo S128x512 (rsqrt (addf (divf (shapeCast S128x1 (multiReduction .add [1] S128 (mulf t t) 0x00000000#32 h1 h2 h3) shapeCasts_S128_S128x1)
      (broadcast S128x1 (Scalar.ofBits .f32 0x44000000#32 : Ideal .f32))) (broadcast S128x1 (Scalar.ofBits .f32 0x358637BD#32 : Ideal .f32)))) broadcasts_S128x1_S128x512))
    (broadcastTo S128x512 (shapeCast S1x512 g shapeCasts_S1x512_S1x512) broadcasts_S1x512_S128x512)) bitsLt_bf16_f32

theorem gated_at (y : FVec Ideal S128x1024 .f32) (z : FVec Ideal S128x1024 .bf16) (r : Fin 128) (f : Fin 1024) :
    gated y z (ix2 r f) = y (ix2 r f) * siluOf (z (ix2 r f)) := by
  unfold gated siluOf
  pointwise
  rfl

theorem normHalf_at (y : FVec Ideal S128x1024 .f32) (z : FVec Ideal S128x1024 .bf16) (g : Vec Ideal S1x512 .f32) (o : ℕ) (hs : S128x1024.Slices ![0, o] S128x512) (h1 h2 h3)
    (V G : Fin 1024 → EReal) (r : Fin 128) (hv : ∀ f, y (ix2 r f) * siluOf (z (ix2 r f)) = V f) (ho : o + 512 ≤ 1024) (hd : o % 512 = 0)
    (hg : ∀ e : Fin 512, g (ix2 0 e) = G ⟨o + e.val, by omega⟩) (j : Fin 512) :
    normHalf (extractStridedSlice S128x512 ![0, o] (gated y z) hs) g h1 h2 h3 (ix2 r j) = groupNorm V G ⟨o + j.val, by omega⟩ := by
  have key : ∀ e : Fin 512, gated y z (ix2 r ⟨o + e.val, by omega⟩) = V ⟨o + e.val, by omega⟩ := by
    intro e
    rw [gated_at, hv]
  unfold normHalf groupNorm
  pointwise
  rw [hg, key]
  have hj : (o + j.val) / 512 * 512 = o := by have := j.isLt; omega
  simp only [key, hj]

/-- The output block under its eight stores. -/
theorem out_canon (G : Fin 512 → Fin 1024 → EReal) (w00 w01 w10 w11 w20 w21 w30 w31 : FVec Ideal S128x512 .bf16)
    (i00 i01 i10 i11 i20 i21 i30 i31) (L : List (View.Piece (Elt Ideal) S512x1024 .bf16))
    (h00 : ∀ a b, w00 (ix2 a b) = G ⟨0 + a.val, by omega⟩ ⟨0 + b.val, by omega⟩) (h01 : ∀ a b, w01 (ix2 a b) = G ⟨0 + a.val, by omega⟩ ⟨512 + b.val, by omega⟩)
    (h10 : ∀ a b, w10 (ix2 a b) = G ⟨128 + a.val, by omega⟩ ⟨0 + b.val, by omega⟩) (h11 : ∀ a b, w11 (ix2 a b) = G ⟨128 + a.val, by omega⟩ ⟨512 + b.val, by omega⟩)
    (h20 : ∀ a b, w20 (ix2 a b) = G ⟨256 + a.val, by omega⟩ ⟨0 + b.val, by omega⟩) (h21 : ∀ a b, w21 (ix2 a b) = G ⟨256 + a.val, by omega⟩ ⟨512 + b.val, by omega⟩)
    (h30 : ∀ a b, w30 (ix2 a b) = G ⟨384 + a.val, by omega⟩ ⟨0 + b.val, by omega⟩) (h31 : ∀ a b, w31 (ix2 a b) = G ⟨384 + a.val, by omega⟩ ⟨512 + b.val, by omega⟩)
    (r : Fin 512) (f : Fin 1024) :
    View.canon ((⟨Rect.unit (s := S512x1024) ![384, 512] S128x512.size i31, w31⟩ : View.Piece (Elt Ideal) S512x1024 .bf16) :: ⟨Rect.unit (s := S512x1024) ![384, 0] S128x512.size i30, w30⟩
      :: ⟨Rect.unit (s := S512x1024) ![256, 512] S128x512.size i21, w21⟩ :: ⟨Rect.unit (s := S512x1024) ![256, 0] S128x512.size i20, w20⟩
      :: ⟨Rect.unit (s := S512x1024) ![128, 512] S128x512.size i11, w11⟩ :: ⟨Rect.unit (s := S512x1024) ![128, 0] S128x512.size i10, w10⟩
      :: ⟨Rect.unit (s := S512x1024) ![0, 512] S128x512.size i01, w01⟩ :: ⟨Rect.unit (s := S512x1024) ![0, 0] S128x512.size i00, w00⟩ :: L) (ix2 r f) = G r f := by
  have hf := f.isLt
  have hr := r.isLt
  have fin : ∀ (o0 o1 : ℕ) (e0 : o0 ≤ r.val) (e1 : o1 ≤ f.val), G ⟨o0 + (r.val - o0), by omega⟩ ⟨o1 + (f.val - o1), by omega⟩ = G r f := by
    intro o0 o1 e0 e1
    rw [show (⟨o0 + (r.val - o0), by omega⟩ : Fin 512) = r from Fin.ext (by show o0 + (r.val - o0) = r.val; omega),
      show (⟨o1 + (f.val - o1), by omega⟩ : Fin 1024) = f from Fin.ext (by show o1 + (f.val - o1) = f.val; omega)]
  by_cases c31 : 384 ≤ r.val ∧ 512 ≤ f.val
  · exact (canon_hit2 (Val := Elt Ideal) (e := .bf16) 384 512 i31 w31 _ r f ⟨r.val - 384, by omega⟩ ⟨f.val - 512, by omega⟩ (by show r.val = 384 + (r.val - 384); omega) (by show f.val = 512 + (f.val - 512); omega)).trans ((h31 _ _).trans (fin 384 512 (by omega) (by omega)))
  refine (canon_miss2 (Val := Elt Ideal) (e := .bf16) 384 512 i31 w31 _ r f (by omega)).trans ?_
  by_cases c30 : 384 ≤ r.val ∧ 0 ≤ f.val
  · exact (canon_hit2 (Val := Elt Ideal) (e := .bf16) 384 0 i30 w30 _ r f ⟨r.val - 384, by omega⟩ ⟨f.val - 0, by omega⟩ (by show r.val = 384 + (r.val - 384); omega) (by show f.val = 0 + (f.val - 0); omega)).trans ((h30 _ _).trans (fin 384 0 (by omega) (by omega)))
  refine (canon_miss2 (Val := Elt Ideal) (e := .bf16) 384 0 i30 w30 _ r f (by omega)).trans ?_
  by_cases c21 : 256 ≤ r.val ∧ 512 ≤ f.val
  · exact (canon_hit2 (Val := Elt Ideal) (e := .bf16) 256 512 i21 w21 _ r f ⟨r.val - 256, by omega⟩ ⟨f.val - 512, by omega⟩ (by show r.val = 256 + (r.val - 256); omega) (by show f.val = 512 + (f.val - 512); omega)).trans ((h21 _ _).trans (fin 256 512 (by omega) (by omega)))
  refine (canon_miss2 (Val := Elt Ideal) (e := .bf16) 256 512 i21 w21 _ r f (by omega)).trans ?_
  by_cases c20 : 256 ≤ r.val ∧ 0 ≤ f.val
  · exact (canon_hit2 (Val := Elt Ideal) (e := .bf16) 256 0 i20 w20 _ r f ⟨r.val - 256, by omega⟩ ⟨f.val - 0, by omega⟩ (by show r.val = 256 + (r.val - 256); omega) (by show f.val = 0 + (f.val - 0); omega)).trans ((h20 _ _).trans (fin 256 0 (by omega) (by omega)))
  refine (canon_miss2 (Val := Elt Ideal) (e := .bf16) 256 0 i20 w20 _ r f (by omega)).trans ?_
  by_cases c11 : 128 ≤ r.val ∧ 512 ≤ f.val
  · exact (canon_hit2 (Val := Elt Ideal) (e := .bf16) 128 512 i11 w11 _ r f ⟨r.val - 128, by omega⟩ ⟨f.val - 512, by omega⟩ (by show r.val = 128 + (r.val - 128); omega) (by show f.val = 512 + (f.val - 512); omega)).trans ((h11 _ _).trans (fin 128 512 (by omega) (by omega)))
  refine (canon_miss2 (Val := Elt Ideal) (e := .bf16) 128 512 i11 w11 _ r f (by omega)).trans ?_
  by_cases c10 : 128 ≤ r.val ∧ 0 ≤ f.val
  · exact (canon_hit2 (Val := Elt Ideal) (e := .bf16) 128 0 i10 w10 _ r f ⟨r.val - 128, by omega⟩ ⟨f.val - 0, by omega⟩ (by show r.val = 128 + (r.val - 128); omega) (by show f.val = 0 + (f.val - 0); omega)).trans ((h10 _ _).trans (fin 128 0 (by omega) (by omega)))
  refine (canon_miss2 (Val := Elt Ideal) (e := .bf16) 128 0 i10 w10 _ r f (by omega)).trans ?_
  by_cases c01 : 0 ≤ r.val ∧ 512 ≤ f.val
  · exact (canon_hit2 (Val := Elt Ideal) (e := .bf16) 0 512 i01 w01 _ r f ⟨r.val - 0, by omega⟩ ⟨f.val - 512, by omega⟩ (by show r.val = 0 + (r.val - 0); omega) (by show f.val = 512 + (f.val - 512); omega)).trans ((h01 _ _).trans (fin 0 512 (by omega) (by omega)))
  refine (canon_miss2 (Val := Elt Ideal) (e := .bf16) 0 512 i01 w01 _ r f (by omega)).trans ?_
  exact (canon_hit2 (Val := Elt Ideal) (e := .bf16) 0 0 i00 w00 _ r f ⟨r.val - 0, by omega⟩ ⟨f.val - 0, by omega⟩ (by show r.val = 0 + (r.val - 0); omega) (by show f.val = 0 + (f.val - 0); omega)).trans ((h00 _ _).trans (fin 0 0 (by omega) (by omega)))

end Cert.Layer

end
-- ==== Proof.LeavesA.lean ====
/- The gates and convolved columns a tile computes in each chunk, where a batch begins. -/
module

public import proofs.«01_k».proof.Proof.Gen.KernelIdeal.Frame.RunA
public import proofs.«01_k».proof.Proof.SsdRead
public import proofs.«01_k».proof.Proof.KernelBlocks
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_A.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m11 : Memref sig .tc .vmem S1024x1024 .bf16) (w11 : m11.IsWhole) (m12 : Memref sig .tc .vmem S1024x1536 .bf16) (w12 : m12.IsWhole) (m13 : Memref sig .tc .vmem S1024x128 .bf16) (w13 : m13.IsWhole) (m25 : Memref sig .tc .vmem S1x128 .f32) (m26 : Memref sig .tc .vmem S528x1536 .bf16) (m28 : Memref sig .tc .vmem S512x128 .f32) (m29 : Memref sig .tc .vmem S32x512 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x10 : Vec Ideal S1024x1024 .bf16) (x11 : Vec Ideal S1024x1536 .bf16) (x12 : Vec Ideal S1024x128 .bf16)

theorem hbA : (v39 c m1 w1 m2 w2 m3 w3 x0 x1 x2) = hTile x0 x1 x2 := by
  sl_unfold_words
  simp only [View.readAt_eq_ld, Memref.IsWhole.read_unread]
  rfl

theorem ownA (r : Fin 512) (j : Fin 1536) : (v46 c m1 w1 m2 w2 m3 w3 m12 w12 x0 x1 x2 x11) (ix2 r j) = colDot (fun d => (hTile x0 x1 x2) (ix2 r d)) (fun d => x11 (ix2 d j)) := by
  rw [← hbA c m1 w1 m2 w2 m3 w3 x0 x1 x2]
  have hw : ∀ d, (shapeCast S1024x1536 (View.readAt (Elt Ideal) m12.view (Rect.unit (s := S1024x1536) ![0, 0] S1024x1536.size (by decide)).toLoadRect (w12.unread x11)) shapeCasts_S1024x1536_S1024x1536 : FVec Ideal S1024x1536 .bf16) (ix2 d j) = x11 (ix2 d j) := by
    intro d
    rw [show ∀ (v : FVec Ideal S1024x1536 .bf16) hh, (shapeCast S1024x1536 v hh : FVec Ideal S1024x1536 .bf16) (ix2 d j) = v (ix2 d j) from fun v hh => by pointwise]
    (try sl_unfold_words); simp only [View.readAt_eq_ld, Memref.IsWhole.read_unread]
    refine View.ld_unit_apply_of _ _ _ _ _ _ fun b => ?_
    match b with
    | 0 => simp [ix2]
    | 1 => simp [ix2]
  simp only [← hw]
  unfold v46 v43 v42 v41 cst_20
  generalize (v39 c m1 w1 m2 w2 m3 w3 x0 x1 x2) = hb
  generalize View.readAt (Elt Ideal) m12.view _ _ = w
  unfold colDot
  pointwise
  try rfl

theorem zedA (r : Fin 512) (j : Fin 1024) : (v53 c m1 w1 m2 w2 m3 w3 m11 w11 x0 x1 x2 x10) (ix2 r j) = colDot (fun d => (hTile x0 x1 x2) (ix2 r d)) (fun d => x10 (ix2 d j)) := by
  rw [← hbA c m1 w1 m2 w2 m3 w3 x0 x1 x2]
  have hw : ∀ d, (shapeCast S1024x1024 (View.readAt (Elt Ideal) m11.view (Rect.unit (s := S1024x1024) ![0, 0] S1024x1024.size (by decide)).toLoadRect (w11.unread x10)) shapeCasts_S1024x1024_S1024x1024 : FVec Ideal S1024x1024 .bf16) (ix2 d j) = x10 (ix2 d j) := by
    intro d
    rw [show ∀ (v : FVec Ideal S1024x1024 .bf16) hh, (shapeCast S1024x1024 v hh : FVec Ideal S1024x1024 .bf16) (ix2 d j) = v (ix2 d j) from fun v hh => by pointwise]
    (try sl_unfold_words); simp only [View.readAt_eq_ld, Memref.IsWhole.read_unread]
    refine View.ld_unit_apply_of _ _ _ _ _ _ fun b => ?_
    match b with
    | 0 => simp [ix2]
    | 1 => simp [ix2]
  simp only [← hw]
  unfold v53 v50 v49 v48 cst_24
  generalize (v39 c m1 w1 m2 w2 m3 w3 x0 x1 x2) = hb
  generalize View.readAt (Elt Ideal) m11.view _ _ = w
  unfold colDot
  pointwise
  try rfl

theorem winA_0 (q : Fin 144) (j : Fin 1536) : (v295 c m1 w1 m2 w2 m3 w3 m12 w12 m26 x0 x1 x2 x11) (ix2 q j) = rowsFn (fun _ _ => 0) (hTile x0 x1 x2) x11 ⟨0 + q.val, by omega⟩ j := by
  unfold v295 HS1_2
  refine (readCov2 _ _ 0 0 _ q j ⟨0 + q.val, by omega⟩ j rfl (by omega)).trans ?_
  refine rows_own _ _ _ (fun _ _ => 0) (hTile x0 x1 x2) x11 (fun r j => ownA ..) _ _ ?_
  intro h
  refine (canon_hit2 (Val := Elt Ideal) (e := .bf16) 0 0 _ _ _ _ j ⟨0 + q.val, h⟩ j (by show 0 + q.val = 0 + (0 + q.val); omega) (by omega)).trans ?_
  unfold v4133
  rw [show ∀ (v : FVec Ideal S16x1536 .bf16) hh, (shapeCast S16x1536 v hh : FVec Ideal S16x1536 .bf16) (ix2 ⟨0 + q.val, h⟩ j) = v (ix2 ⟨0 + q.val, h⟩ j) from fun v hh => by pointwise]
  exact (show Ideal.ofBits .bf16 0#16 = 0 by simp [Ideal.ofBits, Ideal.ieee])

theorem winA_1 (q : Fin 144) (j : Fin 1536) : (v1397 c m1 w1 m2 w2 m3 w3 m12 w12 m26 x0 x1 x2 x11) (ix2 q j) = rowsFn (fun _ _ => 0) (hTile x0 x1 x2) x11 ⟨128 + q.val, by omega⟩ j := by
  unfold v1397 HS1_2
  refine (readCov2 _ _ 128 0 _ q j ⟨128 + q.val, by omega⟩ j rfl (by omega)).trans ?_
  refine rows_own _ _ _ (fun _ _ => 0) (hTile x0 x1 x2) x11 (fun r j => ownA ..) _ _ ?_
  intro h
  exact absurd h (by show ¬ (128 + q.val < 16); omega)

theorem winA_2 (q : Fin 144) (j : Fin 1536) : (v2437 c m1 w1 m2 w2 m3 w3 m12 w12 m26 x0 x1 x2 x11) (ix2 q j) = rowsFn (fun _ _ => 0) (hTile x0 x1 x2) x11 ⟨256 + q.val, by omega⟩ j := by
  unfold v2437 HS1_2
  refine (readCov2 _ _ 256 0 _ q j ⟨256 + q.val, by omega⟩ j rfl (by omega)).trans ?_
  refine rows_own _ _ _ (fun _ _ => 0) (hTile x0 x1 x2) x11 (fun r j => ownA ..) _ _ ?_
  intro h
  exact absurd h (by show ¬ (256 + q.val < 16); omega)

theorem winA_3 (q : Fin 144) (j : Fin 1536) : (v3289 c m1 w1 m2 w2 m3 w3 m12 w12 m26 x0 x1 x2 x11) (ix2 q j) = rowsFn (fun _ _ => 0) (hTile x0 x1 x2) x11 ⟨384 + q.val, by omega⟩ j := by
  unfold v3289 HS1_2
  refine (readCov2 _ _ 384 0 _ q j ⟨384 + q.val, by omega⟩ j rfl (by omega)).trans ?_
  refine rows_own _ _ _ (fun _ _ => 0) (hTile x0 x1 x2) x11 (fun r j => ownA ..) _ _ ?_
  intro h
  exact absurd h (by show ¬ (384 + q.val < 16); omega)

theorem xbA_0 (hsh : ∀ (q : Fin 384) (r : Fin 144), (x5 (ix2 q r) : EReal) = if r.val = q.val % 128 + 13 + q.val / 128 then 1 else 0) (s : Fin 128) (j : Fin 1536) :
    (v324 c m1 w1 m2 w2 m3 w3 m6 w6 m7 w7 m8 w8 m12 w12 m26 x0 x1 x2 x5 x6 x7 x11) (ix2 s j) = tX (rowsFn (fun _ _ => 0) (hTile x0 x1 x2) x11) x6 x7 0 s j := by
  refine Eq.trans ?_ (tX_eq _ _ _ 0 0 rfl (by decide) _ _)
  refine convFn_of ((v295 c m1 w1 m2 w2 m3 w3 m12 w12 m26 x0 x1 x2 x11)) _ _ _ _ _ _ _ _ _ 0 (by decide) ?_ (fun q j => winA_0 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem xbA_1 (hsh : ∀ (q : Fin 384) (r : Fin 144), (x5 (ix2 q r) : EReal) = if r.val = q.val % 128 + 13 + q.val / 128 then 1 else 0) (s : Fin 128) (j : Fin 1536) :
    (v1426 c m1 w1 m2 w2 m3 w3 m6 w6 m7 w7 m8 w8 m12 w12 m26 x0 x1 x2 x5 x6 x7 x11) (ix2 s j) = tX (rowsFn (fun _ _ => 0) (hTile x0 x1 x2) x11) x6 x7 1 s j := by
  refine Eq.trans ?_ (tX_eq _ _ _ 1 128 rfl (by decide) _ _)
  refine convFn_of ((v1397 c m1 w1 m2 w2 m3 w3 m12 w12 m26 x0 x1 x2 x11)) _ _ _ _ _ _ _ _ _ 128 (by decide) ?_ (fun q j => winA_1 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem xbA_2 (hsh : ∀ (q : Fin 384) (r : Fin 144), (x5 (ix2 q r) : EReal) = if r.val = q.val % 128 + 13 + q.val / 128 then 1 else 0) (s : Fin 128) (j : Fin 1536) :
    (v2466 c m1 w1 m2 w2 m3 w3 m6 w6 m7 w7 m8 w8 m12 w12 m26 x0 x1 x2 x5 x6 x7 x11) (ix2 s j) = tX (rowsFn (fun _ _ => 0) (hTile x0 x1 x2) x11) x6 x7 2 s j := by
  refine Eq.trans ?_ (tX_eq _ _ _ 2 256 rfl (by decide) _ _)
  refine convFn_of ((v2437 c m1 w1 m2 w2 m3 w3 m12 w12 m26 x0 x1 x2 x11)) _ _ _ _ _ _ _ _ _ 256 (by decide) ?_ (fun q j => winA_2 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem xbA_3 (hsh : ∀ (q : Fin 384) (r : Fin 144), (x5 (ix2 q r) : EReal) = if r.val = q.val % 128 + 13 + q.val / 128 then 1 else 0) (s : Fin 128) (j : Fin 1536) :
    (v3318 c m1 w1 m2 w2 m3 w3 m6 w6 m7 w7 m8 w8 m12 w12 m26 x0 x1 x2 x5 x6 x7 x11) (ix2 s j) = tX (rowsFn (fun _ _ => 0) (hTile x0 x1 x2) x11) x6 x7 3 s j := by
  refine Eq.trans ?_ (tX_eq _ _ _ 3 384 rfl (by decide) _ _)
  refine convFn_of ((v3289 c m1 w1 m2 w2 m3 w3 m12 w12 m26 x0 x1 x2 x11)) _ _ _ _ _ _ _ _ _ 384 (by decide) ?_ (fun q j => winA_3 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem natA_0 (s k : Fin 128) (hk : k.val < 32) : (v325 c m1 w1 m2 w2 m3 w3 m5 w5 m13 w13 m25 m28 x0 x1 x2 x4 x12) (ix2 s k) = gateFn (stepFn (hTile x0 x1 x2) x12 x4) (fun k => x4 (ix2 1 k)) 0 (by decide) s k := by
  rw [← hbA c m1 w1 m2 w2 m3 w3 x0 x1 x2]
  unfold v325
  simp (disch := decide) only [↓ View.readCov_skip, ↓ View.readCov_cons_toLoadRect, ↓ View.readCov_fill, HS3_4]
  unfold v116
  rw [show ∀ (v : FVec Ideal S128x128 .f32) hh, (shapeCast S128x128 v hh : FVec Ideal S128x128 .f32) (ix2 s k) = v (ix2 s k) from fun v hh => by pointwise]
  refine gateChunk_at _ x12 x4 _ _ _ _ 0 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtA_0 (k : Fin 32) (s : Fin 128) : (v326 c m1 w1 m2 w2 m3 w3 m5 w5 m13 w13 m25 m29 x0 x1 x2 x4 x12) (ix2 k s) = gateFn (stepFn (hTile x0 x1 x2) x12 x4) (fun k => x4 (ix2 1 k)) 0 (by decide) s ⟨k.val, by omega⟩ := by
  rw [← hbA c m1 w1 m2 w2 m3 w3 x0 x1 x2]
  unfold v326
  simp (disch := decide) only [↓ View.readCov_skip, ↓ View.readCov_cons_toLoadRect, ↓ View.readCov_fill, HS4_4]
  unfold v121 v118 v117
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 0 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem natA_1 (s k : Fin 128) (hk : k.val < 32) : (v1427 c m1 w1 m2 w2 m3 w3 m5 w5 m13 w13 m25 m28 x0 x1 x2 x4 x12) (ix2 s k) = gateFn (stepFn (hTile x0 x1 x2) x12 x4) (fun k => x4 (ix2 1 k)) 128 (by decide) s k := by
  rw [← hbA c m1 w1 m2 w2 m3 w3 x0 x1 x2]
  unfold v1427
  simp (disch := decide) only [↓ View.readCov_skip, ↓ View.readCov_cons_toLoadRect, ↓ View.readCov_fill, HS3_4]
  unfold v135
  rw [show ∀ (v : FVec Ideal S128x128 .f32) hh, (shapeCast S128x128 v hh : FVec Ideal S128x128 .f32) (ix2 s k) = v (ix2 s k) from fun v hh => by pointwise]
  refine gateChunk_at _ x12 x4 _ _ _ _ 128 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtA_1 (k : Fin 32) (s : Fin 128) : (v1428 c m1 w1 m2 w2 m3 w3 m5 w5 m13 w13 m25 m29 x0 x1 x2 x4 x12) (ix2 k s) = gateFn (stepFn (hTile x0 x1 x2) x12 x4) (fun k => x4 (ix2 1 k)) 128 (by decide) s ⟨k.val, by omega⟩ := by
  rw [← hbA c m1 w1 m2 w2 m3 w3 x0 x1 x2]
  unfold v1428
  simp (disch := decide) only [↓ View.readCov_skip, ↓ View.readCov_cons_toLoadRect, ↓ View.readCov_fill, HS4_4]
  unfold v140 v137 v136
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 128 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem natA_2 (s k : Fin 128) (hk : k.val < 32) : (v2467 c m1 w1 m2 w2 m3 w3 m5 w5 m13 w13 m25 m28 x0 x1 x2 x4 x12) (ix2 s k) = gateFn (stepFn (hTile x0 x1 x2) x12 x4) (fun k => x4 (ix2 1 k)) 256 (by decide) s k := by
  rw [← hbA c m1 w1 m2 w2 m3 w3 x0 x1 x2]
  unfold v2467
  simp (disch := decide) only [↓ View.readCov_skip, ↓ View.readCov_cons_toLoadRect, ↓ View.readCov_fill, HS3_4]
  unfold v154
  rw [show ∀ (v : FVec Ideal S128x128 .f32) hh, (shapeCast S128x128 v hh : FVec Ideal S128x128 .f32) (ix2 s k) = v (ix2 s k) from fun v hh => by pointwise]
  refine gateChunk_at _ x12 x4 _ _ _ _ 256 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtA_2 (k : Fin 32) (s : Fin 128) : (v2468 c m1 w1 m2 w2 m3 w3 m5 w5 m13 w13 m25 m29 x0 x1 x2 x4 x12) (ix2 k s) = gateFn (stepFn (hTile x0 x1 x2) x12 x4) (fun k => x4 (ix2 1 k)) 256 (by decide) s ⟨k.val, by omega⟩ := by
  rw [← hbA c m1 w1 m2 w2 m3 w3 x0 x1 x2]
  unfold v2468
  simp (disch := decide) only [↓ View.readCov_skip, ↓ View.readCov_cons_toLoadRect, ↓ View.readCov_fill, HS4_4]
  unfold v159 v156 v155
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 256 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem natA_3 (s k : Fin 128) (hk : k.val < 32) : (v3319 c m1 w1 m2 w2 m3 w3 m5 w5 m13 w13 m25 m28 x0 x1 x2 x4 x12) (ix2 s k) = gateFn (stepFn (hTile x0 x1 x2) x12 x4) (fun k => x4 (ix2 1 k)) 384 (by decide) s k := by
  rw [← hbA c m1 w1 m2 w2 m3 w3 x0 x1 x2]
  unfold v3319
  simp (disch := decide) only [↓ View.readCov_skip, ↓ View.readCov_cons_toLoadRect, ↓ View.readCov_fill, HS3_4]
  unfold k0_pay33
  try dsimp only
  rw [show ∀ (v : FVec Ideal S128x128 .f32) hh, (shapeCast S128x128 v hh : FVec Ideal S128x128 .f32) (ix2 s k) = v (ix2 s k) from fun v hh => by pointwise]
  refine gateChunk_at _ x12 x4 _ _ _ _ 384 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtA_3 (k : Fin 32) (s : Fin 128) : (v3320 c m1 w1 m2 w2 m3 w3 m5 w5 m13 w13 m25 m29 x0 x1 x2 x4 x12) (ix2 k s) = gateFn (stepFn (hTile x0 x1 x2) x12 x4) (fun k => x4 (ix2 1 k)) 384 (by decide) s ⟨k.val, by omega⟩ := by
  rw [← hbA c m1 w1 m2 w2 m3 w3 x0 x1 x2]
  unfold v3320
  simp (disch := decide) only [↓ View.readCov_skip, ↓ View.readCov_cons_toLoadRect, ↓ View.readCov_fill, HS4_4]
  unfold k0_pay34
  try dsimp only
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 384 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

end Cert.Layer

end
-- ==== Proof.SsdNames.lean ====
/- Short names for what a tile's recurrence reads: its rows, steps, summed decays and states, from the point's input blocks. -/
module

public import proofs.«01_k».proof.Proof.KernelBlocks
public import proofs.«01_k».proof.Proof.SsdRead

@[expose] public section

set_option maxRecDepth 16384

noncomputable section

namespace Cert.Layer

open Cert.KernelIdeal Cert.KernelIdeal.Gen Idealize.ShloMosaic Idealize.ShloMosaic.TcCoe Idealize.SL.Sem

/-- The sixteen rows kept from the tile before. -/
abbrev kept (v : Vec Ideal S528x1536 .f32) : Fin 16 → Fin 1536 → EReal := fun q j => v (ix2 ⟨q.val, by omega⟩ j)
/-- The states held from the tile before. -/
abbrev held (v : Vec Ideal S8x128x128 .f32) : Fin 1024 → Fin 128 → EReal := fun f n => v (ix3 ⟨f.val / 128, by omega⟩ ⟨f.val % 128, by omega⟩ n)
/-- The convolved columns. -/
abbrev kX (P : Fin 16 → Fin 1536 → EReal) (x0 : Vec Ideal S512x1024 .f32) (x1 : Vec Ideal S3x1x1x1024 .f32) (x2 : Vec Ideal S1x1024 .f32)
    (x6 : Vec Ideal S4x1536 .f32) (x7 : Vec Ideal S1x1536 .f32) (x11 : Vec Ideal S1024x1536 .bf16) : ℕ → Fin 128 → Fin 1536 → EReal :=
  tX (rowsFn P (hTile x0 x1 x2) x11) x6 x7
/-- The steps. -/
abbrev kD (x0 : Vec Ideal S512x1024 .f32) (x1 : Vec Ideal S3x1x1x1024 .f32) (x2 : Vec Ideal S1x1024 .f32) (x4 : Vec Ideal S8x128 .f32)
    (x12 : Vec Ideal S1024x128 .bf16) : ℕ → Fin 128 → Fin 16 → EReal := tD (stepFn (hTile x0 x1 x2) x12 x4) (fun k => x4 (ix2 1 k))
/-- The summed decays. -/
abbrev kA (x0 : Vec Ideal S512x1024 .f32) (x1 : Vec Ideal S3x1x1x1024 .f32) (x2 : Vec Ideal S1x1024 .f32) (x4 : Vec Ideal S8x128 .f32)
    (x12 : Vec Ideal S1024x128 .bf16) : ℕ → Fin 128 → Fin 16 → EReal := tA (stepFn (hTile x0 x1 x2) x12 x4) (fun k => x4 (ix2 1 k))
/-- The states before each chunk. -/
abbrev kS (P : Fin 16 → Fin 1536 → EReal) (S : Fin 1024 → Fin 128 → EReal) (x0 : Vec Ideal S512x1024 .f32) (x1 : Vec Ideal S3x1x1x1024 .f32)
    (x2 : Vec Ideal S1x1024 .f32) (x4 : Vec Ideal S8x128 .f32) (x6 : Vec Ideal S4x1536 .f32) (x7 : Vec Ideal S1x1536 .f32)
    (x11 : Vec Ideal S1024x1536 .bf16) (x12 : Vec Ideal S1024x128 .bf16) : ℕ → Fin 1024 → Fin 128 → EReal :=
  tileState (kX P x0 x1 x2 x6 x7 x11) (kD x0 x1 x2 x4 x12) (kA x0 x1 x2 x4 x12) S
/-- The outputs of a chunk. -/
abbrev kO (P : Fin 16 → Fin 1536 → EReal) (S : Fin 1024 → Fin 128 → EReal) (x0 : Vec Ideal S512x1024 .f32) (x1 : Vec Ideal S3x1x1x1024 .f32)
    (x2 : Vec Ideal S1x1024 .f32) (x4 : Vec Ideal S8x128 .f32) (x6 : Vec Ideal S4x1536 .f32) (x7 : Vec Ideal S1x1536 .f32) (x8 : Vec Ideal S1x1024 .f32)
    (x11 : Vec Ideal S1024x1536 .bf16) (x12 : Vec Ideal S1024x128 .bf16) (i : ℕ) : Fin 128 → Fin 1024 → EReal :=
  ssdOut (kX P x0 x1 x2 x6 x7 x11 i) (kD x0 x1 x2 x4 x12 i) (kA x0 x1 x2 x4 x12 i) (kS P S x0 x1 x2 x4 x6 x7 x11 x12 i) (fun f => x8 (ix2 0 f))
/-- The shift matrix: row `q` picks row `q % 128 + 13 + q / 128`. -/
abbrev IsShift (x5 : Vec Ideal S384x144 .bf16) : Prop :=
  ∀ (q : Fin 384) (r : Fin 144), (x5 (ix2 q r) : EReal) = if r.val = q.val % 128 + 13 + q.val / 128 then 1 else 0

end Cert.Layer

end
-- ==== Proof.ChunksA.lean ====
/- The recurrence over one tile where a batch begins: what each chunk leaves and puts out, on entries. -/
module

public import proofs.«01_k».proof.Proof.Gen.KernelIdeal.Frame.RunA
public import proofs.«01_k».proof.Proof.StatesA
public import proofs.«01_k».proof.Proof.OutputsA
public import proofs.«01_k».proof.Proof.LeavesA
public import proofs.«01_k».proof.Proof.SsdNames
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_A.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m9 : Memref sig .tc .vmem S1x1024 .f32) (w9 : m9.IsWhole) (m12 : Memref sig .tc .vmem S1024x1536 .bf16) (w12 : m12.IsWhole) (m13 : Memref sig .tc .vmem S1024x128 .bf16) (w13 : m13.IsWhole) (m25 : Memref sig .tc .vmem S1x128 .f32) (m26 : Memref sig .tc .vmem S528x1536 .bf16) (m28 : Memref sig .tc .vmem S512x128 .f32) (m29 : Memref sig .tc .vmem S32x512 .f32) (m30 : Memref sig .tc .vmem S8x128x128 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x8 : Vec Ideal S1x1024 .f32) (x11 : Vec Ideal S1024x1536 .bf16) (x12 : Vec Ideal S1024x128 .bf16)

theorem nDA_0 (s : Fin 128) (h : Fin 16) : (v325 c m1 w1 m2 w2 m3 w3 m5 w5 m13 w13 m25 m28 x0 x1 x2 x4 x12) (ix2 s ⟨h.val, by omega⟩) = (kD x0 x1 x2 x4 x12) 0 s h := (natA_0 (k := ⟨h.val, by omega⟩) (hk := by show h.val < 32; omega) ..).trans (tD_eq _ _ 0 0 rfl _ s h _ rfl)
theorem nAA_0 (s : Fin 128) (h : Fin 16) : (v325 c m1 w1 m2 w2 m3 w3 m5 w5 m13 w13 m25 m28 x0 x1 x2 x4 x12) (ix2 s ⟨16 + h.val, by omega⟩) = (kA x0 x1 x2 x4 x12) 0 s h := (natA_0 (k := ⟨16 + h.val, by omega⟩) (hk := by show 16 + h.val < 32; omega) ..).trans (tA_eq _ _ 0 0 rfl _ s h _ rfl)
theorem gDA_0 (s : Fin 128) (h : Fin 16) : (v326 c m1 w1 m2 w2 m3 w3 m5 w5 m13 w13 m25 m29 x0 x1 x2 x4 x12) (ix2 ⟨h.val, by omega⟩ s) = (kD x0 x1 x2 x4 x12) 0 s h := (gtA_0 (k := ⟨h.val, by omega⟩) ..).trans (tD_eq _ _ 0 0 rfl _ s h _ rfl)
theorem gAA_0 (s : Fin 128) (h : Fin 16) : (v326 c m1 w1 m2 w2 m3 w3 m5 w5 m13 w13 m25 m29 x0 x1 x2 x4 x12) (ix2 ⟨16 + h.val, by omega⟩ s) = (kA x0 x1 x2 x4 x12) 0 s h := (gtA_0 (k := ⟨16 + h.val, by omega⟩) ..).trans (tA_eq _ _ 0 0 rfl _ s h _ rfl)

theorem csA_0_0 (hsh : IsShift x5) (a n : Fin 128) : (v414 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 0 a) n :=
  (stA_0_0 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_0 (hsh : IsShift x5) (a n : Fin 128) : (v423 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 0 n) :=
  (ouA_0_0 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_1 (hsh : IsShift x5) (a n : Fin 128) : (v506 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 1 a) n :=
  (stA_0_1 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_1 (hsh : IsShift x5) (a n : Fin 128) : (v515 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 1 n) :=
  (ouA_0_1 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_2 (hsh : IsShift x5) (a n : Fin 128) : (v667 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 2 a) n :=
  (stA_0_2 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_2 (hsh : IsShift x5) (a n : Fin 128) : (v676 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 2 n) :=
  (ouA_0_2 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_3 (hsh : IsShift x5) (a n : Fin 128) : (v759 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 3 a) n :=
  (stA_0_3 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_3 (hsh : IsShift x5) (a n : Fin 128) : (v768 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 3 n) :=
  (ouA_0_3 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_4 (hsh : IsShift x5) (a n : Fin 128) : (v925 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 4 a) n :=
  (stA_0_4 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_4 (hsh : IsShift x5) (a n : Fin 128) : (v934 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 4 n) :=
  (ouA_0_4 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_5 (hsh : IsShift x5) (a n : Fin 128) : (v1017 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 5 a) n :=
  (stA_0_5 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_5 (hsh : IsShift x5) (a n : Fin 128) : (v1026 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 5 n) :=
  (ouA_0_5 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_6 (hsh : IsShift x5) (a n : Fin 128) : (v1178 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 6 a) n :=
  (stA_0_6 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_6 (hsh : IsShift x5) (a n : Fin 128) : (v1187 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 6 n) :=
  (ouA_0_6 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem csA_0_7 (hsh : IsShift x5) (a n : Fin 128) : (v1270 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 1) (pairF 7 a) n :=
  (stA_0_7 (S := (kS (fun _ _ => 0) (fun _ _ => 0) x0 x1 x2 x4 x6 x7 x11 x12 0)) (h := (fun a n => rfl)) ..).trans
    (stepState_eq _ _ _ _ _ _ (fun s j => xbA_0 (hsh := hsh) ..) (fun s h => nDA_0 ..) (fun s h => nAA_0 ..) _ _)

theorem coA_0_7 (hsh : IsShift x5) (a n : Fin 128) : (v1279 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 0 a (pairF 7 n) :=
  (ouA_0_7 (S := (kS (fun _ _ => 0) (fun _ _ => 0) x0 x1 x2 x4 x6 x7 x11 x12 0)) (h := (fun a n => rfl)) ..).trans
    (stepOut_eq _ _ _ _ _ _ _ _ (fun s j => xbA_0 (hsh := hsh) ..) (fun s h => nAA_0 ..) (fun s h => gDA_0 ..) (fun s h => gAA_0 ..) _ _)

theorem nDA_1 (s : Fin 128) (h : Fin 16) : (v1427 c m1 w1 m2 w2 m3 w3 m5 w5 m13 w13 m25 m28 x0 x1 x2 x4 x12) (ix2 s ⟨h.val, by omega⟩) = (kD x0 x1 x2 x4 x12) 1 s h := (natA_1 (k := ⟨h.val, by omega⟩) (hk := by show h.val < 32; omega) ..).trans (tD_eq _ _ 1 128 rfl _ s h _ rfl)
theorem nAA_1 (s : Fin 128) (h : Fin 16) : (v1427 c m1 w1 m2 w2 m3 w3 m5 w5 m13 w13 m25 m28 x0 x1 x2 x4 x12) (ix2 s ⟨16 + h.val, by omega⟩) = (kA x0 x1 x2 x4 x12) 1 s h := (natA_1 (k := ⟨16 + h.val, by omega⟩) (hk := by show 16 + h.val < 32; omega) ..).trans (tA_eq _ _ 1 128 rfl _ s h _ rfl)
theorem gDA_1 (s : Fin 128) (h : Fin 16) : (v1428 c m1 w1 m2 w2 m3 w3 m5 w5 m13 w13 m25 m29 x0 x1 x2 x4 x12) (ix2 ⟨h.val, by omega⟩ s) = (kD x0 x1 x2 x4 x12) 1 s h := (gtA_1 (k := ⟨h.val, by omega⟩) ..).trans (tD_eq _ _ 1 128 rfl _ s h _ rfl)
theorem gAA_1 (s : Fin 128) (h : Fin 16) : (v1428 c m1 w1 m2 w2 m3 w3 m5 w5 m13 w13 m25 m29 x0 x1 x2 x4 x12) (ix2 ⟨16 + h.val, by omega⟩ s) = (kA x0 x1 x2 x4 x12) 1 s h := (gtA_1 (k := ⟨16 + h.val, by omega⟩) ..).trans (tA_eq _ _ 1 128 rfl _ s h _ rfl)

theorem csA_1_0 (hsh : IsShift x5) (a n : Fin 128) : (v1516 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 0 a) n :=
  (stA_1_0 (h := (fun a n => csA_0_0 (hsh := hsh) ..)) ..).trans
    (stepState_eq _ _ _ _ _ _ (fun s j => xbA_1 (hsh := hsh) ..) (fun s h => nDA_1 ..) (fun s h => nAA_1 ..) _ _)

theorem coA_1_0 (hsh : IsShift x5) (a n : Fin 128) : (v1525 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 0 n) :=
  (ouA_1_0 (h := (fun a n => csA_0_0 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_1 (hsh : IsShift x5) (a n : Fin 128) : (v1608 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 1 a) n :=
  (stA_1_1 (h := (fun a n => csA_0_1 (hsh := hsh) ..)) ..).trans
    (stepState_eq _ _ _ _ _ _ (fun s j => xbA_1 (hsh := hsh) ..) (fun s h => nDA_1 ..) (fun s h => nAA_1 ..) _ _)

theorem coA_1_1 (hsh : IsShift x5) (a n : Fin 128) : (v1617 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 1 n) :=
  (ouA_1_1 (h := (fun a n => csA_0_1 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_2 (hsh : IsShift x5) (a n : Fin 128) : (v1769 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 2 a) n :=
  (stA_1_2 (h := (fun a n => csA_0_2 (hsh := hsh) ..)) ..).trans
    (stepState_eq _ _ _ _ _ _ (fun s j => xbA_1 (hsh := hsh) ..) (fun s h => nDA_1 ..) (fun s h => nAA_1 ..) _ _)

theorem coA_1_2 (hsh : IsShift x5) (a n : Fin 128) : (v1778 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 2 n) :=
  (ouA_1_2 (h := (fun a n => csA_0_2 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_3 (hsh : IsShift x5) (a n : Fin 128) : (v1861 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 3 a) n :=
  (stA_1_3 (h := (fun a n => csA_0_3 (hsh := hsh) ..)) ..).trans
    (stepState_eq _ _ _ _ _ _ (fun s j => xbA_1 (hsh := hsh) ..) (fun s h => nDA_1 ..) (fun s h => nAA_1 ..) _ _)

theorem coA_1_3 (hsh : IsShift x5) (a n : Fin 128) : (v1870 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 3 n) :=
  (ouA_1_3 (h := (fun a n => csA_0_3 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_4 (hsh : IsShift x5) (a n : Fin 128) : (v2027 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 4 a) n :=
  (stA_1_4 (h := (fun a n => csA_0_4 (hsh := hsh) ..)) ..).trans
    (stepState_eq _ _ _ _ _ _ (fun s j => xbA_1 (hsh := hsh) ..) (fun s h => nDA_1 ..) (fun s h => nAA_1 ..) _ _)

theorem coA_1_4 (hsh : IsShift x5) (a n : Fin 128) : (v2036 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 4 n) :=
  (ouA_1_4 (h := (fun a n => csA_0_4 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_5 (hsh : IsShift x5) (a n : Fin 128) : (v2119 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 5 a) n :=
  (stA_1_5 (h := (fun a n => csA_0_5 (hsh := hsh) ..)) ..).trans
    (stepState_eq _ _ _ _ _ _ (fun s j => xbA_1 (hsh := hsh) ..) (fun s h => nDA_1 ..) (fun s h => nAA_1 ..) _ _)

theorem coA_1_5 (hsh : IsShift x5) (a n : Fin 128) : (v2128 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 5 n) :=
  (ouA_1_5 (h := (fun a n => csA_0_5 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_6 (hsh : IsShift x5) (a n : Fin 128) : (v2280 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 6 a) n :=
  (stA_1_6 (h := (fun a n => csA_0_6 (hsh := hsh) ..)) ..).trans
    (stepState_eq _ _ _ _ _ _ (fun s j => xbA_1 (hsh := hsh) ..) (fun s h => nDA_1 ..) (fun s h => nAA_1 ..) _ _)

theorem coA_1_6 (hsh : IsShift x5) (a n : Fin 128) : (v2289 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 6 n) :=
  (ouA_1_6 (h := (fun a n => csA_0_6 (hsh := hsh) ..)) ..).trans
    (stepOut_eq _ _ _ _ _ _ _ _ (fun s j => xbA_1 (hsh := hsh) ..) (fun s h => nAA_1 ..) (fun s h => gDA_1 ..) (fun s h => gAA_1 ..) _ _)

theorem csA_1_7 (hsh : IsShift x5) (a n : Fin 128) : (v2372 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 2) (pairF 7 a) n :=
  (stA_1_7 (h := (fun a n => csA_0_7 (hsh := hsh) ..)) ..).trans
    (stepState_eq _ _ _ _ _ _ (fun s j => xbA_1 (hsh := hsh) ..) (fun s h => nDA_1 ..) (fun s h => nAA_1 ..) _ _)

theorem coA_1_7 (hsh : IsShift x5) (a n : Fin 128) : (v2381 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 1 a (pairF 7 n) :=
  (ouA_1_7 (h := (fun a n => csA_0_7 (hsh := hsh) ..)) ..).trans
    (stepOut_eq _ _ _ _ _ _ _ _ (fun s j => xbA_1 (hsh := hsh) ..) (fun s h => nAA_1 ..) (fun s h => gDA_1 ..) (fun s h => gAA_1 ..) _ _)

theorem nDA_2 (s : Fin 128) (h : Fin 16) : (v2467 c m1 w1 m2 w2 m3 w3 m5 w5 m13 w13 m25 m28 x0 x1 x2 x4 x12) (ix2 s ⟨h.val, by omega⟩) = (kD x0 x1 x2 x4 x12) 2 s h := (natA_2 (k := ⟨h.val, by omega⟩) (hk := by show h.val < 32; omega) ..).trans (tD_eq _ _ 2 256 rfl _ s h _ rfl)
theorem nAA_2 (s : Fin 128) (h : Fin 16) : (v2467 c m1 w1 m2 w2 m3 w3 m5 w5 m13 w13 m25 m28 x0 x1 x2 x4 x12) (ix2 s ⟨16 + h.val, by omega⟩) = (kA x0 x1 x2 x4 x12) 2 s h := (natA_2 (k := ⟨16 + h.val, by omega⟩) (hk := by show 16 + h.val < 32; omega) ..).trans (tA_eq _ _ 2 256 rfl _ s h _ rfl)
theorem gDA_2 (s : Fin 128) (h : Fin 16) : (v2468 c m1 w1 m2 w2 m3 w3 m5 w5 m13 w13 m25 m29 x0 x1 x2 x4 x12) (ix2 ⟨h.val, by omega⟩ s) = (kD x0 x1 x2 x4 x12) 2 s h := (gtA_2 (k := ⟨h.val, by omega⟩) ..).trans (tD_eq _ _ 2 256 rfl _ s h _ rfl)
theorem gAA_2 (s : Fin 128) (h : Fin 16) : (v2468 c m1 w1 m2 w2 m3 w3 m5 w5 m13 w13 m25 m29 x0 x1 x2 x4 x12) (ix2 ⟨16 + h.val, by omega⟩ s) = (kA x0 x1 x2 x4 x12) 2 s h := (gtA_2 (k := ⟨16 + h.val, by omega⟩) ..).trans (tA_eq _ _ 2 256 rfl _ s h _ rfl)

theorem csA_2_0 (hsh : IsShift x5) (a n : Fin 128) : (v2556 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 0 a) n :=
  (stA_2_0 (h := (fun a n => csA_1_0 (hsh := hsh) ..)) ..).trans
    (stepState_eq _ _ _ _ _ _ (fun s j => xbA_2 (hsh := hsh) ..) (fun s h => nDA_2 ..) (fun s h => nAA_2 ..) _ _)

theorem coA_2_0 (hsh : IsShift x5) (a n : Fin 128) : (v2565 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 0 n) :=
  (ouA_2_0 (h := (fun a n => csA_1_0 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_1 (hsh : IsShift x5) (a n : Fin 128) : (v2648 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 1 a) n :=
  (stA_2_1 (h := (fun a n => csA_1_1 (hsh := hsh) ..)) ..).trans
    (stepState_eq _ _ _ _ _ _ (fun s j => xbA_2 (hsh := hsh) ..) (fun s h => nDA_2 ..) (fun s h => nAA_2 ..) _ _)

theorem coA_2_1 (hsh : IsShift x5) (a n : Fin 128) : (v2657 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 1 n) :=
  (ouA_2_1 (h := (fun a n => csA_1_1 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_2 (hsh : IsShift x5) (a n : Fin 128) : (v2747 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 2 a) n :=
  (stA_2_2 (h := (fun a n => csA_1_2 (hsh := hsh) ..)) ..).trans
    (stepState_eq _ _ _ _ _ _ (fun s j => xbA_2 (hsh := hsh) ..) (fun s h => nDA_2 ..) (fun s h => nAA_2 ..) _ _)

theorem coA_2_2 (hsh : IsShift x5) (a n : Fin 128) : (v2756 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 2 n) :=
  (ouA_2_2 (h := (fun a n => csA_1_2 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_3 (hsh : IsShift x5) (a n : Fin 128) : (v2839 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 3 a) n :=
  (stA_2_3 (h := (fun a n => csA_1_3 (hsh := hsh) ..)) ..).trans
    (stepState_eq _ _ _ _ _ _ (fun s j => xbA_2 (hsh := hsh) ..) (fun s h => nDA_2 ..) (fun s h => nAA_2 ..) _ _)

theorem coA_2_3 (hsh : IsShift x5) (a n : Fin 128) : (v2848 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 3 n) :=
  (ouA_2_3 (h := (fun a n => csA_1_3 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_4 (hsh : IsShift x5) (a n : Fin 128) : (v2943 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 4 a) n :=
  (stA_2_4 (h := (fun a n => csA_1_4 (hsh := hsh) ..)) ..).trans
    (stepState_eq _ _ _ _ _ _ (fun s j => xbA_2 (hsh := hsh) ..) (fun s h => nDA_2 ..) (fun s h => nAA_2 ..) _ _)

theorem coA_2_4 (hsh : IsShift x5) (a n : Fin 128) : (v2952 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 4 n) :=
  (ouA_2_4 (h := (fun a n => csA_1_4 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_5 (hsh : IsShift x5) (a n : Fin 128) : (v3035 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 5 a) n :=
  (stA_2_5 (h := (fun a n => csA_1_5 (hsh := hsh) ..)) ..).trans
    (stepState_eq _ _ _ _ _ _ (fun s j => xbA_2 (hsh := hsh) ..) (fun s h => nDA_2 ..) (fun s h => nAA_2 ..) _ _)

theorem coA_2_5 (hsh : IsShift x5) (a n : Fin 128) : (v3044 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 5 n) :=
  (ouA_2_5 (h := (fun a n => csA_1_5 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_6 (hsh : IsShift x5) (a n : Fin 128) : (v3134 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 6 a) n :=
  (stA_2_6 (h := (fun a n => csA_1_6 (hsh := hsh) ..)) ..).trans
    (stepState_eq _ _ _ _ _ _ (fun s j => xbA_2 (hsh := hsh) ..) (fun s h => nDA_2 ..) (fun s h => nAA_2 ..) _ _)

theorem coA_2_6 (hsh : IsShift x5) (a n : Fin 128) : (v3143 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 6 n) :=
  (ouA_2_6 (h := (fun a n => csA_1_6 (hsh := hsh) ..)) ..).trans
    (stepOut_eq _ _ _ _ _ _ _ _ (fun s j => xbA_2 (hsh := hsh) ..) (fun s h => nAA_2 ..) (fun s h => gDA_2 ..) (fun s h => gAA_2 ..) _ _)

theorem csA_2_7 (hsh : IsShift x5) (a n : Fin 128) : (v3226 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 3) (pairF 7 a) n :=
  (stA_2_7 (h := (fun a n => csA_1_7 (hsh := hsh) ..)) ..).trans
    (stepState_eq _ _ _ _ _ _ (fun s j => xbA_2 (hsh := hsh) ..) (fun s h => nDA_2 ..) (fun s h => nAA_2 ..) _ _)

theorem coA_2_7 (hsh : IsShift x5) (a n : Fin 128) : (v3235 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 2 a (pairF 7 n) :=
  (ouA_2_7 (h := (fun a n => csA_1_7 (hsh := hsh) ..)) ..).trans
    (stepOut_eq _ _ _ _ _ _ _ _ (fun s j => xbA_2 (hsh := hsh) ..) (fun s h => nAA_2 ..) (fun s h => gDA_2 ..) (fun s h => gAA_2 ..) _ _)

theorem nDA_3 (s : Fin 128) (h : Fin 16) : (v3319 c m1 w1 m2 w2 m3 w3 m5 w5 m13 w13 m25 m28 x0 x1 x2 x4 x12) (ix2 s ⟨h.val, by omega⟩) = (kD x0 x1 x2 x4 x12) 3 s h := (natA_3 (k := ⟨h.val, by omega⟩) (hk := by show h.val < 32; omega) ..).trans (tD_eq _ _ 3 384 rfl _ s h _ rfl)
theorem nAA_3 (s : Fin 128) (h : Fin 16) : (v3319 c m1 w1 m2 w2 m3 w3 m5 w5 m13 w13 m25 m28 x0 x1 x2 x4 x12) (ix2 s ⟨16 + h.val, by omega⟩) = (kA x0 x1 x2 x4 x12) 3 s h := (natA_3 (k := ⟨16 + h.val, by omega⟩) (hk := by show 16 + h.val < 32; omega) ..).trans (tA_eq _ _ 3 384 rfl _ s h _ rfl)
theorem gDA_3 (s : Fin 128) (h : Fin 16) : (v3320 c m1 w1 m2 w2 m3 w3 m5 w5 m13 w13 m25 m29 x0 x1 x2 x4 x12) (ix2 ⟨h.val, by omega⟩ s) = (kD x0 x1 x2 x4 x12) 3 s h := (gtA_3 (k := ⟨h.val, by omega⟩) ..).trans (tD_eq _ _ 3 384 rfl _ s h _ rfl)
theorem gAA_3 (s : Fin 128) (h : Fin 16) : (v3320 c m1 w1 m2 w2 m3 w3 m5 w5 m13 w13 m25 m29 x0 x1 x2 x4 x12) (ix2 ⟨16 + h.val, by omega⟩ s) = (kA x0 x1 x2 x4 x12) 3 s h := (gtA_3 (k := ⟨16 + h.val, by omega⟩) ..).trans (tA_eq _ _ 3 384 rfl _ s h _ rfl)

theorem csA_3_0 (hsh : IsShift x5) (a n : Fin 128) : (v3408 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 0 a) n :=
  (stA_3_0 (h := (fun a n => csA_2_0 (hsh := hsh) ..)) ..).trans
    (stepState_eq _ _ _ _ _ _ (fun s j => xbA_3 (hsh := hsh) ..) (fun s h => nDA_3 ..) (fun s h => nAA_3 ..) _ _)

theorem coA_3_0 (hsh : IsShift x5) (a n : Fin 128) : (v3417 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 0 n) :=
  (ouA_3_0 (h := (fun a n => csA_2_0 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_1 (hsh : IsShift x5) (a n : Fin 128) : (v3500 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 1 a) n :=
  (stA_3_1 (h := (fun a n => csA_2_1 (hsh := hsh) ..)) ..).trans
    (stepState_eq _ _ _ _ _ _ (fun s j => xbA_3 (hsh := hsh) ..) (fun s h => nDA_3 ..) (fun s h => nAA_3 ..) _ _)

theorem coA_3_1 (hsh : IsShift x5) (a n : Fin 128) : (v3509 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 1 n) :=
  (ouA_3_1 (h := (fun a n => csA_2_1 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_2 (hsh : IsShift x5) (a n : Fin 128) : (v3597 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 2 a) n :=
  (stA_3_2 (h := (fun a n => csA_2_2 (hsh := hsh) ..)) ..).trans
    (stepState_eq _ _ _ _ _ _ (fun s j => xbA_3 (hsh := hsh) ..) (fun s h => nDA_3 ..) (fun s h => nAA_3 ..) _ _)

theorem coA_3_2 (hsh : IsShift x5) (a n : Fin 128) : (v3606 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 2 n) :=
  (ouA_3_2 (h := (fun a n => csA_2_2 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_3 (hsh : IsShift x5) (a n : Fin 128) : (v3689 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 3 a) n :=
  (stA_3_3 (h := (fun a n => csA_2_3 (hsh := hsh) ..)) ..).trans
    (stepState_eq _ _ _ _ _ _ (fun s j => xbA_3 (hsh := hsh) ..) (fun s h => nDA_3 ..) (fun s h => nAA_3 ..) _ _)

theorem coA_3_3 (hsh : IsShift x5) (a n : Fin 128) : (v3698 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 3 n) :=
  (ouA_3_3 (h := (fun a n => csA_2_3 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_4 (hsh : IsShift x5) (a n : Fin 128) : (v3791 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 4 a) n :=
  (stA_3_4 (h := (fun a n => csA_2_4 (hsh := hsh) ..)) ..).trans
    (stepState_eq _ _ _ _ _ _ (fun s j => xbA_3 (hsh := hsh) ..) (fun s h => nDA_3 ..) (fun s h => nAA_3 ..) _ _)

theorem coA_3_4 (hsh : IsShift x5) (a n : Fin 128) : (v3800 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 4 n) :=
  (ouA_3_4 (h := (fun a n => csA_2_4 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_5 (hsh : IsShift x5) (a n : Fin 128) : (v3883 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 5 a) n :=
  (stA_3_5 (h := (fun a n => csA_2_5 (hsh := hsh) ..)) ..).trans
    (stepState_eq _ _ _ _ _ _ (fun s j => xbA_3 (hsh := hsh) ..) (fun s h => nDA_3 ..) (fun s h => nAA_3 ..) _ _)

theorem coA_3_5 (hsh : IsShift x5) (a n : Fin 128) : (v3892 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 5 n) :=
  (ouA_3_5 (h := (fun a n => csA_2_5 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_6 (hsh : IsShift x5) (a n : Fin 128) : (v3980 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 6 a) n :=
  (stA_3_6 (h := (fun a n => csA_2_6 (hsh := hsh) ..)) ..).trans
    (stepState_eq _ _ _ _ _ _ (fun s j => xbA_3 (hsh := hsh) ..) (fun s h => nDA_3 ..) (fun s h => nAA_3 ..) _ _)

theorem coA_3_6 (hsh : IsShift x5) (a n : Fin 128) : (v3989 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 6 n) :=
  (ouA_3_6 (h := (fun a n => csA_2_6 (hsh := hsh) ..)) ..).trans
    (stepOut_eq _ _ _ _ _ _ _ _ (fun s j => xbA_3 (hsh := hsh) ..) (fun s h => nAA_3 ..) (fun s h => gDA_3 ..) (fun s h => gAA_3 ..) _ _)

theorem csA_3_7 (hsh : IsShift x5) (a n : Fin 128) : (v4072 c m1 w1 m2 w2 m3 w3 m5 w5 m6 w6 m7 w7 m8 w8 m12 w12 m13 w13 m25 m26 m28 m30 x0 x1 x2 x4 x5 x6 x7 x11 x12) (ix3 0 a n) = (kS (fun _ _ => 0) (fun _ _ => 0) x0 x1 x2 x4 x6 x7 x11 x12 4) (pairF 7 a) n :=
  (stA_3_7 (h := (fun a n => csA_2_7 (hsh := hsh) ..)) ..).trans
    (stepState_eq _ _ _ _ _ _ (fun s j => xbA_3 (hsh := hsh) ..) (fun s h => nDA_3 ..) (fun s h => nAA_3 ..) _ _)

theorem coA_3_7 (hsh : IsShift x5) (a n : Fin 128) : (v4081 c m1 w1 m2 w2 m3 w3 m5 w5 m6 w6 m7 w7 m8 w8 m9 w9 m12 w12 m13 w13 m25 m26 m28 m29 m30 x0 x1 x2 x4 x5 x6 x7 x8 x11 x12) (ix2 a n) = kO (fun _ _ => 0) (fun _ _ => 0) x0 x1 x2 x4 x6 x7 x8 x11 x12 3 a (pairF 7 n) :=
  (ouA_3_7 (h := (fun a n => csA_2_7 (hsh := hsh) ..)) ..).trans
    (stepOut_eq _ _ _ _ _ _ _ _ (fun s j => xbA_3 (hsh := hsh) ..) (fun s h => nAA_3 ..) (fun s h => gDA_3 ..) (fun s h => gAA_3 ..) _ _)

end Cert.Layer

end
-- ==== Proof.GatesA.lean ====
/- The gated and normed outputs of one tile where a batch begins, on entries. -/
module

public import proofs.«01_k».proof.Proof.Gen.KernelIdeal.Frame.RunA
public import proofs.«01_k».proof.Proof.ChunksA
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_A.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m9 : Memref sig .tc .vmem S1x1024 .f32) (w9 : m9.IsWhole) (m10 : Memref sig .tc .vmem S1x1024 .f32) (w10 : m10.IsWhole) (m11 : Memref sig .tc .vmem S1024x1024 .bf16) (w11 : m11.IsWhole) (m12 : Memref sig .tc .vmem S1024x1536 .bf16) (w12 : m12.IsWhole) (m13 : Memref sig .tc .vmem S1024x128 .bf16) (w13 : m13.IsWhole) (m25 : Memref sig .tc .vmem S1x128 .f32) (m26 : Memref sig .tc .vmem S528x1536 .bf16) (m27 : Memref sig .tc .vmem S512x1024 .bf16) (m28 : Memref sig .tc .vmem S512x128 .f32) (m29 : Memref sig .tc .vmem S32x512 .f32) (m30 : Memref sig .tc .vmem S8x128x128 .f32) (m31 : Memref sig .tc .vmem S128x1024 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x8 : Vec Ideal S1x1024 .f32) (x9 : Vec Ideal S1x1024 .f32) (x10 : Vec Ideal S1024x1024 .bf16) (x11 : Vec Ideal S1024x1536 .bf16) (x12 : Vec Ideal S1024x128 .bf16)

theorem ybA_0 (hsh : IsShift x5) (r : Fin 128) (f : Fin 1024) : (v1280 c m1 w1 m2 w2 m3 w3 m5 w5 m6 w6 m7 w7 m8 w8 m9 w9 m12 w12 m13 w13 m25 m26 m28 m29 m30 m31 x0 x1 x2 x4 x5 x6 x7 x8 x11 x12) (ix2 r f) = kO (fun _ _ => 0) (fun _ _ => 0) x0 x1 x2 x4 x6 x7 x8 x11 x12 0 r f := by
  unfold v1280 HS6_8
  refine (readCov2 _ _ 0 0 _ r f r f (by omega) (by omega)).trans ?_
  exact outs_canon (fun r f => kO (fun _ _ => 0) (fun _ _ => 0) x0 x1 x2 x4 x6 x7 x8 x11 x12 0 r f) _ _ _ _ _ _ _ _ _ _ _ _ _ _ _ _ _ (fun a n => coA_0_0 (hsh := hsh) ..) (fun a n => coA_0_1 (hsh := hsh) ..) (fun a n => coA_0_2 (hsh := hsh) ..) (fun a n => coA_0_3 (hsh := hsh) ..) (fun a n => coA_0_4 (hsh := hsh) ..) (fun a n => coA_0_5 (hsh := hsh) ..) (fun a n => coA_0_6 (hsh := hsh) ..) (fun a n => coA_0_7 (hsh := hsh) ..) r f

theorem zbA_0 (r : Fin 128) (f : Fin 1024) : (v1281 c m1 w1 m2 w2 m3 w3 m11 w11 m27 x0 x1 x2 x10) (ix2 r f) = colDot (fun d => (hTile x0 x1 x2) (ix2 ⟨0 + r.val, by omega⟩ d)) (fun d => x10 (ix2 d f)) := by
  unfold v1281 HS2_1
  refine (readCov2 _ _ 0 0 _ r f ⟨0 + r.val, by omega⟩ f rfl (by omega)).trans ?_
  exact (canon_hit2 (Val := Elt Ideal) (e := .bf16) 0 0 _ _ _ _ f ⟨0 + r.val, by omega⟩ f (by show 0 + r.val = 0 + (0 + r.val); omega) (by omega)).trans (zedA ..)

theorem ybA_1 (hsh : IsShift x5) (r : Fin 128) (f : Fin 1024) : (v2382 c m1 w1 m2 w2 m3 w3 m5 w5 m6 w6 m7 w7 m8 w8 m9 w9 m12 w12 m13 w13 m25 m26 m28 m29 m30 m31 x0 x1 x2 x4 x5 x6 x7 x8 x11 x12) (ix2 r f) = kO (fun _ _ => 0) (fun _ _ => 0) x0 x1 x2 x4 x6 x7 x8 x11 x12 1 r f := by
  unfold v2382 HS6_16 HS6_15 HS6_14 HS6_13 HS6_12 HS6_11 HS6_10 HS6_9
  refine (readCov2 _ _ 0 0 _ r f r f (by omega) (by omega)).trans ?_
  exact outs_canon (fun r f => kO (fun _ _ => 0) (fun _ _ => 0) x0 x1 x2 x4 x6 x7 x8 x11 x12 1 r f) _ _ _ _ _ _ _ _ _ _ _ _ _ _ _ _ _ (fun a n => coA_1_0 (hsh := hsh) ..) (fun a n => coA_1_1 (hsh := hsh) ..) (fun a n => coA_1_2 (hsh := hsh) ..) (fun a n => coA_1_3 (hsh := hsh) ..) (fun a n => coA_1_4 (hsh := hsh) ..) (fun a n => coA_1_5 (hsh := hsh) ..) (fun a n => coA_1_6 (hsh := hsh) ..) (fun a n => coA_1_7 (hsh := hsh) ..) r f

theorem zbA_1 (r : Fin 128) (f : Fin 1024) : (v2383 c m1 w1 m2 w2 m3 w3 m11 w11 m27 x0 x1 x2 x10) (ix2 r f) = colDot (fun d => (hTile x0 x1 x2) (ix2 ⟨128 + r.val, by omega⟩ d)) (fun d => x10 (ix2 d f)) := by
  unfold v2383 HS2_1
  refine (readCov2 _ _ 128 0 _ r f ⟨128 + r.val, by omega⟩ f rfl (by omega)).trans ?_
  exact (canon_hit2 (Val := Elt Ideal) (e := .bf16) 0 0 _ _ _ _ f ⟨128 + r.val, by omega⟩ f (by show 128 + r.val = 0 + (128 + r.val); omega) (by omega)).trans (zedA ..)

theorem ybA_2 (hsh : IsShift x5) (r : Fin 128) (f : Fin 1024) : (v3236 c m1 w1 m2 w2 m3 w3 m5 w5 m6 w6 m7 w7 m8 w8 m9 w9 m12 w12 m13 w13 m25 m26 m28 m29 m30 m31 x0 x1 x2 x4 x5 x6 x7 x8 x11 x12) (ix2 r f) = kO (fun _ _ => 0) (fun _ _ => 0) x0 x1 x2 x4 x6 x7 x8 x11 x12 2 r f := by
  unfold v3236 HS6_24 HS6_23 HS6_22 HS6_21 HS6_20 HS6_19 HS6_18 HS6_17
  refine (readCov2 _ _ 0 0 _ r f r f (by omega) (by omega)).trans ?_
  exact outs_canon (fun r f => kO (fun _ _ => 0) (fun _ _ => 0) x0 x1 x2 x4 x6 x7 x8 x11 x12 2 r f) _ _ _ _ _ _ _ _ _ _ _ _ _ _ _ _ _ (fun a n => coA_2_0 (hsh := hsh) ..) (fun a n => coA_2_1 (hsh := hsh) ..) (fun a n => coA_2_2 (hsh := hsh) ..) (fun a n => coA_2_3 (hsh := hsh) ..) (fun a n => coA_2_4 (hsh := hsh) ..) (fun a n => coA_2_5 (hsh := hsh) ..) (fun a n => coA_2_6 (hsh := hsh) ..) (fun a n => coA_2_7 (hsh := hsh) ..) r f

theorem zbA_2 (r : Fin 128) (f : Fin 1024) : (v3237 c m1 w1 m2 w2 m3 w3 m11 w11 m27 x0 x1 x2 x10) (ix2 r f) = colDot (fun d => (hTile x0 x1 x2) (ix2 ⟨256 + r.val, by omega⟩ d)) (fun d => x10 (ix2 d f)) := by
  unfold v3237 HS2_1
  refine (readCov2 _ _ 256 0 _ r f ⟨256 + r.val, by omega⟩ f rfl (by omega)).trans ?_
  exact (canon_hit2 (Val := Elt Ideal) (e := .bf16) 0 0 _ _ _ _ f ⟨256 + r.val, by omega⟩ f (by show 256 + r.val = 0 + (256 + r.val); omega) (by omega)).trans (zedA ..)

theorem ybA_3 (hsh : IsShift x5) (r : Fin 128) (f : Fin 1024) : (v4082 c m1 w1 m2 w2 m3 w3 m5 w5 m6 w6 m7 w7 m8 w8 m9 w9 m12 w12 m13 w13 m25 m26 m28 m29 m30 m31 x0 x1 x2 x4 x5 x6 x7 x8 x11 x12) (ix2 r f) = kO (fun _ _ => 0) (fun _ _ => 0) x0 x1 x2 x4 x6 x7 x8 x11 x12 3 r f := by
  unfold v4082 HS6_32 HS6_31 HS6_30 HS6_29 HS6_28 HS6_27 HS6_26 HS6_25
  refine (readCov2 _ _ 0 0 _ r f r f (by omega) (by omega)).trans ?_
  exact outs_canon (fun r f => kO (fun _ _ => 0) (fun _ _ => 0) x0 x1 x2 x4 x6 x7 x8 x11 x12 3 r f) _ _ _ _ _ _ _ _ _ _ _ _ _ _ _ _ _ (fun a n => coA_3_0 (hsh := hsh) ..) (fun a n => coA_3_1 (hsh := hsh) ..) (fun a n => coA_3_2 (hsh := hsh) ..) (fun a n => coA_3_3 (hsh := hsh) ..) (fun a n => coA_3_4 (hsh := hsh) ..) (fun a n => coA_3_5 (hsh := hsh) ..) (fun a n => coA_3_6 (hsh := hsh) ..) (fun a n => coA_3_7 (hsh := hsh) ..) r f

theorem zbA_3 (r : Fin 128) (f : Fin 1024) : (v4083 c m1 w1 m2 w2 m3 w3 m11 w11 m27 x0 x1 x2 x10) (ix2 r f) = colDot (fun d => (hTile x0 x1 x2) (ix2 ⟨384 + r.val, by omega⟩ d)) (fun d => x10 (ix2 d f)) := by
  unfold v4083 HS2_1
  refine (readCov2 _ _ 384 0 _ r f ⟨384 + r.val, by omega⟩ f rfl (by omega)).trans ?_
  exact (canon_hit2 (Val := Elt Ideal) (e := .bf16) 0 0 _ _ _ _ f ⟨384 + r.val, by omega⟩ f (by show 384 + r.val = 0 + (384 + r.val); omega) (by omega)).trans (zedA ..)

theorem gnA_0_0 (hsh : IsShift x5) (r : Fin 128) (j : Fin 512) : (v1301 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 0 r f * siluOf (colDot (fun d => (hTile x0 x1 x2) (ix2 ⟨0 + r.val, by omega⟩ d)) (fun d => x10 (ix2 d f)))) (fun f => x9 (ix2 0 f)) ⟨0 + j.val, by omega⟩ := by
  unfold v1301
  refine normHalf_at ((v1280 c m1 w1 m2 w2 m3 w3 m5 w5 m6 w6 m7 w7 m8 w8 m9 w9 m12 w12 m13 w13 m25 m26 m28 m29 m30 m31 x0 x1 x2 x4 x5 x6 x7 x8 x11 x12)) ((v1281 c m1 w1 m2 w2 m3 w3 m11 w11 m27 x0 x1 x2 x10)) _ 0 _ _ _ _ (fun f => kO (fun _ _ => 0) (fun _ _ => 0) x0 x1 x2 x4 x6 x7 x8 x11 x12 0 r f * siluOf (colDot (fun d => (hTile x0 x1 x2) (ix2 ⟨0 + r.val, by omega⟩ d)) (fun d => x10 (ix2 d f)))) (fun f => x9 (ix2 0 f)) r (fun f => ?_) (by decide) (by decide) ?_ j
  · rw [ybA_0 (hsh := hsh) .., zbA_0 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_0_1 (hsh : IsShift x5) (r : Fin 128) (j : Fin 512) : (v1318 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 0 r f * siluOf (colDot (fun d => (hTile x0 x1 x2) (ix2 ⟨0 + r.val, by omega⟩ d)) (fun d => x10 (ix2 d f)))) (fun f => x9 (ix2 0 f)) ⟨512 + j.val, by omega⟩ := by
  unfold v1318
  refine normHalf_at ((v1280 c m1 w1 m2 w2 m3 w3 m5 w5 m6 w6 m7 w7 m8 w8 m9 w9 m12 w12 m13 w13 m25 m26 m28 m29 m30 m31 x0 x1 x2 x4 x5 x6 x7 x8 x11 x12)) ((v1281 c m1 w1 m2 w2 m3 w3 m11 w11 m27 x0 x1 x2 x10)) _ 512 _ _ _ _ (fun f => kO (fun _ _ => 0) (fun _ _ => 0) x0 x1 x2 x4 x6 x7 x8 x11 x12 0 r f * siluOf (colDot (fun d => (hTile x0 x1 x2) (ix2 ⟨0 + r.val, by omega⟩ d)) (fun d => x10 (ix2 d f)))) (fun f => x9 (ix2 0 f)) r (fun f => ?_) (by decide) (by decide) ?_ j
  · rw [ybA_0 (hsh := hsh) .., zbA_0 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_1_0 (hsh : IsShift x5) (r : Fin 128) (j : Fin 512) : (v2403 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 1 r f * siluOf (colDot (fun d => (hTile x0 x1 x2) (ix2 ⟨128 + r.val, by omega⟩ d)) (fun d => x10 (ix2 d f)))) (fun f => x9 (ix2 0 f)) ⟨0 + j.val, by omega⟩ := by
  unfold v2403
  refine normHalf_at ((v2382 c m1 w1 m2 w2 m3 w3 m5 w5 m6 w6 m7 w7 m8 w8 m9 w9 m12 w12 m13 w13 m25 m26 m28 m29 m30 m31 x0 x1 x2 x4 x5 x6 x7 x8 x11 x12)) ((v2383 c m1 w1 m2 w2 m3 w3 m11 w11 m27 x0 x1 x2 x10)) _ 0 _ _ _ _ (fun f => kO (fun _ _ => 0) (fun _ _ => 0) x0 x1 x2 x4 x6 x7 x8 x11 x12 1 r f * siluOf (colDot (fun d => (hTile x0 x1 x2) (ix2 ⟨128 + r.val, by omega⟩ d)) (fun d => x10 (ix2 d f)))) (fun f => x9 (ix2 0 f)) r (fun f => ?_) (by decide) (by decide) ?_ j
  · rw [ybA_1 (hsh := hsh) .., zbA_1 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_1_1 (hsh : IsShift x5) (r : Fin 128) (j : Fin 512) : (v2420 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 1 r f * siluOf (colDot (fun d => (hTile x0 x1 x2) (ix2 ⟨128 + r.val, by omega⟩ d)) (fun d => x10 (ix2 d f)))) (fun f => x9 (ix2 0 f)) ⟨512 + j.val, by omega⟩ := by
  unfold v2420
  refine normHalf_at ((v2382 c m1 w1 m2 w2 m3 w3 m5 w5 m6 w6 m7 w7 m8 w8 m9 w9 m12 w12 m13 w13 m25 m26 m28 m29 m30 m31 x0 x1 x2 x4 x5 x6 x7 x8 x11 x12)) ((v2383 c m1 w1 m2 w2 m3 w3 m11 w11 m27 x0 x1 x2 x10)) _ 512 _ _ _ _ (fun f => kO (fun _ _ => 0) (fun _ _ => 0) x0 x1 x2 x4 x6 x7 x8 x11 x12 1 r f * siluOf (colDot (fun d => (hTile x0 x1 x2) (ix2 ⟨128 + r.val, by omega⟩ d)) (fun d => x10 (ix2 d f)))) (fun f => x9 (ix2 0 f)) r (fun f => ?_) (by decide) (by decide) ?_ j
  · rw [ybA_1 (hsh := hsh) .., zbA_1 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_2_0 (hsh : IsShift x5) (r : Fin 128) (j : Fin 512) : (v3257 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 2 r f * siluOf (colDot (fun d => (hTile x0 x1 x2) (ix2 ⟨256 + r.val, by omega⟩ d)) (fun d => x10 (ix2 d f)))) (fun f => x9 (ix2 0 f)) ⟨0 + j.val, by omega⟩ := by
  unfold v3257
  refine normHalf_at ((v3236 c m1 w1 m2 w2 m3 w3 m5 w5 m6 w6 m7 w7 m8 w8 m9 w9 m12 w12 m13 w13 m25 m26 m28 m29 m30 m31 x0 x1 x2 x4 x5 x6 x7 x8 x11 x12)) ((v3237 c m1 w1 m2 w2 m3 w3 m11 w11 m27 x0 x1 x2 x10)) _ 0 _ _ _ _ (fun f => kO (fun _ _ => 0) (fun _ _ => 0) x0 x1 x2 x4 x6 x7 x8 x11 x12 2 r f * siluOf (colDot (fun d => (hTile x0 x1 x2) (ix2 ⟨256 + r.val, by omega⟩ d)) (fun d => x10 (ix2 d f)))) (fun f => x9 (ix2 0 f)) r (fun f => ?_) (by decide) (by decide) ?_ j
  · rw [ybA_2 (hsh := hsh) .., zbA_2 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_2_1 (hsh : IsShift x5) (r : Fin 128) (j : Fin 512) : (v3274 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 2 r f * siluOf (colDot (fun d => (hTile x0 x1 x2) (ix2 ⟨256 + r.val, by omega⟩ d)) (fun d => x10 (ix2 d f)))) (fun f => x9 (ix2 0 f)) ⟨512 + j.val, by omega⟩ := by
  unfold v3274
  refine normHalf_at ((v3236 c m1 w1 m2 w2 m3 w3 m5 w5 m6 w6 m7 w7 m8 w8 m9 w9 m12 w12 m13 w13 m25 m26 m28 m29 m30 m31 x0 x1 x2 x4 x5 x6 x7 x8 x11 x12)) ((v3237 c m1 w1 m2 w2 m3 w3 m11 w11 m27 x0 x1 x2 x10)) _ 512 _ _ _ _ (fun f => kO (fun _ _ => 0) (fun _ _ => 0) x0 x1 x2 x4 x6 x7 x8 x11 x12 2 r f * siluOf (colDot (fun d => (hTile x0 x1 x2) (ix2 ⟨256 + r.val, by omega⟩ d)) (fun d => x10 (ix2 d f)))) (fun f => x9 (ix2 0 f)) r (fun f => ?_) (by decide) (by decide) ?_ j
  · rw [ybA_2 (hsh := hsh) .., zbA_2 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_3_0 (hsh : IsShift x5) (r : Fin 128) (j : Fin 512) : (k0_pay719 (v4098 c m1 w1 m2 w2 m3 w3 m5 w5 m6 w6 m7 w7 m8 w8 m9 w9 m11 w11 m12 w12 m13 w13 m25 m26 m27 m28 m29 m30 m31 x0 x1 x2 x4 x5 x6 x7 x8 x10 x11 x12) (View.readAt (Elt Ideal) m10.view (Rect.unit (s := S1x1024) ![0, 0] S1x512.size (by decide)).toLoadRect (w10.unread x9))) (ix2 r j)
    = groupNorm (fun f => kO (fun _ _ => 0) (fun _ _ => 0) x0 x1 x2 x4 x6 x7 x8 x11 x12 3 r f * siluOf (colDot (fun d => (hTile x0 x1 x2) (ix2 ⟨384 + r.val, by omega⟩ d)) (fun d => x10 (ix2 d f)))) (fun f => x9 (ix2 0 f)) ⟨0 + j.val, by omega⟩ := by
  unfold k0_pay719
  refine normHalf_at ((v4082 c m1 w1 m2 w2 m3 w3 m5 w5 m6 w6 m7 w7 m8 w8 m9 w9 m12 w12 m13 w13 m25 m26 m28 m29 m30 m31 x0 x1 x2 x4 x5 x6 x7 x8 x11 x12)) ((v4083 c m1 w1 m2 w2 m3 w3 m11 w11 m27 x0 x1 x2 x10)) _ 0 _ _ _ _ (fun f => kO (fun _ _ => 0) (fun _ _ => 0) x0 x1 x2 x4 x6 x7 x8 x11 x12 3 r f * siluOf (colDot (fun d => (hTile x0 x1 x2) (ix2 ⟨384 + r.val, by omega⟩ d)) (fun d => x10 (ix2 d f)))) (fun f => x9 (ix2 0 f)) r (fun f => ?_) (by decide) (by decide) ?_ j
  · rw [ybA_3 (hsh := hsh) .., zbA_3 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnA_3_1 (hsh : IsShift x5) (r : Fin 128) (j : Fin 512) : (r_6 c m1 w1 m2 w2 m3 w3 m5 w5 m6 w6 m7 w7 m8 w8 m9 w9 m10 w10 m11 w11 m12 w12 m13 w13 m25 m26 m27 m28 m29 m30 m31 x0 x1 x2 x4 x5 x6 x7 x8 x9 x10 x11 x12) (ix2 r j)
    = groupNorm (fun f => kO (fun _ _ => 0) (fun _ _ => 0) x0 x1 x2 x4 x6 x7 x8 x11 x12 3 r f * siluOf (colDot (fun d => (hTile x0 x1 x2) (ix2 ⟨384 + r.val, by omega⟩ d)) (fun d => x10 (ix2 d f)))) (fun f => x9 (ix2 0 f)) ⟨512 + j.val, by omega⟩ := by
  unfold r_6
  refine normHalf_at ((v4082 c m1 w1 m2 w2 m3 w3 m5 w5 m6 w6 m7 w7 m8 w8 m9 w9 m12 w12 m13 w13 m25 m26 m28 m29 m30 m31 x0 x1 x2 x4 x5 x6 x7 x8 x11 x12)) ((v4083 c m1 w1 m2 w2 m3 w3 m11 w11 m27 x0 x1 x2 x10)) _ 512 _ _ _ _ (fun f => kO (fun _ _ => 0) (fun _ _ => 0) x0 x1 x2 x4 x6 x7 x8 x11 x12 3 r f * siluOf (colDot (fun d => (hTile x0 x1 x2) (ix2 ⟨384 + r.val, by omega⟩ d)) (fun d => x10 (ix2 d f)))) (fun f => x9 (ix2 0 f)) r (fun f => ?_) (by decide) (by decide) ?_ j
  · rw [ybA_3 (hsh := hsh) .., zbA_3 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

end Cert.Layer

end
-- ==== Proof.StatesB.lean ====
/- The state a tile keeps after each chunk, one pair of heads at a time, where a batch goes on. -/
module

public import proofs.«01_k».proof.Proof.Gen.KernelIdeal.Frame.RunB
public import proofs.«01_k».proof.Proof.SsdStep
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_B.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m12 : Memref sig .tc .vmem S1024x1536 .bf16) (w12 : m12.IsWhole) (m13 : Memref sig .tc .vmem S1024x128 .bf16) (w13 : m13.IsWhole) (m25 : Memref sig .tc .vmem S1x128 .f32) (w25 : m25.IsWhole) (m26 : Memref sig .tc .vmem S528x1536 .bf16) (w26 : m26.IsWhole) (m28 : Memref sig .tc .vmem S512x128 .f32) (m30 : Memref sig .tc .vmem S8x128x128 .f32) (w30 : m30.IsWhole)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x11 : Vec Ideal S1024x1536 .bf16) (x12 : Vec Ideal S1024x128 .bf16) (xs0 : Vec Ideal S1x128 .f32) (xs1 : Vec Ideal S528x1536 .bf16) (xs5 : Vec Ideal S8x128x128 .f32)

theorem prB_0_0 (S : Fin 1024 → Fin 128 → EReal) (h : ∀ a n, (xs5 (ix3 0 a n) : EReal) = S (pairF 0 a) n) (a n : Fin 128) : (v384 (F := Ideal) c m30 w30 xs5) (ix2 a n) = S (pairF 0 a) n := by
  unfold v384
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_0 (S : Fin 1024 → Fin 128 → EReal) (h : ∀ a n, (xs5 (ix3 0 a n) : EReal) = S (pairF 0 a) n) (a n : Fin 128) :
    (v414 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 0 a) n := by
  unfold v414
  rw [cast_up]
  exact pairState_step 0 0 1024 16 0 17 1 rfl rfl rfl rfl rfl rfl _ _ _ S _ _ _ _ _ _ _ (fun a n => prB_0_0 (h := h) ..) a n

theorem prB_0_1 (S : Fin 1024 → Fin 128 → EReal) (h : ∀ a n, (xs5 (ix3 1 a n) : EReal) = S (pairF 1 a) n) (a n : Fin 128) : (v476 (F := Ideal) c m30 w30 xs5) (ix2 a n) = S (pairF 1 a) n := by
  unfold v476 v475
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_1 (S : Fin 1024 → Fin 128 → EReal) (h : ∀ a n, (xs5 (ix3 1 a n) : EReal) = S (pairF 1 a) n) (a n : Fin 128) :
    (v506 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 1 a) n := by
  unfold v506
  rw [cast_up]
  exact pairState_step 1 128 1024 18 2 19 3 rfl rfl rfl rfl rfl rfl _ _ _ S _ _ _ _ _ _ _ (fun a n => prB_0_1 (h := h) ..) a n

theorem prB_0_2 (S : Fin 1024 → Fin 128 → EReal) (h : ∀ a n, (xs5 (ix3 2 a n) : EReal) = S (pairF 2 a) n) (a n : Fin 128) : (v637 (F := Ideal) c m30 w30 xs5) (ix2 a n) = S (pairF 2 a) n := by
  unfold v637 v636
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_2 (S : Fin 1024 → Fin 128 → EReal) (h : ∀ a n, (xs5 (ix3 2 a n) : EReal) = S (pairF 2 a) n) (a n : Fin 128) :
    (v667 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 2 a) n := by
  unfold v667
  rw [cast_up]
  exact pairState_step 2 256 1024 20 4 21 5 rfl rfl rfl rfl rfl rfl _ _ _ S _ _ _ _ _ _ _ (fun a n => prB_0_2 (h := h) ..) a n

theorem prB_0_3 (S : Fin 1024 → Fin 128 → EReal) (h : ∀ a n, (xs5 (ix3 3 a n) : EReal) = S (pairF 3 a) n) (a n : Fin 128) : (v729 (F := Ideal) c m30 w30 xs5) (ix2 a n) = S (pairF 3 a) n := by
  unfold v729 v728
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_3 (S : Fin 1024 → Fin 128 → EReal) (h : ∀ a n, (xs5 (ix3 3 a n) : EReal) = S (pairF 3 a) n) (a n : Fin 128) :
    (v759 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 3 a) n := by
  unfold v759
  rw [cast_up]
  exact pairState_step 3 384 1024 22 6 23 7 rfl rfl rfl rfl rfl rfl _ _ _ S _ _ _ _ _ _ _ (fun a n => prB_0_3 (h := h) ..) a n

theorem prB_0_4 (S : Fin 1024 → Fin 128 → EReal) (h : ∀ a n, (xs5 (ix3 4 a n) : EReal) = S (pairF 4 a) n) (a n : Fin 128) : (v895 (F := Ideal) c m30 w30 xs5) (ix2 a n) = S (pairF 4 a) n := by
  unfold v895 v894
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_4 (S : Fin 1024 → Fin 128 → EReal) (h : ∀ a n, (xs5 (ix3 4 a n) : EReal) = S (pairF 4 a) n) (a n : Fin 128) :
    (v925 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 4 a) n := by
  unfold v925
  rw [cast_up]
  exact pairState_step 4 512 1152 24 8 25 9 rfl rfl rfl rfl rfl rfl _ _ _ S _ _ _ _ _ _ _ (fun a n => prB_0_4 (h := h) ..) a n

theorem prB_0_5 (S : Fin 1024 → Fin 128 → EReal) (h : ∀ a n, (xs5 (ix3 5 a n) : EReal) = S (pairF 5 a) n) (a n : Fin 128) : (v987 (F := Ideal) c m30 w30 xs5) (ix2 a n) = S (pairF 5 a) n := by
  unfold v987 v986
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_5 (S : Fin 1024 → Fin 128 → EReal) (h : ∀ a n, (xs5 (ix3 5 a n) : EReal) = S (pairF 5 a) n) (a n : Fin 128) :
    (v1017 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 5 a) n := by
  unfold v1017
  rw [cast_up]
  exact pairState_step 5 640 1152 26 10 27 11 rfl rfl rfl rfl rfl rfl _ _ _ S _ _ _ _ _ _ _ (fun a n => prB_0_5 (h := h) ..) a n

theorem prB_0_6 (S : Fin 1024 → Fin 128 → EReal) (h : ∀ a n, (xs5 (ix3 6 a n) : EReal) = S (pairF 6 a) n) (a n : Fin 128) : (v1148 (F := Ideal) c m30 w30 xs5) (ix2 a n) = S (pairF 6 a) n := by
  unfold v1148 v1147
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_6 (S : Fin 1024 → Fin 128 → EReal) (h : ∀ a n, (xs5 (ix3 6 a n) : EReal) = S (pairF 6 a) n) (a n : Fin 128) :
    (v1178 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 6 a) n := by
  unfold v1178
  rw [cast_up]
  exact pairState_step 6 768 1152 28 12 29 13 rfl rfl rfl rfl rfl rfl _ _ _ S _ _ _ _ _ _ _ (fun a n => prB_0_6 (h := h) ..) a n

theorem prB_0_7 (S : Fin 1024 → Fin 128 → EReal) (h : ∀ a n, (xs5 (ix3 7 a n) : EReal) = S (pairF 7 a) n) (a n : Fin 128) : (v1240 (F := Ideal) c m30 w30 xs5) (ix2 a n) = S (pairF 7 a) n := by
  unfold v1240 v1239
  rw [cast_down]
  simp only [View.readAt_eq_ld, Memref.IsWhole.read_unread]
  rw [← h a n]
  refine View.ld_unit_apply_of _ _ _ _ _ _ fun b => ?_
  match b with
  | 0 => rfl
  | 1 => simp [ix3]
  | 2 => simp [ix3]

theorem stB_0_7 (S : Fin 1024 → Fin 128 → EReal) (h : ∀ a n, (xs5 (ix3 7 a n) : EReal) = S (pairF 7 a) n) (a n : Fin 128) :
    (v1270 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) S (pairF 7 a) n := by
  unfold v1270
  rw [cast_up]
  exact pairState_step 7 896 1152 30 14 31 15 rfl rfl rfl rfl rfl rfl _ _ _ S _ _ _ _ _ _ _ (fun a n => prB_0_7 (h := h) ..) a n

theorem prB_1_0 (S : Fin 1024 → Fin 128 → EReal) (h : ∀ a n, (v414 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) : (v1486 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 0 a) n := by
  unfold v1486 v1485
  rw [cast_down]
  simp (disch := decide) only [↓ View.readCov_skip, ↓ View.readCov_cons_toLoadRect, ↓ View.readCov_fill, HS5_8]
  exact h a n

theorem stB_1_0 (S : Fin 1024 → Fin 128 → EReal) (h : ∀ a n, (v414 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) :
    (v1516 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 0 a) n := by
  unfold v1516
  rw [cast_up]
  exact pairState_step 0 0 1024 16 0 17 1 rfl rfl rfl rfl rfl rfl _ _ _ S _ _ _ _ _ _ _ (fun a n => prB_1_0 (h := h) ..) a n

theorem prB_1_1 (S : Fin 1024 → Fin 128 → EReal) (h : ∀ a n, (v506 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) : (v1578 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 1 a) n := by
  unfold v1578 v1577
  rw [cast_down]
  simp (disch := decide) only [↓ View.readCov_skip, ↓ View.readCov_cons_toLoadRect, ↓ View.readCov_fill, HS5_9, HS5_8]
  exact h a n

theorem stB_1_1 (S : Fin 1024 → Fin 128 → EReal) (h : ∀ a n, (v506 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) :
    (v1608 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 1 a) n := by
  unfold v1608
  rw [cast_up]
  exact pairState_step 1 128 1024 18 2 19 3 rfl rfl rfl rfl rfl rfl _ _ _ S _ _ _ _ _ _ _ (fun a n => prB_1_1 (h := h) ..) a n

theorem prB_1_2 (S : Fin 1024 → Fin 128 → EReal) (h : ∀ a n, (v667 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) : (v1739 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 2 a) n := by
  unfold v1739 v1738
  rw [cast_down]
  simp (disch := decide) only [↓ View.readCov_skip, ↓ View.readCov_cons_toLoadRect, ↓ View.readCov_fill, HS5_10, HS5_9, HS5_8]
  exact h a n

theorem stB_1_2 (S : Fin 1024 → Fin 128 → EReal) (h : ∀ a n, (v667 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) :
    (v1769 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 2 a) n := by
  unfold v1769
  rw [cast_up]
  exact pairState_step 2 256 1024 20 4 21 5 rfl rfl rfl rfl rfl rfl _ _ _ S _ _ _ _ _ _ _ (fun a n => prB_1_2 (h := h) ..) a n

theorem prB_1_3 (S : Fin 1024 → Fin 128 → EReal) (h : ∀ a n, (v759 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) : (v1831 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 3 a) n := by
  unfold v1831 v1830
  rw [cast_down]
  simp (disch := decide) only [↓ View.readCov_skip, ↓ View.readCov_cons_toLoadRect, ↓ View.readCov_fill, HS5_11, HS5_10, HS5_9, HS5_8]
  exact h a n

theorem stB_1_3 (S : Fin 1024 → Fin 128 → EReal) (h : ∀ a n, (v759 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) :
    (v1861 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 3 a) n := by
  unfold v1861
  rw [cast_up]
  exact pairState_step 3 384 1024 22 6 23 7 rfl rfl rfl rfl rfl rfl _ _ _ S _ _ _ _ _ _ _ (fun a n => prB_1_3 (h := h) ..) a n

theorem prB_1_4 (S : Fin 1024 → Fin 128 → EReal) (h : ∀ a n, (v925 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) : (v1997 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 4 a) n := by
  unfold v1997 v1996
  rw [cast_down]
  simp (disch := decide) only [↓ View.readCov_skip, ↓ View.readCov_cons_toLoadRect, ↓ View.readCov_fill, HS5_12, HS5_11, HS5_10, HS5_9, HS5_8]
  exact h a n

theorem stB_1_4 (S : Fin 1024 → Fin 128 → EReal) (h : ∀ a n, (v925 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) :
    (v2027 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 4 a) n := by
  unfold v2027
  rw [cast_up]
  exact pairState_step 4 512 1152 24 8 25 9 rfl rfl rfl rfl rfl rfl _ _ _ S _ _ _ _ _ _ _ (fun a n => prB_1_4 (h := h) ..) a n

theorem prB_1_5 (S : Fin 1024 → Fin 128 → EReal) (h : ∀ a n, (v1017 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) : (v2089 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 5 a) n := by
  unfold v2089 v2088
  rw [cast_down]
  simp (disch := decide) only [↓ View.readCov_skip, ↓ View.readCov_cons_toLoadRect, ↓ View.readCov_fill, HS5_13, HS5_12, HS5_11, HS5_10, HS5_9, HS5_8]
  exact h a n

theorem stB_1_5 (S : Fin 1024 → Fin 128 → EReal) (h : ∀ a n, (v1017 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) :
    (v2119 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 5 a) n := by
  unfold v2119
  rw [cast_up]
  exact pairState_step 5 640 1152 26 10 27 11 rfl rfl rfl rfl rfl rfl _ _ _ S _ _ _ _ _ _ _ (fun a n => prB_1_5 (h := h) ..) a n

theorem prB_1_6 (S : Fin 1024 → Fin 128 → EReal) (h : ∀ a n, (v1178 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) : (v2250 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 6 a) n := by
  unfold v2250 v2249
  rw [cast_down]
  simp (disch := decide) only [↓ View.readCov_skip, ↓ View.readCov_cons_toLoadRect, ↓ View.readCov_fill, HS5_14, HS5_13, HS5_12, HS5_11, HS5_10, HS5_9, HS5_8]
  exact h a n

theorem stB_1_6 (S : Fin 1024 → Fin 128 → EReal) (h : ∀ a n, (v1178 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) :
    (v2280 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 6 a) n := by
  unfold v2280
  rw [cast_up]
  exact pairState_step 6 768 1152 28 12 29 13 rfl rfl rfl rfl rfl rfl _ _ _ S _ _ _ _ _ _ _ (fun a n => prB_1_6 (h := h) ..) a n

theorem prB_1_7 (S : Fin 1024 → Fin 128 → EReal) (h : ∀ a n, (v1270 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) : (v2342 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 7 a) n := by
  unfold v2342 v2341
  rw [cast_down]
  simp (disch := decide) only [↓ View.readCov_skip, ↓ View.readCov_cons_toLoadRect, ↓ View.readCov_fill, HS5_15, HS5_14, HS5_13, HS5_12, HS5_11, HS5_10, HS5_9, HS5_8]
  exact h a n

theorem stB_1_7 (S : Fin 1024 → Fin 128 → EReal) (h : ∀ a n, (v1270 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) :
    (v2372 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) S (pairF 7 a) n := by
  unfold v2372
  rw [cast_up]
  exact pairState_step 7 896 1152 30 14 31 15 rfl rfl rfl rfl rfl rfl _ _ _ S _ _ _ _ _ _ _ (fun a n => prB_1_7 (h := h) ..) a n

theorem prB_2_0 (S : Fin 1024 → Fin 128 → EReal) (h : ∀ a n, (v1516 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) : (v2526 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 0 a) n := by
  unfold v2526 v2525
  rw [cast_down]
  simp (disch := decide) only [↓ View.readCov_skip, ↓ View.readCov_cons_toLoadRect, ↓ View.readCov_fill, HS5_16, HS5_15, HS5_14, HS5_13, HS5_12, HS5_11, HS5_10, HS5_9, HS5_8]
  exact h a n

theorem stB_2_0 (S : Fin 1024 → Fin 128 → EReal) (h : ∀ a n, (v1516 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) :
    (v2556 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 0 a) n := by
  unfold v2556
  rw [cast_up]
  exact pairState_step 0 0 1024 16 0 17 1 rfl rfl rfl rfl rfl rfl _ _ _ S _ _ _ _ _ _ _ (fun a n => prB_2_0 (h := h) ..) a n

theorem prB_2_1 (S : Fin 1024 → Fin 128 → EReal) (h : ∀ a n, (v1608 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) : (v2618 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 1 a) n := by
  unfold v2618 v2617
  rw [cast_down]
  simp (disch := decide) only [↓ View.readCov_skip, ↓ View.readCov_cons_toLoadRect, ↓ View.readCov_fill, HS5_17, HS5_16, HS5_15, HS5_14, HS5_13, HS5_12, HS5_11, HS5_10, HS5_9, HS5_8]
  exact h a n

theorem stB_2_1 (S : Fin 1024 → Fin 128 → EReal) (h : ∀ a n, (v1608 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) :
    (v2648 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 1 a) n := by
  unfold v2648
  rw [cast_up]
  exact pairState_step 1 128 1024 18 2 19 3 rfl rfl rfl rfl rfl rfl _ _ _ S _ _ _ _ _ _ _ (fun a n => prB_2_1 (h := h) ..) a n

theorem prB_2_2 (S : Fin 1024 → Fin 128 → EReal) (h : ∀ a n, (v1769 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) : (v2717 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 2 a) n := by
  unfold v2717 v2716
  rw [cast_down]
  simp (disch := decide) only [↓ View.readCov_skip, ↓ View.readCov_cons_toLoadRect, ↓ View.readCov_fill, HS5_18, HS5_17, HS5_16, HS5_15, HS5_14, HS5_13, HS5_12, HS5_11, HS5_10, HS5_9, HS5_8]
  exact h a n

theorem stB_2_2 (S : Fin 1024 → Fin 128 → EReal) (h : ∀ a n, (v1769 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) :
    (v2747 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 2 a) n := by
  unfold v2747
  rw [cast_up]
  exact pairState_step 2 256 1024 20 4 21 5 rfl rfl rfl rfl rfl rfl _ _ _ S _ _ _ _ _ _ _ (fun a n => prB_2_2 (h := h) ..) a n

theorem prB_2_3 (S : Fin 1024 → Fin 128 → EReal) (h : ∀ a n, (v1861 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) : (v2809 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 3 a) n := by
  unfold v2809 v2808
  rw [cast_down]
  simp (disch := decide) only [↓ View.readCov_skip, ↓ View.readCov_cons_toLoadRect, ↓ View.readCov_fill, HS5_19, HS5_18, HS5_17, HS5_16, HS5_15, HS5_14, HS5_13, HS5_12, HS5_11, HS5_10, HS5_9, HS5_8]
  exact h a n

theorem stB_2_3 (S : Fin 1024 → Fin 128 → EReal) (h : ∀ a n, (v1861 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) :
    (v2839 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 3 a) n := by
  unfold v2839
  rw [cast_up]
  exact pairState_step 3 384 1024 22 6 23 7 rfl rfl rfl rfl rfl rfl _ _ _ S _ _ _ _ _ _ _ (fun a n => prB_2_3 (h := h) ..) a n

theorem prB_2_4 (S : Fin 1024 → Fin 128 → EReal) (h : ∀ a n, (v2027 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) : (v2913 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 4 a) n := by
  unfold v2913 v2912
  rw [cast_down]
  simp (disch := decide) only [↓ View.readCov_skip, ↓ View.readCov_cons_toLoadRect, ↓ View.readCov_fill, HS5_20, HS5_19, HS5_18, HS5_17, HS5_16, HS5_15, HS5_14, HS5_13, HS5_12, HS5_11, HS5_10, HS5_9, HS5_8]
  exact h a n

theorem stB_2_4 (S : Fin 1024 → Fin 128 → EReal) (h : ∀ a n, (v2027 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) :
    (v2943 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 4 a) n := by
  unfold v2943
  rw [cast_up]
  exact pairState_step 4 512 1152 24 8 25 9 rfl rfl rfl rfl rfl rfl _ _ _ S _ _ _ _ _ _ _ (fun a n => prB_2_4 (h := h) ..) a n

theorem prB_2_5 (S : Fin 1024 → Fin 128 → EReal) (h : ∀ a n, (v2119 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) : (v3005 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 5 a) n := by
  unfold v3005 v3004
  rw [cast_down]
  simp (disch := decide) only [↓ View.readCov_skip, ↓ View.readCov_cons_toLoadRect, ↓ View.readCov_fill, HS5_21, HS5_20, HS5_19, HS5_18, HS5_17, HS5_16, HS5_15, HS5_14, HS5_13, HS5_12, HS5_11, HS5_10, HS5_9, HS5_8]
  exact h a n

theorem stB_2_5 (S : Fin 1024 → Fin 128 → EReal) (h : ∀ a n, (v2119 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) :
    (v3035 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 5 a) n := by
  unfold v3035
  rw [cast_up]
  exact pairState_step 5 640 1152 26 10 27 11 rfl rfl rfl rfl rfl rfl _ _ _ S _ _ _ _ _ _ _ (fun a n => prB_2_5 (h := h) ..) a n

theorem prB_2_6 (S : Fin 1024 → Fin 128 → EReal) (h : ∀ a n, (v2280 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) : (v3104 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 6 a) n := by
  unfold v3104 v3103
  rw [cast_down]
  simp (disch := decide) only [↓ View.readCov_skip, ↓ View.readCov_cons_toLoadRect, ↓ View.readCov_fill, HS5_22, HS5_21, HS5_20, HS5_19, HS5_18, HS5_17, HS5_16, HS5_15, HS5_14, HS5_13, HS5_12, HS5_11, HS5_10, HS5_9, HS5_8]
  exact h a n

theorem stB_2_6 (S : Fin 1024 → Fin 128 → EReal) (h : ∀ a n, (v2280 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) :
    (v3134 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 6 a) n := by
  unfold v3134
  rw [cast_up]
  exact pairState_step 6 768 1152 28 12 29 13 rfl rfl rfl rfl rfl rfl _ _ _ S _ _ _ _ _ _ _ (fun a n => prB_2_6 (h := h) ..) a n

theorem prB_2_7 (S : Fin 1024 → Fin 128 → EReal) (h : ∀ a n, (v2372 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) : (v3196 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 7 a) n := by
  unfold v3196 v3195
  rw [cast_down]
  simp (disch := decide) only [↓ View.readCov_skip, ↓ View.readCov_cons_toLoadRect, ↓ View.readCov_fill, HS5_23, HS5_22, HS5_21, HS5_20, HS5_19, HS5_18, HS5_17, HS5_16, HS5_15, HS5_14, HS5_13, HS5_12, HS5_11, HS5_10, HS5_9, HS5_8]
  exact h a n

theorem stB_2_7 (S : Fin 1024 → Fin 128 → EReal) (h : ∀ a n, (v2372 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) :
    (v3226 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) S (pairF 7 a) n := by
  unfold v3226
  rw [cast_up]
  exact pairState_step 7 896 1152 30 14 31 15 rfl rfl rfl rfl rfl rfl _ _ _ S _ _ _ _ _ _ _ (fun a n => prB_2_7 (h := h) ..) a n

theorem prB_3_0 (S : Fin 1024 → Fin 128 → EReal) (h : ∀ a n, (v2556 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) : (v3378 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 0 a) n := by
  unfold v3378 v3377
  rw [cast_down]
  simp (disch := decide) only [↓ View.readCov_skip, ↓ View.readCov_cons_toLoadRect, ↓ View.readCov_fill, HS5_24, HS5_23, HS5_22, HS5_21, HS5_20, HS5_19, HS5_18, HS5_17, HS5_16, HS5_15, HS5_14, HS5_13, HS5_12, HS5_11, HS5_10, HS5_9, HS5_8]
  exact h a n

theorem stB_3_0 (S : Fin 1024 → Fin 128 → EReal) (h : ∀ a n, (v2556 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) :
    (v3408 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 0 a) n := by
  unfold v3408
  rw [cast_up]
  exact pairState_step 0 0 1024 16 0 17 1 rfl rfl rfl rfl rfl rfl _ _ _ S _ _ _ _ _ _ _ (fun a n => prB_3_0 (h := h) ..) a n

theorem prB_3_1 (S : Fin 1024 → Fin 128 → EReal) (h : ∀ a n, (v2648 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) : (v3470 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 1 a) n := by
  unfold v3470 v3469
  rw [cast_down]
  simp (disch := decide) only [↓ View.readCov_skip, ↓ View.readCov_cons_toLoadRect, ↓ View.readCov_fill, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_1 (S : Fin 1024 → Fin 128 → EReal) (h : ∀ a n, (v2648 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) :
    (v3500 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 1 a) n := by
  unfold v3500
  rw [cast_up]
  exact pairState_step 1 128 1024 18 2 19 3 rfl rfl rfl rfl rfl rfl _ _ _ S _ _ _ _ _ _ _ (fun a n => prB_3_1 (h := h) ..) a n

theorem prB_3_2 (S : Fin 1024 → Fin 128 → EReal) (h : ∀ a n, (v2747 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) : (v3567 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 2 a) n := by
  unfold v3567 v3566
  rw [cast_down]
  simp (disch := decide) only [↓ View.readCov_skip, ↓ View.readCov_cons_toLoadRect, ↓ View.readCov_fill, HS5_26, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_2 (S : Fin 1024 → Fin 128 → EReal) (h : ∀ a n, (v2747 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) :
    (v3597 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 2 a) n := by
  unfold v3597
  rw [cast_up]
  exact pairState_step 2 256 1024 20 4 21 5 rfl rfl rfl rfl rfl rfl _ _ _ S _ _ _ _ _ _ _ (fun a n => prB_3_2 (h := h) ..) a n

theorem prB_3_3 (S : Fin 1024 → Fin 128 → EReal) (h : ∀ a n, (v2839 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) : (v3659 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 3 a) n := by
  unfold v3659 v3658
  rw [cast_down]
  simp (disch := decide) only [↓ View.readCov_skip, ↓ View.readCov_cons_toLoadRect, ↓ View.readCov_fill, HS5_27, HS5_26, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_3 (S : Fin 1024 → Fin 128 → EReal) (h : ∀ a n, (v2839 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) :
    (v3689 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 3 a) n := by
  unfold v3689
  rw [cast_up]
  exact pairState_step 3 384 1024 22 6 23 7 rfl rfl rfl rfl rfl rfl _ _ _ S _ _ _ _ _ _ _ (fun a n => prB_3_3 (h := h) ..) a n

theorem prB_3_4 (S : Fin 1024 → Fin 128 → EReal) (h : ∀ a n, (v2943 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) : (v3761 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 4 a) n := by
  unfold v3761 v3760
  rw [cast_down]
  simp (disch := decide) only [↓ View.readCov_skip, ↓ View.readCov_cons_toLoadRect, ↓ View.readCov_fill, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_4 (S : Fin 1024 → Fin 128 → EReal) (h : ∀ a n, (v2943 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) :
    (v3791 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 4 a) n := by
  unfold v3791
  rw [cast_up]
  exact pairState_step 4 512 1152 24 8 25 9 rfl rfl rfl rfl rfl rfl _ _ _ S _ _ _ _ _ _ _ (fun a n => prB_3_4 (h := h) ..) a n

theorem prB_3_5 (S : Fin 1024 → Fin 128 → EReal) (h : ∀ a n, (v3035 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) : (v3853 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 5 a) n := by
  unfold v3853 v3852
  rw [cast_down]
  simp (disch := decide) only [↓ View.readCov_skip, ↓ View.readCov_cons_toLoadRect, ↓ View.readCov_fill, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_5 (S : Fin 1024 → Fin 128 → EReal) (h : ∀ a n, (v3035 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) :
    (v3883 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 5 a) n := by
  unfold v3883
  rw [cast_up]
  exact pairState_step 5 640 1152 26 10 27 11 rfl rfl rfl rfl rfl rfl _ _ _ S _ _ _ _ _ _ _ (fun a n => prB_3_5 (h := h) ..) a n

theorem prB_3_6 (S : Fin 1024 → Fin 128 → EReal) (h : ∀ a n, (v3134 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) : (v3950 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 6 a) n := by
  unfold v3950 v3949
  rw [cast_down]
  simp (disch := decide) only [↓ View.readCov_skip, ↓ View.readCov_cons_toLoadRect, ↓ View.readCov_fill, HS5_30, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_6 (S : Fin 1024 → Fin 128 → EReal) (h : ∀ a n, (v3134 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) :
    (v3980 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 6 a) n := by
  unfold v3980
  rw [cast_up]
  exact pairState_step 6 768 1152 28 12 29 13 rfl rfl rfl rfl rfl rfl _ _ _ S _ _ _ _ _ _ _ (fun a n => prB_3_6 (h := h) ..) a n

theorem prB_3_7 (S : Fin 1024 → Fin 128 → EReal) (h : ∀ a n, (v3226 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) : (v4042 c m1 w1 m2 w2 m3 w3 m5 w5 m6 w6 m7 w7 m8 w8 m12 w12 m13 w13 m25 w25 m26 w26 m28 m30 w30 x0 x1 x2 x4 x5 x6 x7 x11 x12 xs0 xs1 xs5) (ix2 a n) = S (pairF 7 a) n := by
  unfold v4042 v4041
  rw [cast_down]
  simp (disch := decide) only [↓ View.readCov_skip, ↓ View.readCov_cons_toLoadRect, ↓ View.readCov_fill, HS5_31, HS5_30, HS5_29, HS5_28, HS5_27, HS5_26, HS5_25, HS5_24, HS5_23, HS5_22, HS5_21, HS5_20, HS5_19, HS5_18, HS5_17, HS5_16, HS5_15, HS5_14, HS5_13, HS5_12, HS5_11, HS5_10, HS5_9, HS5_8]
  exact h a n

theorem stB_3_7 (S : Fin 1024 → Fin 128 → EReal) (h : ∀ a n, (v3226 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) :
    (v4072 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = stepState (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) S (pairF 7 a) n := by
  unfold v4072
  rw [cast_up]
  exact pairState_step 7 896 1152 30 14 31 15 rfl rfl rfl rfl rfl rfl _ _ _ S _ _ _ _ _ _ _ (fun a n => prB_3_7 (h := h) ..) a n

end Cert.Layer

end
-- ==== Proof.OutputsB.lean ====
/- The outputs a tile computes in each chunk, one pair of heads at a time, where a batch goes on. -/
module

public import proofs.«01_k».proof.Proof.Gen.KernelIdeal.Frame.RunB
public import proofs.«01_k».proof.Proof.StatesB
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_B.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m9 : Memref sig .tc .vmem S1x1024 .f32) (w9 : m9.IsWhole) (m12 : Memref sig .tc .vmem S1024x1536 .bf16) (w12 : m12.IsWhole) (m13 : Memref sig .tc .vmem S1024x128 .bf16) (w13 : m13.IsWhole) (m25 : Memref sig .tc .vmem S1x128 .f32) (w25 : m25.IsWhole) (m26 : Memref sig .tc .vmem S528x1536 .bf16) (w26 : m26.IsWhole) (m28 : Memref sig .tc .vmem S512x128 .f32) (m29 : Memref sig .tc .vmem S32x512 .f32) (m30 : Memref sig .tc .vmem S8x128x128 .f32) (w30 : m30.IsWhole)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x8 : Vec Ideal S1x1024 .f32) (x11 : Vec Ideal S1024x1536 .bf16) (x12 : Vec Ideal S1024x128 .bf16) (xs0 : Vec Ideal S1x128 .f32) (xs1 : Vec Ideal S528x1536 .bf16) (xs5 : Vec Ideal S8x128x128 .f32)

theorem dkB_v417 (l : Fin 128) : (v417 c m9 w9 x8) (ix2 0 l) = x8 (ix2 0 (pairF 0 l)) := by
  unfold v417
  rw [cast_row]
  simp only [View.readAt_eq_ld, Memref.IsWhole.read_unread]
  refine View.ld_unit_apply_of _ _ _ _ _ _ fun b => ?_
  match b with
  | 0 => simp [ix2]
  | 1 => simp [ix2]

theorem dkB_v509 (l : Fin 128) : (v509 c m9 w9 x8) (ix2 0 l) = x8 (ix2 0 (pairF 1 l)) := by
  unfold v509
  rw [cast_row]
  simp only [View.readAt_eq_ld, Memref.IsWhole.read_unread]
  refine View.ld_unit_apply_of _ _ _ _ _ _ fun b => ?_
  match b with
  | 0 => simp [ix2]
  | 1 => simp [ix2]

theorem dkB_v670 (l : Fin 128) : (v670 c m9 w9 x8) (ix2 0 l) = x8 (ix2 0 (pairF 2 l)) := by
  unfold v670
  rw [cast_row]
  simp only [View.readAt_eq_ld, Memref.IsWhole.read_unread]
  refine View.ld_unit_apply_of _ _ _ _ _ _ fun b => ?_
  match b with
  | 0 => simp [ix2]
  | 1 => simp [ix2]

theorem dkB_v762 (l : Fin 128) : (v762 c m9 w9 x8) (ix2 0 l) = x8 (ix2 0 (pairF 3 l)) := by
  unfold v762
  rw [cast_row]
  simp only [View.readAt_eq_ld, Memref.IsWhole.read_unread]
  refine View.ld_unit_apply_of _ _ _ _ _ _ fun b => ?_
  match b with
  | 0 => simp [ix2]
  | 1 => simp [ix2]

theorem dkB_v928 (l : Fin 128) : (v928 c m9 w9 x8) (ix2 0 l) = x8 (ix2 0 (pairF 4 l)) := by
  unfold v928
  rw [cast_row]
  simp only [View.readAt_eq_ld, Memref.IsWhole.read_unread]
  refine View.ld_unit_apply_of _ _ _ _ _ _ fun b => ?_
  match b with
  | 0 => simp [ix2]
  | 1 => simp [ix2]

theorem dkB_v1020 (l : Fin 128) : (v1020 c m9 w9 x8) (ix2 0 l) = x8 (ix2 0 (pairF 5 l)) := by
  unfold v1020
  rw [cast_row]
  simp only [View.readAt_eq_ld, Memref.IsWhole.read_unread]
  refine View.ld_unit_apply_of _ _ _ _ _ _ fun b => ?_
  match b with
  | 0 => simp [ix2]
  | 1 => simp [ix2]

theorem dkB_v1181 (l : Fin 128) : (v1181 c m9 w9 x8) (ix2 0 l) = x8 (ix2 0 (pairF 6 l)) := by
  unfold v1181
  rw [cast_row]
  simp only [View.readAt_eq_ld, Memref.IsWhole.read_unread]
  refine View.ld_unit_apply_of _ _ _ _ _ _ fun b => ?_
  match b with
  | 0 => simp [ix2]
  | 1 => simp [ix2]

theorem dkB_v1273 (l : Fin 128) : (v1273 c m9 w9 x8) (ix2 0 l) = x8 (ix2 0 (pairF 7 l)) := by
  unfold v1273
  rw [cast_row]
  simp only [View.readAt_eq_ld, Memref.IsWhole.read_unread]
  refine View.ld_unit_apply_of _ _ _ _ _ _ fun b => ?_
  match b with
  | 0 => simp [ix2]
  | 1 => simp [ix2]

theorem ouB_0_0 (S : Fin 1024 → Fin 128 → EReal) (h : ∀ a n, (xs5 (ix3 0 a n) : EReal) = S (pairF 0 a) n) (a n : Fin 128) :
    (v423 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 0 n) := by
  unfold v423
  rw [cast_same]
  exact pairOut_step 0 0 1024 1280 16 0 17 1 rfl rfl rfl rfl rfl rfl rfl _ _ _ _ _ S _ _ _ _ _ _ _ _ _ _ _ _ (fun a n => prB_0_0 (h := h) ..) (fun l => dkB_v417 ..) a n

theorem ouB_0_1 (S : Fin 1024 → Fin 128 → EReal) (h : ∀ a n, (xs5 (ix3 1 a n) : EReal) = S (pairF 1 a) n) (a n : Fin 128) :
    (v515 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 1 n) := by
  unfold v515
  rw [cast_same]
  exact pairOut_step 1 128 1024 1280 18 2 19 3 rfl rfl rfl rfl rfl rfl rfl _ _ _ _ _ S _ _ _ _ _ _ _ _ _ _ _ _ (fun a n => prB_0_1 (h := h) ..) (fun l => dkB_v509 ..) a n

theorem ouB_0_2 (S : Fin 1024 → Fin 128 → EReal) (h : ∀ a n, (xs5 (ix3 2 a n) : EReal) = S (pairF 2 a) n) (a n : Fin 128) :
    (v676 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 2 n) := by
  unfold v676
  rw [cast_same]
  exact pairOut_step 2 256 1024 1280 20 4 21 5 rfl rfl rfl rfl rfl rfl rfl _ _ _ _ _ S _ _ _ _ _ _ _ _ _ _ _ _ (fun a n => prB_0_2 (h := h) ..) (fun l => dkB_v670 ..) a n

theorem ouB_0_3 (S : Fin 1024 → Fin 128 → EReal) (h : ∀ a n, (xs5 (ix3 3 a n) : EReal) = S (pairF 3 a) n) (a n : Fin 128) :
    (v768 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 3 n) := by
  unfold v768
  rw [cast_same]
  exact pairOut_step 3 384 1024 1280 22 6 23 7 rfl rfl rfl rfl rfl rfl rfl _ _ _ _ _ S _ _ _ _ _ _ _ _ _ _ _ _ (fun a n => prB_0_3 (h := h) ..) (fun l => dkB_v762 ..) a n

theorem ouB_0_4 (S : Fin 1024 → Fin 128 → EReal) (h : ∀ a n, (xs5 (ix3 4 a n) : EReal) = S (pairF 4 a) n) (a n : Fin 128) :
    (v934 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 4 n) := by
  unfold v934
  rw [cast_same]
  exact pairOut_step 4 512 1152 1408 24 8 25 9 rfl rfl rfl rfl rfl rfl rfl _ _ _ _ _ S _ _ _ _ _ _ _ _ _ _ _ _ (fun a n => prB_0_4 (h := h) ..) (fun l => dkB_v928 ..) a n

theorem ouB_0_5 (S : Fin 1024 → Fin 128 → EReal) (h : ∀ a n, (xs5 (ix3 5 a n) : EReal) = S (pairF 5 a) n) (a n : Fin 128) :
    (v1026 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 5 n) := by
  unfold v1026
  rw [cast_same]
  exact pairOut_step 5 640 1152 1408 26 10 27 11 rfl rfl rfl rfl rfl rfl rfl _ _ _ _ _ S _ _ _ _ _ _ _ _ _ _ _ _ (fun a n => prB_0_5 (h := h) ..) (fun l => dkB_v1020 ..) a n

theorem ouB_0_6 (S : Fin 1024 → Fin 128 → EReal) (h : ∀ a n, (xs5 (ix3 6 a n) : EReal) = S (pairF 6 a) n) (a n : Fin 128) :
    (v1187 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 6 n) := by
  unfold v1187
  rw [cast_same]
  exact pairOut_step 6 768 1152 1408 28 12 29 13 rfl rfl rfl rfl rfl rfl rfl _ _ _ _ _ S _ _ _ _ _ _ _ _ _ _ _ _ (fun a n => prB_0_6 (h := h) ..) (fun l => dkB_v1181 ..) a n

theorem ouB_0_7 (S : Fin 1024 → Fin 128 → EReal) (h : ∀ a n, (xs5 (ix3 7 a n) : EReal) = S (pairF 7 a) n) (a n : Fin 128) :
    (v1279 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v324 c m1 w1 m2 w2 m3 w3 m6 w6 m7 w7 m8 w8 m12 w12 m26 w26 x0 x1 x2 x5 x6 x7 x11 xs1) (v325 c m1 w1 m2 w2 m3 w3 m5 w5 m13 w13 m25 w25 m28 x0 x1 x2 x4 x12 xs0) (v326 c m1 w1 m2 w2 m3 w3 m5 w5 m13 w13 m25 w25 m29 x0 x1 x2 x4 x12 xs0) S (fun f => x8 (ix2 0 f)) a (pairF 7 n) := by
  unfold v1279
  rw [cast_same]
  exact pairOut_step 7 896 1152 1408 30 14 31 15 rfl rfl rfl rfl rfl rfl rfl _ _ _ _ _ S _ _ _ _ _ _ _ _ _ _ _ _ (fun a n => prB_0_7 (h := h) ..) (fun l => dkB_v1273 ..) a n

theorem ouB_1_0 (S : Fin 1024 → Fin 128 → EReal) (h : ∀ a n, (v414 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) :
    (v1525 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 0 n) := by
  unfold v1525
  rw [cast_same]
  exact pairOut_step 0 0 1024 1280 16 0 17 1 rfl rfl rfl rfl rfl rfl rfl _ _ _ _ _ S _ _ _ _ _ _ _ _ _ _ _ _ (fun a n => prB_1_0 (h := h) ..) (fun l => dkB_v417 ..) a n

theorem ouB_1_1 (S : Fin 1024 → Fin 128 → EReal) (h : ∀ a n, (v506 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) :
    (v1617 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 1 n) := by
  unfold v1617
  rw [cast_same]
  exact pairOut_step 1 128 1024 1280 18 2 19 3 rfl rfl rfl rfl rfl rfl rfl _ _ _ _ _ S _ _ _ _ _ _ _ _ _ _ _ _ (fun a n => prB_1_1 (h := h) ..) (fun l => dkB_v509 ..) a n

theorem ouB_1_2 (S : Fin 1024 → Fin 128 → EReal) (h : ∀ a n, (v667 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) :
    (v1778 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 2 n) := by
  unfold v1778
  rw [cast_same]
  exact pairOut_step 2 256 1024 1280 20 4 21 5 rfl rfl rfl rfl rfl rfl rfl _ _ _ _ _ S _ _ _ _ _ _ _ _ _ _ _ _ (fun a n => prB_1_2 (h := h) ..) (fun l => dkB_v670 ..) a n

theorem ouB_1_3 (S : Fin 1024 → Fin 128 → EReal) (h : ∀ a n, (v759 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) :
    (v1870 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 3 n) := by
  unfold v1870
  rw [cast_same]
  exact pairOut_step 3 384 1024 1280 22 6 23 7 rfl rfl rfl rfl rfl rfl rfl _ _ _ _ _ S _ _ _ _ _ _ _ _ _ _ _ _ (fun a n => prB_1_3 (h := h) ..) (fun l => dkB_v762 ..) a n

theorem ouB_1_4 (S : Fin 1024 → Fin 128 → EReal) (h : ∀ a n, (v925 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) :
    (v2036 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 4 n) := by
  unfold v2036
  rw [cast_same]
  exact pairOut_step 4 512 1152 1408 24 8 25 9 rfl rfl rfl rfl rfl rfl rfl _ _ _ _ _ S _ _ _ _ _ _ _ _ _ _ _ _ (fun a n => prB_1_4 (h := h) ..) (fun l => dkB_v928 ..) a n

theorem ouB_1_5 (S : Fin 1024 → Fin 128 → EReal) (h : ∀ a n, (v1017 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) :
    (v2128 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 5 n) := by
  unfold v2128
  rw [cast_same]
  exact pairOut_step 5 640 1152 1408 26 10 27 11 rfl rfl rfl rfl rfl rfl rfl _ _ _ _ _ S _ _ _ _ _ _ _ _ _ _ _ _ (fun a n => prB_1_5 (h := h) ..) (fun l => dkB_v1020 ..) a n

theorem ouB_1_6 (S : Fin 1024 → Fin 128 → EReal) (h : ∀ a n, (v1178 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) :
    (v2289 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 6 n) := by
  unfold v2289
  rw [cast_same]
  exact pairOut_step 6 768 1152 1408 28 12 29 13 rfl rfl rfl rfl rfl rfl rfl _ _ _ _ _ S _ _ _ _ _ _ _ _ _ _ _ _ (fun a n => prB_1_6 (h := h) ..) (fun l => dkB_v1181 ..) a n

theorem ouB_1_7 (S : Fin 1024 → Fin 128 → EReal) (h : ∀ a n, (v1270 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) :
    (v2381 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v1426 c m1 w1 m2 w2 m3 w3 m6 w6 m7 w7 m8 w8 m12 w12 m26 x0 x1 x2 x5 x6 x7 x11) (v1427 c m1 w1 m2 w2 m3 w3 m5 w5 m13 w13 m25 w25 m28 x0 x1 x2 x4 x12 xs0) (v1428 c m1 w1 m2 w2 m3 w3 m5 w5 m13 w13 m25 w25 m29 x0 x1 x2 x4 x12 xs0) S (fun f => x8 (ix2 0 f)) a (pairF 7 n) := by
  unfold v2381
  rw [cast_same]
  exact pairOut_step 7 896 1152 1408 30 14 31 15 rfl rfl rfl rfl rfl rfl rfl _ _ _ _ _ S _ _ _ _ _ _ _ _ _ _ _ _ (fun a n => prB_1_7 (h := h) ..) (fun l => dkB_v1273 ..) a n

theorem ouB_2_0 (S : Fin 1024 → Fin 128 → EReal) (h : ∀ a n, (v1516 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) :
    (v2565 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 0 n) := by
  unfold v2565
  rw [cast_same]
  exact pairOut_step 0 0 1024 1280 16 0 17 1 rfl rfl rfl rfl rfl rfl rfl _ _ _ _ _ S _ _ _ _ _ _ _ _ _ _ _ _ (fun a n => prB_2_0 (h := h) ..) (fun l => dkB_v417 ..) a n

theorem ouB_2_1 (S : Fin 1024 → Fin 128 → EReal) (h : ∀ a n, (v1608 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) :
    (v2657 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 1 n) := by
  unfold v2657
  rw [cast_same]
  exact pairOut_step 1 128 1024 1280 18 2 19 3 rfl rfl rfl rfl rfl rfl rfl _ _ _ _ _ S _ _ _ _ _ _ _ _ _ _ _ _ (fun a n => prB_2_1 (h := h) ..) (fun l => dkB_v509 ..) a n

theorem ouB_2_2 (S : Fin 1024 → Fin 128 → EReal) (h : ∀ a n, (v1769 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) :
    (v2756 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 2 n) := by
  unfold v2756
  rw [cast_same]
  exact pairOut_step 2 256 1024 1280 20 4 21 5 rfl rfl rfl rfl rfl rfl rfl _ _ _ _ _ S _ _ _ _ _ _ _ _ _ _ _ _ (fun a n => prB_2_2 (h := h) ..) (fun l => dkB_v670 ..) a n

theorem ouB_2_3 (S : Fin 1024 → Fin 128 → EReal) (h : ∀ a n, (v1861 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) :
    (v2848 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 3 n) := by
  unfold v2848
  rw [cast_same]
  exact pairOut_step 3 384 1024 1280 22 6 23 7 rfl rfl rfl rfl rfl rfl rfl _ _ _ _ _ S _ _ _ _ _ _ _ _ _ _ _ _ (fun a n => prB_2_3 (h := h) ..) (fun l => dkB_v762 ..) a n

theorem ouB_2_4 (S : Fin 1024 → Fin 128 → EReal) (h : ∀ a n, (v2027 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) :
    (v2952 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 4 n) := by
  unfold v2952
  rw [cast_same]
  exact pairOut_step 4 512 1152 1408 24 8 25 9 rfl rfl rfl rfl rfl rfl rfl _ _ _ _ _ S _ _ _ _ _ _ _ _ _ _ _ _ (fun a n => prB_2_4 (h := h) ..) (fun l => dkB_v928 ..) a n

theorem ouB_2_5 (S : Fin 1024 → Fin 128 → EReal) (h : ∀ a n, (v2119 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) :
    (v3044 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 5 n) := by
  unfold v3044
  rw [cast_same]
  exact pairOut_step 5 640 1152 1408 26 10 27 11 rfl rfl rfl rfl rfl rfl rfl _ _ _ _ _ S _ _ _ _ _ _ _ _ _ _ _ _ (fun a n => prB_2_5 (h := h) ..) (fun l => dkB_v1020 ..) a n

theorem ouB_2_6 (S : Fin 1024 → Fin 128 → EReal) (h : ∀ a n, (v2280 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) :
    (v3143 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 6 n) := by
  unfold v3143
  rw [cast_same]
  exact pairOut_step 6 768 1152 1408 28 12 29 13 rfl rfl rfl rfl rfl rfl rfl _ _ _ _ _ S _ _ _ _ _ _ _ _ _ _ _ _ (fun a n => prB_2_6 (h := h) ..) (fun l => dkB_v1181 ..) a n

theorem ouB_2_7 (S : Fin 1024 → Fin 128 → EReal) (h : ∀ a n, (v2372 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) :
    (v3235 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v2466 c m1 w1 m2 w2 m3 w3 m6 w6 m7 w7 m8 w8 m12 w12 m26 x0 x1 x2 x5 x6 x7 x11) (v2467 c m1 w1 m2 w2 m3 w3 m5 w5 m13 w13 m25 w25 m28 x0 x1 x2 x4 x12 xs0) (v2468 c m1 w1 m2 w2 m3 w3 m5 w5 m13 w13 m25 w25 m29 x0 x1 x2 x4 x12 xs0) S (fun f => x8 (ix2 0 f)) a (pairF 7 n) := by
  unfold v3235
  rw [cast_same]
  exact pairOut_step 7 896 1152 1408 30 14 31 15 rfl rfl rfl rfl rfl rfl rfl _ _ _ _ _ S _ _ _ _ _ _ _ _ _ _ _ _ (fun a n => prB_2_7 (h := h) ..) (fun l => dkB_v1273 ..) a n

theorem ouB_3_0 (S : Fin 1024 → Fin 128 → EReal) (h : ∀ a n, (v2556 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 0 a) n) (a n : Fin 128) :
    (v3417 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 0 n) := by
  unfold v3417
  rw [cast_same]
  exact pairOut_step 0 0 1024 1280 16 0 17 1 rfl rfl rfl rfl rfl rfl rfl _ _ _ _ _ S _ _ _ _ _ _ _ _ _ _ _ _ (fun a n => prB_3_0 (h := h) ..) (fun l => dkB_v417 ..) a n

theorem ouB_3_1 (S : Fin 1024 → Fin 128 → EReal) (h : ∀ a n, (v2648 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 1 a) n) (a n : Fin 128) :
    (v3509 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 1 n) := by
  unfold v3509
  rw [cast_same]
  exact pairOut_step 1 128 1024 1280 18 2 19 3 rfl rfl rfl rfl rfl rfl rfl _ _ _ _ _ S _ _ _ _ _ _ _ _ _ _ _ _ (fun a n => prB_3_1 (h := h) ..) (fun l => dkB_v509 ..) a n

theorem ouB_3_2 (S : Fin 1024 → Fin 128 → EReal) (h : ∀ a n, (v2747 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 2 a) n) (a n : Fin 128) :
    (v3606 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 2 n) := by
  unfold v3606
  rw [cast_same]
  exact pairOut_step 2 256 1024 1280 20 4 21 5 rfl rfl rfl rfl rfl rfl rfl _ _ _ _ _ S _ _ _ _ _ _ _ _ _ _ _ _ (fun a n => prB_3_2 (h := h) ..) (fun l => dkB_v670 ..) a n

theorem ouB_3_3 (S : Fin 1024 → Fin 128 → EReal) (h : ∀ a n, (v2839 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 3 a) n) (a n : Fin 128) :
    (v3698 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 3 n) := by
  unfold v3698
  rw [cast_same]
  exact pairOut_step 3 384 1024 1280 22 6 23 7 rfl rfl rfl rfl rfl rfl rfl _ _ _ _ _ S _ _ _ _ _ _ _ _ _ _ _ _ (fun a n => prB_3_3 (h := h) ..) (fun l => dkB_v762 ..) a n

theorem ouB_3_4 (S : Fin 1024 → Fin 128 → EReal) (h : ∀ a n, (v2943 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 4 a) n) (a n : Fin 128) :
    (v3800 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 4 n) := by
  unfold v3800
  rw [cast_same]
  exact pairOut_step 4 512 1152 1408 24 8 25 9 rfl rfl rfl rfl rfl rfl rfl _ _ _ _ _ S _ _ _ _ _ _ _ _ _ _ _ _ (fun a n => prB_3_4 (h := h) ..) (fun l => dkB_v928 ..) a n

theorem ouB_3_5 (S : Fin 1024 → Fin 128 → EReal) (h : ∀ a n, (v3035 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 5 a) n) (a n : Fin 128) :
    (v3892 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 5 n) := by
  unfold v3892
  rw [cast_same]
  exact pairOut_step 5 640 1152 1408 26 10 27 11 rfl rfl rfl rfl rfl rfl rfl _ _ _ _ _ S _ _ _ _ _ _ _ _ _ _ _ _ (fun a n => prB_3_5 (h := h) ..) (fun l => dkB_v1020 ..) a n

theorem ouB_3_6 (S : Fin 1024 → Fin 128 → EReal) (h : ∀ a n, (v3134 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 6 a) n) (a n : Fin 128) :
    (v3989 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 6 n) := by
  unfold v3989
  rw [cast_same]
  exact pairOut_step 6 768 1152 1408 28 12 29 13 rfl rfl rfl rfl rfl rfl rfl _ _ _ _ _ S _ _ _ _ _ _ _ _ _ _ _ _ (fun a n => prB_3_6 (h := h) ..) (fun l => dkB_v1181 ..) a n

theorem ouB_3_7 (S : Fin 1024 → Fin 128 → EReal) (h : ∀ a n, (v3226 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = S (pairF 7 a) n) (a n : Fin 128) :
    (v4081 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = stepOut (v3318 c m1 w1 m2 w2 m3 w3 m6 w6 m7 w7 m8 w8 m12 w12 m26 x0 x1 x2 x5 x6 x7 x11) (v3319 c m1 w1 m2 w2 m3 w3 m5 w5 m13 w13 m25 w25 m28 x0 x1 x2 x4 x12 xs0) (v3320 c m1 w1 m2 w2 m3 w3 m5 w5 m13 w13 m25 w25 m29 x0 x1 x2 x4 x12 xs0) S (fun f => x8 (ix2 0 f)) a (pairF 7 n) := by
  unfold v4081
  rw [cast_same]
  exact pairOut_step 7 896 1152 1408 30 14 31 15 rfl rfl rfl rfl rfl rfl rfl _ _ _ _ _ S _ _ _ _ _ _ _ _ _ _ _ _ (fun a n => prB_3_7 (h := h) ..) (fun l => dkB_v1273 ..) a n

end Cert.Layer

end
-- ==== Proof.LeavesB.lean ====
/- The gates and convolved columns a tile computes in each chunk, where a batch goes on. -/
module

public import proofs.«01_k».proof.Proof.Gen.KernelIdeal.Frame.RunB
public import proofs.«01_k».proof.Proof.SsdRead
public import proofs.«01_k».proof.Proof.KernelBlocks
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_B.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m11 : Memref sig .tc .vmem S1024x1024 .bf16) (w11 : m11.IsWhole) (m12 : Memref sig .tc .vmem S1024x1536 .bf16) (w12 : m12.IsWhole) (m13 : Memref sig .tc .vmem S1024x128 .bf16) (w13 : m13.IsWhole) (m25 : Memref sig .tc .vmem S1x128 .f32) (w25 : m25.IsWhole) (m26 : Memref sig .tc .vmem S528x1536 .bf16) (w26 : m26.IsWhole) (m28 : Memref sig .tc .vmem S512x128 .f32) (m29 : Memref sig .tc .vmem S32x512 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x10 : Vec Ideal S1024x1024 .bf16) (x11 : Vec Ideal S1024x1536 .bf16) (x12 : Vec Ideal S1024x128 .bf16) (xs0 : Vec Ideal S1x128 .f32) (xs1 : Vec Ideal S528x1536 .bf16)

theorem hbB : (v39 c m1 w1 m2 w2 m3 w3 x0 x1 x2) = hTile x0 x1 x2 := by
  sl_unfold_words
  simp only [View.readAt_eq_ld, Memref.IsWhole.read_unread]
  rfl

theorem ownB (r : Fin 512) (j : Fin 1536) : (v46 c m1 w1 m2 w2 m3 w3 m12 w12 x0 x1 x2 x11) (ix2 r j) = colDot (fun d => (hTile x0 x1 x2) (ix2 r d)) (fun d => x11 (ix2 d j)) := by
  rw [← hbB c m1 w1 m2 w2 m3 w3 x0 x1 x2]
  have hw : ∀ d, (shapeCast S1024x1536 (View.readAt (Elt Ideal) m12.view (Rect.unit (s := S1024x1536) ![0, 0] S1024x1536.size (by decide)).toLoadRect (w12.unread x11)) shapeCasts_S1024x1536_S1024x1536 : FVec Ideal S1024x1536 .bf16) (ix2 d j) = x11 (ix2 d j) := by
    intro d
    rw [show ∀ (v : FVec Ideal S1024x1536 .bf16) hh, (shapeCast S1024x1536 v hh : FVec Ideal S1024x1536 .bf16) (ix2 d j) = v (ix2 d j) from fun v hh => by pointwise]
    (try sl_unfold_words); simp only [View.readAt_eq_ld, Memref.IsWhole.read_unread]
    refine View.ld_unit_apply_of _ _ _ _ _ _ fun b => ?_
    match b with
    | 0 => simp [ix2]
    | 1 => simp [ix2]
  simp only [← hw]
  unfold v46 v43 v42 v41 cst_20
  generalize (v39 c m1 w1 m2 w2 m3 w3 x0 x1 x2) = hb
  generalize View.readAt (Elt Ideal) m12.view _ _ = w
  unfold colDot
  pointwise
  try rfl

theorem zedB (r : Fin 512) (j : Fin 1024) : (v53 c m1 w1 m2 w2 m3 w3 m11 w11 x0 x1 x2 x10) (ix2 r j) = colDot (fun d => (hTile x0 x1 x2) (ix2 r d)) (fun d => x10 (ix2 d j)) := by
  rw [← hbB c m1 w1 m2 w2 m3 w3 x0 x1 x2]
  have hw : ∀ d, (shapeCast S1024x1024 (View.readAt (Elt Ideal) m11.view (Rect.unit (s := S1024x1024) ![0, 0] S1024x1024.size (by decide)).toLoadRect (w11.unread x10)) shapeCasts_S1024x1024_S1024x1024 : FVec Ideal S1024x1024 .bf16) (ix2 d j) = x10 (ix2 d j) := by
    intro d
    rw [show ∀ (v : FVec Ideal S1024x1024 .bf16) hh, (shapeCast S1024x1024 v hh : FVec Ideal S1024x1024 .bf16) (ix2 d j) = v (ix2 d j) from fun v hh => by pointwise]
    (try sl_unfold_words); simp only [View.readAt_eq_ld, Memref.IsWhole.read_unread]
    refine View.ld_unit_apply_of _ _ _ _ _ _ fun b => ?_
    match b with
    | 0 => simp [ix2]
    | 1 => simp [ix2]
  simp only [← hw]
  unfold v53 v50 v49 v48 cst_24
  generalize (v39 c m1 w1 m2 w2 m3 w3 x0 x1 x2) = hb
  generalize View.readAt (Elt Ideal) m11.view _ _ = w
  unfold colDot
  pointwise
  try rfl

theorem winB_0 (q : Fin 144) (j : Fin 1536) : (v295 c m1 w1 m2 w2 m3 w3 m12 w12 m26 w26 x0 x1 x2 x11 xs1) (ix2 q j) = rowsFn (fun q j => xs1 (ix2 ⟨q.val, by omega⟩ j)) (hTile x0 x1 x2) x11 ⟨0 + q.val, by omega⟩ j := by
  unfold v295 HS1_1
  exact rows_kept m26 w26 xs1 _ _ _ (hTile x0 x1 x2) x11 (fun r j => ownB ..) q j

theorem winB_1 (q : Fin 144) (j : Fin 1536) : (v1397 c m1 w1 m2 w2 m3 w3 m12 w12 m26 x0 x1 x2 x11) (ix2 q j) = rowsFn (fun q j => xs1 (ix2 ⟨q.val, by omega⟩ j)) (hTile x0 x1 x2) x11 ⟨128 + q.val, by omega⟩ j := by
  unfold v1397 HS1_1
  refine (readCov2 _ _ 128 0 _ q j ⟨128 + q.val, by omega⟩ j rfl (by omega)).trans ?_
  refine rows_own _ _ _ (fun q j => xs1 (ix2 ⟨q.val, by omega⟩ j)) (hTile x0 x1 x2) x11 (fun r j => ownB ..) _ _ ?_
  intro h
  exact absurd h (by show ¬ (128 + q.val < 16); omega)

theorem winB_2 (q : Fin 144) (j : Fin 1536) : (v2437 c m1 w1 m2 w2 m3 w3 m12 w12 m26 x0 x1 x2 x11) (ix2 q j) = rowsFn (fun q j => xs1 (ix2 ⟨q.val, by omega⟩ j)) (hTile x0 x1 x2) x11 ⟨256 + q.val, by omega⟩ j := by
  unfold v2437 HS1_1
  refine (readCov2 _ _ 256 0 _ q j ⟨256 + q.val, by omega⟩ j rfl (by omega)).trans ?_
  refine rows_own _ _ _ (fun q j => xs1 (ix2 ⟨q.val, by omega⟩ j)) (hTile x0 x1 x2) x11 (fun r j => ownB ..) _ _ ?_
  intro h
  exact absurd h (by show ¬ (256 + q.val < 16); omega)

theorem winB_3 (q : Fin 144) (j : Fin 1536) : (v3289 c m1 w1 m2 w2 m3 w3 m12 w12 m26 x0 x1 x2 x11) (ix2 q j) = rowsFn (fun q j => xs1 (ix2 ⟨q.val, by omega⟩ j)) (hTile x0 x1 x2) x11 ⟨384 + q.val, by omega⟩ j := by
  unfold v3289 HS1_1
  refine (readCov2 _ _ 384 0 _ q j ⟨384 + q.val, by omega⟩ j rfl (by omega)).trans ?_
  refine rows_own _ _ _ (fun q j => xs1 (ix2 ⟨q.val, by omega⟩ j)) (hTile x0 x1 x2) x11 (fun r j => ownB ..) _ _ ?_
  intro h
  exact absurd h (by show ¬ (384 + q.val < 16); omega)

theorem xbB_0 (hsh : ∀ (q : Fin 384) (r : Fin 144), (x5 (ix2 q r) : EReal) = if r.val = q.val % 128 + 13 + q.val / 128 then 1 else 0) (s : Fin 128) (j : Fin 1536) :
    (v324 c m1 w1 m2 w2 m3 w3 m6 w6 m7 w7 m8 w8 m12 w12 m26 w26 x0 x1 x2 x5 x6 x7 x11 xs1) (ix2 s j) = tX (rowsFn (fun q j => xs1 (ix2 ⟨q.val, by omega⟩ j)) (hTile x0 x1 x2) x11) x6 x7 0 s j := by
  refine Eq.trans ?_ (tX_eq _ _ _ 0 0 rfl (by decide) _ _)
  refine convFn_of ((v295 c m1 w1 m2 w2 m3 w3 m12 w12 m26 w26 x0 x1 x2 x11 xs1)) _ _ _ _ _ _ _ _ _ 0 (by decide) ?_ (fun q j => winB_0 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem xbB_1 (hsh : ∀ (q : Fin 384) (r : Fin 144), (x5 (ix2 q r) : EReal) = if r.val = q.val % 128 + 13 + q.val / 128 then 1 else 0) (s : Fin 128) (j : Fin 1536) :
    (v1426 c m1 w1 m2 w2 m3 w3 m6 w6 m7 w7 m8 w8 m12 w12 m26 x0 x1 x2 x5 x6 x7 x11) (ix2 s j) = tX (rowsFn (fun q j => xs1 (ix2 ⟨q.val, by omega⟩ j)) (hTile x0 x1 x2) x11) x6 x7 1 s j := by
  refine Eq.trans ?_ (tX_eq _ _ _ 1 128 rfl (by decide) _ _)
  refine convFn_of ((v1397 c m1 w1 m2 w2 m3 w3 m12 w12 m26 x0 x1 x2 x11)) _ _ _ _ _ _ _ _ _ 128 (by decide) ?_ (fun q j => winB_1 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem xbB_2 (hsh : ∀ (q : Fin 384) (r : Fin 144), (x5 (ix2 q r) : EReal) = if r.val = q.val % 128 + 13 + q.val / 128 then 1 else 0) (s : Fin 128) (j : Fin 1536) :
    (v2466 c m1 w1 m2 w2 m3 w3 m6 w6 m7 w7 m8 w8 m12 w12 m26 x0 x1 x2 x5 x6 x7 x11) (ix2 s j) = tX (rowsFn (fun q j => xs1 (ix2 ⟨q.val, by omega⟩ j)) (hTile x0 x1 x2) x11) x6 x7 2 s j := by
  refine Eq.trans ?_ (tX_eq _ _ _ 2 256 rfl (by decide) _ _)
  refine convFn_of ((v2437 c m1 w1 m2 w2 m3 w3 m12 w12 m26 x0 x1 x2 x11)) _ _ _ _ _ _ _ _ _ 256 (by decide) ?_ (fun q j => winB_2 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem xbB_3 (hsh : ∀ (q : Fin 384) (r : Fin 144), (x5 (ix2 q r) : EReal) = if r.val = q.val % 128 + 13 + q.val / 128 then 1 else 0) (s : Fin 128) (j : Fin 1536) :
    (v3318 c m1 w1 m2 w2 m3 w3 m6 w6 m7 w7 m8 w8 m12 w12 m26 x0 x1 x2 x5 x6 x7 x11) (ix2 s j) = tX (rowsFn (fun q j => xs1 (ix2 ⟨q.val, by omega⟩ j)) (hTile x0 x1 x2) x11) x6 x7 3 s j := by
  refine Eq.trans ?_ (tX_eq _ _ _ 3 384 rfl (by decide) _ _)
  refine convFn_of ((v3289 c m1 w1 m2 w2 m3 w3 m12 w12 m26 x0 x1 x2 x11)) _ _ _ _ _ _ _ _ _ 384 (by decide) ?_ (fun q j => winB_3 ..) ?_ ?_ ?_ ?_ ?_ s j
  · intro q r
    rw [← hsh]
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]
  · intro j
    (try sl_unfold_words); simp only [View.readAt_eq_ld, Memref.IsWhole.read_unread]
    refine View.ld_unit_apply_of _ _ _ _ _ _ fun b => ?_
    match b with
    | 0 => simp [ix2]
    | 1 => simp [ix2]

theorem natB_0 (s k : Fin 128) (hk : k.val < 32) : (v325 c m1 w1 m2 w2 m3 w3 m5 w5 m13 w13 m25 w25 m28 x0 x1 x2 x4 x12 xs0) (ix2 s k) = gateFn (stepFn (hTile x0 x1 x2) x12 x4) (fun k => x4 (ix2 1 k)) 0 (by decide) s k := by
  rw [← hbB c m1 w1 m2 w2 m3 w3 x0 x1 x2]
  unfold v325
  simp (disch := decide) only [↓ View.readCov_skip, ↓ View.readCov_cons_toLoadRect, ↓ View.readCov_fill, HS3_4]
  unfold v116
  rw [show ∀ (v : FVec Ideal S128x128 .f32) hh, (shapeCast S128x128 v hh : FVec Ideal S128x128 .f32) (ix2 s k) = v (ix2 s k) from fun v hh => by pointwise]
  refine gateChunk_at _ x12 x4 _ _ _ _ 0 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtB_0 (k : Fin 32) (s : Fin 128) : (v326 c m1 w1 m2 w2 m3 w3 m5 w5 m13 w13 m25 w25 m29 x0 x1 x2 x4 x12 xs0) (ix2 k s) = gateFn (stepFn (hTile x0 x1 x2) x12 x4) (fun k => x4 (ix2 1 k)) 0 (by decide) s ⟨k.val, by omega⟩ := by
  rw [← hbB c m1 w1 m2 w2 m3 w3 x0 x1 x2]
  unfold v326
  simp (disch := decide) only [↓ View.readCov_skip, ↓ View.readCov_cons_toLoadRect, ↓ View.readCov_fill, HS4_4]
  unfold v121 v118 v117
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 0 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem natB_1 (s k : Fin 128) (hk : k.val < 32) : (v1427 c m1 w1 m2 w2 m3 w3 m5 w5 m13 w13 m25 w25 m28 x0 x1 x2 x4 x12 xs0) (ix2 s k) = gateFn (stepFn (hTile x0 x1 x2) x12 x4) (fun k => x4 (ix2 1 k)) 128 (by decide) s k := by
  rw [← hbB c m1 w1 m2 w2 m3 w3 x0 x1 x2]
  unfold v1427
  simp (disch := decide) only [↓ View.readCov_skip, ↓ View.readCov_cons_toLoadRect, ↓ View.readCov_fill, HS3_4]
  unfold v135
  rw [show ∀ (v : FVec Ideal S128x128 .f32) hh, (shapeCast S128x128 v hh : FVec Ideal S128x128 .f32) (ix2 s k) = v (ix2 s k) from fun v hh => by pointwise]
  refine gateChunk_at _ x12 x4 _ _ _ _ 128 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtB_1 (k : Fin 32) (s : Fin 128) : (v1428 c m1 w1 m2 w2 m3 w3 m5 w5 m13 w13 m25 w25 m29 x0 x1 x2 x4 x12 xs0) (ix2 k s) = gateFn (stepFn (hTile x0 x1 x2) x12 x4) (fun k => x4 (ix2 1 k)) 128 (by decide) s ⟨k.val, by omega⟩ := by
  rw [← hbB c m1 w1 m2 w2 m3 w3 x0 x1 x2]
  unfold v1428
  simp (disch := decide) only [↓ View.readCov_skip, ↓ View.readCov_cons_toLoadRect, ↓ View.readCov_fill, HS4_4]
  unfold v140 v137 v136
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 128 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem natB_2 (s k : Fin 128) (hk : k.val < 32) : (v2467 c m1 w1 m2 w2 m3 w3 m5 w5 m13 w13 m25 w25 m28 x0 x1 x2 x4 x12 xs0) (ix2 s k) = gateFn (stepFn (hTile x0 x1 x2) x12 x4) (fun k => x4 (ix2 1 k)) 256 (by decide) s k := by
  rw [← hbB c m1 w1 m2 w2 m3 w3 x0 x1 x2]
  unfold v2467
  simp (disch := decide) only [↓ View.readCov_skip, ↓ View.readCov_cons_toLoadRect, ↓ View.readCov_fill, HS3_4]
  unfold v154
  rw [show ∀ (v : FVec Ideal S128x128 .f32) hh, (shapeCast S128x128 v hh : FVec Ideal S128x128 .f32) (ix2 s k) = v (ix2 s k) from fun v hh => by pointwise]
  refine gateChunk_at _ x12 x4 _ _ _ _ 256 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtB_2 (k : Fin 32) (s : Fin 128) : (v2468 c m1 w1 m2 w2 m3 w3 m5 w5 m13 w13 m25 w25 m29 x0 x1 x2 x4 x12 xs0) (ix2 k s) = gateFn (stepFn (hTile x0 x1 x2) x12 x4) (fun k => x4 (ix2 1 k)) 256 (by decide) s ⟨k.val, by omega⟩ := by
  rw [← hbB c m1 w1 m2 w2 m3 w3 x0 x1 x2]
  unfold v2468
  simp (disch := decide) only [↓ View.readCov_skip, ↓ View.readCov_cons_toLoadRect, ↓ View.readCov_fill, HS4_4]
  unfold v159 v156 v155
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 256 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem natB_3 (s k : Fin 128) (hk : k.val < 32) : (v3319 c m1 w1 m2 w2 m3 w3 m5 w5 m13 w13 m25 w25 m28 x0 x1 x2 x4 x12 xs0) (ix2 s k) = gateFn (stepFn (hTile x0 x1 x2) x12 x4) (fun k => x4 (ix2 1 k)) 384 (by decide) s k := by
  rw [← hbB c m1 w1 m2 w2 m3 w3 x0 x1 x2]
  unfold v3319
  simp (disch := decide) only [↓ View.readCov_skip, ↓ View.readCov_cons_toLoadRect, ↓ View.readCov_fill, HS3_4]
  unfold k0_pay33
  try dsimp only
  rw [show ∀ (v : FVec Ideal S128x128 .f32) hh, (shapeCast S128x128 v hh : FVec Ideal S128x128 .f32) (ix2 s k) = v (ix2 s k) from fun v hh => by pointwise]
  refine gateChunk_at _ x12 x4 _ _ _ _ 384 (by decide) _ _ ?_ ?_ ?_ s k hk
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

theorem gtB_3 (k : Fin 32) (s : Fin 128) : (v3320 c m1 w1 m2 w2 m3 w3 m5 w5 m13 w13 m25 w25 m29 x0 x1 x2 x4 x12 xs0) (ix2 k s) = gateFn (stepFn (hTile x0 x1 x2) x12 x4) (fun k => x4 (ix2 1 k)) 384 (by decide) s ⟨k.val, by omega⟩ := by
  rw [← hbB c m1 w1 m2 w2 m3 w3 x0 x1 x2]
  unfold v3320
  simp (disch := decide) only [↓ View.readCov_skip, ↓ View.readCov_cons_toLoadRect, ↓ View.readCov_fill, HS4_4]
  unfold k0_pay34
  try dsimp only
  rw [show ∀ (v : FVec Ideal S128x128 .f32) h1 h2 h3, (shapeCast S32x128 (extractStridedSlice S32x128 ![0, 0] (transpose S128x128 [1, 0] v h1) h2) h3 : FVec Ideal S32x128 .f32) (ix2 k s) = v (ix2 s ⟨k.val, by omega⟩) from fun v h1 h2 h3 => by pointwise]
  refine gateChunk_at _ x12 x4 _ _ _ _ 384 (by decide) _ _ ?_ ?_ ?_ s ⟨k.val, by omega⟩ k.isLt
  · intro d k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]
  · intro k
    (try sl_unfold_words); simp only [View.readAt_eq_ld, Memref.IsWhole.read_unread]
    refine View.ld_unit_apply_of _ _ _ _ _ _ fun b => ?_
    match b with
    | 0 => simp [ix2]
    | 1 => simp [ix2]

end Cert.Layer

end
-- ==== Proof.ChunksB.lean ====
/- The recurrence over one tile where a batch goes on: what each chunk leaves and puts out, on entries. -/
module

public import proofs.«01_k».proof.Proof.Gen.KernelIdeal.Frame.RunB
public import proofs.«01_k».proof.Proof.StatesB
public import proofs.«01_k».proof.Proof.OutputsB
public import proofs.«01_k».proof.Proof.LeavesB
public import proofs.«01_k».proof.Proof.SsdNames
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_B.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m9 : Memref sig .tc .vmem S1x1024 .f32) (w9 : m9.IsWhole) (m12 : Memref sig .tc .vmem S1024x1536 .bf16) (w12 : m12.IsWhole) (m13 : Memref sig .tc .vmem S1024x128 .bf16) (w13 : m13.IsWhole) (m25 : Memref sig .tc .vmem S1x128 .f32) (w25 : m25.IsWhole) (m26 : Memref sig .tc .vmem S528x1536 .bf16) (w26 : m26.IsWhole) (m28 : Memref sig .tc .vmem S512x128 .f32) (m29 : Memref sig .tc .vmem S32x512 .f32) (m30 : Memref sig .tc .vmem S8x128x128 .f32) (w30 : m30.IsWhole)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x8 : Vec Ideal S1x1024 .f32) (x11 : Vec Ideal S1024x1536 .bf16) (x12 : Vec Ideal S1024x128 .bf16) (xs0 : Vec Ideal S1x128 .f32) (xs1 : Vec Ideal S528x1536 .bf16) (xs5 : Vec Ideal S8x128x128 .f32)

theorem heldAt (i : ℕ) (x : Vec Ideal S8x128x128 .f32) (a n : Fin 128) (k : Fin 8) (hk : k.val = i) (f : Fin 1024) (hf : f.val = 128 * i + a.val) :
    (x (ix3 k a n) : EReal) = held x f n := by
  have := a.isLt
  refine congrArg x ?_
  congr 1
  · exact Fin.ext (by show k.val = f.val / 128; omega)
  · exact Fin.ext (by show a.val = f.val % 128; omega)

theorem nDB_0 (s : Fin 128) (h : Fin 16) : (v325 c m1 w1 m2 w2 m3 w3 m5 w5 m13 w13 m25 w25 m28 x0 x1 x2 x4 x12 xs0) (ix2 s ⟨h.val, by omega⟩) = (kD x0 x1 x2 x4 x12) 0 s h := (natB_0 (k := ⟨h.val, by omega⟩) (hk := by show h.val < 32; omega) ..).trans (tD_eq _ _ 0 0 rfl _ s h _ rfl)
theorem nAB_0 (s : Fin 128) (h : Fin 16) : (v325 c m1 w1 m2 w2 m3 w3 m5 w5 m13 w13 m25 w25 m28 x0 x1 x2 x4 x12 xs0) (ix2 s ⟨16 + h.val, by omega⟩) = (kA x0 x1 x2 x4 x12) 0 s h := (natB_0 (k := ⟨16 + h.val, by omega⟩) (hk := by show 16 + h.val < 32; omega) ..).trans (tA_eq _ _ 0 0 rfl _ s h _ rfl)
theorem gDB_0 (s : Fin 128) (h : Fin 16) : (v326 c m1 w1 m2 w2 m3 w3 m5 w5 m13 w13 m25 w25 m29 x0 x1 x2 x4 x12 xs0) (ix2 ⟨h.val, by omega⟩ s) = (kD x0 x1 x2 x4 x12) 0 s h := (gtB_0 (k := ⟨h.val, by omega⟩) ..).trans (tD_eq _ _ 0 0 rfl _ s h _ rfl)
theorem gAB_0 (s : Fin 128) (h : Fin 16) : (v326 c m1 w1 m2 w2 m3 w3 m5 w5 m13 w13 m25 w25 m29 x0 x1 x2 x4 x12 xs0) (ix2 ⟨16 + h.val, by omega⟩ s) = (kA x0 x1 x2 x4 x12) 0 s h := (gtB_0 (k := ⟨16 + h.val, by omega⟩) ..).trans (tA_eq _ _ 0 0 rfl _ s h _ rfl)

theorem csB_0_0 (hsh : IsShift x5) (a n : Fin 128) : (v414 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 0 a) n :=
  (stB_0_0 (S := (kS (kept xs1) (held xs5) x0 x1 x2 x4 x6 x7 x11 x12 0)) (h := (fun a n => heldAt 0 xs5 a n _ rfl _ rfl)) ..).trans
    (stepState_eq _ _ _ _ _ _ (fun s j => xbB_0 (hsh := hsh) ..) (fun s h => nDB_0 ..) (fun s h => nAB_0 ..) _ _)

theorem coB_0_0 (hsh : IsShift x5) (a n : Fin 128) : (v423 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 0 n) :=
  (ouB_0_0 (S := (kS (kept xs1) (held xs5) x0 x1 x2 x4 x6 x7 x11 x12 0)) (h := (fun a n => heldAt 0 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_1 (hsh : IsShift x5) (a n : Fin 128) : (v506 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 1 a) n :=
  (stB_0_1 (S := (kS (kept xs1) (held xs5) x0 x1 x2 x4 x6 x7 x11 x12 0)) (h := (fun a n => heldAt 1 xs5 a n _ rfl _ rfl)) ..).trans
    (stepState_eq _ _ _ _ _ _ (fun s j => xbB_0 (hsh := hsh) ..) (fun s h => nDB_0 ..) (fun s h => nAB_0 ..) _ _)

theorem coB_0_1 (hsh : IsShift x5) (a n : Fin 128) : (v515 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 1 n) :=
  (ouB_0_1 (S := (kS (kept xs1) (held xs5) x0 x1 x2 x4 x6 x7 x11 x12 0)) (h := (fun a n => heldAt 1 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_2 (hsh : IsShift x5) (a n : Fin 128) : (v667 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 2 a) n :=
  (stB_0_2 (S := (kS (kept xs1) (held xs5) x0 x1 x2 x4 x6 x7 x11 x12 0)) (h := (fun a n => heldAt 2 xs5 a n _ rfl _ rfl)) ..).trans
    (stepState_eq _ _ _ _ _ _ (fun s j => xbB_0 (hsh := hsh) ..) (fun s h => nDB_0 ..) (fun s h => nAB_0 ..) _ _)

theorem coB_0_2 (hsh : IsShift x5) (a n : Fin 128) : (v676 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 2 n) :=
  (ouB_0_2 (S := (kS (kept xs1) (held xs5) x0 x1 x2 x4 x6 x7 x11 x12 0)) (h := (fun a n => heldAt 2 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_3 (hsh : IsShift x5) (a n : Fin 128) : (v759 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 3 a) n :=
  (stB_0_3 (S := (kS (kept xs1) (held xs5) x0 x1 x2 x4 x6 x7 x11 x12 0)) (h := (fun a n => heldAt 3 xs5 a n _ rfl _ rfl)) ..).trans
    (stepState_eq _ _ _ _ _ _ (fun s j => xbB_0 (hsh := hsh) ..) (fun s h => nDB_0 ..) (fun s h => nAB_0 ..) _ _)

theorem coB_0_3 (hsh : IsShift x5) (a n : Fin 128) : (v768 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 3 n) :=
  (ouB_0_3 (S := (kS (kept xs1) (held xs5) x0 x1 x2 x4 x6 x7 x11 x12 0)) (h := (fun a n => heldAt 3 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_4 (hsh : IsShift x5) (a n : Fin 128) : (v925 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 4 a) n :=
  (stB_0_4 (S := (kS (kept xs1) (held xs5) x0 x1 x2 x4 x6 x7 x11 x12 0)) (h := (fun a n => heldAt 4 xs5 a n _ rfl _ rfl)) ..).trans
    (stepState_eq _ _ _ _ _ _ (fun s j => xbB_0 (hsh := hsh) ..) (fun s h => nDB_0 ..) (fun s h => nAB_0 ..) _ _)

theorem coB_0_4 (hsh : IsShift x5) (a n : Fin 128) : (v934 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 4 n) :=
  (ouB_0_4 (S := (kS (kept xs1) (held xs5) x0 x1 x2 x4 x6 x7 x11 x12 0)) (h := (fun a n => heldAt 4 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_5 (hsh : IsShift x5) (a n : Fin 128) : (v1017 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 5 a) n :=
  (stB_0_5 (S := (kS (kept xs1) (held xs5) x0 x1 x2 x4 x6 x7 x11 x12 0)) (h := (fun a n => heldAt 5 xs5 a n _ rfl _ rfl)) ..).trans
    (stepState_eq _ _ _ _ _ _ (fun s j => xbB_0 (hsh := hsh) ..) (fun s h => nDB_0 ..) (fun s h => nAB_0 ..) _ _)

theorem coB_0_5 (hsh : IsShift x5) (a n : Fin 128) : (v1026 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 5 n) :=
  (ouB_0_5 (S := (kS (kept xs1) (held xs5) x0 x1 x2 x4 x6 x7 x11 x12 0)) (h := (fun a n => heldAt 5 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_6 (hsh : IsShift x5) (a n : Fin 128) : (v1178 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 6 a) n :=
  (stB_0_6 (S := (kS (kept xs1) (held xs5) x0 x1 x2 x4 x6 x7 x11 x12 0)) (h := (fun a n => heldAt 6 xs5 a n _ rfl _ rfl)) ..).trans
    (stepState_eq _ _ _ _ _ _ (fun s j => xbB_0 (hsh := hsh) ..) (fun s h => nDB_0 ..) (fun s h => nAB_0 ..) _ _)

theorem coB_0_6 (hsh : IsShift x5) (a n : Fin 128) : (v1187 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 6 n) :=
  (ouB_0_6 (S := (kS (kept xs1) (held xs5) x0 x1 x2 x4 x6 x7 x11 x12 0)) (h := (fun a n => heldAt 6 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem csB_0_7 (hsh : IsShift x5) (a n : Fin 128) : (v1270 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 1) (pairF 7 a) n :=
  (stB_0_7 (S := (kS (kept xs1) (held xs5) x0 x1 x2 x4 x6 x7 x11 x12 0)) (h := (fun a n => heldAt 7 xs5 a n _ rfl _ rfl)) ..).trans
    (stepState_eq _ _ _ _ _ _ (fun s j => xbB_0 (hsh := hsh) ..) (fun s h => nDB_0 ..) (fun s h => nAB_0 ..) _ _)

theorem coB_0_7 (hsh : IsShift x5) (a n : Fin 128) : (v1279 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 0 a (pairF 7 n) :=
  (ouB_0_7 (S := (kS (kept xs1) (held xs5) x0 x1 x2 x4 x6 x7 x11 x12 0)) (h := (fun a n => heldAt 7 xs5 a n _ rfl _ rfl)) ..).trans
    (stepOut_eq _ _ _ _ _ _ _ _ (fun s j => xbB_0 (hsh := hsh) ..) (fun s h => nAB_0 ..) (fun s h => gDB_0 ..) (fun s h => gAB_0 ..) _ _)

theorem nDB_1 (s : Fin 128) (h : Fin 16) : (v1427 c m1 w1 m2 w2 m3 w3 m5 w5 m13 w13 m25 w25 m28 x0 x1 x2 x4 x12 xs0) (ix2 s ⟨h.val, by omega⟩) = (kD x0 x1 x2 x4 x12) 1 s h := (natB_1 (k := ⟨h.val, by omega⟩) (hk := by show h.val < 32; omega) ..).trans (tD_eq _ _ 1 128 rfl _ s h _ rfl)
theorem nAB_1 (s : Fin 128) (h : Fin 16) : (v1427 c m1 w1 m2 w2 m3 w3 m5 w5 m13 w13 m25 w25 m28 x0 x1 x2 x4 x12 xs0) (ix2 s ⟨16 + h.val, by omega⟩) = (kA x0 x1 x2 x4 x12) 1 s h := (natB_1 (k := ⟨16 + h.val, by omega⟩) (hk := by show 16 + h.val < 32; omega) ..).trans (tA_eq _ _ 1 128 rfl _ s h _ rfl)
theorem gDB_1 (s : Fin 128) (h : Fin 16) : (v1428 c m1 w1 m2 w2 m3 w3 m5 w5 m13 w13 m25 w25 m29 x0 x1 x2 x4 x12 xs0) (ix2 ⟨h.val, by omega⟩ s) = (kD x0 x1 x2 x4 x12) 1 s h := (gtB_1 (k := ⟨h.val, by omega⟩) ..).trans (tD_eq _ _ 1 128 rfl _ s h _ rfl)
theorem gAB_1 (s : Fin 128) (h : Fin 16) : (v1428 c m1 w1 m2 w2 m3 w3 m5 w5 m13 w13 m25 w25 m29 x0 x1 x2 x4 x12 xs0) (ix2 ⟨16 + h.val, by omega⟩ s) = (kA x0 x1 x2 x4 x12) 1 s h := (gtB_1 (k := ⟨16 + h.val, by omega⟩) ..).trans (tA_eq _ _ 1 128 rfl _ s h _ rfl)

theorem csB_1_0 (hsh : IsShift x5) (a n : Fin 128) : (v1516 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 0 a) n :=
  (stB_1_0 (h := (fun a n => csB_0_0 (hsh := hsh) ..)) ..).trans
    (stepState_eq _ _ _ _ _ _ (fun s j => xbB_1 (hsh := hsh) ..) (fun s h => nDB_1 ..) (fun s h => nAB_1 ..) _ _)

theorem coB_1_0 (hsh : IsShift x5) (a n : Fin 128) : (v1525 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 0 n) :=
  (ouB_1_0 (h := (fun a n => csB_0_0 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_1 (hsh : IsShift x5) (a n : Fin 128) : (v1608 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 1 a) n :=
  (stB_1_1 (h := (fun a n => csB_0_1 (hsh := hsh) ..)) ..).trans
    (stepState_eq _ _ _ _ _ _ (fun s j => xbB_1 (hsh := hsh) ..) (fun s h => nDB_1 ..) (fun s h => nAB_1 ..) _ _)

theorem coB_1_1 (hsh : IsShift x5) (a n : Fin 128) : (v1617 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 1 n) :=
  (ouB_1_1 (h := (fun a n => csB_0_1 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_2 (hsh : IsShift x5) (a n : Fin 128) : (v1769 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 2 a) n :=
  (stB_1_2 (h := (fun a n => csB_0_2 (hsh := hsh) ..)) ..).trans
    (stepState_eq _ _ _ _ _ _ (fun s j => xbB_1 (hsh := hsh) ..) (fun s h => nDB_1 ..) (fun s h => nAB_1 ..) _ _)

theorem coB_1_2 (hsh : IsShift x5) (a n : Fin 128) : (v1778 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 2 n) :=
  (ouB_1_2 (h := (fun a n => csB_0_2 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_3 (hsh : IsShift x5) (a n : Fin 128) : (v1861 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 3 a) n :=
  (stB_1_3 (h := (fun a n => csB_0_3 (hsh := hsh) ..)) ..).trans
    (stepState_eq _ _ _ _ _ _ (fun s j => xbB_1 (hsh := hsh) ..) (fun s h => nDB_1 ..) (fun s h => nAB_1 ..) _ _)

theorem coB_1_3 (hsh : IsShift x5) (a n : Fin 128) : (v1870 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 3 n) :=
  (ouB_1_3 (h := (fun a n => csB_0_3 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_4 (hsh : IsShift x5) (a n : Fin 128) : (v2027 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 4 a) n :=
  (stB_1_4 (h := (fun a n => csB_0_4 (hsh := hsh) ..)) ..).trans
    (stepState_eq _ _ _ _ _ _ (fun s j => xbB_1 (hsh := hsh) ..) (fun s h => nDB_1 ..) (fun s h => nAB_1 ..) _ _)

theorem coB_1_4 (hsh : IsShift x5) (a n : Fin 128) : (v2036 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 4 n) :=
  (ouB_1_4 (h := (fun a n => csB_0_4 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_5 (hsh : IsShift x5) (a n : Fin 128) : (v2119 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 5 a) n :=
  (stB_1_5 (h := (fun a n => csB_0_5 (hsh := hsh) ..)) ..).trans
    (stepState_eq _ _ _ _ _ _ (fun s j => xbB_1 (hsh := hsh) ..) (fun s h => nDB_1 ..) (fun s h => nAB_1 ..) _ _)

theorem coB_1_5 (hsh : IsShift x5) (a n : Fin 128) : (v2128 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 5 n) :=
  (ouB_1_5 (h := (fun a n => csB_0_5 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_6 (hsh : IsShift x5) (a n : Fin 128) : (v2280 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 6 a) n :=
  (stB_1_6 (h := (fun a n => csB_0_6 (hsh := hsh) ..)) ..).trans
    (stepState_eq _ _ _ _ _ _ (fun s j => xbB_1 (hsh := hsh) ..) (fun s h => nDB_1 ..) (fun s h => nAB_1 ..) _ _)

theorem coB_1_6 (hsh : IsShift x5) (a n : Fin 128) : (v2289 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 6 n) :=
  (ouB_1_6 (h := (fun a n => csB_0_6 (hsh := hsh) ..)) ..).trans
    (stepOut_eq _ _ _ _ _ _ _ _ (fun s j => xbB_1 (hsh := hsh) ..) (fun s h => nAB_1 ..) (fun s h => gDB_1 ..) (fun s h => gAB_1 ..) _ _)

theorem csB_1_7 (hsh : IsShift x5) (a n : Fin 128) : (v2372 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 2) (pairF 7 a) n :=
  (stB_1_7 (h := (fun a n => csB_0_7 (hsh := hsh) ..)) ..).trans
    (stepState_eq _ _ _ _ _ _ (fun s j => xbB_1 (hsh := hsh) ..) (fun s h => nDB_1 ..) (fun s h => nAB_1 ..) _ _)

theorem coB_1_7 (hsh : IsShift x5) (a n : Fin 128) : (v2381 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 1 a (pairF 7 n) :=
  (ouB_1_7 (h := (fun a n => csB_0_7 (hsh := hsh) ..)) ..).trans
    (stepOut_eq _ _ _ _ _ _ _ _ (fun s j => xbB_1 (hsh := hsh) ..) (fun s h => nAB_1 ..) (fun s h => gDB_1 ..) (fun s h => gAB_1 ..) _ _)

theorem nDB_2 (s : Fin 128) (h : Fin 16) : (v2467 c m1 w1 m2 w2 m3 w3 m5 w5 m13 w13 m25 w25 m28 x0 x1 x2 x4 x12 xs0) (ix2 s ⟨h.val, by omega⟩) = (kD x0 x1 x2 x4 x12) 2 s h := (natB_2 (k := ⟨h.val, by omega⟩) (hk := by show h.val < 32; omega) ..).trans (tD_eq _ _ 2 256 rfl _ s h _ rfl)
theorem nAB_2 (s : Fin 128) (h : Fin 16) : (v2467 c m1 w1 m2 w2 m3 w3 m5 w5 m13 w13 m25 w25 m28 x0 x1 x2 x4 x12 xs0) (ix2 s ⟨16 + h.val, by omega⟩) = (kA x0 x1 x2 x4 x12) 2 s h := (natB_2 (k := ⟨16 + h.val, by omega⟩) (hk := by show 16 + h.val < 32; omega) ..).trans (tA_eq _ _ 2 256 rfl _ s h _ rfl)
theorem gDB_2 (s : Fin 128) (h : Fin 16) : (v2468 c m1 w1 m2 w2 m3 w3 m5 w5 m13 w13 m25 w25 m29 x0 x1 x2 x4 x12 xs0) (ix2 ⟨h.val, by omega⟩ s) = (kD x0 x1 x2 x4 x12) 2 s h := (gtB_2 (k := ⟨h.val, by omega⟩) ..).trans (tD_eq _ _ 2 256 rfl _ s h _ rfl)
theorem gAB_2 (s : Fin 128) (h : Fin 16) : (v2468 c m1 w1 m2 w2 m3 w3 m5 w5 m13 w13 m25 w25 m29 x0 x1 x2 x4 x12 xs0) (ix2 ⟨16 + h.val, by omega⟩ s) = (kA x0 x1 x2 x4 x12) 2 s h := (gtB_2 (k := ⟨16 + h.val, by omega⟩) ..).trans (tA_eq _ _ 2 256 rfl _ s h _ rfl)

theorem csB_2_0 (hsh : IsShift x5) (a n : Fin 128) : (v2556 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 0 a) n :=
  (stB_2_0 (h := (fun a n => csB_1_0 (hsh := hsh) ..)) ..).trans
    (stepState_eq _ _ _ _ _ _ (fun s j => xbB_2 (hsh := hsh) ..) (fun s h => nDB_2 ..) (fun s h => nAB_2 ..) _ _)

theorem coB_2_0 (hsh : IsShift x5) (a n : Fin 128) : (v2565 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 0 n) :=
  (ouB_2_0 (h := (fun a n => csB_1_0 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_1 (hsh : IsShift x5) (a n : Fin 128) : (v2648 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 1 a) n :=
  (stB_2_1 (h := (fun a n => csB_1_1 (hsh := hsh) ..)) ..).trans
    (stepState_eq _ _ _ _ _ _ (fun s j => xbB_2 (hsh := hsh) ..) (fun s h => nDB_2 ..) (fun s h => nAB_2 ..) _ _)

theorem coB_2_1 (hsh : IsShift x5) (a n : Fin 128) : (v2657 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 1 n) :=
  (ouB_2_1 (h := (fun a n => csB_1_1 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_2 (hsh : IsShift x5) (a n : Fin 128) : (v2747 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 2 a) n :=
  (stB_2_2 (h := (fun a n => csB_1_2 (hsh := hsh) ..)) ..).trans
    (stepState_eq _ _ _ _ _ _ (fun s j => xbB_2 (hsh := hsh) ..) (fun s h => nDB_2 ..) (fun s h => nAB_2 ..) _ _)

theorem coB_2_2 (hsh : IsShift x5) (a n : Fin 128) : (v2756 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 2 n) :=
  (ouB_2_2 (h := (fun a n => csB_1_2 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_3 (hsh : IsShift x5) (a n : Fin 128) : (v2839 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 3 a) n :=
  (stB_2_3 (h := (fun a n => csB_1_3 (hsh := hsh) ..)) ..).trans
    (stepState_eq _ _ _ _ _ _ (fun s j => xbB_2 (hsh := hsh) ..) (fun s h => nDB_2 ..) (fun s h => nAB_2 ..) _ _)

theorem coB_2_3 (hsh : IsShift x5) (a n : Fin 128) : (v2848 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 3 n) :=
  (ouB_2_3 (h := (fun a n => csB_1_3 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_4 (hsh : IsShift x5) (a n : Fin 128) : (v2943 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 4 a) n :=
  (stB_2_4 (h := (fun a n => csB_1_4 (hsh := hsh) ..)) ..).trans
    (stepState_eq _ _ _ _ _ _ (fun s j => xbB_2 (hsh := hsh) ..) (fun s h => nDB_2 ..) (fun s h => nAB_2 ..) _ _)

theorem coB_2_4 (hsh : IsShift x5) (a n : Fin 128) : (v2952 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 4 n) :=
  (ouB_2_4 (h := (fun a n => csB_1_4 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_5 (hsh : IsShift x5) (a n : Fin 128) : (v3035 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 5 a) n :=
  (stB_2_5 (h := (fun a n => csB_1_5 (hsh := hsh) ..)) ..).trans
    (stepState_eq _ _ _ _ _ _ (fun s j => xbB_2 (hsh := hsh) ..) (fun s h => nDB_2 ..) (fun s h => nAB_2 ..) _ _)

theorem coB_2_5 (hsh : IsShift x5) (a n : Fin 128) : (v3044 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 5 n) :=
  (ouB_2_5 (h := (fun a n => csB_1_5 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_6 (hsh : IsShift x5) (a n : Fin 128) : (v3134 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 6 a) n :=
  (stB_2_6 (h := (fun a n => csB_1_6 (hsh := hsh) ..)) ..).trans
    (stepState_eq _ _ _ _ _ _ (fun s j => xbB_2 (hsh := hsh) ..) (fun s h => nDB_2 ..) (fun s h => nAB_2 ..) _ _)

theorem coB_2_6 (hsh : IsShift x5) (a n : Fin 128) : (v3143 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 6 n) :=
  (ouB_2_6 (h := (fun a n => csB_1_6 (hsh := hsh) ..)) ..).trans
    (stepOut_eq _ _ _ _ _ _ _ _ (fun s j => xbB_2 (hsh := hsh) ..) (fun s h => nAB_2 ..) (fun s h => gDB_2 ..) (fun s h => gAB_2 ..) _ _)

theorem csB_2_7 (hsh : IsShift x5) (a n : Fin 128) : (v3226 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 3) (pairF 7 a) n :=
  (stB_2_7 (h := (fun a n => csB_1_7 (hsh := hsh) ..)) ..).trans
    (stepState_eq _ _ _ _ _ _ (fun s j => xbB_2 (hsh := hsh) ..) (fun s h => nDB_2 ..) (fun s h => nAB_2 ..) _ _)

theorem coB_2_7 (hsh : IsShift x5) (a n : Fin 128) : (v3235 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 2 a (pairF 7 n) :=
  (ouB_2_7 (h := (fun a n => csB_1_7 (hsh := hsh) ..)) ..).trans
    (stepOut_eq _ _ _ _ _ _ _ _ (fun s j => xbB_2 (hsh := hsh) ..) (fun s h => nAB_2 ..) (fun s h => gDB_2 ..) (fun s h => gAB_2 ..) _ _)

theorem nDB_3 (s : Fin 128) (h : Fin 16) : (v3319 c m1 w1 m2 w2 m3 w3 m5 w5 m13 w13 m25 w25 m28 x0 x1 x2 x4 x12 xs0) (ix2 s ⟨h.val, by omega⟩) = (kD x0 x1 x2 x4 x12) 3 s h := (natB_3 (k := ⟨h.val, by omega⟩) (hk := by show h.val < 32; omega) ..).trans (tD_eq _ _ 3 384 rfl _ s h _ rfl)
theorem nAB_3 (s : Fin 128) (h : Fin 16) : (v3319 c m1 w1 m2 w2 m3 w3 m5 w5 m13 w13 m25 w25 m28 x0 x1 x2 x4 x12 xs0) (ix2 s ⟨16 + h.val, by omega⟩) = (kA x0 x1 x2 x4 x12) 3 s h := (natB_3 (k := ⟨16 + h.val, by omega⟩) (hk := by show 16 + h.val < 32; omega) ..).trans (tA_eq _ _ 3 384 rfl _ s h _ rfl)
theorem gDB_3 (s : Fin 128) (h : Fin 16) : (v3320 c m1 w1 m2 w2 m3 w3 m5 w5 m13 w13 m25 w25 m29 x0 x1 x2 x4 x12 xs0) (ix2 ⟨h.val, by omega⟩ s) = (kD x0 x1 x2 x4 x12) 3 s h := (gtB_3 (k := ⟨h.val, by omega⟩) ..).trans (tD_eq _ _ 3 384 rfl _ s h _ rfl)
theorem gAB_3 (s : Fin 128) (h : Fin 16) : (v3320 c m1 w1 m2 w2 m3 w3 m5 w5 m13 w13 m25 w25 m29 x0 x1 x2 x4 x12 xs0) (ix2 ⟨16 + h.val, by omega⟩ s) = (kA x0 x1 x2 x4 x12) 3 s h := (gtB_3 (k := ⟨16 + h.val, by omega⟩) ..).trans (tA_eq _ _ 3 384 rfl _ s h _ rfl)

theorem csB_3_0 (hsh : IsShift x5) (a n : Fin 128) : (v3408 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 0 a) n :=
  (stB_3_0 (h := (fun a n => csB_2_0 (hsh := hsh) ..)) ..).trans
    (stepState_eq _ _ _ _ _ _ (fun s j => xbB_3 (hsh := hsh) ..) (fun s h => nDB_3 ..) (fun s h => nAB_3 ..) _ _)

theorem coB_3_0 (hsh : IsShift x5) (a n : Fin 128) : (v3417 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 0 n) :=
  (ouB_3_0 (h := (fun a n => csB_2_0 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_1 (hsh : IsShift x5) (a n : Fin 128) : (v3500 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 1 a) n :=
  (stB_3_1 (h := (fun a n => csB_2_1 (hsh := hsh) ..)) ..).trans
    (stepState_eq _ _ _ _ _ _ (fun s j => xbB_3 (hsh := hsh) ..) (fun s h => nDB_3 ..) (fun s h => nAB_3 ..) _ _)

theorem coB_3_1 (hsh : IsShift x5) (a n : Fin 128) : (v3509 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 1 n) :=
  (ouB_3_1 (h := (fun a n => csB_2_1 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_2 (hsh : IsShift x5) (a n : Fin 128) : (v3597 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 2 a) n :=
  (stB_3_2 (h := (fun a n => csB_2_2 (hsh := hsh) ..)) ..).trans
    (stepState_eq _ _ _ _ _ _ (fun s j => xbB_3 (hsh := hsh) ..) (fun s h => nDB_3 ..) (fun s h => nAB_3 ..) _ _)

theorem coB_3_2 (hsh : IsShift x5) (a n : Fin 128) : (v3606 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 2 n) :=
  (ouB_3_2 (h := (fun a n => csB_2_2 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_3 (hsh : IsShift x5) (a n : Fin 128) : (v3689 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 3 a) n :=
  (stB_3_3 (h := (fun a n => csB_2_3 (hsh := hsh) ..)) ..).trans
    (stepState_eq _ _ _ _ _ _ (fun s j => xbB_3 (hsh := hsh) ..) (fun s h => nDB_3 ..) (fun s h => nAB_3 ..) _ _)

theorem coB_3_3 (hsh : IsShift x5) (a n : Fin 128) : (v3698 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 3 n) :=
  (ouB_3_3 (h := (fun a n => csB_2_3 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_4 (hsh : IsShift x5) (a n : Fin 128) : (v3791 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 4 a) n :=
  (stB_3_4 (h := (fun a n => csB_2_4 (hsh := hsh) ..)) ..).trans
    (stepState_eq _ _ _ _ _ _ (fun s j => xbB_3 (hsh := hsh) ..) (fun s h => nDB_3 ..) (fun s h => nAB_3 ..) _ _)

theorem coB_3_4 (hsh : IsShift x5) (a n : Fin 128) : (v3800 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 4 n) :=
  (ouB_3_4 (h := (fun a n => csB_2_4 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_5 (hsh : IsShift x5) (a n : Fin 128) : (v3883 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 5 a) n :=
  (stB_3_5 (h := (fun a n => csB_2_5 (hsh := hsh) ..)) ..).trans
    (stepState_eq _ _ _ _ _ _ (fun s j => xbB_3 (hsh := hsh) ..) (fun s h => nDB_3 ..) (fun s h => nAB_3 ..) _ _)

theorem coB_3_5 (hsh : IsShift x5) (a n : Fin 128) : (v3892 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 5 n) :=
  (ouB_3_5 (h := (fun a n => csB_2_5 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_6 (hsh : IsShift x5) (a n : Fin 128) : (v3980 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 6 a) n :=
  (stB_3_6 (h := (fun a n => csB_2_6 (hsh := hsh) ..)) ..).trans
    (stepState_eq _ _ _ _ _ _ (fun s j => xbB_3 (hsh := hsh) ..) (fun s h => nDB_3 ..) (fun s h => nAB_3 ..) _ _)

theorem coB_3_6 (hsh : IsShift x5) (a n : Fin 128) : (v3989 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 6 n) :=
  (ouB_3_6 (h := (fun a n => csB_2_6 (hsh := hsh) ..)) ..).trans
    (stepOut_eq _ _ _ _ _ _ _ _ (fun s j => xbB_3 (hsh := hsh) ..) (fun s h => nAB_3 ..) (fun s h => gDB_3 ..) (fun s h => gAB_3 ..) _ _)

theorem csB_3_7 (hsh : IsShift x5) (a n : Fin 128) : (v4072 c m1 w1 m2 w2 m3 w3 m5 w5 m6 w6 m7 w7 m8 w8 m12 w12 m13 w13 m25 w25 m26 w26 m28 m30 w30 x0 x1 x2 x4 x5 x6 x7 x11 x12 xs0 xs1 xs5) (ix3 0 a n) = (kS (kept xs1) (held xs5) x0 x1 x2 x4 x6 x7 x11 x12 4) (pairF 7 a) n :=
  (stB_3_7 (h := (fun a n => csB_2_7 (hsh := hsh) ..)) ..).trans
    (stepState_eq _ _ _ _ _ _ (fun s j => xbB_3 (hsh := hsh) ..) (fun s h => nDB_3 ..) (fun s h => nAB_3 ..) _ _)

theorem coB_3_7 (hsh : IsShift x5) (a n : Fin 128) : (v4081 c m1 w1 m2 w2 m3 w3 m5 w5 m6 w6 m7 w7 m8 w8 m9 w9 m12 w12 m13 w13 m25 w25 m26 w26 m28 m29 m30 w30 x0 x1 x2 x4 x5 x6 x7 x8 x11 x12 xs0 xs1 xs5) (ix2 a n) = kO (kept xs1) (held xs5) x0 x1 x2 x4 x6 x7 x8 x11 x12 3 a (pairF 7 n) :=
  (ouB_3_7 (h := (fun a n => csB_2_7 (hsh := hsh) ..)) ..).trans
    (stepOut_eq _ _ _ _ _ _ _ _ (fun s j => xbB_3 (hsh := hsh) ..) (fun s h => nAB_3 ..) (fun s h => gDB_3 ..) (fun s h => gAB_3 ..) _ _)

end Cert.Layer

end
-- ==== Proof.GatesB.lean ====
/- The gated and normed outputs of one tile where a batch goes on, on entries. -/
module

public import proofs.«01_k».proof.Proof.Gen.KernelIdeal.Frame.RunB
public import proofs.«01_k».proof.Proof.ChunksB
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Cert.KernelIdeal.Gen.kernelRun0_B.sl Idealize.ShloMosaic Idealize.ShloMosaic.TcCoe Idealize.SL.Sem

variable (c : Dev nD) (m1 : Memref sig .tc .vmem S512x1024 .f32) (w1 : m1.IsWhole) (m2 : Memref sig .tc .vmem S3x1x1x1024 .f32) (w2 : m2.IsWhole) (m3 : Memref sig .tc .vmem S1x1024 .f32) (w3 : m3.IsWhole) (m5 : Memref sig .tc .vmem S8x128 .f32) (w5 : m5.IsWhole) (m6 : Memref sig .tc .vmem S384x144 .bf16) (w6 : m6.IsWhole) (m7 : Memref sig .tc .vmem S4x1536 .f32) (w7 : m7.IsWhole) (m8 : Memref sig .tc .vmem S1x1536 .f32) (w8 : m8.IsWhole) (m9 : Memref sig .tc .vmem S1x1024 .f32) (w9 : m9.IsWhole) (m10 : Memref sig .tc .vmem S1x1024 .f32) (w10 : m10.IsWhole) (m11 : Memref sig .tc .vmem S1024x1024 .bf16) (w11 : m11.IsWhole) (m12 : Memref sig .tc .vmem S1024x1536 .bf16) (w12 : m12.IsWhole) (m13 : Memref sig .tc .vmem S1024x128 .bf16) (w13 : m13.IsWhole) (m25 : Memref sig .tc .vmem S1x128 .f32) (w25 : m25.IsWhole) (m26 : Memref sig .tc .vmem S528x1536 .bf16) (w26 : m26.IsWhole) (m27 : Memref sig .tc .vmem S512x1024 .bf16) (m28 : Memref sig .tc .vmem S512x128 .f32) (m29 : Memref sig .tc .vmem S32x512 .f32) (m30 : Memref sig .tc .vmem S8x128x128 .f32) (w30 : m30.IsWhole) (m31 : Memref sig .tc .vmem S128x1024 .f32)
    (x0 : Vec Ideal S512x1024 .f32) (x1 : Vec Ideal S3x1x1x1024 .f32) (x2 : Vec Ideal S1x1024 .f32) (x4 : Vec Ideal S8x128 .f32) (x5 : Vec Ideal S384x144 .bf16) (x6 : Vec Ideal S4x1536 .f32) (x7 : Vec Ideal S1x1536 .f32) (x8 : Vec Ideal S1x1024 .f32) (x9 : Vec Ideal S1x1024 .f32) (x10 : Vec Ideal S1024x1024 .bf16) (x11 : Vec Ideal S1024x1536 .bf16) (x12 : Vec Ideal S1024x128 .bf16) (xs0 : Vec Ideal S1x128 .f32) (xs1 : Vec Ideal S528x1536 .bf16) (xs5 : Vec Ideal S8x128x128 .f32)

theorem ybB_0 (hsh : IsShift x5) (r : Fin 128) (f : Fin 1024) : (v1280 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5) (ix2 r f) = kO (kept xs1) (held xs5) x0 x1 x2 x4 x6 x7 x8 x11 x12 0 r f := by
  unfold v1280 HS6_8
  refine (readCov2 _ _ 0 0 _ r f r f (by omega) (by omega)).trans ?_
  exact outs_canon (fun r f => kO (kept xs1) (held xs5) x0 x1 x2 x4 x6 x7 x8 x11 x12 0 r f) _ _ _ _ _ _ _ _ _ _ _ _ _ _ _ _ _ (fun a n => coB_0_0 (hsh := hsh) ..) (fun a n => coB_0_1 (hsh := hsh) ..) (fun a n => coB_0_2 (hsh := hsh) ..) (fun a n => coB_0_3 (hsh := hsh) ..) (fun a n => coB_0_4 (hsh := hsh) ..) (fun a n => coB_0_5 (hsh := hsh) ..) (fun a n => coB_0_6 (hsh := hsh) ..) (fun a n => coB_0_7 (hsh := hsh) ..) r f

theorem zbB_0 (r : Fin 128) (f : Fin 1024) : (v1281 c m1 w1 m2 w2 m3 w3 m11 w11 m27 x0 x1 x2 x10) (ix2 r f) = colDot (fun d => (hTile x0 x1 x2) (ix2 ⟨0 + r.val, by omega⟩ d)) (fun d => x10 (ix2 d f)) := by
  unfold v1281 HS2_1
  refine (readCov2 _ _ 0 0 _ r f ⟨0 + r.val, by omega⟩ f rfl (by omega)).trans ?_
  exact (canon_hit2 (Val := Elt Ideal) (e := .bf16) 0 0 _ _ _ _ f ⟨0 + r.val, by omega⟩ f (by show 0 + r.val = 0 + (0 + r.val); omega) (by omega)).trans (zedB ..)

theorem ybB_1 (hsh : IsShift x5) (r : Fin 128) (f : Fin 1024) : (v2382 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5) (ix2 r f) = kO (kept xs1) (held xs5) x0 x1 x2 x4 x6 x7 x8 x11 x12 1 r f := by
  unfold v2382 HS6_16 HS6_15 HS6_14 HS6_13 HS6_12 HS6_11 HS6_10 HS6_9
  refine (readCov2 _ _ 0 0 _ r f r f (by omega) (by omega)).trans ?_
  exact outs_canon (fun r f => kO (kept xs1) (held xs5) x0 x1 x2 x4 x6 x7 x8 x11 x12 1 r f) _ _ _ _ _ _ _ _ _ _ _ _ _ _ _ _ _ (fun a n => coB_1_0 (hsh := hsh) ..) (fun a n => coB_1_1 (hsh := hsh) ..) (fun a n => coB_1_2 (hsh := hsh) ..) (fun a n => coB_1_3 (hsh := hsh) ..) (fun a n => coB_1_4 (hsh := hsh) ..) (fun a n => coB_1_5 (hsh := hsh) ..) (fun a n => coB_1_6 (hsh := hsh) ..) (fun a n => coB_1_7 (hsh := hsh) ..) r f

theorem zbB_1 (r : Fin 128) (f : Fin 1024) : (v2383 c m1 w1 m2 w2 m3 w3 m11 w11 m27 x0 x1 x2 x10) (ix2 r f) = colDot (fun d => (hTile x0 x1 x2) (ix2 ⟨128 + r.val, by omega⟩ d)) (fun d => x10 (ix2 d f)) := by
  unfold v2383 HS2_1
  refine (readCov2 _ _ 128 0 _ r f ⟨128 + r.val, by omega⟩ f rfl (by omega)).trans ?_
  exact (canon_hit2 (Val := Elt Ideal) (e := .bf16) 0 0 _ _ _ _ f ⟨128 + r.val, by omega⟩ f (by show 128 + r.val = 0 + (128 + r.val); omega) (by omega)).trans (zedB ..)

theorem ybB_2 (hsh : IsShift x5) (r : Fin 128) (f : Fin 1024) : (v3236 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5) (ix2 r f) = kO (kept xs1) (held xs5) x0 x1 x2 x4 x6 x7 x8 x11 x12 2 r f := by
  unfold v3236 HS6_24 HS6_23 HS6_22 HS6_21 HS6_20 HS6_19 HS6_18 HS6_17
  refine (readCov2 _ _ 0 0 _ r f r f (by omega) (by omega)).trans ?_
  exact outs_canon (fun r f => kO (kept xs1) (held xs5) x0 x1 x2 x4 x6 x7 x8 x11 x12 2 r f) _ _ _ _ _ _ _ _ _ _ _ _ _ _ _ _ _ (fun a n => coB_2_0 (hsh := hsh) ..) (fun a n => coB_2_1 (hsh := hsh) ..) (fun a n => coB_2_2 (hsh := hsh) ..) (fun a n => coB_2_3 (hsh := hsh) ..) (fun a n => coB_2_4 (hsh := hsh) ..) (fun a n => coB_2_5 (hsh := hsh) ..) (fun a n => coB_2_6 (hsh := hsh) ..) (fun a n => coB_2_7 (hsh := hsh) ..) r f

theorem zbB_2 (r : Fin 128) (f : Fin 1024) : (v3237 c m1 w1 m2 w2 m3 w3 m11 w11 m27 x0 x1 x2 x10) (ix2 r f) = colDot (fun d => (hTile x0 x1 x2) (ix2 ⟨256 + r.val, by omega⟩ d)) (fun d => x10 (ix2 d f)) := by
  unfold v3237 HS2_1
  refine (readCov2 _ _ 256 0 _ r f ⟨256 + r.val, by omega⟩ f rfl (by omega)).trans ?_
  exact (canon_hit2 (Val := Elt Ideal) (e := .bf16) 0 0 _ _ _ _ f ⟨256 + r.val, by omega⟩ f (by show 256 + r.val = 0 + (256 + r.val); omega) (by omega)).trans (zedB ..)

theorem ybB_3 (hsh : IsShift x5) (r : Fin 128) (f : Fin 1024) : (v4082 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5) (ix2 r f) = kO (kept xs1) (held xs5) x0 x1 x2 x4 x6 x7 x8 x11 x12 3 r f := by
  unfold v4082 HS6_32 HS6_31 HS6_30 HS6_29 HS6_28 HS6_27 HS6_26 HS6_25
  refine (readCov2 _ _ 0 0 _ r f r f (by omega) (by omega)).trans ?_
  exact outs_canon (fun r f => kO (kept xs1) (held xs5) x0 x1 x2 x4 x6 x7 x8 x11 x12 3 r f) _ _ _ _ _ _ _ _ _ _ _ _ _ _ _ _ _ (fun a n => coB_3_0 (hsh := hsh) ..) (fun a n => coB_3_1 (hsh := hsh) ..) (fun a n => coB_3_2 (hsh := hsh) ..) (fun a n => coB_3_3 (hsh := hsh) ..) (fun a n => coB_3_4 (hsh := hsh) ..) (fun a n => coB_3_5 (hsh := hsh) ..) (fun a n => coB_3_6 (hsh := hsh) ..) (fun a n => coB_3_7 (hsh := hsh) ..) r f

theorem zbB_3 (r : Fin 128) (f : Fin 1024) : (v4083 c m1 w1 m2 w2 m3 w3 m11 w11 m27 x0 x1 x2 x10) (ix2 r f) = colDot (fun d => (hTile x0 x1 x2) (ix2 ⟨384 + r.val, by omega⟩ d)) (fun d => x10 (ix2 d f)) := by
  unfold v4083 HS2_1
  refine (readCov2 _ _ 384 0 _ r f ⟨384 + r.val, by omega⟩ f rfl (by omega)).trans ?_
  exact (canon_hit2 (Val := Elt Ideal) (e := .bf16) 0 0 _ _ _ _ f ⟨384 + r.val, by omega⟩ f (by show 384 + r.val = 0 + (384 + r.val); omega) (by omega)).trans (zedB ..)

theorem gnB_0_0 (hsh : IsShift x5) (r : Fin 128) (j : Fin 512) : (v1301 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 0 r f * siluOf (colDot (fun d => (hTile x0 x1 x2) (ix2 ⟨0 + r.val, by omega⟩ d)) (fun d => x10 (ix2 d f)))) (fun f => x9 (ix2 0 f)) ⟨0 + j.val, by omega⟩ := by
  unfold v1301
  refine normHalf_at ((v1280 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v1281 c m1 w1 m2 w2 m3 w3 m11 w11 m27 x0 x1 x2 x10)) _ 0 _ _ _ _ (fun f => kO (kept xs1) (held xs5) x0 x1 x2 x4 x6 x7 x8 x11 x12 0 r f * siluOf (colDot (fun d => (hTile x0 x1 x2) (ix2 ⟨0 + r.val, by omega⟩ d)) (fun d => x10 (ix2 d f)))) (fun f => x9 (ix2 0 f)) r (fun f => ?_) (by decide) (by decide) ?_ j
  · rw [ybB_0 (hsh := hsh) .., zbB_0 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_0_1 (hsh : IsShift x5) (r : Fin 128) (j : Fin 512) : (v1318 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 0 r f * siluOf (colDot (fun d => (hTile x0 x1 x2) (ix2 ⟨0 + r.val, by omega⟩ d)) (fun d => x10 (ix2 d f)))) (fun f => x9 (ix2 0 f)) ⟨512 + j.val, by omega⟩ := by
  unfold v1318
  refine normHalf_at ((v1280 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v1281 c m1 w1 m2 w2 m3 w3 m11 w11 m27 x0 x1 x2 x10)) _ 512 _ _ _ _ (fun f => kO (kept xs1) (held xs5) x0 x1 x2 x4 x6 x7 x8 x11 x12 0 r f * siluOf (colDot (fun d => (hTile x0 x1 x2) (ix2 ⟨0 + r.val, by omega⟩ d)) (fun d => x10 (ix2 d f)))) (fun f => x9 (ix2 0 f)) r (fun f => ?_) (by decide) (by decide) ?_ j
  · rw [ybB_0 (hsh := hsh) .., zbB_0 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_1_0 (hsh : IsShift x5) (r : Fin 128) (j : Fin 512) : (v2403 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 1 r f * siluOf (colDot (fun d => (hTile x0 x1 x2) (ix2 ⟨128 + r.val, by omega⟩ d)) (fun d => x10 (ix2 d f)))) (fun f => x9 (ix2 0 f)) ⟨0 + j.val, by omega⟩ := by
  unfold v2403
  refine normHalf_at ((v2382 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v2383 c m1 w1 m2 w2 m3 w3 m11 w11 m27 x0 x1 x2 x10)) _ 0 _ _ _ _ (fun f => kO (kept xs1) (held xs5) x0 x1 x2 x4 x6 x7 x8 x11 x12 1 r f * siluOf (colDot (fun d => (hTile x0 x1 x2) (ix2 ⟨128 + r.val, by omega⟩ d)) (fun d => x10 (ix2 d f)))) (fun f => x9 (ix2 0 f)) r (fun f => ?_) (by decide) (by decide) ?_ j
  · rw [ybB_1 (hsh := hsh) .., zbB_1 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_1_1 (hsh : IsShift x5) (r : Fin 128) (j : Fin 512) : (v2420 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 1 r f * siluOf (colDot (fun d => (hTile x0 x1 x2) (ix2 ⟨128 + r.val, by omega⟩ d)) (fun d => x10 (ix2 d f)))) (fun f => x9 (ix2 0 f)) ⟨512 + j.val, by omega⟩ := by
  unfold v2420
  refine normHalf_at ((v2382 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v2383 c m1 w1 m2 w2 m3 w3 m11 w11 m27 x0 x1 x2 x10)) _ 512 _ _ _ _ (fun f => kO (kept xs1) (held xs5) x0 x1 x2 x4 x6 x7 x8 x11 x12 1 r f * siluOf (colDot (fun d => (hTile x0 x1 x2) (ix2 ⟨128 + r.val, by omega⟩ d)) (fun d => x10 (ix2 d f)))) (fun f => x9 (ix2 0 f)) r (fun f => ?_) (by decide) (by decide) ?_ j
  · rw [ybB_1 (hsh := hsh) .., zbB_1 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_2_0 (hsh : IsShift x5) (r : Fin 128) (j : Fin 512) : (v3257 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 2 r f * siluOf (colDot (fun d => (hTile x0 x1 x2) (ix2 ⟨256 + r.val, by omega⟩ d)) (fun d => x10 (ix2 d f)))) (fun f => x9 (ix2 0 f)) ⟨0 + j.val, by omega⟩ := by
  unfold v3257
  refine normHalf_at ((v3236 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v3237 c m1 w1 m2 w2 m3 w3 m11 w11 m27 x0 x1 x2 x10)) _ 0 _ _ _ _ (fun f => kO (kept xs1) (held xs5) x0 x1 x2 x4 x6 x7 x8 x11 x12 2 r f * siluOf (colDot (fun d => (hTile x0 x1 x2) (ix2 ⟨256 + r.val, by omega⟩ d)) (fun d => x10 (ix2 d f)))) (fun f => x9 (ix2 0 f)) r (fun f => ?_) (by decide) (by decide) ?_ j
  · rw [ybB_2 (hsh := hsh) .., zbB_2 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_2_1 (hsh : IsShift x5) (r : Fin 128) (j : Fin 512) : (v3274 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 2 r f * siluOf (colDot (fun d => (hTile x0 x1 x2) (ix2 ⟨256 + r.val, by omega⟩ d)) (fun d => x10 (ix2 d f)))) (fun f => x9 (ix2 0 f)) ⟨512 + j.val, by omega⟩ := by
  unfold v3274
  refine normHalf_at ((v3236 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v3237 c m1 w1 m2 w2 m3 w3 m11 w11 m27 x0 x1 x2 x10)) _ 512 _ _ _ _ (fun f => kO (kept xs1) (held xs5) x0 x1 x2 x4 x6 x7 x8 x11 x12 2 r f * siluOf (colDot (fun d => (hTile x0 x1 x2) (ix2 ⟨256 + r.val, by omega⟩ d)) (fun d => x10 (ix2 d f)))) (fun f => x9 (ix2 0 f)) r (fun f => ?_) (by decide) (by decide) ?_ j
  · rw [ybB_2 (hsh := hsh) .., zbB_2 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_3_0 (hsh : IsShift x5) (r : Fin 128) (j : Fin 512) : (k0_pay719 (v4098 c m1 w1 m2 w2 m3 w3 m5 w5 m6 w6 m7 w7 m8 w8 m9 w9 m11 w11 m12 w12 m13 w13 m25 w25 m26 w26 m27 m28 m29 m30 w30 m31 x0 x1 x2 x4 x5 x6 x7 x8 x10 x11 x12 xs0 xs1 xs5) (View.readAt (Elt Ideal) m10.view (Rect.unit (s := S1x1024) ![0, 0] S1x512.size (by decide)).toLoadRect (w10.unread x9))) (ix2 r j)
    = groupNorm (fun f => kO (kept xs1) (held xs5) x0 x1 x2 x4 x6 x7 x8 x11 x12 3 r f * siluOf (colDot (fun d => (hTile x0 x1 x2) (ix2 ⟨384 + r.val, by omega⟩ d)) (fun d => x10 (ix2 d f)))) (fun f => x9 (ix2 0 f)) ⟨0 + j.val, by omega⟩ := by
  unfold k0_pay719
  refine normHalf_at ((v4082 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v4083 c m1 w1 m2 w2 m3 w3 m11 w11 m27 x0 x1 x2 x10)) _ 0 _ _ _ _ (fun f => kO (kept xs1) (held xs5) x0 x1 x2 x4 x6 x7 x8 x11 x12 3 r f * siluOf (colDot (fun d => (hTile x0 x1 x2) (ix2 ⟨384 + r.val, by omega⟩ d)) (fun d => x10 (ix2 d f)))) (fun f => x9 (ix2 0 f)) r (fun f => ?_) (by decide) (by decide) ?_ j
  · rw [ybB_3 (hsh := hsh) .., zbB_3 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

theorem gnB_3_1 (hsh : IsShift x5) (r : Fin 128) (j : Fin 512) : (r_6 c m1 w1 m2 w2 m3 w3 m5 w5 m6 w6 m7 w7 m8 w8 m9 w9 m10 w10 m11 w11 m12 w12 m13 w13 m25 w25 m26 w26 m27 m28 m29 m30 w30 m31 x0 x1 x2 x4 x5 x6 x7 x8 x9 x10 x11 x12 xs0 xs1 xs5) (ix2 r j)
    = groupNorm (fun f => kO (kept xs1) (held xs5) x0 x1 x2 x4 x6 x7 x8 x11 x12 3 r f * siluOf (colDot (fun d => (hTile x0 x1 x2) (ix2 ⟨384 + r.val, by omega⟩ d)) (fun d => x10 (ix2 d f)))) (fun f => x9 (ix2 0 f)) ⟨512 + j.val, by omega⟩ := by
  unfold r_6
  refine normHalf_at ((v4082 c m1 w1 m2 w2 m3 w3 m5 w5 m6 w6 m7 w7 m8 w8 m9 w9 m12 w12 m13 w13 m25 w25 m26 w26 m28 m29 m30 w30 m31 x0 x1 x2 x4 x5 x6 x7 x8 x11 x12 xs0 xs1 xs5)) ((v4083 c m1 w1 m2 w2 m3 w3 m11 w11 m27 x0 x1 x2 x10)) _ 512 _ _ _ _ (fun f => kO (kept xs1) (held xs5) x0 x1 x2 x4 x6 x7 x8 x11 x12 3 r f * siluOf (colDot (fun d => (hTile x0 x1 x2) (ix2 ⟨384 + r.val, by omega⟩ d)) (fun d => x10 (ix2 d f)))) (fun f => x9 (ix2 0 f)) r (fun f => ?_) (by decide) (by decide) ?_ j
  · rw [ybB_3 (hsh := hsh) .., zbB_3 ..]
  · intro e
    (first | simp only [View.readAt_eq_ld, Memref.IsWhole.read_unread] | (sl_unfold_words; simp only [View.readAt_eq_ld, Memref.IsWhole.read_unread]))
    refine View.ld_unit_apply_of _ _ _ _ _ _ fun b => ?_
    match b with
    | 0 => simp [ix2]
    | 1 => simp [ix2]

end Cert.Layer

end
-- ==== Proof.TileOut.lean ====
/- What a point stores of the recurrence and what it hands to the next point. -/
module

public import proofs.«01_k».proof.Proof.GatesA
public import proofs.«01_k».proof.Proof.GatesB
import Idealize.ShloMosaic.Lib.Pipeline.ValueKit
import Idealize.ShloMosaic.Lib.Pipeline.ReadBack

@[expose] public section

set_option maxRecDepth 16384

noncomputable section

namespace Cert.Layer

open Cert.KernelIdeal Cert.KernelIdeal.Gen Idealize.ShloMosaic Idealize.ShloMosaic.TcCoe Idealize.SL.Sem

section Tile
variable (P : Fin 16 → Fin 1536 → EReal) (S : Fin 1024 → Fin 128 → EReal) (x0 : Vec Ideal S512x1024 .f32) (x1 : Vec Ideal S3x1x1x1024 .f32)
  (x2 : Vec Ideal S1x1024 .f32) (x4 : Vec Ideal S8x128 .f32) (x6 : Vec Ideal S4x1536 .f32) (x7 : Vec Ideal S1x1536 .f32) (x8 x9 : Vec Ideal S1x1024 .f32)
  (x10 : Vec Ideal S1024x1024 .bf16) (x11 : Vec Ideal S1024x1536 .bf16) (x12 : Vec Ideal S1024x128 .bf16)

/-- A tile's outputs before the gate. -/
def tileO (i : ℕ) (a : Fin 128) (f : Fin 1024) : EReal :=
  ssdOut (kX P x0 x1 x2 x6 x7 x11 i) (kD x0 x1 x2 x4 x12 i) (kA x0 x1 x2 x4 x12 i) (kS P S x0 x1 x2 x4 x6 x7 x11 x12 i) (fun f => x8 (ix2 0 f)) a f

/-- A tile's gated and normed outputs. -/
def tileY (r : Fin 512) (f : Fin 1024) : EReal :=
  groupNorm (fun f => tileO P S x0 x1 x2 x4 x6 x7 x8 x11 x12 (r.val / 128) ⟨r.val % 128, by omega⟩ f
    * siluOf (colDot (fun d => hTile x0 x1 x2 (ix2 r d)) (fun d => x10 (ix2 d f)))) (fun f => x9 (ix2 0 f)) f

theorem tileY_at (i : ℕ) (a : Fin 128) (h : 128 * i + a.val < 512) (f : Fin 1024) :
    tileY P S x0 x1 x2 x4 x6 x7 x8 x9 x10 x11 x12 ⟨128 * i + a.val, h⟩ f
      = groupNorm (fun f => ssdOut (kX P x0 x1 x2 x6 x7 x11 i) (kD x0 x1 x2 x4 x12 i) (kA x0 x1 x2 x4 x12 i) (kS P S x0 x1 x2 x4 x6 x7 x11 x12 i) (fun f => x8 (ix2 0 f)) a f
        * siluOf (colDot (fun d => hTile x0 x1 x2 (ix2 ⟨128 * i + a.val, h⟩ d)) (fun d => x10 (ix2 d f)))) (fun f => x9 (ix2 0 f)) f := by
  have e1 : (128 * i + a.val) / 128 = i := by omega
  have e2 : (⟨(128 * i + a.val) % 128, by omega⟩ : Fin 128) = a := Fin.ext (by show (128 * i + a.val) % 128 = a.val; omega)
  unfold tileY tileO
  simp only [e1, e2]

end Tile

variable (m : (ℓ : Loc nD τ sig) → Buf (Elt Ideal) ℓ) (c : Dev nD)

/-- The stored block. -/
theorem y_outA (t : Fin cfg0.N) (h : t.val % 16 = 0) (hsh : IsShift (iblk m c 5 t)) (r : Fin 512) (f : Fin 1024) :
    (outsAt0 m c t.val t.isLt).1 (ix2 r f) = tileY (fun _ _ => 0) (fun _ _ => 0) (iblk m c 0 t) (iblk m c 1 t) (iblk m c 2 t) (iblk m c 4 t) (iblk m c 6 t) (iblk m c 7 t) (iblk m c 8 t) (iblk m c 9 t) (iblk m c 10 t) (iblk m c 11 t) (iblk m c 12 t) r f := by
  rw [outsAt0_A m c t h]
  dsimp only
  unfold out0_A_17
  rw [View.read_writes_eq_canon _ _ _ (fun y => cover0_A_17 (y := y) ..)]
  unfold kernelRun0_A
  dsimp only
  refine out_canon (fun r f => tileY (fun _ _ => 0) (fun _ _ => 0) (iblk m c 0 t) (iblk m c 1 t) (iblk m c 2 t) (iblk m c 4 t) (iblk m c 6 t) (iblk m c 7 t) (iblk m c 8 t) (iblk m c 9 t) (iblk m c 10 t) (iblk m c 11 t) (iblk m c 12 t) r f) _ _ _ _ _ _ _ _ _ _ _ _ _ _ _ _ _ (fun a b => ?_) (fun a b => ?_) (fun a b => ?_) (fun a b => ?_) (fun a b => ?_) (fun a b => ?_) (fun a b => ?_) (fun a b => ?_) r f
  · exact (gnA_0_0 (hsh := hsh) ..).trans (tileY_at _ _ _ _ _ _ _ _ _ _ _ _ _ 0 a (by omega) _).symm
  · exact (gnA_0_1 (hsh := hsh) ..).trans (tileY_at _ _ _ _ _ _ _ _ _ _ _ _ _ 0 a (by omega) _).symm
  · exact (gnA_1_0 (hsh := hsh) ..).trans (tileY_at _ _ _ _ _ _ _ _ _ _ _ _ _ 1 a (by omega) _).symm
  · exact (gnA_1_1 (hsh := hsh) ..).trans (tileY_at _ _ _ _ _ _ _ _ _ _ _ _ _ 1 a (by omega) _).symm
  · exact (gnA_2_0 (hsh := hsh) ..).trans (tileY_at _ _ _ _ _ _ _ _ _ _ _ _ _ 2 a (by omega) _).symm
  · exact (gnA_2_1 (hsh := hsh) ..).trans (tileY_at _ _ _ _ _ _ _ _ _ _ _ _ _ 2 a (by omega) _).symm
  · exact (gnA_3_0 (hsh := hsh) ..).trans (tileY_at _ _ _ _ _ _ _ _ _ _ _ _ _ 3 a (by omega) _).symm
  · exact (gnA_3_1 (hsh := hsh) ..).trans (tileY_at _ _ _ _ _ _ _ _ _ _ _ _ _ 3 a (by omega) _).symm

/-- The states left. -/
theorem state_outA (t : Fin cfg0.N) (h : t.val % 16 = 0) (hsh : IsShift (iblk m c 5 t)) (f : Fin 1024) (n : Fin 128) :
    held (outsAt0 m c t.val t.isLt).2.2.2.2.2.2.2.2.2 f n = kS (fun _ _ => 0) (fun _ _ => 0) (iblk m c 0 t) (iblk m c 1 t) (iblk m c 2 t) (iblk m c 4 t) (iblk m c 6 t) (iblk m c 7 t) (iblk m c 11 t) (iblk m c 12 t) 4 f n := by
  refine Eq.trans ?_ (congrArg (fun f => kS (fun _ _ => 0) (fun _ _ => 0) (iblk m c 0 t) (iblk m c 1 t) (iblk m c 2 t) (iblk m c 4 t) (iblk m c 6 t) (iblk m c 7 t) (iblk m c 11 t) (iblk m c 12 t) 4 f n) (Fin.ext (by show 128 * (f.val / 128) + f.val % 128 = f.val; omega) : pairF ⟨f.val / 128, by omega⟩ ⟨f.val % 128, by omega⟩ = f))
  unfold held
  rw [outsAt0_A m c t h]
  dsimp only
  unfold sout0_A_5
  rw [View.read_writes_eq_canon _ _ _ (fun y => scover0_A_5 (y := y) ..)]
  unfold kernelRun0_A
  dsimp only
  unfold kernelRun0_A.sl.HS5_32 kernelRun0_A.sl.HS5_31 kernelRun0_A.sl.HS5_30 kernelRun0_A.sl.HS5_29 kernelRun0_A.sl.HS5_28 kernelRun0_A.sl.HS5_27 kernelRun0_A.sl.HS5_26
  exact states_canon (fun f n => kS (fun _ _ => 0) (fun _ _ => 0) (iblk m c 0 t) (iblk m c 1 t) (iblk m c 2 t) (iblk m c 4 t) (iblk m c 6 t) (iblk m c 7 t) (iblk m c 11 t) (iblk m c 12 t) 4 f n) _ _ _ _ _ _ _ _ _ _ _ _ _ _ _ _ _ (fun a n => csA_3_0 (hsh := hsh) (a := a) (n := n) ..) (fun a n => csA_3_1 (hsh := hsh) (a := a) (n := n) ..) (fun a n => csA_3_2 (hsh := hsh) (a := a) (n := n) ..) (fun a n => csA_3_3 (hsh := hsh) (a := a) (n := n) ..) (fun a n => csA_3_4 (hsh := hsh) (a := a) (n := n) ..) (fun a n => csA_3_5 (hsh := hsh) (a := a) (n := n) ..) (fun a n => csA_3_6 (hsh := hsh) (a := a) (n := n) ..) (fun a n => csA_3_7 (hsh := hsh) (a := a) (n := n) ..) _ _ n

/-- The rows kept. -/
theorem rows_outA (t : Fin cfg0.N) (h : t.val % 16 = 0) (q : Fin 16) (j : Fin 1536) :
    kept (outsAt0 m c t.val t.isLt).2.2.2.2.2.2.2.2.1 q j = colDot (fun d => hTile (iblk m c 0 t) (iblk m c 1 t) (iblk m c 2 t) (ix2 ⟨496 + q.val, by omega⟩ d)) (fun d => iblk m c 11 t (ix2 d j)) := by
  unfold kept
  rw [outsAt0_A m c t h]
  dsimp only
  unfold sout0_A_1
  rw [View.read_writes_eq_canon _ _ _ (fun y => scover0_A_1 (y := y) ..)]
  unfold kernelRun0_A
  dsimp only
  refine (canon_hit2 (Val := Elt Ideal) (e := .bf16) 0 0 _ _ _ _ j q j (by show q.val = 0 + q.val; omega) (by omega)).trans ?_
  unfold k0_pay1 kernelRun0_A.sl.v4122 kernelRun0_A.sl.HS1_2
  rw [show ∀ (v : FVec Ideal S16x1536 .bf16) hh, (shapeCast S16x1536 v hh : FVec Ideal S16x1536 .bf16) (ix2 q j) = v (ix2 q j) from fun v hh => by pointwise]
  refine (readCov2 _ _ 512 0 _ q j ⟨512 + q.val, by omega⟩ j rfl (by omega)).trans ?_
  refine (rows_own _ _ _ (fun _ _ => 0) (hTile (iblk m c 0 t) (iblk m c 1 t) (iblk m c 2 t)) (iblk m c 11 t) (fun r j => ownA ..) _ j (fun h => absurd h (by show ¬ 512 + q.val < 16; omega))).trans ?_
  unfold rowsFn
  rw [dif_neg (by show ¬ 512 + q.val < 16; omega)]
  exact congrArg (fun r => colDot (fun d => hTile (iblk m c 0 t) (iblk m c 1 t) (iblk m c 2 t) (ix2 r d)) (fun d => iblk m c 11 t (ix2 d j))) (Fin.ext (by show 512 + q.val - 16 = 496 + q.val; omega))

/-- The stored block. -/
theorem y_outB (t : Fin cfg0.N) (h : ¬t.val % 16 = 0) (hsh : IsShift (iblk m c 5 t)) (r : Fin 512) (f : Fin 1024) :
    (outsAt0 m c t.val t.isLt).1 (ix2 r f) = tileY (kept (outsAt0 m c (t.val - 1) (Nat.lt_of_le_of_lt (Nat.sub_le _ _) t.isLt)).2.2.2.2.2.2.2.2.1) (held (outsAt0 m c (t.val - 1) (Nat.lt_of_le_of_lt (Nat.sub_le _ _) t.isLt)).2.2.2.2.2.2.2.2.2) (iblk m c 0 t) (iblk m c 1 t) (iblk m c 2 t) (iblk m c 4 t) (iblk m c 6 t) (iblk m c 7 t) (iblk m c 8 t) (iblk m c 9 t) (iblk m c 10 t) (iblk m c 11 t) (iblk m c 12 t) r f := by
  rw [outsAt0_B m c t h]
  dsimp only
  unfold out0_B_17
  rw [View.read_writes_eq_canon _ _ _ (fun y => cover0_B_17 (y := y) ..)]
  unfold kernelRun0_B
  dsimp only
  refine out_canon (fun r f => tileY (kept (outsAt0 m c (t.val - 1) (Nat.lt_of_le_of_lt (Nat.sub_le _ _) t.isLt)).2.2.2.2.2.2.2.2.1) (held (outsAt0 m c (t.val - 1) (Nat.lt_of_le_of_lt (Nat.sub_le _ _) t.isLt)).2.2.2.2.2.2.2.2.2) (iblk m c 0 t) (iblk m c 1 t) (iblk m c 2 t) (iblk m c 4 t) (iblk m c 6 t) (iblk m c 7 t) (iblk m c 8 t) (iblk m c 9 t) (iblk m c 10 t) (iblk m c 11 t) (iblk m c 12 t) r f) _ _ _ _ _ _ _ _ _ _ _ _ _ _ _ _ _ (fun a b => ?_) (fun a b => ?_) (fun a b => ?_) (fun a b => ?_) (fun a b => ?_) (fun a b => ?_) (fun a b => ?_) (fun a b => ?_) r f
  · exact (gnB_0_0 (hsh := hsh) ..).trans (tileY_at _ _ _ _ _ _ _ _ _ _ _ _ _ 0 a (by omega) _).symm
  · exact (gnB_0_1 (hsh := hsh) ..).trans (tileY_at _ _ _ _ _ _ _ _ _ _ _ _ _ 0 a (by omega) _).symm
  · exact (gnB_1_0 (hsh := hsh) ..).trans (tileY_at _ _ _ _ _ _ _ _ _ _ _ _ _ 1 a (by omega) _).symm
  · exact (gnB_1_1 (hsh := hsh) ..).trans (tileY_at _ _ _ _ _ _ _ _ _ _ _ _ _ 1 a (by omega) _).symm
  · exact (gnB_2_0 (hsh := hsh) ..).trans (tileY_at _ _ _ _ _ _ _ _ _ _ _ _ _ 2 a (by omega) _).symm
  · exact (gnB_2_1 (hsh := hsh) ..).trans (tileY_at _ _ _ _ _ _ _ _ _ _ _ _ _ 2 a (by omega) _).symm
  · exact (gnB_3_0 (hsh := hsh) ..).trans (tileY_at _ _ _ _ _ _ _ _ _ _ _ _ _ 3 a (by omega) _).symm
  · exact (gnB_3_1 (hsh := hsh) ..).trans (tileY_at _ _ _ _ _ _ _ _ _ _ _ _ _ 3 a (by omega) _).symm

/-- The states left. -/
theorem state_outB (t : Fin cfg0.N) (h : ¬t.val % 16 = 0) (hsh : IsShift (iblk m c 5 t)) (f : Fin 1024) (n : Fin 128) :
    held (outsAt0 m c t.val t.isLt).2.2.2.2.2.2.2.2.2 f n = kS (kept (outsAt0 m c (t.val - 1) (Nat.lt_of_le_of_lt (Nat.sub_le _ _) t.isLt)).2.2.2.2.2.2.2.2.1) (held (outsAt0 m c (t.val - 1) (Nat.lt_of_le_of_lt (Nat.sub_le _ _) t.isLt)).2.2.2.2.2.2.2.2.2) (iblk m c 0 t) (iblk m c 1 t) (iblk m c 2 t) (iblk m c 4 t) (iblk m c 6 t) (iblk m c 7 t) (iblk m c 11 t) (iblk m c 12 t) 4 f n := by
  refine Eq.trans ?_ (congrArg (fun f => kS (kept (outsAt0 m c (t.val - 1) (Nat.lt_of_le_of_lt (Nat.sub_le _ _) t.isLt)).2.2.2.2.2.2.2.2.1) (held (outsAt0 m c (t.val - 1) (Nat.lt_of_le_of_lt (Nat.sub_le _ _) t.isLt)).2.2.2.2.2.2.2.2.2) (iblk m c 0 t) (iblk m c 1 t) (iblk m c 2 t) (iblk m c 4 t) (iblk m c 6 t) (iblk m c 7 t) (iblk m c 11 t) (iblk m c 12 t) 4 f n) (Fin.ext (by show 128 * (f.val / 128) + f.val % 128 = f.val; omega) : pairF ⟨f.val / 128, by omega⟩ ⟨f.val % 128, by omega⟩ = f))
  unfold held
  rw [outsAt0_B m c t h]
  dsimp only
  unfold sout0_B_5
  rw [View.read_writes_eq_canon _ _ _ (fun y => scover0_B_5 (y := y) ..)]
  unfold kernelRun0_B
  dsimp only
  unfold kernelRun0_B.sl.HS5_31 kernelRun0_B.sl.HS5_30 kernelRun0_B.sl.HS5_29 kernelRun0_B.sl.HS5_28 kernelRun0_B.sl.HS5_27 kernelRun0_B.sl.HS5_26 kernelRun0_B.sl.HS5_25
  exact states_canon (fun f n => kS (kept (outsAt0 m c (t.val - 1) (Nat.lt_of_le_of_lt (Nat.sub_le _ _) t.isLt)).2.2.2.2.2.2.2.2.1) (held (outsAt0 m c (t.val - 1) (Nat.lt_of_le_of_lt (Nat.sub_le _ _) t.isLt)).2.2.2.2.2.2.2.2.2) (iblk m c 0 t) (iblk m c 1 t) (iblk m c 2 t) (iblk m c 4 t) (iblk m c 6 t) (iblk m c 7 t) (iblk m c 11 t) (iblk m c 12 t) 4 f n) _ _ _ _ _ _ _ _ _ _ _ _ _ _ _ _ _ (fun a n => csB_3_0 (hsh := hsh) (a := a) (n := n) ..) (fun a n => csB_3_1 (hsh := hsh) (a := a) (n := n) ..) (fun a n => csB_3_2 (hsh := hsh) (a := a) (n := n) ..) (fun a n => csB_3_3 (hsh := hsh) (a := a) (n := n) ..) (fun a n => csB_3_4 (hsh := hsh) (a := a) (n := n) ..) (fun a n => csB_3_5 (hsh := hsh) (a := a) (n := n) ..) (fun a n => csB_3_6 (hsh := hsh) (a := a) (n := n) ..) (fun a n => csB_3_7 (hsh := hsh) (a := a) (n := n) ..) _ _ n

/-- The rows kept. -/
theorem rows_outB (t : Fin cfg0.N) (h : ¬t.val % 16 = 0) (q : Fin 16) (j : Fin 1536) :
    kept (outsAt0 m c t.val t.isLt).2.2.2.2.2.2.2.2.1 q j = colDot (fun d => hTile (iblk m c 0 t) (iblk m c 1 t) (iblk m c 2 t) (ix2 ⟨496 + q.val, by omega⟩ d)) (fun d => iblk m c 11 t (ix2 d j)) := by
  unfold kept
  rw [outsAt0_B m c t h]
  dsimp only
  unfold sout0_B_1
  rw [View.read_writes_eq_canon _ _ _ (fun y => scover0_B_1 (y := y) ..)]
  unfold kernelRun0_B
  dsimp only
  refine (canon_hit2 (Val := Elt Ideal) (e := .bf16) 0 0 _ _ _ _ j q j (by show q.val = 0 + q.val; omega) (by omega)).trans ?_
  unfold k0_pay1 kernelRun0_B.sl.v4122 kernelRun0_B.sl.HS1_1
  rw [show ∀ (v : FVec Ideal S16x1536 .bf16) hh, (shapeCast S16x1536 v hh : FVec Ideal S16x1536 .bf16) (ix2 q j) = v (ix2 q j) from fun v hh => by pointwise]
  refine (readCov2 _ _ 512 0 _ q j ⟨512 + q.val, by omega⟩ j rfl (by omega)).trans ?_
  refine (rows_own _ _ _ (fun _ _ => 0) (hTile (iblk m c 0 t) (iblk m c 1 t) (iblk m c 2 t)) (iblk m c 11 t) (fun r j => ownB ..) _ j (fun h => absurd h (by show ¬ 512 + q.val < 16; omega))).trans ?_
  unfold rowsFn
  rw [dif_neg (by show ¬ 512 + q.val < 16; omega)]
  exact congrArg (fun r => colDot (fun d => hTile (iblk m c 0 t) (iblk m c 1 t) (iblk m c 2 t) (ix2 r d)) (fun d => iblk m c 11 t (ix2 d j))) (Fin.ext (by show 512 + q.val - 16 = 496 + q.val; omega))

end Cert.Layer

end
-- ==== Proof.SpecY.lean ====
/- The recurrence over a whole sequence, from the projection's entries: the convolved columns, the steps, the summed decays
   and the state before each chunk; and the two forms of a chunk, in powers of two and in exponentials. -/
module

public import proofs.«01_k».proof.Proof.SsdTile

@[expose] public section

set_option maxRecDepth 16384

noncomputable section

namespace Cert.Layer

open Cert.KernelIdeal Cert.KernelIdeal.Gen Idealize.ShloMosaic Idealize.SL.Sem

/-- The factor between the two logarithms. -/
def kap : ℝ := (Real.log 2)⁻¹

theorem kap_pos : 0 < kap := inv_pos.mpr (Real.log_pos (by norm_num))

theorem two_word : Ideal.ofBits .f32 0x40000000#32 = ((2 : ℝ) : EReal) := by
  simp [Ideal.ofBits, Ideal.ieee]
  rw [← EReal.coe_mul]
  norm_num

theorem div_log2 (x : EReal) : Ideal.div x (Ideal.log (Ideal.ofBits .f32 0x40000000#32)) = x * (kap : EReal) := by
  have hl : Ideal.log (Ideal.ofBits .f32 0x40000000#32) = ((Real.log 2 : ℝ) : EReal) := by
    rw [two_word]
    show (if (2 : ℝ) ≤ 0 then (⊥ : EReal) else (Real.log 2 : EReal)) = _
    rw [if_neg (by norm_num)]
  have h0 : Real.log 2 ≠ 0 := (Real.log_pos (by norm_num)).ne'
  rw [hl]
  unfold Ideal.div
  rw [if_neg (by exact_mod_cast h0)]
  unfold kap
  rw [EReal.coe_inv]

theorem kap_nonneg : (0 : EReal) ≤ (kap : EReal) := by exact_mod_cast kap_pos.le

theorem exp2_kap (x : EReal) : Ideal.exp2 (x * (kap : EReal)) = Ideal.exp x := by
  induction x with
  | bot => rw [EReal.bot_mul_coe_of_pos kap_pos]; rfl
  | top => rw [EReal.top_mul_coe_of_pos kap_pos]; rfl
  | coe r =>
    rw [← EReal.coe_mul]
    show ((Real.rpow 2 (r * kap) : ℝ) : EReal) = (Real.exp r : EReal)
    congr 1
    have h0 : Real.log 2 ≠ 0 := (Real.log_pos (by norm_num)).ne'
    show (2 : ℝ) ^ (r * kap) = Real.exp r
    rw [Real.rpow_def_of_pos (by norm_num)]
    congr 1
    unfold kap
    field_simp

theorem add_kap (a b : EReal) : (a + b) * (kap : EReal) = a * kap + b * kap :=
  EReal.right_distrib_of_nonneg_of_ne_top kap_nonneg (EReal.coe_ne_top _) a b

theorem sub_kap (a b : EReal) : a * (kap : EReal) - b * kap = (a - b) * kap := by
  rw [sub_eq_add_neg, sub_eq_add_neg, add_kap, EReal.neg_mul]

theorem sum_kap {ι : Type} (s : Finset ι) (f : ι → EReal) : ∑ i ∈ s, f i * (kap : EReal) = (∑ i ∈ s, f i) * kap := by
  classical
  induction s using Finset.induction_on with
  | empty => simp
  | insert a s h ih => rw [Finset.sum_insert h, Finset.sum_insert h, ih, add_kap]

/-- A chunk's next state, in exponentials. -/
def expState (X : Fin 128 → Fin 1536 → EReal) (D A : Fin 128 → Fin 16 → EReal) (S : Fin 1024 → Fin 128 → EReal) (f : Fin 1024) (n : Fin 128) : EReal :=
  S f n * Ideal.exp (A 127 (headOf f))
    + ∑ s : Fin 128, (X s (colX f) * (D s (headOf f) * Ideal.exp (A 127 (headOf f) - A s (headOf f)))) * X s (colB f n)

/-- A chunk's output, in exponentials. -/
def expOut (X : Fin 128 → Fin 1536 → EReal) (D A : Fin 128 → Fin 16 → EReal) (S : Fin 1024 → Fin 128 → EReal)
    (dk : Fin 1024 → EReal) (r : Fin 128) (f : Fin 1024) : EReal :=
  (∑ s : Fin 128, ((∑ n : Fin 128, X r (colC f n) * X s (colB f n))
      * (if s.val ≤ r.val then Ideal.exp (A r (headOf f) - A s (headOf f)) else 0) * D s (headOf f)) * X s (colX f))
    + (∑ n : Fin 128, X r (colC f n) * S f n) * Ideal.exp (A r (headOf f))
    + X r (colX f) * dk f

theorem ssdState_exp (X : Fin 128 → Fin 1536 → EReal) (D A A' : Fin 128 → Fin 16 → EReal) (S : Fin 1024 → Fin 128 → EReal)
    (h : ∀ s k, A' s k = A s k * (kap : EReal)) : ssdState X D A' S = expState X D A S := by
  funext f n
  unfold ssdState expState
  simp only [h, sub_kap, exp2_kap]

theorem ssdOut_exp (X : Fin 128 → Fin 1536 → EReal) (D A A' : Fin 128 → Fin 16 → EReal) (S : Fin 1024 → Fin 128 → EReal)
    (dk : Fin 1024 → EReal) (h : ∀ s k, A' s k = A s k * (kap : EReal)) : ssdOut X D A' S dk = expOut X D A S dk := by
  funext r f
  unfold ssdOut expOut
  simp only [h, sub_kap, exp2_kap]

section Seq
variable (pr : Fin 8 → Fin 8192 → Fin 6688 → EReal) (cw : Fin 4 → Fin 1536 → EReal) (cb : Fin 1536 → EReal) (dtb al dk : Fin 16 → EReal) (b : Fin 8)

/-- The columns to convolve, after three rows of zeros. -/
def uP (n : ℕ) (j : Fin 1536) : EReal := if h : 3 ≤ n ∧ n < 8195 then pr b ⟨n - 3, by omega⟩ ⟨1024 + j.val, by omega⟩ else 0
/-- The convolved columns of a chunk. -/
def gX (k : ℕ) (s : Fin 128) (j : Fin 1536) : EReal :=
  siluOf (convOf (cw 0 j) (cw 1 j) (cw 2 j) (cw 3 j) (cb j) (uP pr b (128 * k + s.val) j) (uP pr b (128 * k + s.val + 1) j)
    (uP pr b (128 * k + s.val + 2) j) (uP pr b (128 * k + s.val + 3) j))
/-- The steps of a chunk. -/
def gD (k : ℕ) (s : Fin 128) (h : Fin 16) : EReal :=
  if hk : k < 64 then stepOf (pr b ⟨128 * k + s.val, by omega⟩ ⟨2560 + h.val, by omega⟩ + dtb h) else 0
/-- The summed decays of a chunk. -/
def gA (k : ℕ) (s : Fin 128) (h : Fin 16) : EReal :=
  ∑ q : Fin 128, if q.val ≤ s.val then gD pr dtb b k q h * (-Ideal.exp (al h)) else 0
/-- The state before each chunk. -/
def gS : ℕ → Fin 1024 → Fin 128 → EReal
  | 0 => fun _ _ => 0
  | k + 1 => expState (gX pr cw cb b k) (gD pr dtb b k) (gA pr dtb al b k) (gS k)
/-- The outputs of a chunk. -/
def gO (k : ℕ) (r : Fin 128) (f : Fin 1024) : EReal :=
  expOut (gX pr cw cb b k) (gD pr dtb b k) (gA pr dtb al b k) (gS pr cw cb dtb al b k) (fun f => dk ⟨f.val / 64, by omega⟩) r f
/-- The gated and normed outputs of a row. -/
def gY (gain : Fin 1024 → EReal) (l : Fin 8192) (f : Fin 1024) : EReal :=
  groupNorm (fun f => gO pr cw cb dtb al dk b (l.val / 128) ⟨l.val % 128, by omega⟩ f * siluOf (pr b l ⟨f.val, by omega⟩)) gain f

end Seq

end Cert.Layer

end
-- ==== Proof.HostsY.lean ====
/- The arrays the recurrence finds: the gates' rows and weights and the shift matrix, at an index. -/
module

public import proofs.«01_k».proof.Proof.Hosts
public import Idealize.ShloMosaic.Lib.StableHlo.ReadAt
public import Idealize.ShloMosaic.Lib.WordCmp

@[expose] public section
set_option maxRecDepth 16384
open Cert.KernelIdeal Cert.KernelIdeal.Gen Idealize.ShloMosaic Idealize.ShloMosaic.TcCoe Idealize.SL.Sem
noncomputable section
namespace Cert.Layer.Host

variable (m : (ℓ : Loc nD τ sig) → Buf (Elt Ideal) ℓ) (c : Dev nD)

/-- The weight columns of the steps, twice. -/
theorem wg_at (d : Fin 1024) (k : Fin 32) : (V m c main_v17 : FVec Ideal S1024x128 .bf16) (ix2 d ⟨k.val, by omega⟩)
    = (m ((c : Thread nD τ).loc main_arg3) : FVec Ideal S1024x6688 .f32) (ix2 d ⟨2560 + k.val % 16, by omega⟩) := by
  simp only [V, List.flatten_cons, List.flatten_nil, List.append_nil]
  repeat after_reads_at
  have hk := k.isLt
  rw [dif_pos (show k.val < 80 by omega)]
  by_cases h : k.val < 16
  · rw [dif_pos h]
    exact congrArg (fun e => (m ((c : Thread nD τ).loc main_arg3) : FVec Ideal S1024x6688 .f32) (ix2 d e)) (Fin.ext (by show 2560 + k.val = 2560 + k.val % 16; omega))
  · rw [dif_neg h, dif_pos (by omega)]
    exact congrArg (fun e => (m ((c : Thread nD τ).loc main_arg3) : FVec Ideal S1024x6688 .f32) (ix2 d e)) (Fin.ext (by show 2560 + (k.val - 16) = 2560 + k.val % 16; omega))

/-- The bias row of the gates. -/
theorem bias_at (k : Fin 32) : (V m c main_v71 : FVec Ideal S8x128 .f32) (ix2 0 ⟨k.val, by omega⟩)
    = (m ((c : Thread nD τ).loc main_arg6) : FVec Ideal S16 .f32) (ix1 ⟨k.val % 16, by omega⟩) := by
  simp only [V, List.flatten_cons, List.flatten_nil, List.append_nil]
  repeat after_reads_at
  have hk := k.isLt
  rw [dif_pos (show k.val < 128 by omega), dif_pos (show k.val < 80 by omega)]
  by_cases h : k.val < 16
  · rw [dif_pos h]
    exact congrArg (fun e => (m ((c : Thread nD τ).loc main_arg6) : FVec Ideal S16 .f32) (ix1 e)) (Fin.ext (by show k.val = k.val % 16; omega))
  · rw [dif_neg h, dif_pos (by omega)]
    exact congrArg (fun e => (m ((c : Thread nD τ).loc main_arg6) : FVec Ideal S16 .f32) (ix1 e)) (Fin.ext (by show k.val - 16 = k.val % 16; omega))

/-- The rate row of the gates. -/
theorem rate_at (k : Fin 16) : (V m c main_v71 : FVec Ideal S8x128 .f32) (ix2 1 ⟨16 + k.val, by omega⟩)
    = Ideal.div (-Ideal.exp ((m ((c : Thread nD τ).loc main_arg7) : FVec Ideal S16 .f32) (ix1 k))) (Ideal.log (Ideal.ofBits .f32 0x40000000#32)) := by
  simp only [V, List.flatten_cons, List.flatten_nil, List.append_nil]
  repeat after_reads_at
  have hk := k.isLt
  rw [dif_pos (by omega), dif_pos (by omega)]

end Cert.Layer.Host
-- ==== Proof.HostsZ.lean ====
/- The shift matrix the recurrence finds. -/
module

public import proofs.«01_k».proof.Proof.Hosts
public import Idealize.ShloMosaic.Lib.StableHlo.ReadAt
public import Idealize.ShloMosaic.Lib.WordCmp

@[expose] public section
set_option maxRecDepth 16384
open Cert.KernelIdeal Cert.KernelIdeal.Gen Idealize.ShloMosaic Idealize.ShloMosaic.TcCoe Idealize.SL.Sem
noncomputable section
namespace Cert.Layer.Host

variable (m : (ℓ : Loc nD τ sig) → Buf (Elt Ideal) ℓ) (c : Dev nD)

/-- A shifted row number. -/
theorem word_row (a k : ℕ) (ha : a < 128) (hk : k < 3) :
    IntOp.addi (IntOp.subi (IntOp.addi (BitVec.ofNat 32 a) 16#32) 3#32) (BitVec.ofNat 32 k) = BitVec.ofNat 32 (a + 13 + k) := by
  show BitVec.ofNat 32 a + 16#32 - 3#32 + BitVec.ofNat 32 k = BitVec.ofNat 32 (a + 13 + k)
  apply BitVec.eq_of_toNat_eq
  simp only [BitVec.toNat_add, BitVec.toNat_sub, BitVec.toNat_ofNat]
  omega

/-- A comparison with a shifted row number, as a number. -/
theorem word_pick (r a k : ℕ) (hr : r < 144) (ha : a < 128) (hk : k < 3) :
    (FloatOps.uitofp .bf16 (IntOp.cmpi .eq (BitVec.ofNat 32 r) (IntOp.addi (IntOp.subi (IntOp.addi (BitVec.ofNat 32 a) 16#32) 3#32) (BitVec.ofNat 32 k))) : Ideal .bf16)
      = if r = a + 13 + k then (1 : EReal) else (0 : EReal) := by
  rw [word_row a k ha hk, WordCmp.cmpi_eq_ofNat (by omega) (by omega)]
  by_cases h : r = a + 13 + k
  · rw [if_pos h, decide_eq_true h]
    show (((BitVec.ofBool true).toNat : ℝ) : EReal) = 1
    simp
  · rw [if_neg h, decide_eq_false h]
    show (((BitVec.ofBool false).toNat : ℝ) : EReal) = 0
    simp

/-- The shift matrix. -/
theorem shift_at (q : Fin 384) (r : Fin 144) : ((V m c main_v105 : FVec Ideal S384x144 .bf16) (ix2 q r) : EReal)
    = if r.val = q.val % 128 + 13 + q.val / 128 then (1 : EReal) else (0 : EReal) := by
  simp only [V, List.flatten_cons, List.flatten_nil, List.append_nil]
  repeat after_reads_at
  have hq := q.isLt
  by_cases h0 : q.val < 128
  · rw [dif_pos h0]
    refine (word_pick r.val q.val 0 r.isLt h0 (by omega)).trans (if_congr (by omega) rfl rfl)
  · rw [dif_neg h0]
    by_cases h1 : q.val - 128 < 128
    · rw [dif_pos h1]
      refine (word_pick r.val (q.val - 128) 1 r.isLt h1 (by omega)).trans (if_congr (by omega) rfl rfl)
    · rw [dif_neg h1]
      refine (word_pick r.val (q.val - 128 - 128) 2 r.isLt (by omega) (by omega)).trans (if_congr (by omega) rfl rfl)

end Cert.Layer.Host
-- ==== Proof.KernelY.lean ====
/- A tile's recurrence over the point's blocks is the sequence's, at the tile's chunks. -/
module

public import proofs.«01_k».proof.Proof.KernelArrays
public import proofs.«01_k».proof.Proof.Equation
public import proofs.«01_k».proof.Proof.TileOut
public import proofs.«01_k».proof.Proof.SpecY
public import proofs.«01_k».proof.Proof.HostsY
public import proofs.«01_k».proof.Proof.HostsZ
import Idealize.ShloMosaic.Lib.Pipeline.ValueKit

@[expose] public section

set_option maxRecDepth 16384

noncomputable section

namespace Cert.Layer

open Cert.KernelIdeal Cert.KernelIdeal.Gen Idealize.ShloMosaic Idealize.ShloMosaic.TcCoe Idealize.SL.Sem

variable (m : (ℓ : Loc nD τ sig) → Buf (Elt Ideal) ℓ) (c : Dev nD)

theorem idx_rec : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] ∧ win0_12.index t = ![0, 0])

theorem plan_blk (t : Fin cfg0.N) (k : Fin 8) (j : Fin 128) : iblk m c 4 t (ix2 k j) = (V m c main_v71 : FVec Ideal S8x128 .f32) (ix2 k j) := by
  blk_ext [iblk, (idx_rec t).1]
theorem shift_blk (t : Fin cfg0.N) (q : Fin 384) (r : Fin 144) : iblk m c 5 t (ix2 q r) = (V m c main_v105 : FVec Ideal S384x144 .bf16) (ix2 q r) := by
  blk_ext [iblk, (idx_rec t).2.1]
theorem cw_blk (t : Fin cfg0.N) (a : Fin 4) (j : Fin 1536) : iblk m c 6 t (ix2 a j) = (V m c main_arg4 : FVec Ideal S4x1536 .f32) (ix2 a j) := by
  blk_ext [iblk, (idx_rec t).2.2.1]
theorem cb_blk (t : Fin cfg0.N) (j : Fin 1536) : iblk m c 7 t (ix2 0 j) = (V m c main_v106 : FVec Ideal S1x1536 .f32) (ix2 0 j) := by
  blk_ext [iblk, (idx_rec t).2.2.2.1]
theorem dk_blk (t : Fin cfg0.N) (j : Fin 1024) : iblk m c 8 t (ix2 0 j) = (V m c main_v109 : FVec Ideal S1x1024 .f32) (ix2 0 j) := by
  blk_ext [iblk, (idx_rec t).2.2.2.2.1]
theorem yg_blk (t : Fin cfg0.N) (j : Fin 1024) : iblk m c 9 t (ix2 0 j) = (V m c main_v110 : FVec Ideal S1x1024 .f32) (ix2 0 j) := by
  blk_ext [iblk, (idx_rec t).2.2.2.2.2.1]
theorem wz_blk (t : Fin cfg0.N) (d j : Fin 1024) : iblk m c 10 t (ix2 d j) = (V m c main_v15 : FVec Ideal S1024x1024 .bf16) (ix2 d j) := by
  blk_ext [iblk, (idx_rec t).2.2.2.2.2.2.1]
theorem wx_blk (t : Fin cfg0.N) (d : Fin 1024) (j : Fin 1536) : iblk m c 11 t (ix2 d j) = (V m c main_v16 : FVec Ideal S1024x1536 .bf16) (ix2 d j) := by
  blk_ext [iblk, (idx_rec t).2.2.2.2.2.2.2.1]
theorem wg_blk (t : Fin cfg0.N) (d : Fin 1024) (j : Fin 128) : iblk m c 12 t (ix2 d j) = (V m c main_v17 : FVec Ideal S1024x128 .bf16) (ix2 d j) := by
  blk_ext [iblk, (idx_rec t).2.2.2.2.2.2.2.2]

/-- The convolution's weights are the argument. -/
theorem cw_at (a : Fin 4) (j : Fin 1536) : (V m c main_arg4 : FVec Ideal S4x1536 .f32) (ix2 a j) = (m ((c : Thread nD τ).loc main_arg4) : FVec Ideal S4x1536 .f32) (ix2 a j) := by
  simp only [V, List.flatten_cons, List.flatten_nil, List.append_nil]
  after_reads_simp
  try rfl

/-- The projection's entries. -/
abbrev prK : Fin 8 → Fin 8192 → Fin 6688 → EReal := fun b l j => proj m c (ix3 b l j)
/-- The convolution's weights. -/
abbrev cwK : Fin 4 → Fin 1536 → EReal := fun a j => (m ((c : Thread nD τ).loc main_arg4) : FVec Ideal S4x1536 .f32) (ix2 a j)
/-- The convolution's bias. -/
abbrev cbK : Fin 1536 → EReal := fun j => (m ((c : Thread nD τ).loc main_arg5) : FVec Ideal S1536 .f32) (ix1 j)
/-- The steps' bias. -/
abbrev dtK : Fin 16 → EReal := fun h => (m ((c : Thread nD τ).loc main_arg6) : FVec Ideal S16 .f32) (ix1 h)
/-- The decays' logarithms. -/
abbrev alK : Fin 16 → EReal := fun h => (m ((c : Thread nD τ).loc main_arg7) : FVec Ideal S16 .f32) (ix1 h)
/-- The skip factors. -/
abbrev dkK : Fin 16 → EReal := fun h => (m ((c : Thread nD τ).loc main_arg8) : FVec Ideal S16 .f32) (ix1 h)

theorem is_shift (t : Fin cfg0.N) : IsShift (iblk m c 5 t) := fun q r => (shift_blk m c t q r).trans (Host.shift_at m c q r)

section Tile
variable (t : Fin cfg0.N) (b : Fin 8) (hb : b.val = t.val / 16)
include hb

/-- A gate column's step. -/
theorem step_at (r : Fin 512) (k : Fin 32) (l : Fin 8192) (hl : l.val = 512 * (t.val % 16) + r.val) :
    stepFn (hTile (iblk m c 0 t) (iblk m c 1 t) (iblk m c 2 t)) (iblk m c 12 t) (iblk m c 4 t) r ⟨k.val, by omega⟩
      = stepOf (prK m c b l ⟨2560 + k.val % 16, by omega⟩ + dtK m c ⟨k.val % 16, by omega⟩) := by
  unfold stepFn
  rw [dot_proj m c t r b l hb hl ⟨2560 + k.val % 16, by omega⟩ _ fun d => (wg_blk m c t d _).trans (Host.wg_at m c d k), plan_blk, Host.bias_at]

/-- The steps. -/
theorem kD_at (i : ℕ) (hi : i < 4) (s : Fin 128) (h : Fin 16) :
    kD (iblk m c 0 t) (iblk m c 1 t) (iblk m c 2 t) (iblk m c 4 t) (iblk m c 12 t) i s h = gD (prK m c) (dtK m c) b (4 * (t.val % 16) + i) s h := by
  have hh := h.isLt
  have h16 : t.val % 16 < 16 := Nat.mod_lt _ (by omega)
  show tD _ _ i s h = _
  unfold tD gateFn gD
  rw [dif_pos (by omega), dif_pos (by omega), if_pos hh]
  refine (step_at m c t b hb ⟨128 * i + s.val, by omega⟩ ⟨h.val, by omega⟩ ⟨128 * (4 * (t.val % 16) + i) + s.val, by omega⟩
    (by show 128 * (4 * (t.val % 16) + i) + s.val = 512 * (t.val % 16) + (128 * i + s.val); omega)).trans ?_
  have e : h.val % 16 = h.val := by omega
  simp only [e]

/-- The summed decays. -/
theorem kA_at (i : ℕ) (hi : i < 4) (s : Fin 128) (h : Fin 16) :
    kA (iblk m c 0 t) (iblk m c 1 t) (iblk m c 2 t) (iblk m c 4 t) (iblk m c 12 t) i s h = gA (prK m c) (dtK m c) (alK m c) b (4 * (t.val % 16) + i) s h * (kap : EReal) := by
  have hh := h.isLt
  have h16 : t.val % 16 < 16 := Nat.mod_lt _ (by omega)
  show tA _ _ i s h = _
  unfold tA gateFn gA
  rw [dif_pos (by omega), if_neg (by show ¬(16 + h.val < 16); omega), ← sum_kap]
  refine Finset.sum_congr rfl fun q _ => ?_
  by_cases hq : q.val ≤ s.val
  · rw [if_pos hq, if_pos hq]
    have e1 := step_at m c t b hb ⟨128 * i + q.val, by omega⟩ ⟨16 + h.val, by omega⟩ ⟨128 * (4 * (t.val % 16) + i) + q.val, by omega⟩
      (by show 128 * (4 * (t.val % 16) + i) + q.val = 512 * (t.val % 16) + (128 * i + q.val); omega)
    have e : (16 + h.val) % 16 = h.val := by omega
    simp only [e] at e1
    have e2 : iblk m c 4 t (ix2 1 ⟨16 + h.val, by omega⟩) = (-Ideal.exp (alK m c h)) * (kap : EReal) :=
      ((plan_blk m c t 1 _).trans (Host.rate_at m c h)).trans (div_log2 _)
    unfold gD
    rw [dif_pos (by omega : 4 * (t.val % 16) + i < 64)]
    refine (congrArg₂ (fun x y : EReal => x * y) e1 e2).trans ?_
    exact (mul_assoc _ _ _).symm
  · rw [if_neg hq, if_neg hq, zero_mul]

/-- The tile's own rows. -/
theorem row_at (r : Fin 512) (j : Fin 1536) (n : ℕ) (hn : n = 512 * (t.val % 16) + r.val + 3) :
    colDot (fun d => hTile (iblk m c 0 t) (iblk m c 1 t) (iblk m c 2 t) (ix2 r d)) (fun d => iblk m c 11 t (ix2 d j)) = uP (prK m c) b n j := by
  subst hn
  have hr := r.isLt
  have h16 : t.val % 16 < 16 := Nat.mod_lt _ (by omega)
  unfold uP
  rw [dif_pos (show 3 ≤ 512 * (t.val % 16) + r.val + 3 ∧ 512 * (t.val % 16) + r.val + 3 < 8195 by omega)]
  exact dot_proj m c t r b _ hb (by show 512 * (t.val % 16) + r.val + 3 - 3 = 512 * (t.val % 16) + r.val; omega) _ _ fun d => (wx_blk m c t d j).trans (Host.wxbc_at m c d j)

variable (P : Fin 16 → Fin 1536 → EReal) (hP : ∀ (q : Fin 16) (j : Fin 1536), 13 ≤ q.val → P q j = uP (prK m c) b (512 * (t.val % 16) + q.val - 13) j)
include hP

theorem rows_at (q : Fin 528) (j : Fin 1536) (n : ℕ) (hq : 13 ≤ q.val) (hn : n = 512 * (t.val % 16) + q.val - 13) :
    rowsFn P (hTile (iblk m c 0 t) (iblk m c 1 t) (iblk m c 2 t)) (iblk m c 11 t) q j = uP (prK m c) b n j := by
  subst hn
  unfold rowsFn
  by_cases h : q.val < 16
  · rw [dif_pos h]
    exact hP ⟨q.val, h⟩ j hq
  · rw [dif_neg h]
    exact row_at m c t b hb _ j _ (by show 512 * (t.val % 16) + q.val - 13 = 512 * (t.val % 16) + (q.val - 16) + 3; omega)

/-- The convolved columns. -/
theorem kX_at (i : ℕ) (hi : i < 4) (s : Fin 128) (j : Fin 1536) :
    kX P (iblk m c 0 t) (iblk m c 1 t) (iblk m c 2 t) (iblk m c 6 t) (iblk m c 7 t) (iblk m c 11 t) i s j
      = gX (prK m c) (cwK m c) (cbK m c) b (4 * (t.val % 16) + i) s j := by
  show tX _ _ _ i s j = _
  unfold tX convFn gX
  rw [dif_pos (by omega)]
  rw [rows_at m c t b hb P hP _ j (128 * (4 * (t.val % 16) + i) + s.val) (by show 13 ≤ 128 * i + s.val + 13; omega) (by show _ = 512 * (t.val % 16) + (128 * i + s.val + 13) - 13; omega),
    rows_at m c t b hb P hP _ j (128 * (4 * (t.val % 16) + i) + s.val + 1) (by show 13 ≤ 128 * i + s.val + 14; omega) (by show _ = 512 * (t.val % 16) + (128 * i + s.val + 14) - 13; omega),
    rows_at m c t b hb P hP _ j (128 * (4 * (t.val % 16) + i) + s.val + 2) (by show 13 ≤ 128 * i + s.val + 15; omega) (by show _ = 512 * (t.val % 16) + (128 * i + s.val + 15) - 13; omega),
    rows_at m c t b hb P hP _ j (128 * (4 * (t.val % 16) + i) + s.val + 3) (by show 13 ≤ 128 * i + s.val + 16; omega) (by show _ = 512 * (t.val % 16) + (128 * i + s.val + 16) - 13; omega)]
  have hw : ∀ a, iblk m c 6 t (ix2 a j) = cwK m c a j := fun a => (cw_blk m c t a j).trans (cw_at m c a j)
  have h7 : iblk m c 7 t (ix2 0 j) = cbK m c j := (cb_blk m c t j).trans (Host.cb_at m c j)
  rw [hw, hw, hw, hw, h7]

variable (S : Fin 1024 → Fin 128 → EReal) (hS : S = gS (prK m c) (cwK m c) (cbK m c) (dtK m c) (alK m c) b (4 * (t.val % 16)))
include hS

/-- The states. -/
theorem kS_at (i : ℕ) (hi : i ≤ 4) :
    kS P S (iblk m c 0 t) (iblk m c 1 t) (iblk m c 2 t) (iblk m c 4 t) (iblk m c 6 t) (iblk m c 7 t) (iblk m c 11 t) (iblk m c 12 t) i
      = gS (prK m c) (cwK m c) (cbK m c) (dtK m c) (alK m c) b (4 * (t.val % 16) + i) := by
  induction i with
  | zero => exact hS
  | succ i ih =>
    show ssdState (kX P (iblk m c 0 t) (iblk m c 1 t) (iblk m c 2 t) (iblk m c 6 t) (iblk m c 7 t) (iblk m c 11 t) i)
      (kD (iblk m c 0 t) (iblk m c 1 t) (iblk m c 2 t) (iblk m c 4 t) (iblk m c 12 t) i)
      (kA (iblk m c 0 t) (iblk m c 1 t) (iblk m c 2 t) (iblk m c 4 t) (iblk m c 12 t) i)
      (kS P S (iblk m c 0 t) (iblk m c 1 t) (iblk m c 2 t) (iblk m c 4 t) (iblk m c 6 t) (iblk m c 7 t) (iblk m c 11 t) (iblk m c 12 t) i) = _
    rw [ih (by omega), ssdState_exp _ _ _ _ _ (kA_at m c t b hb i (by omega)), funext₂ (kX_at m c t b hb P hP i (by omega)), funext₂ (kD_at m c t b hb i (by omega))]
    rfl

/-- The outputs. -/
theorem tileY_spec (r : Fin 512) (f : Fin 1024) (l : Fin 8192) (hl : l.val = 512 * (t.val % 16) + r.val) :
    tileY P S (iblk m c 0 t) (iblk m c 1 t) (iblk m c 2 t) (iblk m c 4 t) (iblk m c 6 t) (iblk m c 7 t) (iblk m c 8 t) (iblk m c 9 t) (iblk m c 10 t) (iblk m c 11 t) (iblk m c 12 t) r f
      = gY (prK m c) (cwK m c) (cbK m c) (dtK m c) (alK m c) (dkK m c) b (fun f => (m ((c : Thread nD τ).loc main_arg9) : FVec Ideal S1024 .f32) (ix1 f)) l f := by
  have hr := r.isLt
  have hi : r.val / 128 < 4 := by omega
  have ek : l.val / 128 = 4 * (t.val % 16) + r.val / 128 := by omega
  have ea : (⟨l.val % 128, by omega⟩ : Fin 128) = ⟨r.val % 128, by omega⟩ := Fin.ext (by show l.val % 128 = r.val % 128; omega)
  unfold tileY gY
  rw [show (fun f => iblk m c 9 t (ix2 0 f)) = fun f => (m ((c : Thread nD τ).loc main_arg9) : FVec Ideal S1024 .f32) (ix1 f) from
    funext fun f => (yg_blk m c t f).trans (Host.ygain_at m c f)]
  refine congrArg (fun v => groupNorm v _ f) (funext fun f => ?_)
  rw [dot_proj m c t r b l hb hl ⟨f.val, by omega⟩ _ fun d => (wz_blk m c t d f).trans (Host.wz_at m c d f)]
  refine congrArg (fun x : EReal => x * _) ?_
  unfold tileO gO
  rw [ek, ea, kS_at m c t b hb P hP S hS _ (by omega), ssdOut_exp _ _ _ _ _ _ (kA_at m c t b hb _ hi), funext₂ (kX_at m c t b hb P hP _ hi), funext₂ (kD_at m c t b hb _ hi)]
  rw [show (fun f => iblk m c 8 t (ix2 0 f)) = fun f : Fin 1024 => dkK m c ⟨f.val / 64, by omega⟩ from
    funext fun f => (dk_blk m c t f).trans (Host.dskip_at m c f)]

end Tile

end Cert.Layer

end
-- ==== Proof.RefParts.lean ====
/- The reference's state-space arrays, stage by stage, as functions of the arrays before them, and each of them at an
   index. -/
module

public import proofs.«01_k».proof.Proof.Gen.ReferenceIdeal.Run
public import proofs.«01_k».proof.Proof.RowMath
public import proofs.«01_k».proof.Proof.SsdGate

@[expose] public section

set_option maxRecDepth 16384

noncomputable section

namespace Cert.Layer.Ref

open Cert.ReferenceIdeal Cert.ReferenceIdeal.Gen Idealize.ShloMosaic Idealize.SL.Sem

/-- The convolution's columns with three rows of zeros before them. -/
def padArr (u0 : FVec Ideal S8x8192x1024 .f32) (u1 u2 : FVec Ideal S8x8192x256 .f32) : FVec Ideal S8x8195x1536 .f32 :=
  pad S8x8195x1536 ![0, 3, 0] ![0, 0, 0] ![0, 0, 0]
    (concatenate S8x8192x1536 2 [⟨S8x8192x1024, u0⟩, ⟨S8x8192x256, u1⟩, ⟨S8x8192x256, u2⟩] concatenates_S8x8192x1024_S8x8192x256_S8x8192x256_S8x8192x1536_d2)
    (sitofp .f32 (constantI S_ 32 0#32) : FVec Ideal S_ .f32) pads_S8x8192x1536_S8x8195x1536_000_300_000 h_S_

/-- The activation of an array of convolved rows. -/
def siluArr (u : FVec Ideal S8x8192x1536 .f32) : FVec Ideal S8x8192x1536 .f32 :=
  mulf u (Host.divf (broadcastInDim S8x8192x1536 ![] bcast_S_S8x8192x1536 (constant S_ .f32 0x3F800000#32))
    (addf (broadcastInDim S8x8192x1536 ![] bcast_S_S8x8192x1536 (constant S_ .f32 0x3F800000#32)) (Host.exp (Host.negf u))))

/-- One tap's weights, over all the rows. -/
def tapArr (o : ℕ) (h : S4x1536.Slices ![o, 0] S1x1536) (w : FVec Ideal S4x1536 .f32) : FVec Ideal S8x8192x1536 .f32 :=
  broadcastInDim S8x8192x1536 ![0, 1, 2] bcast_S1x1x1536_S8x8192x1536_0_1_2 (broadcastInDim S1x1x1536 ![2] bcast_S1536_S1x1x1536_2
    (shapeCast S1536 (extractStridedSlice S1x1536 ![o, 0] w h) shapeCasts_S1x1536_S1536))

theorem sum_turn (a b c d e : EReal) : a + b + c + d + e = d + e + a + b + c := by ac_rfl

/-- The convolved rows. -/
def convArr (U : FVec Ideal S8x8195x1536 .f32) (w : FVec Ideal S4x1536 .f32) (b : FVec Ideal S1536 .f32) : FVec Ideal S8x8192x1536 .f32 :=
  addf (addf (addf (addf (addf (broadcastInDim S8x8192x1536 ![] bcast_S_S8x8192x1536 (constant S_ .f32 0x00000000#32))
            (mulf (tapArr 0 slices_S4x1536_S1x1536_0_0 w) (extractStridedSlice S8x8192x1536 ![0, 0, 0] U slices_S8x8195x1536_S8x8192x1536_0_0_0)))
          (mulf (tapArr 1 slices_S4x1536_S1x1536_1_0 w) (extractStridedSlice S8x8192x1536 ![0, 1, 0] U slices_S8x8195x1536_S8x8192x1536_0_1_0)))
        (mulf (tapArr 2 slices_S4x1536_S1x1536_2_0 w) (extractStridedSlice S8x8192x1536 ![0, 2, 0] U slices_S8x8195x1536_S8x8192x1536_0_2_0)))
      (mulf (tapArr 3 slices_S4x1536_S1x1536_3_0 w) (extractStridedSlice S8x8192x1536 ![0, 3, 0] U slices_S8x8195x1536_S8x8192x1536_0_3_0)))
    (broadcastInDim S8x8192x1536 ![0, 1, 2] bcast_S1x1x1536_S8x8192x1536_0_1_2 (broadcastInDim S1x1x1536 ![2] bcast_S1536_S1x1x1536_2 b))

theorem sitofp_zero : (FloatOps.sitofp .f32 (0#32 : BitVec 32) : Ideal .f32) = (0 : EReal) := by
  show ((((0#32 : BitVec 32).toInt : ℝ) : EReal)) = 0
  simp

theorem padArr_at (u0 : FVec Ideal S8x8192x1024 .f32) (u1 u2 : FVec Ideal S8x8192x256 .f32) (b : Fin 8) (n : Fin 8195) (j : Fin 1536) :
    padArr u0 u1 u2 (ix3 b n j) = if h : 3 ≤ n.val then (if h0 : j.val < 1024 then u0 (ix3 b ⟨n.val - 3, by omega⟩ ⟨j.val, h0⟩)
      else if h1 : j.val < 1280 then u1 (ix3 b ⟨n.val - 3, by omega⟩ ⟨j.val - 1024, by omega⟩) else u2 (ix3 b ⟨n.val - 3, by omega⟩ ⟨j.val - 1280, by omega⟩)) else 0 := by
  unfold padArr
  pointwise
  by_cases h : 3 ≤ n.val
  · rw [dif_pos h, dif_pos ⟨h, by omega⟩]
    by_cases h0 : j.val < 1024
    · rw [dif_pos h0, dif_pos h0]
    · rw [dif_neg h0, dif_neg h0]
      by_cases h1 : j.val < 1280
      · rw [dif_pos h1, dif_pos (by omega)]
      · rw [dif_neg h1, dif_neg (by omega)]
        exact congrArg u2 (congrArg (ix3 _ _) (Fin.ext (by show j.val - 1024 - 256 = j.val - 1280; omega)))
  · rw [dif_neg h, dif_neg (fun h' => h h'.1)]
    exact sitofp_zero

theorem siluArr_at (u : FVec Ideal S8x8192x1536 .f32) (b : Fin 8) (l : Fin 8192) (j : Fin 1536) :
    siluArr u (ix3 b l j) = siluOf (u (ix3 b l j)) := by
  unfold siluArr siluOf
  pointwise
  try rfl

theorem tapArr_at (o : ℕ) (h : S4x1536.Slices ![o, 0] S1x1536) (w : FVec Ideal S4x1536 .f32) (ho : o < 4) (b : Fin 8) (l : Fin 8192) (j : Fin 1536) :
    tapArr o h w (ix3 b l j) = w (ix2 ⟨o, ho⟩ j) := by
  unfold tapArr
  pointwise

theorem convArr_at (U : FVec Ideal S8x8195x1536 .f32) (w : FVec Ideal S4x1536 .f32) (bi : FVec Ideal S1536 .f32) (b : Fin 8) (l : Fin 8192) (j : Fin 1536) :
    convArr U w bi (ix3 b l j) = convOf (w (ix2 0 j)) (w (ix2 1 j)) (w (ix2 2 j)) (w (ix2 3 j)) (bi (ix1 j))
      (U (ix3 b ⟨l.val, by omega⟩ j)) (U (ix3 b ⟨1 + l.val, by omega⟩ j)) (U (ix3 b ⟨2 + l.val, by omega⟩ j)) (U (ix3 b ⟨3 + l.val, by omega⟩ j)) := by
  unfold convArr convOf
  pointwise
  rw [tapArr_at _ _ _ (by omega), tapArr_at _ _ _ (by omega), tapArr_at _ _ _ (by omega), tapArr_at _ _ _ (by omega)]
  exact sum_turn _ _ _ _ _

/-- The steps. -/
def dtArr (g : FVec Ideal S8x8192x16 .f32) (bias : FVec Ideal S16 .f32) : FVec Ideal S8x8192x16 .f32 :=
  have u : FVec Ideal S8x8192x16 .f32 := addf g (broadcastInDim S8x8192x16 ![0, 1, 2] bcast_S1x1x16_S8x8192x16_0_1_2 (broadcastInDim S1x1x16 ![2] bcast_S16_S1x1x16_2 bias))
  have z : FVec Ideal S8x8192x16 .f32 := broadcastInDim S8x8192x16 ![] bcast_S_S8x8192x16 (constant S_ .f32 0x00000000#32)
  select (cmpf .une (subf u z) (subf u z)) (addf u z) (addf (maximumf u z) (Host.log1p (Host.exp (Host.negf (Host.absf (subf u z))))))

theorem dtArr_at (g : FVec Ideal S8x8192x16 .f32) (bias : FVec Ideal S16 .f32) (b : Fin 8) (l : Fin 8192) (h : Fin 16) :
    dtArr g bias (ix3 b l h) = stepOf ((g (ix3 b l h) : EReal) + bias (ix1 h)) := by
  unfold dtArr stepOf
  pointwise
  rw [if_neg (fun h => h rfl)]
  exact congrArg (fun e => _ + Ideal.log1p (Ideal.exp e)) (zero_sub _).symm

end Cert.Layer.Ref

end
-- ==== Proof.RefChunk.lean ====
/- The reference's chunked state-space sums, as functions of the chunked arrays, and each of them at an index. -/
module

public import proofs.«01_k».proof.Proof.Gen.ReferenceIdeal.Run
public import proofs.«01_k».proof.Proof.RowMath
public import Idealize.ShloMosaic.Lib.WordCmp

@[expose] public section

set_option maxRecDepth 16384

noncomputable section

namespace Cert.Layer.Ref

open Cert.ReferenceIdeal Cert.ReferenceIdeal.Gen Idealize.ShloMosaic Idealize.SL.Sem

/-- The decay rates times the steps. -/
def rateArr (D : FVec Ideal S8x64x128x2x8 .f32) (al : FVec Ideal S16 .f32) : FVec Ideal S8x64x128x2x8 .f32 :=
  mulf D (broadcastInDim S8x64x128x2x8 ![0, 1, 2, 3, 4] bcast_S1x1x1x2x8_S8x64x128x2x8_0_1_2_3_4 (broadcastInDim S1x1x1x2x8 ![3, 4] bcast_S2x8_S1x1x1x2x8_3_4
    (shapeCast S2x8 (Host.negf (Host.exp al)) shapeCasts_S16_S2x8)))

/-- Their sums along a chunk. -/
def cumArr (R : FVec Ideal S8x64x128x2x8 .f32) : FVec Ideal S8x64x128x2x8 .f32 :=
  Host.reduceWindowAdd ![1, 1, 128, 1, 1] ![1, 1, 1, 1, 1] ![0, 0, 127, 0, 0] ![0, 0, 0, 0, 0] R
    (broadcastInDim S_ ![] bcast_S_S_ (constant S_ .f32 0x00000000#32) : FVec Ideal S_ .f32)
    reduceWindows_S8x64x128x2x8_S8x64x128x2x8_w1s1p0_0_w1s1p0_0_w128s1p127_0_w1s1p0_0_w1s1p0_0 h_S_

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's index is its coordinate along the chunk. -/
def windowIdx : (⟨5, ![1, 1, 128, 1, 1]⟩ : Shape).Idx ≃ Fin 128 where
  toFun i := i 2
  invFun q := ix5 (0 : Fin 1) (0 : Fin 1) q (0 : Fin 1) (0 : Fin 1)
  left_inv i := by
    funext a
    fin_cases a
    · exact Subsingleton.elim (α := Fin 1) _ _
    · exact Subsingleton.elim (α := Fin 1) _ _
    · rfl
    · exact Subsingleton.elim (α := Fin 1) _ _
    · exact Subsingleton.elim (α := Fin 1) _ _
  right_inv _ := rfl

/-- A window's sum that ends at row `s` is the sum over the rows up to `s`. -/
theorem window_sum (y : Fin 128 → EReal) (s : Fin 128) :
    (∑ w : Fin 128, if h : 127 ≤ s.val + w.val then y ⟨s.val + w.val - 127, by omega⟩ else 0) = ∑ q : Fin 128, if q.val ≤ s.val then y q else 0 := by
  refine Fintype.sum_equiv (Equiv.addRight (s + 1)) _ _ fun w => ?_
  have hv : ((Equiv.addRight (s + 1)) w).val = (w.val + (s.val + 1)) % 128 := by
    show (w + (s + 1)).val = _
    rw [Fin.val_add, Fin.val_add]
    show (w.val + (s.val + 1) % 128) % 128 = _
    omega
  by_cases h : 127 ≤ s.val + w.val
  · rw [dif_pos h, if_pos (by omega)]
    exact congrArg y (Fin.ext (by show s.val + w.val - 127 = _; omega))
  · rw [dif_neg h, if_neg (by omega)]

theorem cumArr_at (R : FVec Ideal S8x64x128x2x8 .f32) (b : Fin 8) (c : Fin 64) (s : Fin 128) (g : Fin 2) (r : Fin 8) :
    cumArr R (ix5 b c s g r) = ∑ q : Fin 128, if q.val ≤ s.val then (R (ix5 b c q g r) : EReal) else 0 := by
  rw [← window_sum (fun q => R (ix5 b c q g r)) s]
  unfold cumArr
  have h0 : ∀ i, (broadcastInDim S_ ![] bcast_S_S_ (constant S_ .f32 0x00000000#32) : FVec Ideal S_ .f32) i = (0 : EReal) := fun i => by
    rw [show i = ix0 from funext fun a => a.elim0]
    pointwise
  unfold Host.reduceWindowAdd
  rw [h0]
  show Host.reduceWindow (· + ·) ![1, 1, 128, 1, 1] ![1, 1, 1, 1, 1] ![0, 0, 127, 0, 0] ![0, 0, 0, 0, 0] R (fun _ : (⟨0, ![]⟩ : Shape).Idx => (0 : EReal))
    reduceWindows_S8x64x128x2x8_S8x64x128x2x8_w1s1p0_0_w1s1p0_0_w128s1p127_0_w1s1p0_0_w1s1p0_0 (by decide) (ix5 b c s g r) = _
  unfold Host.reduceWindow
  dsimp only
  refine (foldl_sum _ _ 0).trans ?_
  rw [zero_add, ← List.ofFn_eq_map, List.sum_ofFn]
  refine Fintype.sum_equiv ((Shape.rowMajor ⟨5, ![1, 1, 128, 1, 1]⟩).symm.trans windowIdx) _ _ fun n => ?_
  rw [Equiv.trans_apply]
  have e0 : ((Shape.rowMajor ⟨5, ![1, 1, 128, 1, 1]⟩).symm n 0).val = 0 := Nat.lt_one_iff.mp ((Shape.rowMajor ⟨5, ![1, 1, 128, 1, 1]⟩).symm n 0).isLt
  have e1 : ((Shape.rowMajor ⟨5, ![1, 1, 128, 1, 1]⟩).symm n 1).val = 0 := Nat.lt_one_iff.mp ((Shape.rowMajor ⟨5, ![1, 1, 128, 1, 1]⟩).symm n 1).isLt
  have e3 : ((Shape.rowMajor ⟨5, ![1, 1, 128, 1, 1]⟩).symm n 3).val = 0 := Nat.lt_one_iff.mp ((Shape.rowMajor ⟨5, ![1, 1, 128, 1, 1]⟩).symm n 3).isLt
  have e4 : ((Shape.rowMajor ⟨5, ![1, 1, 128, 1, 1]⟩).symm n 4).val = 0 := Nat.lt_one_iff.mp ((Shape.rowMajor ⟨5, ![1, 1, 128, 1, 1]⟩).symm n 4).isLt
  have e2 : (windowIdx ((Shape.rowMajor ⟨5, ![1, 1, 128, 1, 1]⟩).symm n)).val = ((Shape.rowMajor ⟨5, ![1, 1, 128, 1, 1]⟩).symm n 2).val := rfl
  have hw := (windowIdx ((Shape.rowMajor ⟨5, ![1, 1, 128, 1, 1]⟩).symm n)).isLt
  by_cases h : 127 ≤ s.val + (windowIdx ((Shape.rowMajor ⟨5, ![1, 1, 128, 1, 1]⟩).symm n)).val
  · rw [dif_pos h]
    refine (dif_pos fun a => ?_).trans ?_
    · fin_cases a
      · exact ⟨Nat.zero_le _, by show b.val * 1 + ((Shape.rowMajor ⟨5, ![1, 1, 128, 1, 1]⟩).symm n 0).val - 0 < 8; omega⟩
      · exact ⟨Nat.zero_le _, by show c.val * 1 + ((Shape.rowMajor ⟨5, ![1, 1, 128, 1, 1]⟩).symm n 1).val - 0 < 64; omega⟩
      · exact ⟨by show 127 ≤ s.val * 1 + ((Shape.rowMajor ⟨5, ![1, 1, 128, 1, 1]⟩).symm n 2).val; omega, by show s.val * 1 + ((Shape.rowMajor ⟨5, ![1, 1, 128, 1, 1]⟩).symm n 2).val - 127 < 128; omega⟩
      · exact ⟨Nat.zero_le _, by show g.val * 1 + ((Shape.rowMajor ⟨5, ![1, 1, 128, 1, 1]⟩).symm n 3).val - 0 < 2; omega⟩
      · exact ⟨Nat.zero_le _, by show r.val * 1 + ((Shape.rowMajor ⟨5, ![1, 1, 128, 1, 1]⟩).symm n 4).val - 0 < 8; omega⟩
    · refine congrArg R (funext fun a => Fin.ext ?_)
      fin_cases a
      · show b.val * 1 + ((Shape.rowMajor ⟨5, ![1, 1, 128, 1, 1]⟩).symm n 0).val - 0 = b.val; omega
      · show c.val * 1 + ((Shape.rowMajor ⟨5, ![1, 1, 128, 1, 1]⟩).symm n 1).val - 0 = c.val; omega
      · show s.val * 1 + ((Shape.rowMajor ⟨5, ![1, 1, 128, 1, 1]⟩).symm n 2).val - 127 = s.val + (windowIdx ((Shape.rowMajor ⟨5, ![1, 1, 128, 1, 1]⟩).symm n)).val - 127; omega
      · show g.val * 1 + ((Shape.rowMajor ⟨5, ![1, 1, 128, 1, 1]⟩).symm n 3).val - 0 = g.val; omega
      · show r.val * 1 + ((Shape.rowMajor ⟨5, ![1, 1, 128, 1, 1]⟩).symm n 4).val - 0 = r.val; omega
  · rw [dif_neg h]
    refine dif_neg fun hin => ?_
    have h2 : 127 ≤ s.val * 1 + ((Shape.rowMajor ⟨5, ![1, 1, 128, 1, 1]⟩).symm n 2).val := (hin 2).1
    omega

theorem rateArr_at (D : FVec Ideal S8x64x128x2x8 .f32) (al : FVec Ideal S16 .f32) (b : Fin 8) (c : Fin 64) (s : Fin 128) (g : Fin 2) (r : Fin 8) :
    rateArr D al (ix5 b c s g r) = (D (ix5 b c s g r) : EReal) * (-Ideal.exp (al (ix1 ⟨g.val * 8 + r.val, by omega⟩))) := by
  unfold rateArr
  pointwise

/-- The columns of the heads. -/
def xHeads (u : FVec Ideal S8x8192x1024 .f32) : FVec Ideal S8x8192x16x64 .f32 := shapeCast S8x8192x16x64 u shapeCasts_S8x8192x1024_S8x8192x16x64

def xChunk (u : FVec Ideal S8x8192x16x64 .f32) : FVec Ideal S8x64x128x2x8x64 .f32 := shapeCast S8x64x128x2x8x64 u shapeCasts_S8x8192x16x64_S8x64x128x2x8x64

def dChunk (d : FVec Ideal S8x8192x16 .f32) : FVec Ideal S8x64x128x2x8 .f32 := shapeCast S8x64x128x2x8 d shapeCasts_S8x8192x16_S8x64x128x2x8

def bChunk (u : FVec Ideal S8x8192x256 .f32) : FVec Ideal S8x64x128x2x128 .f32 :=
  shapeCast S8x64x128x2x128 (shapeCast S8x8192x2x128 u shapeCasts_S8x8192x256_S8x8192x2x128) shapeCasts_S8x8192x2x128_S8x64x128x2x128

theorem xChunk_at (u : FVec Ideal S8x8192x1024 .f32) (b : Fin 8) (c : Fin 64) (s : Fin 128) (g : Fin 2) (r : Fin 8) (p : Fin 64) :
    xChunk (xHeads u) (ix6 b c s g r p) = u (ix3 b ⟨c.val * 128 + s.val, by omega⟩ ⟨g.val * 512 + r.val * 64 + p.val, by omega⟩) := by
  unfold xChunk xHeads
  pointwise
  done

theorem dChunk_at (d : FVec Ideal S8x8192x16 .f32) (b : Fin 8) (c : Fin 64) (s : Fin 128) (g : Fin 2) (r : Fin 8) :
    dChunk d (ix5 b c s g r) = d (ix3 b ⟨c.val * 128 + s.val, by omega⟩ ⟨g.val * 8 + r.val, by omega⟩) := by
  unfold dChunk
  pointwise
  done

theorem bChunk_at (u : FVec Ideal S8x8192x256 .f32) (b : Fin 8) (c : Fin 64) (s : Fin 128) (g : Fin 2) (n : Fin 128) :
    bChunk u (ix5 b c s g n) = u (ix3 b ⟨c.val * 128 + s.val, by omega⟩ ⟨g.val * 128 + n.val, by omega⟩) := by
  unfold bChunk
  pointwise
  done

/-- The columns times the steps. -/
def xdArr (X : FVec Ideal S8x64x128x2x8x64 .f32) (D : FVec Ideal S8x64x128x2x8 .f32) : FVec Ideal S8x64x128x2x8x64 .f32 :=
  mulf X (broadcastInDim S8x64x128x2x8x64 ![0, 1, 2, 3, 4, 5] bcast_S8x64x128x2x8x1_S8x64x128x2x8x64_0_1_2_3_4_5
    (broadcastInDim S8x64x128x2x8x1 ![0, 1, 2, 3, 4] bcast_S8x64x128x2x8_S8x64x128x2x8x1_0_1_2_3_4 D))

theorem xdArr_at (X : FVec Ideal S8x64x128x2x8x64 .f32) (D : FVec Ideal S8x64x128x2x8 .f32) (b : Fin 8) (c : Fin 64) (s : Fin 128) (g : Fin 2) (r : Fin 8) (p : Fin 64) :
    xdArr X D (ix6 b c s g r p) = (X (ix6 b c s g r p) : EReal) * D (ix5 b c s g r) := by
  unfold xdArr
  pointwise
  done

/-- The mask of a chunk's earlier rows. -/
def maskArr : (⟨S128x128, .i1⟩ : BufTy).Contents (Elt Ideal) :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

/-- The decays between the rows of a chunk. -/
def decArr (A : FVec Ideal S8x64x128x2x8 .f32) : FVec Ideal S8x64x128x128x2x8 .f32 :=
  Host.exp (select (broadcastInDim S8x64x128x128x2x8 ![0, 1, 2, 3, 4, 5] bcast_S1x1x128x128x1x1_S8x64x128x128x2x8_0_1_2_3_4_5
        (broadcastInDim S1x1x128x128x1x1 ![2, 3] bcast_S128x128_S1x1x128x128x1x1_2_3 maskArr))
      (subf (broadcastInDim S8x64x128x128x2x8 ![0, 1, 2, 3, 4, 5] bcast_S8x64x128x1x2x8_S8x64x128x128x2x8_0_1_2_3_4_5
          (broadcastInDim S8x64x128x1x2x8 ![0, 1, 2, 4, 5] bcast_S8x64x128x2x8_S8x64x128x1x2x8_0_1_2_4_5 A))
        (broadcastInDim S8x64x128x128x2x8 ![0, 1, 2, 3, 4, 5] bcast_S8x64x1x128x2x8_S8x64x128x128x2x8_0_1_2_3_4_5
          (broadcastInDim S8x64x1x128x2x8 ![0, 1, 3, 4, 5] bcast_S8x64x128x2x8_S8x64x1x128x2x8_0_1_3_4_5 A)))
      (broadcastInDim S8x64x128x128x2x8 ![] bcast_S_S8x64x128x128x2x8 (id (constant S_ .f32 0xFF800000#32))))

theorem exp_bot : Ideal.exp (Ideal.ofBits .f32 0xFF800000#32) = 0 := by
  rw [show Ideal.ofBits .f32 0xFF800000#32 = (⊥ : EReal) from by simp [Ideal.ofBits, Ideal.ieee]]
  exact Ideal.exp_bot

theorem decArr_at (A : FVec Ideal S8x64x128x2x8 .f32) (b : Fin 8) (c : Fin 64) (t s : Fin 128) (g : Fin 2) (r : Fin 8) :
    decArr A (ix6 b c t s g r) = if s.val ≤ t.val then Ideal.exp ((A (ix5 b c t g r) : EReal) - A (ix5 b c s g r)) else 0 := by
  unfold decArr maskArr
  rw [id_eq]
  pointwise
  have h0 : IntOp.addi (BitVec.ofNat 32 t.val) 0#32 = BitVec.ofNat 32 t.val := BitVec.add_zero _
  rw [h0, WordCmp.cmpi_sge_ofNat (by omega) (by omega)]
  by_cases h : s.val ≤ t.val
  · rw [if_pos h, decide_eq_true h]
    rfl
  · rw [if_neg h, decide_eq_false h]
    exact exp_bot

/-- A chunk's own share of the outputs. -/
def ydArr (XD : FVec Ideal S8x64x128x2x8x64 .f32) (B C : FVec Ideal S8x64x128x2x128 .f32) (L : FVec Ideal S8x64x128x128x2x8 .f32) : FVec Ideal S8x64x128x2x8x64 .f32 :=
  transpose S8x64x128x2x8x64 [0, 1, 5, 2, 3, 4]
    (Host.dotGeneral dot_S8x64x128x2x8x64_S8x64x128x128x2x8_S8x64x2x8x64x128_2_3_5_2_0134_0145 none XD
      (mulf (broadcastInDim S8x64x128x128x2x8 ![0, 1, 2, 3, 4, 5] bcast_S8x64x128x128x2x1_S8x64x128x128x2x8_0_1_2_3_4_5
        (broadcastInDim S8x64x128x128x2x1 ![0, 1, 2, 3, 4] bcast_S8x64x128x128x2_S8x64x128x128x2x1_0_1_2_3_4
          (transpose S8x64x128x128x2 [0, 1, 4, 3, 2] (Host.dotGeneral dot_S8x64x128x2x128_S8x64x128x2x128_S8x64x2x128x128_4_4_2_2_013_013 none B C)
            transposes_S8x64x2x128x128_S8x64x128x128x2_0_1_4_3_2))) L))
    transposes_S8x64x2x8x64x128_S8x64x128x2x8x64_0_1_5_2_3_4

theorem ydArr_at (XD : FVec Ideal S8x64x128x2x8x64 .f32) (B C : FVec Ideal S8x64x128x2x128 .f32) (L : FVec Ideal S8x64x128x128x2x8 .f32) (b : Fin 8) (c : Fin 64) (t : Fin 128) (g : Fin 2) (r : Fin 8) (p : Fin 64) :
    ydArr XD B C L (ix6 b c t g r p) = ∑ s : Fin 128, (XD (ix6 b c s g r p) : EReal)
      * ((∑ n : Fin 128, (B (ix5 b c s g n) : EReal) * C (ix5 b c t g n)) * L (ix6 b c t s g r)) := by
  unfold ydArr
  pointwise
  done

/-- What a chunk adds to the states. -/
def stArr (XD : FVec Ideal S8x64x128x2x8x64 .f32) (B : FVec Ideal S8x64x128x2x128 .f32) (A : FVec Ideal S8x64x128x2x8 .f32) : FVec Ideal S64x8x2x8x64x128 .f32 :=
  id (transpose S64x8x2x8x64x128 [1, 0, 2, 3, 4, 5]
    (Host.dotGeneral dot_S8x64x128x2x8x64_S8x64x128x2x128_S8x64x2x8x64x128_2_2_45_4_013_013 none
      (mulf (broadcastInDim S8x64x128x2x8x64 ![0, 1, 2, 3, 4, 5] bcast_S8x64x128x2x8x1_S8x64x128x2x8x64_0_1_2_3_4_5
        (broadcastInDim S8x64x128x2x8x1 ![0, 1, 2, 3, 4] bcast_S8x64x128x2x8_S8x64x128x2x8x1_0_1_2_3_4
          (Host.exp (subf (broadcastInDim S8x64x128x2x8 ![0, 1, 2, 3, 4] bcast_S8x64x1x2x8_S8x64x128x2x8_0_1_2_3_4
            (extractStridedSlice S8x64x1x2x8 ![0, 0, 127, 0, 0] A slices_S8x64x128x2x8_S8x64x1x2x8_0_0_127_0_0)) A)))) XD) B)
    transposes_S8x64x2x8x64x128_S64x8x2x8x64x128_1_0_2_3_4_5)

theorem stArr_at (XD : FVec Ideal S8x64x128x2x8x64 .f32) (B : FVec Ideal S8x64x128x2x128 .f32) (A : FVec Ideal S8x64x128x2x8 .f32) (c : Fin 64) (b : Fin 8) (g : Fin 2) (r : Fin 8) (p : Fin 64) (n : Fin 128) :
    stArr XD B A (ix6 c b g r p n) = ∑ s : Fin 128, (Ideal.exp ((A (ix5 b c 127 g r) : EReal) - A (ix5 b c s g r)) * XD (ix6 b c s g r p)) * (B (ix5 b c s g n) : EReal) := by
  unfold stArr
  rw [id_eq]
  pointwise
  done

/-- A chunk's whole decay. -/
def allArr (A : FVec Ideal S8x64x128x2x8 .f32) : FVec Ideal S64x8x2x8 .f32 :=
  id (transpose S64x8x2x8 [1, 0, 2, 3] (Host.exp (shapeCast S8x64x2x8
    (extractStridedSlice S8x64x1x2x8 ![0, 0, 127, 0, 0] A slices_S8x64x128x2x8_S8x64x1x2x8_0_0_127_0_0) shapeCasts_S8x64x1x2x8_S8x64x2x8))
    transposes_S8x64x2x8_S64x8x2x8_1_0_2_3)

theorem allArr_at (A : FVec Ideal S8x64x128x2x8 .f32) (c : Fin 64) (b : Fin 8) (g : Fin 2) (r : Fin 8) :
    allArr A (ix4 c b g r) = Ideal.exp (A (ix5 b c 127 g r) : EReal) := by
  unfold allArr
  rw [id_eq]
  pointwise
  done

/-- The outputs: the chunk's own share, the share of the state before it, and the columns themselves. -/
def outArr (YD : FVec Ideal S8x64x128x2x8x64 .f32) (G : FVec Ideal S64x8x2x8x64x128 .f32) (C : FVec Ideal S8x64x128x2x128 .f32) (A : FVec Ideal S8x64x128x2x8 .f32)
    (xh : FVec Ideal S8x8192x16x64 .f32) (dk : FVec Ideal S16 .f32) : FVec Ideal S8x8192x1024 .f32 :=
  shapeCast S8x8192x1024 (addf
    (shapeCast S8x8192x16x64 (addf YD (mulf
      (transpose S8x64x128x2x8x64 [0, 1, 5, 2, 3, 4]
        (Host.dotGeneral dot_S8x64x2x8x64x128_S8x64x128x2x128_S8x64x2x8x64x128_5_4_34_2_012_013 none
          (transpose S8x64x2x8x64x128 [1, 0, 2, 3, 4, 5] G transposes_S64x8x2x8x64x128_S8x64x2x8x64x128_1_0_2_3_4_5) C)
        transposes_S8x64x2x8x64x128_S8x64x128x2x8x64_0_1_5_2_3_4)
      (broadcastInDim S8x64x128x2x8x64 ![0, 1, 2, 3, 4, 5] bcast_S8x64x128x2x8x1_S8x64x128x2x8x64_0_1_2_3_4_5
        (broadcastInDim S8x64x128x2x8x1 ![0, 1, 2, 3, 4] bcast_S8x64x128x2x8_S8x64x128x2x8x1_0_1_2_3_4 (Host.exp A))))) shapeCasts_S8x64x128x2x8x64_S8x8192x16x64)
    (mulf xh (broadcastInDim S8x8192x16x64 ![0, 1, 2, 3] bcast_S1x1x16x1_S8x8192x16x64_0_1_2_3 (broadcastInDim S1x1x16x1 ![2, 3] bcast_S16x1_S1x1x16x1_2_3
      (broadcastInDim S16x1 ![0] bcast_S16_S16x1_0 dk))))) shapeCasts_S8x8192x16x64_S8x8192x1024

theorem outArr_at (YD : FVec Ideal S8x64x128x2x8x64 .f32) (G : FVec Ideal S64x8x2x8x64x128 .f32) (C : FVec Ideal S8x64x128x2x128 .f32) (A : FVec Ideal S8x64x128x2x8 .f32)
    (u : FVec Ideal S8x8192x1024 .f32) (dk : FVec Ideal S16 .f32) (b : Fin 8) (c : Fin 64) (t : Fin 128) (g : Fin 2) (r : Fin 8) (p : Fin 64) :
    outArr YD G C A (xHeads u) dk (ix3 b ⟨c.val * 128 + t.val, by omega⟩ ⟨(g.val * 8 + r.val) * 64 + p.val, by omega⟩)
      = ((YD (ix6 b c t g r p) : EReal) + (∑ n : Fin 128, (G (ix6 c b g r p n) : EReal) * C (ix5 b c t g n)) * Ideal.exp (A (ix5 b c t g r) : EReal))
        + (u (ix3 b ⟨c.val * 128 + t.val, by omega⟩ ⟨(g.val * 8 + r.val) * 64 + p.val, by omega⟩) : EReal) * dk (ix1 ⟨g.val * 8 + r.val, by omega⟩) := by
  unfold outArr xHeads
  pointwise
  have e1 : ((g.val * 8 + r.val) * 64 + p.val) / 64 = g.val * 8 + r.val := by omega
  congr 3 <;> simp only [e1]

end Cert.Layer.Ref

end
-- ==== Proof.RefReads.lean ====
/- What each stretch of the reference's operations leaves in the buffers later stretches read, from any contents. -/
module

public import proofs.«01_k».proof.Proof.Gen.ReferenceIdeal.Run
public import proofs.«01_k».proof.Proof.RefParts
public import proofs.«01_k».proof.Proof.RefChunk
public import proofs.«01_k».proof.Proof.Reference

@[expose] public section

set_option maxRecDepth 16384

noncomputable section

namespace Cert.Layer.Ref

open Cert.ReferenceIdeal Cert.ReferenceIdeal.Gen Idealize.ShloMosaic Idealize.ShloMosaic.TcCoe Idealize.ShloMosaic.StableHlo Idealize.ShloMosaic.Tactic Idealize.SL.Sem

variable (W : Valuation τ sig (Elt Ideal))

/-- The steps of the shifted rates. -/
def softArr (u : FVec Ideal S8x8192x16 .f32) : FVec Ideal S8x8192x16 .f32 :=
  select (cmpf .une (subf u (broadcastInDim S8x8192x16 ![] bcast_S_S8x8192x16 (constant S_ .f32 0x00000000#32))) (subf u (broadcastInDim S8x8192x16 ![] bcast_S_S8x8192x16 (constant S_ .f32 0x00000000#32))))
    (addf u (broadcastInDim S8x8192x16 ![] bcast_S_S8x8192x16 (constant S_ .f32 0x00000000#32)))
    (addf (maximumf u (broadcastInDim S8x8192x16 ![] bcast_S_S8x8192x16 (constant S_ .f32 0x00000000#32)))
      (Host.log1p (Host.exp (Host.negf (Host.absf (subf u (broadcastInDim S8x8192x16 ![] bcast_S_S8x8192x16 (constant S_ .f32 0x00000000#32))))))))

/-- A gate's activation over the rows. -/
def siluZ (u : FVec Ideal S8x8192x1024 .f32) : FVec Ideal S8x8192x1024 .f32 :=
  mulf u (Host.divf (broadcastInDim S8x8192x1024 ![] bcast_S_S8x8192x1024 (constant S_ .f32 0x3F800000#32))
    (addf (broadcastInDim S8x8192x1024 ![] bcast_S_S8x8192x1024 (constant S_ .f32 0x3F800000#32)) (Host.exp (Host.negf u))))

/-- The gated outputs, normalised by halves and scaled, as rows. -/
def yArr (o z : FVec Ideal S8x8192x1024 .f32) (g : FVec Ideal S1024 .f32) : FVec Ideal S65536x1024 .bf16 :=
  have t : FVec Ideal S8x8192x2x512 .f32 := shapeCast S8x8192x2x512 (mulf o z) shapeCasts_S8x8192x1024_S8x8192x2x512
  truncf .bf16 (shapeCast S65536x1024 (shapeCast S8x8192x1024
    (mulf (mulf t (broadcastInDim S8x8192x2x512 ![0, 1, 2, 3] bcast_S8x8192x2x1_S8x8192x2x512_0_1_2_3 (Host.rsqrt (addf
        (Host.divf (broadcastInDim S8x8192x2x1 ![0, 1, 2] bcast_S8x8192x2_S8x8192x2x1_0_1_2 (Host.reduceAdd (mulf t t) (constant S_ .f32 0x00000000#32) reducesTo_S8x8192x2x512_S8x8192x2_d3 h_S_))
          (broadcastInDim S8x8192x2x1 ![] bcast_S_S8x8192x2x1 (constant S_ .f32 0x44000000#32)))
        (broadcastInDim S8x8192x2x1 ![] bcast_S_S8x8192x2x1 (constant S_ .f32 0x358637BD#32))))))
      (broadcastInDim S8x8192x2x512 ![0, 1, 2, 3] bcast_S1x1x2x512_S8x8192x2x512_0_1_2_3 (broadcastInDim S1x1x2x512 ![2, 3] bcast_S2x512_S1x1x2x512_2_3
        (shapeCast S2x512 g shapeCasts_S1024_S2x512)))) shapeCasts_S8x8192x2x512_S8x8192x1024) shapeCasts_S8x8192x1024_S65536x1024) bitsLt_bf16_f32

/-- Heads normalised and scaled by the gain. -/
def normOf (u : FVec Ideal S8x8192x1024 .f32) (g : FVec Ideal S64 .f32) : FVec Ideal S8x8192x16x64 .f32 :=
  have t : FVec Ideal S8x8192x16x64 .f32 := shapeCast S8x8192x16x64 u shapeCasts_S8x8192x1024_S8x8192x16x64
  mulf (mulf t (broadcastInDim S8x8192x16x64 ![0, 1, 2, 3] bcast_S8x8192x16x1_S8x8192x16x64_0_1_2_3 (Host.rsqrt (addf (Host.divf (broadcastInDim S8x8192x16x1 ![0, 1, 2] bcast_S8x8192x16_S8x8192x16x1_0_1_2 (Host.reduceAdd (mulf t t) (constant S_ .f32 0x00000000#32) reducesTo_S8x8192x16x64_S8x8192x16_d3 h_S_)) (broadcastInDim S8x8192x16x1 ![] bcast_S_S8x8192x16x1 (constant S_ .f32 0x42800000#32))) (broadcastInDim S8x8192x16x1 ![] bcast_S_S8x8192x16x1 (constant S_ .f32 0x358637BD#32)))))) (broadcastInDim S8x8192x16x64 ![0, 1, 2, 3] bcast_S1x1x1x64_S8x8192x16x64_0_1_2_3 (broadcastInDim S1x1x1x64 ![3] bcast_S64_S1x1x1x64_3 g))

theorem read0_v28 : after (hostOps0 (F := Ideal)) W (Proc.devRef .tc main_v28) = extractStridedSlice S8x8192x1024 ![0, 0, 0] (projArr (W (Proc.devRef .tc main_arg0)) (W (Proc.devRef .tc main_arg1)) (W (Proc.devRef .tc main_arg2)) (W (Proc.devRef .tc main_arg3))) slices_S8x8192x6688_S8x8192x1024_0_0_0 := by
  after_reads_simp
  try rfl

theorem read0_v32 : after (hostOps0 (F := Ideal)) W (Proc.devRef .tc main_v32) = extractStridedSlice S8x8192x16 ![0, 0, 2560] (projArr (W (Proc.devRef .tc main_arg0)) (W (Proc.devRef .tc main_arg1)) (W (Proc.devRef .tc main_arg2)) (W (Proc.devRef .tc main_arg3))) slices_S8x8192x6688_S8x8192x16_0_0_2560 := by
  after_reads_simp
  try rfl

theorem read0_v33 : after (hostOps0 (F := Ideal)) W (Proc.devRef .tc main_v33) = extractStridedSlice S8x8192x1024 ![0, 0, 2576] (projArr (W (Proc.devRef .tc main_arg0)) (W (Proc.devRef .tc main_arg1)) (W (Proc.devRef .tc main_arg2)) (W (Proc.devRef .tc main_arg3))) slices_S8x8192x6688_S8x8192x1024_0_0_2576 := by
  after_reads_simp
  try rfl

theorem read0_v34 : after (hostOps0 (F := Ideal)) W (Proc.devRef .tc main_v34) = extractStridedSlice S8x8192x1024 ![0, 0, 3600] (projArr (W (Proc.devRef .tc main_arg0)) (W (Proc.devRef .tc main_arg1)) (W (Proc.devRef .tc main_arg2)) (W (Proc.devRef .tc main_arg3))) slices_S8x8192x6688_S8x8192x1024_0_0_3600 := by
  after_reads_simp
  try rfl

theorem read0_v35 : after (hostOps0 (F := Ideal)) W (Proc.devRef .tc main_v35) = extractStridedSlice S8x8192x1024 ![0, 0, 4624] (projArr (W (Proc.devRef .tc main_arg0)) (W (Proc.devRef .tc main_arg1)) (W (Proc.devRef .tc main_arg2)) (W (Proc.devRef .tc main_arg3))) slices_S8x8192x6688_S8x8192x1024_0_0_4624 := by
  after_reads_simp
  try rfl

theorem read0_v36 : after (hostOps0 (F := Ideal)) W (Proc.devRef .tc main_v36) = extractStridedSlice S8x8192x1024 ![0, 0, 5648] (projArr (W (Proc.devRef .tc main_arg0)) (W (Proc.devRef .tc main_arg1)) (W (Proc.devRef .tc main_arg2)) (W (Proc.devRef .tc main_arg3))) slices_S8x8192x6688_S8x8192x1024_0_0_5648 := by
  after_reads_simp
  try rfl

theorem read0_v38 : after (hostOps0 (F := Ideal)) W (Proc.devRef .tc main_v38) = concatenate S8x8192x1536 2 [⟨S8x8192x1024, (extractStridedSlice S8x8192x1024 ![0, 0, 1024] (projArr (W (Proc.devRef .tc main_arg0)) (W (Proc.devRef .tc main_arg1)) (W (Proc.devRef .tc main_arg2)) (W (Proc.devRef .tc main_arg3))) slices_S8x8192x6688_S8x8192x1024_0_0_1024)⟩, ⟨S8x8192x256, (extractStridedSlice S8x8192x256 ![0, 0, 2048] (projArr (W (Proc.devRef .tc main_arg0)) (W (Proc.devRef .tc main_arg1)) (W (Proc.devRef .tc main_arg2)) (W (Proc.devRef .tc main_arg3))) slices_S8x8192x6688_S8x8192x256_0_0_2048)⟩, ⟨S8x8192x256, (extractStridedSlice S8x8192x256 ![0, 0, 2304] (projArr (W (Proc.devRef .tc main_arg0)) (W (Proc.devRef .tc main_arg1)) (W (Proc.devRef .tc main_arg2)) (W (Proc.devRef .tc main_arg3))) slices_S8x8192x6688_S8x8192x256_0_0_2304)⟩] concatenates_S8x8192x1024_S8x8192x256_S8x8192x256_S8x8192x1536_d2 := by
  after_reads_simp
  try rfl

theorem read0_c : after (hostOps0 (F := Ideal)) W (Proc.devRef .tc main_c) = constantI S_ 32 0#32 := by
  after_reads_simp
  try rfl

theorem read1_v39 : after (hostOps0_1 (F := Ideal)) W (Proc.devRef .tc main_v39) = pad S8x8195x1536 ![0, 3, 0] ![0, 0, 0] ![0, 0, 0] (W (Proc.devRef .tc main_v38)) (sitofp .f32 (W (Proc.devRef .tc main_c)) : FVec Ideal S_ .f32) pads_S8x8192x1536_S8x8195x1536_000_300_000 h_S_ := by
  after_reads_simp
  try rfl

theorem read2_v71 : after (hostOps0_2 (F := Ideal)) W (Proc.devRef .tc main_v71) = convArr (W (Proc.devRef .tc main_v39)) (W (Proc.devRef .tc main_arg4)) (W (Proc.devRef .tc main_arg5)) := by
  after_reads_simp
  try rfl

theorem read3_v72 : after (hostOps0_3 (F := Ideal)) W (Proc.devRef .tc main_v72) = siluArr (W (Proc.devRef .tc main_v71)) := by
  after_reads_simp
  try rfl

theorem read4_v73 : after (hostOps0_4 (F := Ideal)) W (Proc.devRef .tc main_v73) = extractStridedSlice S8x8192x1024 ![0, 0, 0] (W (Proc.devRef .tc main_v72)) slices_S8x8192x1536_S8x8192x1024_0_0_0 := by
  after_reads_simp
  try rfl

theorem read4_v74 : after (hostOps0_4 (F := Ideal)) W (Proc.devRef .tc main_v74) = extractStridedSlice S8x8192x256 ![0, 0, 1024] (W (Proc.devRef .tc main_v72)) slices_S8x8192x1536_S8x8192x256_0_0_1024 := by
  after_reads_simp
  try rfl

theorem read4_v75 : after (hostOps0_4 (F := Ideal)) W (Proc.devRef .tc main_v75) = extractStridedSlice S8x8192x256 ![0, 0, 1280] (W (Proc.devRef .tc main_v72)) slices_S8x8192x1536_S8x8192x256_0_0_1280 := by
  after_reads_simp
  try rfl

theorem read4_v78 : after (hostOps0_4 (F := Ideal)) W (Proc.devRef .tc main_v78) = (addf (W (Proc.devRef .tc main_v32) : FVec Ideal S8x8192x16 .f32) (broadcastInDim S8x8192x16 ![0, 1, 2] bcast_S1x1x16_S8x8192x16_0_1_2 (broadcastInDim S1x1x16 ![2] bcast_S16_S1x1x16_2 (W (Proc.devRef .tc main_arg6)))) : FVec Ideal S8x8192x16 .f32) := by
  after_reads_simp
  try rfl

theorem read5_v79 : after (hostOps0_5 (F := Ideal)) W (Proc.devRef .tc main_v79) = softArr (W (Proc.devRef .tc main_v78)) := by
  after_reads_simp
  try rfl

theorem read6_v82 : after (hostOps0_6 (F := Ideal)) W (Proc.devRef .tc main_v82) = xHeads (W (Proc.devRef .tc main_v73)) := by
  after_reads_simp
  try rfl

theorem read6_v85 : after (hostOps0_6 (F := Ideal)) W (Proc.devRef .tc main_v85) = xChunk (xHeads (W (Proc.devRef .tc main_v73))) := by
  after_reads_simp
  try rfl

theorem read6_v86 : after (hostOps0_6 (F := Ideal)) W (Proc.devRef .tc main_v86) = dChunk (W (Proc.devRef .tc main_v79)) := by
  after_reads_simp
  try rfl

theorem read6_v87 : after (hostOps0_6 (F := Ideal)) W (Proc.devRef .tc main_v87) = bChunk (W (Proc.devRef .tc main_v74)) := by
  after_reads_simp
  try rfl

theorem read6_v88 : after (hostOps0_6 (F := Ideal)) W (Proc.devRef .tc main_v88) = bChunk (W (Proc.devRef .tc main_v75)) := by
  after_reads_simp
  try rfl

theorem read6_v92 : after (hostOps0_6 (F := Ideal)) W (Proc.devRef .tc main_v92) = rateArr (dChunk (W (Proc.devRef .tc main_v79))) (W (Proc.devRef .tc main_arg7)) := by
  after_reads_simp
  try rfl

theorem read7_v93 : after (hostOps0_7 (F := Ideal)) W (Proc.devRef .tc main_v93) = cumArr (W (Proc.devRef .tc main_v92)) := by
  after_reads_simp
  try rfl

theorem read8_v96 : after (hostOps0_8 (F := Ideal)) W (Proc.devRef .tc main_v96) = xdArr (W (Proc.devRef .tc main_v85)) (W (Proc.devRef .tc main_v86)) := by
  after_reads_simp
  try rfl

theorem read8_v97 : after (hostOps0_8 (F := Ideal)) W (Proc.devRef .tc main_v97) = broadcastInDim S128x128 ![] bcast_S_S128x128 (constantI S_ 1 1#1) := by
  after_reads_simp
  try rfl

theorem read9_v98 : after (hostOps0_9 (F := Ideal)) W (Proc.devRef .tc main_v98) = select (cmpi .sge (addi (iotaInDim S128x128 32 0) (broadcastInDim S128x128 ![] bcast_S_S128x128 (constantI S_ 32 0#32))) (iotaInDim S128x128 32 1)) (W (Proc.devRef .tc main_v97)) (broadcastInDim S128x128 ![] bcast_S_S128x128 (constantI S_ 1 0#1)) := by
  after_reads_simp
  try rfl

theorem read10_v103 : after (hostOps0_10 (F := Ideal)) W (Proc.devRef .tc main_v103) = (subf (broadcastInDim S8x64x128x128x2x8 ![0, 1, 2, 3, 4, 5] bcast_S8x64x128x1x2x8_S8x64x128x128x2x8_0_1_2_3_4_5 (broadcastInDim S8x64x128x1x2x8 ![0, 1, 2, 4, 5] bcast_S8x64x128x2x8_S8x64x128x1x2x8_0_1_2_4_5 (W (Proc.devRef .tc main_v93)))) (broadcastInDim S8x64x128x128x2x8 ![0, 1, 2, 3, 4, 5] bcast_S8x64x1x128x2x8_S8x64x128x128x2x8_0_1_2_3_4_5 (broadcastInDim S8x64x1x128x2x8 ![0, 1, 3, 4, 5] bcast_S8x64x128x2x8_S8x64x1x128x2x8_0_1_3_4_5 (W (Proc.devRef .tc main_v93)))) : FVec Ideal S8x64x128x128x2x8 .f32) := by
  after_reads_simp
  try rfl

theorem read10_v104 : after (hostOps0_10 (F := Ideal)) W (Proc.devRef .tc main_v104) = broadcastInDim S1x1x128x128x1x1 ![2, 3] bcast_S128x128_S1x1x128x128x1x1_2_3 (W (Proc.devRef .tc main_v98)) := by
  after_reads_simp
  try rfl

theorem read10_cst_5 : after (hostOps0_10 (F := Ideal)) W (Proc.devRef .tc main_cst_5) = (constant S_ .f32 0xFF800000#32 : FVec Ideal S_ .f32) := by
  after_reads_simp
  try rfl

theorem read11_v105 : after (hostOps0_11 (F := Ideal)) W (Proc.devRef .tc main_v105) = select (broadcastInDim S8x64x128x128x2x8 ![0, 1, 2, 3, 4, 5] bcast_S1x1x128x128x1x1_S8x64x128x128x2x8_0_1_2_3_4_5 (W (Proc.devRef .tc main_v104))) (W (Proc.devRef .tc main_v103)) (broadcastInDim S8x64x128x128x2x8 ![] bcast_S_S8x64x128x128x2x8 (id (W (Proc.devRef .tc main_cst_5)))) := by
  after_reads_simp
  try rfl

theorem read12_v113 : after (hostOps0_12 (F := Ideal)) W (Proc.devRef .tc main_v113) = ydArr (W (Proc.devRef .tc main_v96)) (W (Proc.devRef .tc main_v87)) (W (Proc.devRef .tc main_v88)) (Host.exp (W (Proc.devRef .tc main_v105))) := by
  after_reads_simp
  try rfl

theorem read12_v129_0 : after (hostOps0_12 (F := Ideal)) W (Proc.devRef .tc main_v129_0) = stArr (W (Proc.devRef .tc main_v96)) (W (Proc.devRef .tc main_v87)) (W (Proc.devRef .tc main_v93)) := by
  after_reads_simp
  try rfl

theorem read12_v129_1 : after (hostOps0_12 (F := Ideal)) W (Proc.devRef .tc main_v129_1) = allArr (W (Proc.devRef .tc main_v93)) := by
  after_reads_simp
  try rfl

theorem read12_v129_3 : after (hostOps0_12 (F := Ideal)) W (Proc.devRef .tc main_v129_3) = (id (broadcastInDim S8x2x8x64x128 ![] bcast_S_S8x2x8x64x128 (constant S_ .f32 0x00000000#32)) : FVec Ideal S8x2x8x64x128 .f32) := by
  after_reads_simp
  try rfl

theorem read13_v144 : after (hostOps0_13 (F := Ideal)) W (Proc.devRef .tc main_v144) = outArr (W (Proc.devRef .tc main_v113)) (W (Proc.devRef .tc main_v129_4)) (W (Proc.devRef .tc main_v88)) (W (Proc.devRef .tc main_v93)) (W (Proc.devRef .tc main_v82)) (W (Proc.devRef .tc main_arg8)) := by
  after_reads_simp
  try rfl

theorem read14_v145 : after (hostOps0_14 (F := Ideal)) W (Proc.devRef .tc main_v145) = siluZ (W (Proc.devRef .tc main_v28)) := by
  after_reads_simp
  try rfl

theorem read15_v194 : after (hostOps0_15 (F := Ideal)) W (Proc.devRef .tc main_v194) = yArr (W (Proc.devRef .tc main_v144)) (W (Proc.devRef .tc main_v145)) (W (Proc.devRef .tc main_arg9)) := by
  after_reads_simp
  try rfl

theorem read15_v196 : after (hostOps0_15 (F := Ideal)) W (Proc.devRef .tc main_v196) = truncf .bf16 (shapeCast S65536x1024 (mulf (normOf (W (Proc.devRef .tc main_v33)) (W (Proc.devRef .tc main_arg10))) (broadcastInDim S8x8192x16x64 ![] bcast_S_S8x8192x16x64 (constant S_ .f32 0x3E38AA3B#32))) shapeCasts_S8x8192x16x64_S65536x1024) bitsLt_bf16_f32 := by
  after_reads_simp
  try rfl

theorem read15_v198 : after (hostOps0_15 (F := Ideal)) W (Proc.devRef .tc main_v198) = truncf .bf16 (shapeCast S65536x1024 (normOf (W (Proc.devRef .tc main_v34)) (W (Proc.devRef .tc main_arg11))) shapeCasts_S8x8192x16x64_S65536x1024) bitsLt_bf16_f32 := by
  after_reads_simp
  try rfl

theorem read15_v200 : after (hostOps0_15 (F := Ideal)) W (Proc.devRef .tc main_v200) = (truncf .bf16 (transpose S8x1024x8192 [0, 2, 1] (W (Proc.devRef .tc main_v35)) transposes_S8x8192x1024_S8x1024x8192_0_2_1) bitsLt_bf16_f32 : FVec Ideal S8x1024x8192 .bf16) := by
  after_reads_simp
  try rfl

theorem read15_v202 : after (hostOps0_15 (F := Ideal)) W (Proc.devRef .tc main_v202) = (truncf .bf16 (shapeCast S65536x1024 (W (Proc.devRef .tc main_v36)) shapeCasts_S8x8192x1024_S65536x1024) bitsLt_bf16_f32 : FVec Ideal S65536x1024 .bf16) := by
  after_reads_simp
  try rfl

end Cert.Layer.Ref

end
-- ==== Proof.RefLoop.lean ====
/- The reference's loop over the chunks: the state carried before each trip, and the row of states the loop leaves. -/
module

public import proofs.«01_k».proof.Proof.Gen.ReferenceIdeal.Run
public import proofs.«01_k».proof.Proof.RowMath
public import Idealize.ShloMosaic.Lib.DynamicIndex
public import Idealize.ShloMosaic.Lib.Pipeline.Value

@[expose] public section

set_option maxRecDepth 16384

noncomputable section

namespace Cert.Layer.Ref

open Cert.ReferenceIdeal Cert.ReferenceIdeal.Gen Cert.ReferenceIdeal.Value Idealize.ShloMosaic Idealize.ShloMosaic.TcCoe Idealize.ShloMosaic.StableHlo Idealize.ShloMosaic.Tactic Idealize.SL.Sem

/-- A row of the decays, read at the trip's index. -/
theorem readRow4 (A : FVec Ideal S64x8x2x8 .f32) (start : Fin 4 → Int) (k : Fin 64) (hs : ∀ a, start a = ((![k.val, 0, 0, 0] : Fin 4 → ℕ) a : Int))
    (h : S64x8x2x8.Slices (fun _ => 0) S1x8x2x8) (b : Fin 8) (g : Fin 2) (r : Fin 8) :
    (shapeCast S8x2x8 (Host.dynamicSlice S1x8x2x8 A start h) shapeCasts_S1x8x2x8_S8x2x8 : FVec Ideal S8x2x8 .f32) (ix3 b g r) = A (ix4 k b g r) := by
  rw [Host.dynamicSlice_eq_extractStridedSlice S1x8x2x8 A start ![k.val, 0, 0, 0] h
    ⟨rfl, fun a => by
      fin_cases a
      · show k.val + 1 ≤ 64; omega
      · show 0 + 8 ≤ 8; omega
      · show 0 + 2 ≤ 2; omega
      · show 0 + 8 ≤ 8; omega⟩ hs]
  pointwise

/-- A row of the states' additions, read at the trip's index. -/
theorem readRow6 (A : FVec Ideal S64x8x2x8x64x128 .f32) (start : Fin 6 → Int) (k : Fin 64) (hs : ∀ a, start a = ((![k.val, 0, 0, 0, 0, 0] : Fin 6 → ℕ) a : Int))
    (h : S64x8x2x8x64x128.Slices (fun _ => 0) S1x8x2x8x64x128) (b : Fin 8) (g : Fin 2) (r : Fin 8) (p : Fin 64) (n : Fin 128) :
    (shapeCast S8x2x8x64x128 (Host.dynamicSlice S1x8x2x8x64x128 A start h) shapeCasts_S1x8x2x8x64x128_S8x2x8x64x128 : FVec Ideal S8x2x8x64x128 .f32) (ix5 b g r p n)
      = A (ix6 k b g r p n) := by
  rw [Host.dynamicSlice_eq_extractStridedSlice S1x8x2x8x64x128 A start ![k.val, 0, 0, 0, 0, 0] h
    ⟨rfl, fun a => by
      fin_cases a
      · show k.val + 1 ≤ 64; omega
      · show 0 + 8 ≤ 8; omega
      · show 0 + 2 ≤ 2; omega
      · show 0 + 8 ≤ 8; omega
      · show 0 + 64 ≤ 64; omega
      · show 0 + 128 ≤ 128; omega⟩ hs]
  pointwise

/-- The states with the trip's row written. -/
theorem writeRow6 (X : FVec Ideal S64x8x2x8x64x128 .f32) (U : FVec Ideal S8x2x8x64x128 .f32) (start : Fin 6 → Int) (k : Fin 64)
    (hs : ∀ a, start a = ((![k.val, 0, 0, 0, 0, 0] : Fin 6 → ℕ) a : Int)) (h : S64x8x2x8x64x128.Slices (fun _ => 0) S1x8x2x8x64x128)
    (j : Fin 64) (b : Fin 8) (g : Fin 2) (r : Fin 8) (p : Fin 64) (n : Fin 128) :
    (Host.dynamicUpdateSlice X (broadcastInDim S1x8x2x8x64x128 ![1, 2, 3, 4, 5] bcast_S8x2x8x64x128_S1x8x2x8x64x128_1_2_3_4_5 U) start h : FVec Ideal S64x8x2x8x64x128 .f32) (ix6 j b g r p n)
      = if j.val = k.val then U (ix5 b g r p n) else X (ix6 j b g r p n) := by
  have hsl : S64x8x2x8x64x128.Slices ![k.val, 0, 0, 0, 0, 0] S1x8x2x8x64x128 := ⟨rfl, fun a => by
      fin_cases a
      · show k.val + 1 ≤ 64; omega
      · show 0 + 8 ≤ 8; omega
      · show 0 + 2 ≤ 2; omega
      · show 0 + 8 ≤ 8; omega
      · show 0 + 64 ≤ 64; omega
      · show 0 + 128 ≤ 128; omega⟩
  rw [Host.dynamicUpdateSlice_eq_updateSlice X _ start h ![k.val, 0, 0, 0, 0, 0] (fun a => by
    have := hsl.2 a
    rw [hs a]; omega) hsl]
  unfold updateSlice
  by_cases hj : j.val = k.val
  · rw [if_pos hj]
    refine (dif_pos fun a => ?_).trans ?_
    · fin_cases a
      · show k.val ≤ j.val ∧ j.val < k.val + 1; omega
      · show 0 ≤ b.val ∧ b.val < 0 + 8; omega
      · show 0 ≤ g.val ∧ g.val < 0 + 2; omega
      · show 0 ≤ r.val ∧ r.val < 0 + 8; omega
      · show 0 ≤ p.val ∧ p.val < 0 + 64; omega
      · show 0 ≤ n.val ∧ n.val < 0 + 128; omega
    · have e : ∀ y : S1x8x2x8x64x128.Idx, (y 1).val = b.val → (y 2).val = g.val → (y 3).val = r.val → (y 4).val = p.val → (y 5).val = n.val →
          (broadcastInDim S1x8x2x8x64x128 ![1, 2, 3, 4, 5] bcast_S8x2x8x64x128_S1x8x2x8x64x128_1_2_3_4_5 U : FVec Ideal S1x8x2x8x64x128 .f32) y = U (ix5 b g r p n) := by
        intro y h1 h2 h3 h4 h5
        obtain ⟨y0, y1, y2, y3, y4, y5, rfl⟩ : ∃ (y0 : Fin 1) (y1 : Fin 8) (y2 : Fin 2) (y3 : Fin 8) (y4 : Fin 64) (y5 : Fin 128), y = ix6 y0 y1 y2 y3 y4 y5 :=
          ⟨y 0, y 1, y 2, y 3, y 4, y 5, by funext a; fin_cases a <;> rfl⟩
        obtain rfl : y1 = b := Fin.ext h1
        obtain rfl : y2 = g := Fin.ext h2
        obtain rfl : y3 = r := Fin.ext h3
        obtain rfl : y4 = p := Fin.ext h4
        obtain rfl : y5 = n := Fin.ext h5
        pointwise
      exact e _ (Nat.sub_zero _) (Nat.sub_zero _) (Nat.sub_zero _) (Nat.sub_zero _) (Nat.sub_zero _)
  · rw [if_neg hj]
    refine dif_neg fun hin => hj ?_
    have h1 : k.val ≤ j.val ∧ j.val < k.val + 1 := hin 0
    omega

theorem muladd_congr {a a' b b' d d' : EReal} (h1 : a = a') (h2 : b = b') (h3 : d = d') : a * b + d = a' * b' + d' := by rw [h1, h2, h3]

/-- The states after a trip. -/
theorem stepState_at (S : FVec Ideal S8x2x8x64x128 .f32) (R : FVec Ideal S8x2x8 .f32) (T : FVec Ideal S8x2x8x64x128 .f32) (b : Fin 8) (g : Fin 2) (r : Fin 8) (p : Fin 64) (n : Fin 128) :
    (addf (mulf S (broadcastInDim S8x2x8x64x128 ![0, 1, 2, 3, 4] bcast_S8x2x8x1x1_S8x2x8x64x128_0_1_2_3_4 (broadcastInDim S8x2x8x1x1 ![0, 1, 2] bcast_S8x2x8_S8x2x8x1x1_0_1_2 R))) T) (ix5 b g r p n)
      = (S (ix5 b g r p n) : EReal) * R (ix3 b g r) + T (ix5 b g r p n) := by
  pointwise

/-- A state's recurrence over the chunks. -/
def scanAt (A1 : FVec Ideal S64x8x2x8 .f32) (A0 : FVec Ideal S64x8x2x8x64x128 .f32) (b : Fin 8) (g : Fin 2) (r : Fin 8) (p : Fin 64) (n : Fin 128) : ℕ → EReal
  | 0 => 0
  | k + 1 => scanAt A1 A0 b g r p n k * (if h : k < 64 then A1 (ix4 ⟨k, h⟩ b g r) else 0) + (if h : k < 64 then A0 (ix6 ⟨k, h⟩ b g r p n) else 0)

variable (m : (ℓ : Loc nD τ sig) → Buf (Elt Ideal) ℓ) (c : Dev nD)

theorem atK_succ (k : ℕ) : atK m (k + 1) c = afterL bodyI (after condOps (atK m k c)) := rfl

theorem iv_toInt (k : ℕ) (hk : k < 64) : (Scf.iv 0#32 1#32 k : BitVec 32).toInt = k := by
  rw [Scf.iv_eq_ofInt]
  show (BitVec.ofInt 32 (0 + (k : Int) * 1)).toInt = k
  rw [zero_add, mul_one, BitVec.ofInt_natCast]
  exact toInt_ofNat_of_lt (by omega)

theorem starts (V : Valuation τ sig (Elt Ideal)) (k : ℕ) (hk : k < 64) (hV : V (Proc.devRef .tc main_v129_2) = fun _ => Scf.iv 0#32 1#32 k) :
    @BitVec.toInt 32 ((V (Proc.devRef .tc main_v129_2) : IVec S_ 32) (Shape.Idx.first h_S_)) = (k : Int) := by
  rw [hV]
  exact iv_toInt k hk

/-- What the loop carries before trip `k`. -/
structure Carried (A1 : FVec Ideal S64x8x2x8 .f32) (A0 : FVec Ideal S64x8x2x8x64x128 .f32) (V : Valuation τ sig (Elt Ideal)) (k : ℕ) : Prop where
  v0 : V (Proc.devRef .tc main_v129_0) = A0
  v1 : V (Proc.devRef .tc main_v129_1) = A1
  v2 : V (Proc.devRef .tc main_v129_2) = fun _ => Scf.iv 0#32 1#32 k
  v3 : ∀ b g r p n, (V (Proc.devRef .tc main_v129_3) : FVec Ideal S8x2x8x64x128 .f32) (ix5 b g r p n) = scanAt A1 A0 b g r p n k
  v4 : ∀ (j : Fin 64) b g r p n, j.val < k → (V (Proc.devRef .tc main_v129_4) : FVec Ideal S64x8x2x8x64x128 .f32) (ix6 j b g r p n) = scanAt A1 A0 b g r p n j.val

theorem carried_cond {A1 : FVec Ideal S64x8x2x8 .f32} {A0 : FVec Ideal S64x8x2x8x64x128 .f32} {V : Valuation τ sig (Elt Ideal)} {k : ℕ} (h : Carried A1 A0 V k) :
    Carried A1 A0 (after condOps V) k where
  v0 := (cond_keeps V main_v129_0 (by simp)).trans h.v0
  v1 := (cond_keeps V main_v129_1 (by simp)).trans h.v1
  v2 := (cond_keeps V main_v129_2 (by simp)).trans h.v2
  v3 b g r p n := (congrFun (cond_keeps V main_v129_3 (by simp)) _).trans (h.v3 b g r p n)
  v4 j b g r p n hj := (congrFun (cond_keeps V main_v129_4 (by simp)) _).trans (h.v4 j b g r p n hj)

theorem carried_step {A1 : FVec Ideal S64x8x2x8 .f32} {A0 : FVec Ideal S64x8x2x8x64x128 .f32} {V : Valuation τ sig (Elt Ideal)} {k : ℕ} (hk : k < 64)
    (h : Carried A1 A0 V k) (h2 : afterL bodyI V (Proc.devRef .tc main_v129_2) = fun _ => Scf.iv 0#32 1#32 (k + 1)) : Carried A1 A0 (afterL bodyI V) (k + 1) where
  v0 := (trip_main_v129_0 V).trans h.v0
  v1 := (trip_main_v129_1 V).trans h.v1
  v2 := h2
  v3 b g r p n := by
    have hst := starts V k hk h.v2
    rw [trip_main_v129_3, id_eq]
    refine (stepState_at _ _ _ b g r p n).trans ?_
    refine (muladd_congr (h.v3 b g r p n) ((readRow4 _ _ ⟨k, hk⟩ (fun a => by
        fin_cases a
        · exact hst
        · rfl
        · rfl
        · rfl) _ b g r).trans (congrFun h.v1 _)) ((readRow6 _ _ ⟨k, hk⟩ (fun a => by
        fin_cases a
        · exact hst
        · rfl
        · rfl
        · rfl
        · rfl
        · rfl) _ b g r p n).trans (congrFun h.v0 _))).trans ?_
    rw [scanAt, dif_pos hk, dif_pos hk]
  v4 j b g r p n hj := by
    have hst := starts V k hk h.v2
    rw [trip_main_v129_4, id_eq]
    refine (writeRow6 _ _ _ ⟨k, hk⟩ (fun a => by
        fin_cases a
        · exact hst
        · rfl
        · rfl
        · rfl
        · rfl
        · rfl) _ j b g r p n).trans ?_
    by_cases e : j.val = k
    · rw [if_pos e, e]
      exact h.v3 b g r p n
    · rw [if_neg e]
      exact h.v4 j b g r p n (by omega)

/-- The loop's carried buffers before each trip, from those at its entry. -/
theorem carried_atK (h3 : ∀ b g r p n, (entryContents preI m c (Proc.devRef .tc main_v129_3) : FVec Ideal S8x2x8x64x128 .f32) (ix5 b g r p n) = (0 : EReal)) :
    ∀ k, k ≤ 64 → Carried (entryContents preI m c (Proc.devRef .tc main_v129_1)) (entryContents preI m c (Proc.devRef .tc main_v129_0)) (atK m k c) k
  | 0, _ => ⟨rfl, rfl, atK_ctr m c 0, h3, fun _ _ _ _ _ _ hj => absurd hj (Nat.not_lt_zero _)⟩
  | k + 1, hk => by
    rw [atK_succ]
    exact carried_step (by omega) (carried_cond (carried_atK h3 k (by omega))) ((congrFun (congrArg _ (atK_succ m c k)) _).symm.trans (atK_ctr m c (k + 1)))

end Cert.Layer.Ref

end
-- ==== Proof.RefValue.lean ====
/- What the reference's buffers hold when its loop begins and when it ends, as functions of its argument arrays. -/
module

public import proofs.«01_k».proof.Proof.Gen.ReferenceIdeal.Run
public import proofs.«01_k».proof.Proof.RefReads
public import proofs.«01_k».proof.Proof.RefLoop
public import Idealize.ShloMosaic.Lib.DynamicIndex
public import Idealize.ShloMosaic.Lib.Pipeline.Value

@[expose] public section

set_option maxRecDepth 16384

noncomputable section

namespace Cert.Layer.Ref

open Cert.ReferenceIdeal Cert.ReferenceIdeal.Gen Cert.ReferenceIdeal.Value Idealize.ShloMosaic Idealize.ShloMosaic.TcCoe Idealize.ShloMosaic.StableHlo Idealize.ShloMosaic.Tactic Idealize.SL.Sem

variable (m : (ℓ : Loc nD τ sig) → Buf (Elt Ideal) ℓ) (c : Dev nD)

def v28V : FVec Ideal S8x8192x1024 .f32 :=
  extractStridedSlice S8x8192x1024 ![0, 0, 0] (projOf m c) slices_S8x8192x6688_S8x8192x1024_0_0_0

def v32V : FVec Ideal S8x8192x16 .f32 :=
  extractStridedSlice S8x8192x16 ![0, 0, 2560] (projOf m c) slices_S8x8192x6688_S8x8192x16_0_0_2560

def v33V : FVec Ideal S8x8192x1024 .f32 :=
  extractStridedSlice S8x8192x1024 ![0, 0, 2576] (projOf m c) slices_S8x8192x6688_S8x8192x1024_0_0_2576

def v34V : FVec Ideal S8x8192x1024 .f32 :=
  extractStridedSlice S8x8192x1024 ![0, 0, 3600] (projOf m c) slices_S8x8192x6688_S8x8192x1024_0_0_3600

def v35V : FVec Ideal S8x8192x1024 .f32 :=
  extractStridedSlice S8x8192x1024 ![0, 0, 4624] (projOf m c) slices_S8x8192x6688_S8x8192x1024_0_0_4624

def v36V : FVec Ideal S8x8192x1024 .f32 :=
  extractStridedSlice S8x8192x1024 ![0, 0, 5648] (projOf m c) slices_S8x8192x6688_S8x8192x1024_0_0_5648

def v38V : FVec Ideal S8x8192x1536 .f32 :=
  concatenate S8x8192x1536 2 [⟨S8x8192x1024, (extractStridedSlice S8x8192x1024 ![0, 0, 1024] (projOf m c) slices_S8x8192x6688_S8x8192x1024_0_0_1024)⟩, ⟨S8x8192x256, (extractStridedSlice S8x8192x256 ![0, 0, 2048] (projOf m c) slices_S8x8192x6688_S8x8192x256_0_0_2048)⟩, ⟨S8x8192x256, (extractStridedSlice S8x8192x256 ![0, 0, 2304] (projOf m c) slices_S8x8192x6688_S8x8192x256_0_0_2304)⟩] concatenates_S8x8192x1024_S8x8192x256_S8x8192x256_S8x8192x1536_d2

def cV : IVec S_ 32 :=
  constantI S_ 32 0#32

def v39V : FVec Ideal S8x8195x1536 .f32 :=
  padArr (extractStridedSlice S8x8192x1024 ![0, 0, 1024] (projOf m c) slices_S8x8192x6688_S8x8192x1024_0_0_1024) (extractStridedSlice S8x8192x256 ![0, 0, 2048] (projOf m c) slices_S8x8192x6688_S8x8192x256_0_0_2048) (extractStridedSlice S8x8192x256 ![0, 0, 2304] (projOf m c) slices_S8x8192x6688_S8x8192x256_0_0_2304)

def v71V : FVec Ideal S8x8192x1536 .f32 :=
  convArr (v39V m c) (m ((c.tc : Thread nD τ).loc main_arg4)) (m ((c.tc : Thread nD τ).loc main_arg5))

def v72V : FVec Ideal S8x8192x1536 .f32 :=
  siluArr (v71V m c)

def v73V : FVec Ideal S8x8192x1024 .f32 :=
  extractStridedSlice S8x8192x1024 ![0, 0, 0] (v72V m c) slices_S8x8192x1536_S8x8192x1024_0_0_0

def v74V : FVec Ideal S8x8192x256 .f32 :=
  extractStridedSlice S8x8192x256 ![0, 0, 1024] (v72V m c) slices_S8x8192x1536_S8x8192x256_0_0_1024

def v75V : FVec Ideal S8x8192x256 .f32 :=
  extractStridedSlice S8x8192x256 ![0, 0, 1280] (v72V m c) slices_S8x8192x1536_S8x8192x256_0_0_1280

def v78V : FVec Ideal S8x8192x16 .f32 :=
  addf (v32V m c) (broadcastInDim S8x8192x16 ![0, 1, 2] bcast_S1x1x16_S8x8192x16_0_1_2 (broadcastInDim S1x1x16 ![2] bcast_S16_S1x1x16_2 (m ((c.tc : Thread nD τ).loc main_arg6))))

def v79V : FVec Ideal S8x8192x16 .f32 :=
  dtArr (v32V m c) (m ((c.tc : Thread nD τ).loc main_arg6))

def v82V : FVec Ideal S8x8192x16x64 .f32 :=
  xHeads (v73V m c)

def v85V : FVec Ideal S8x64x128x2x8x64 .f32 :=
  xChunk (xHeads (v73V m c))

def v86V : FVec Ideal S8x64x128x2x8 .f32 :=
  dChunk (v79V m c)

def v87V : FVec Ideal S8x64x128x2x128 .f32 :=
  bChunk (v74V m c)

def v88V : FVec Ideal S8x64x128x2x128 .f32 :=
  bChunk (v75V m c)

def v92V : FVec Ideal S8x64x128x2x8 .f32 :=
  rateArr (v86V m c) (m ((c.tc : Thread nD τ).loc main_arg7))

def v93V : FVec Ideal S8x64x128x2x8 .f32 :=
  cumArr (v92V m c)

def v96V : FVec Ideal S8x64x128x2x8x64 .f32 :=
  xdArr (v85V m c) (v86V m c)

def v97V : IVec S128x128 1 :=
  broadcastInDim S128x128 ![] bcast_S_S128x128 (constantI S_ 1 1#1)

def v98V : IVec S128x128 1 :=
  maskArr

def v103V : FVec Ideal S8x64x128x128x2x8 .f32 :=
  subf (broadcastInDim S8x64x128x128x2x8 ![0, 1, 2, 3, 4, 5] bcast_S8x64x128x1x2x8_S8x64x128x128x2x8_0_1_2_3_4_5 (broadcastInDim S8x64x128x1x2x8 ![0, 1, 2, 4, 5] bcast_S8x64x128x2x8_S8x64x128x1x2x8_0_1_2_4_5 (v93V m c))) (broadcastInDim S8x64x128x128x2x8 ![0, 1, 2, 3, 4, 5] bcast_S8x64x1x128x2x8_S8x64x128x128x2x8_0_1_2_3_4_5 (broadcastInDim S8x64x1x128x2x8 ![0, 1, 3, 4, 5] bcast_S8x64x128x2x8_S8x64x1x128x2x8_0_1_3_4_5 (v93V m c)))

def v104V : IVec S1x1x128x128x1x1 1 :=
  broadcastInDim S1x1x128x128x1x1 ![2, 3] bcast_S128x128_S1x1x128x128x1x1_2_3 maskArr

def cst_5V : FVec Ideal S_ .f32 :=
  constant S_ .f32 0xFF800000#32

def v105V : FVec Ideal S8x64x128x128x2x8 .f32 :=
  select (broadcastInDim S8x64x128x128x2x8 ![0, 1, 2, 3, 4, 5] bcast_S1x1x128x128x1x1_S8x64x128x128x2x8_0_1_2_3_4_5 (v104V)) (v103V m c) (broadcastInDim S8x64x128x128x2x8 ![] bcast_S_S8x64x128x128x2x8 (id (constant S_ .f32 0xFF800000#32)))

def v113V : FVec Ideal S8x64x128x2x8x64 .f32 :=
  ydArr (v96V m c) (v87V m c) (v88V m c) (decArr (v93V m c))

def v129_0V : FVec Ideal S64x8x2x8x64x128 .f32 :=
  stArr (v96V m c) (v87V m c) (v93V m c)

def v129_1V : FVec Ideal S64x8x2x8 .f32 :=
  allArr (v93V m c)

/-- The contents before each stretch. -/
def W0 : Valuation τ sig (Elt Ideal) := launchContents m c
def W1 : Valuation τ sig (Elt Ideal) := after (hostOps0 (F := Ideal)) (W0 m c)
def W2 : Valuation τ sig (Elt Ideal) := after (hostOps0_1 (F := Ideal)) (W1 m c)
def W3 : Valuation τ sig (Elt Ideal) := after (hostOps0_2 (F := Ideal)) (W2 m c)
def W4 : Valuation τ sig (Elt Ideal) := after (hostOps0_3 (F := Ideal)) (W3 m c)
def W5 : Valuation τ sig (Elt Ideal) := after (hostOps0_4 (F := Ideal)) (W4 m c)
def W6 : Valuation τ sig (Elt Ideal) := after (hostOps0_5 (F := Ideal)) (W5 m c)
def W7 : Valuation τ sig (Elt Ideal) := after (hostOps0_6 (F := Ideal)) (W6 m c)
def W8 : Valuation τ sig (Elt Ideal) := after (hostOps0_7 (F := Ideal)) (W7 m c)
def W9 : Valuation τ sig (Elt Ideal) := after (hostOps0_8 (F := Ideal)) (W8 m c)
def W10 : Valuation τ sig (Elt Ideal) := after (hostOps0_9 (F := Ideal)) (W9 m c)
def W11 : Valuation τ sig (Elt Ideal) := after (hostOps0_10 (F := Ideal)) (W10 m c)
def W12 : Valuation τ sig (Elt Ideal) := after (hostOps0_11 (F := Ideal)) (W11 m c)
def W13 : Valuation τ sig (Elt Ideal) := after (hostOps0_12 (F := Ideal)) (W12 m c)

/-- The lines before the loop, stretch by stretch, what each writes, and the contents between them. -/
def opsAt : ℕ → List (HloOp τ sig (Elt Ideal))
  | 0 => hostOps0
  | 1 => hostOps0_1
  | 2 => hostOps0_2
  | 3 => hostOps0_3
  | 4 => hostOps0_4
  | 5 => hostOps0_5
  | 6 => hostOps0_6
  | 7 => hostOps0_7
  | 8 => hostOps0_8
  | 9 => hostOps0_9
  | 10 => hostOps0_10
  | 11 => hostOps0_11
  | 12 => hostOps0_12
  | _ => []
def wrAt : ℕ → List (Ref sig .tc)
  | 0 => hostOps0_W
  | 1 => hostOps0_1_W
  | 2 => hostOps0_2_W
  | 3 => hostOps0_3_W
  | 4 => hostOps0_4_W
  | 5 => hostOps0_5_W
  | 6 => hostOps0_6_W
  | 7 => hostOps0_7_W
  | 8 => hostOps0_8_W
  | 9 => hostOps0_9_W
  | 10 => hostOps0_10_W
  | 11 => hostOps0_11_W
  | 12 => hostOps0_12_W
  | _ => []
theorem opsAt_writes : ∀ k, (opsAt k).Forall fun op => op.writes ⊆ ((wrAt k).map (Proc.devRef (τ := τ) .tc)).toFinset
  | 0 => hostOps0_writes
  | 1 => hostOps0_1_writes
  | 2 => hostOps0_2_writes
  | 3 => hostOps0_3_writes
  | 4 => hostOps0_4_writes
  | 5 => hostOps0_5_writes
  | 6 => hostOps0_6_writes
  | 7 => hostOps0_7_writes
  | 8 => hostOps0_8_writes
  | 9 => hostOps0_9_writes
  | 10 => hostOps0_10_writes
  | 11 => hostOps0_11_writes
  | 12 => hostOps0_12_writes
  | _ + 13 => trivial
def WS : ℕ → Valuation τ sig (Elt Ideal)
  | 0 => W0 m c
  | k + 1 => after (opsAt k) (WS k)
/-- A buffer that no line of the stretches writes keeps its contents through them. -/
theorem keep (r : Ref sig .tc) (i : ℕ) : ∀ d, (∀ k < d, r ∉ wrAt (i + k)) → WS m c (i + d) (Proc.devRef .tc r) = WS m c i (Proc.devRef .tc r)
  | 0, _ => rfl
  | d + 1, h => (after_of_writes_sub (opsAt (i + d)) _ (opsAt_writes (i + d)) (h d (Nat.lt_succ_self d))).trans (keep r i d fun k hk => h k (Nat.lt_succ_of_lt hk))

theorem at0_arg0 : W0 m c (Proc.devRef .tc main_arg0) = (m ((c.tc : Thread nD τ).loc main_arg0)) := rfl

theorem at0_arg1 : W0 m c (Proc.devRef .tc main_arg1) = (m ((c.tc : Thread nD τ).loc main_arg1)) := rfl

theorem at0_arg2 : W0 m c (Proc.devRef .tc main_arg2) = (m ((c.tc : Thread nD τ).loc main_arg2)) := rfl

theorem at0_arg3 : W0 m c (Proc.devRef .tc main_arg3) = (m ((c.tc : Thread nD τ).loc main_arg3)) := rfl

theorem at1_v28 : W1 m c (Proc.devRef .tc main_v28) = v28V m c := by
  refine (read0_v28 _).trans ?_
  rw [at0_arg0, at0_arg1, at0_arg2, at0_arg3]
  try rfl

theorem at1_v32 : W1 m c (Proc.devRef .tc main_v32) = v32V m c := by
  refine (read0_v32 _).trans ?_
  rw [at0_arg0, at0_arg1, at0_arg2, at0_arg3]
  try rfl

theorem at1_v33 : W1 m c (Proc.devRef .tc main_v33) = v33V m c := by
  refine (read0_v33 _).trans ?_
  rw [at0_arg0, at0_arg1, at0_arg2, at0_arg3]
  try rfl

theorem at1_v34 : W1 m c (Proc.devRef .tc main_v34) = v34V m c := by
  refine (read0_v34 _).trans ?_
  rw [at0_arg0, at0_arg1, at0_arg2, at0_arg3]
  try rfl

theorem at1_v35 : W1 m c (Proc.devRef .tc main_v35) = v35V m c := by
  refine (read0_v35 _).trans ?_
  rw [at0_arg0, at0_arg1, at0_arg2, at0_arg3]
  try rfl

theorem at1_v36 : W1 m c (Proc.devRef .tc main_v36) = v36V m c := by
  refine (read0_v36 _).trans ?_
  rw [at0_arg0, at0_arg1, at0_arg2, at0_arg3]
  try rfl

theorem at1_v38 : W1 m c (Proc.devRef .tc main_v38) = v38V m c := by
  refine (read0_v38 _).trans ?_
  rw [at0_arg0, at0_arg1, at0_arg2, at0_arg3]
  try rfl

theorem at1_c : W1 m c (Proc.devRef .tc main_c) = cV := by
  refine (read0_c _).trans ?_
  try rfl

theorem at2_v39 : W2 m c (Proc.devRef .tc main_v39) = v39V m c := by
  refine (read1_v39 _).trans ?_
  rw [at1_v38, at1_c]
  try rfl

theorem at0_arg4 : W0 m c (Proc.devRef .tc main_arg4) = (m ((c.tc : Thread nD τ).loc main_arg4)) := rfl

theorem at2_arg4 : W2 m c (Proc.devRef .tc main_arg4) = (m ((c.tc : Thread nD τ).loc main_arg4)) :=
  (keep m c main_arg4 0 2 (by decide +kernel)).trans (at0_arg4 m c)

theorem at0_arg5 : W0 m c (Proc.devRef .tc main_arg5) = (m ((c.tc : Thread nD τ).loc main_arg5)) := rfl

theorem at2_arg5 : W2 m c (Proc.devRef .tc main_arg5) = (m ((c.tc : Thread nD τ).loc main_arg5)) :=
  (keep m c main_arg5 0 2 (by decide +kernel)).trans (at0_arg5 m c)

theorem at3_v71 : W3 m c (Proc.devRef .tc main_v71) = v71V m c := by
  refine (read2_v71 _).trans ?_
  rw [at2_v39, at2_arg4, at2_arg5]
  try rfl

theorem at4_v72 : W4 m c (Proc.devRef .tc main_v72) = v72V m c := by
  refine (read3_v72 _).trans ?_
  rw [at3_v71]
  try rfl

theorem at5_v73 : W5 m c (Proc.devRef .tc main_v73) = v73V m c := by
  refine (read4_v73 _).trans ?_
  rw [at4_v72]
  try rfl

theorem at5_v74 : W5 m c (Proc.devRef .tc main_v74) = v74V m c := by
  refine (read4_v74 _).trans ?_
  rw [at4_v72]
  try rfl

theorem at5_v75 : W5 m c (Proc.devRef .tc main_v75) = v75V m c := by
  refine (read4_v75 _).trans ?_
  rw [at4_v72]
  try rfl

theorem at4_v32 : W4 m c (Proc.devRef .tc main_v32) = v32V m c :=
  (keep m c main_v32 1 3 (by decide +kernel)).trans (at1_v32 m c)

theorem at0_arg6 : W0 m c (Proc.devRef .tc main_arg6) = (m ((c.tc : Thread nD τ).loc main_arg6)) := rfl

theorem at4_arg6 : W4 m c (Proc.devRef .tc main_arg6) = (m ((c.tc : Thread nD τ).loc main_arg6)) :=
  (keep m c main_arg6 0 4 (by decide +kernel)).trans (at0_arg6 m c)

theorem at5_v78 : W5 m c (Proc.devRef .tc main_v78) = v78V m c := by
  refine (read4_v78 _).trans ?_
  rw [at4_v32, at4_arg6]
  try rfl

theorem at6_v79 : W6 m c (Proc.devRef .tc main_v79) = v79V m c := by
  refine (read5_v79 _).trans ?_
  rw [at5_v78]
  try rfl

theorem at6_v73 : W6 m c (Proc.devRef .tc main_v73) = v73V m c :=
  (keep m c main_v73 5 1 (by decide +kernel)).trans (at5_v73 m c)

theorem at7_v82 : W7 m c (Proc.devRef .tc main_v82) = v82V m c := by
  refine (read6_v82 _).trans ?_
  rw [at6_v73]
  try rfl

theorem at7_v85 : W7 m c (Proc.devRef .tc main_v85) = v85V m c := by
  refine (read6_v85 _).trans ?_
  rw [at6_v73]
  try rfl

theorem at7_v86 : W7 m c (Proc.devRef .tc main_v86) = v86V m c := by
  refine (read6_v86 _).trans ?_
  rw [at6_v79]
  try rfl

theorem at6_v74 : W6 m c (Proc.devRef .tc main_v74) = v74V m c :=
  (keep m c main_v74 5 1 (by decide +kernel)).trans (at5_v74 m c)

theorem at7_v87 : W7 m c (Proc.devRef .tc main_v87) = v87V m c := by
  refine (read6_v87 _).trans ?_
  rw [at6_v74]
  try rfl

theorem at6_v75 : W6 m c (Proc.devRef .tc main_v75) = v75V m c :=
  (keep m c main_v75 5 1 (by decide +kernel)).trans (at5_v75 m c)

theorem at7_v88 : W7 m c (Proc.devRef .tc main_v88) = v88V m c := by
  refine (read6_v88 _).trans ?_
  rw [at6_v75]
  try rfl

theorem at0_arg7 : W0 m c (Proc.devRef .tc main_arg7) = (m ((c.tc : Thread nD τ).loc main_arg7)) := rfl

theorem at6_arg7 : W6 m c (Proc.devRef .tc main_arg7) = (m ((c.tc : Thread nD τ).loc main_arg7)) :=
  (keep m c main_arg7 0 6 (by decide +kernel)).trans (at0_arg7 m c)

theorem at7_v92 : W7 m c (Proc.devRef .tc main_v92) = v92V m c := by
  refine (read6_v92 _).trans ?_
  rw [at6_v79, at6_arg7]
  try rfl

theorem at8_v93 : W8 m c (Proc.devRef .tc main_v93) = v93V m c := by
  refine (read7_v93 _).trans ?_
  rw [at7_v92]
  try rfl

theorem at8_v85 : W8 m c (Proc.devRef .tc main_v85) = v85V m c :=
  (keep m c main_v85 7 1 (by decide +kernel)).trans (at7_v85 m c)

theorem at8_v86 : W8 m c (Proc.devRef .tc main_v86) = v86V m c :=
  (keep m c main_v86 7 1 (by decide +kernel)).trans (at7_v86 m c)

theorem at9_v96 : W9 m c (Proc.devRef .tc main_v96) = v96V m c := by
  refine (read8_v96 _).trans ?_
  rw [at8_v85, at8_v86]
  try rfl

theorem at9_v97 : W9 m c (Proc.devRef .tc main_v97) = v97V := by
  refine (read8_v97 _).trans ?_
  try rfl

theorem at10_v98 : W10 m c (Proc.devRef .tc main_v98) = v98V := by
  refine (read9_v98 _).trans ?_
  rw [at9_v97]
  try rfl

theorem at10_v93 : W10 m c (Proc.devRef .tc main_v93) = v93V m c :=
  (keep m c main_v93 8 2 (by decide +kernel)).trans (at8_v93 m c)

theorem at11_v103 : W11 m c (Proc.devRef .tc main_v103) = v103V m c := by
  refine (read10_v103 _).trans ?_
  rw [at10_v93]
  try rfl

theorem at11_v104 : W11 m c (Proc.devRef .tc main_v104) = v104V := by
  refine (read10_v104 _).trans ?_
  rw [at10_v98]
  try rfl

theorem at11_cst_5 : W11 m c (Proc.devRef .tc main_cst_5) = cst_5V := by
  refine (read10_cst_5 _).trans ?_
  try rfl

theorem at12_v105 : W12 m c (Proc.devRef .tc main_v105) = v105V m c := by
  refine (read11_v105 _).trans ?_
  rw [at11_v104, at11_v103, at11_cst_5]
  try rfl

theorem at12_v96 : W12 m c (Proc.devRef .tc main_v96) = v96V m c :=
  (keep m c main_v96 9 3 (by decide +kernel)).trans (at9_v96 m c)

theorem at12_v87 : W12 m c (Proc.devRef .tc main_v87) = v87V m c :=
  (keep m c main_v87 7 5 (by decide +kernel)).trans (at7_v87 m c)

theorem at12_v88 : W12 m c (Proc.devRef .tc main_v88) = v88V m c :=
  (keep m c main_v88 7 5 (by decide +kernel)).trans (at7_v88 m c)

theorem at13_v113 : W13 m c (Proc.devRef .tc main_v113) = v113V m c := by
  refine (read12_v113 _).trans ?_
  rw [at12_v96, at12_v87, at12_v88, at12_v105]
  try rfl

theorem at12_v93 : W12 m c (Proc.devRef .tc main_v93) = v93V m c :=
  (keep m c main_v93 8 4 (by decide +kernel)).trans (at8_v93 m c)

theorem at13_v129_0 : W13 m c (Proc.devRef .tc main_v129_0) = v129_0V m c := by
  refine (read12_v129_0 _).trans ?_
  rw [at12_v96, at12_v87, at12_v93]
  try rfl

theorem at13_v129_1 : W13 m c (Proc.devRef .tc main_v129_1) = v129_1V m c := by
  refine (read12_v129_1 _).trans ?_
  rw [at12_v93]
  try rfl

theorem at13_v88 : W13 m c (Proc.devRef .tc main_v88) = v88V m c :=
  (keep m c main_v88 7 6 (by decide +kernel)).trans (at7_v88 m c)

theorem at13_v93 : W13 m c (Proc.devRef .tc main_v93) = v93V m c :=
  (keep m c main_v93 8 5 (by decide +kernel)).trans (at8_v93 m c)

theorem at13_v82 : W13 m c (Proc.devRef .tc main_v82) = v82V m c :=
  (keep m c main_v82 7 6 (by decide +kernel)).trans (at7_v82 m c)

theorem at13_v28 : W13 m c (Proc.devRef .tc main_v28) = v28V m c :=
  (keep m c main_v28 1 12 (by decide +kernel)).trans (at1_v28 m c)

theorem at13_v33 : W13 m c (Proc.devRef .tc main_v33) = v33V m c :=
  (keep m c main_v33 1 12 (by decide +kernel)).trans (at1_v33 m c)

theorem at13_v34 : W13 m c (Proc.devRef .tc main_v34) = v34V m c :=
  (keep m c main_v34 1 12 (by decide +kernel)).trans (at1_v34 m c)

theorem at13_v35 : W13 m c (Proc.devRef .tc main_v35) = v35V m c :=
  (keep m c main_v35 1 12 (by decide +kernel)).trans (at1_v35 m c)

theorem at13_v36 : W13 m c (Proc.devRef .tc main_v36) = v36V m c :=
  (keep m c main_v36 1 12 (by decide +kernel)).trans (at1_v36 m c)

theorem at0_arg8 : W0 m c (Proc.devRef .tc main_arg8) = (m ((c.tc : Thread nD τ).loc main_arg8)) := rfl

theorem at13_arg8 : W13 m c (Proc.devRef .tc main_arg8) = (m ((c.tc : Thread nD τ).loc main_arg8)) :=
  (keep m c main_arg8 0 13 (by decide +kernel)).trans (at0_arg8 m c)

theorem at0_arg9 : W0 m c (Proc.devRef .tc main_arg9) = (m ((c.tc : Thread nD τ).loc main_arg9)) := rfl

theorem at13_arg9 : W13 m c (Proc.devRef .tc main_arg9) = (m ((c.tc : Thread nD τ).loc main_arg9)) :=
  (keep m c main_arg9 0 13 (by decide +kernel)).trans (at0_arg9 m c)

theorem at0_arg10 : W0 m c (Proc.devRef .tc main_arg10) = (m ((c.tc : Thread nD τ).loc main_arg10)) := rfl

theorem at13_arg10 : W13 m c (Proc.devRef .tc main_arg10) = (m ((c.tc : Thread nD τ).loc main_arg10)) :=
  (keep m c main_arg10 0 13 (by decide +kernel)).trans (at0_arg10 m c)

theorem at0_arg11 : W0 m c (Proc.devRef .tc main_arg11) = (m ((c.tc : Thread nD τ).loc main_arg11)) := rfl

theorem at13_arg11 : W13 m c (Proc.devRef .tc main_arg11) = (m ((c.tc : Thread nD τ).loc main_arg11)) :=
  (keep m c main_arg11 0 13 (by decide +kernel)).trans (at0_arg11 m c)

theorem entry_eq : entryContents preI m c = W13 m c := rfl

theorem entry_v129_3 (b : Fin 8) (g : Fin 2) (r : Fin 8) (p : Fin 64) (n : Fin 128) :
    (entryContents preI m c (Proc.devRef .tc main_v129_3) : FVec Ideal S8x2x8x64x128 .f32) (ix5 b g r p n) = (0 : EReal) := by
  rw [entry_eq]
  refine (congrFun (read12_v129_3 (W12 m c)) (ix5 b g r p n)).trans ?_
  rw [id_eq]
  pointwise

/-- A buffer the loop does not write keeps its contents through it. -/
theorem keepLoop (r : Ref sig .tc) (hc : r ∉ condOps_W) (h0 : r ∉ while0Ops0_W) (h1 : r ∉ while0Ops0_1_W) (h2 : r ∉ while0Ops0_2_W) (h3 : r ∉ while0Ops0_3_W) (h4 : r ∉ while0Ops0_4_W) :
    ∀ k, atK m k c (Proc.devRef .tc r) = W13 m c (Proc.devRef .tc r)
  | 0 => rfl
  | k + 1 => by
    rw [atK_succ]
    simp only [afterL_cons, afterL_nil]
    rw [after_of_writes_sub while0Ops0_4 _ while0Ops0_4_writes h4, after_of_writes_sub while0Ops0_3 _ while0Ops0_3_writes h3, after_of_writes_sub while0Ops0_2 _ while0Ops0_2_writes h2,
      after_of_writes_sub while0Ops0_1 _ while0Ops0_1_writes h1, after_of_writes_sub while0Ops0 _ while0Ops0_writes h0, after_of_writes_sub condOps _ condOps_writes hc]
    exact keepLoop r hc h0 h1 h2 h3 h4 k

/-- The contents when the loop has ended. -/
def W14 : Valuation τ sig (Elt Ideal) := after (condOps (F := Ideal)) (atK m 64 c)
def W15 : Valuation τ sig (Elt Ideal) := after (hostOps0_13 (F := Ideal)) (W14 m c)
def W16 : Valuation τ sig (Elt Ideal) := after (hostOps0_14 (F := Ideal)) (W15 m c)
def W17 : Valuation τ sig (Elt Ideal) := after (hostOps0_15 (F := Ideal)) (W16 m c)

theorem final_eq : finalContents condOps preI bodyI postI 64 m c = W17 m c := rfl

/-- The states the loop leaves, one row per chunk. -/
def v129_4V : FVec Ideal S64x8x2x8x64x128 .f32 := W14 m c (Proc.devRef .tc main_v129_4)

theorem states_at (j : Fin 64) (b : Fin 8) (g : Fin 2) (r : Fin 8) (p : Fin 64) (n : Fin 128) :
    v129_4V m c (ix6 j b g r p n) = scanAt (v129_1V m c) (v129_0V m c) b g r p n j.val := by
  have h := (carried_cond (carried_atK m c (entry_v129_3 m c) 64 (le_refl _))).v4 j b g r p n j.isLt
  have h0 : entryContents preI m c (Proc.devRef .tc main_v129_0) = v129_0V m c := at13_v129_0 m c
  have h1 : entryContents preI m c (Proc.devRef .tc main_v129_1) = v129_1V m c := at13_v129_1 m c
  rw [h0, h1] at h
  exact h

theorem keep14 (r : Ref sig .tc) (h : ∀ l ∈ [condOps_W, while0Ops0_W, while0Ops0_1_W, while0Ops0_2_W, while0Ops0_3_W, while0Ops0_4_W], r ∉ l) :
    W14 m c (Proc.devRef .tc r) = W13 m c (Proc.devRef .tc r) :=
  (after_of_writes_sub condOps _ condOps_writes (h _ (by simp))).trans
    (keepLoop m c r (h _ (by simp)) (h _ (by simp)) (h _ (by simp)) (h _ (by simp)) (h _ (by simp)) (h _ (by simp)) 64)

theorem at14_v113 : W14 m c (Proc.devRef .tc main_v113) = v113V m c :=
  (keep14 m c main_v113 (by decide +kernel)).trans (at13_v113 m c)

theorem at14_v88 : W14 m c (Proc.devRef .tc main_v88) = v88V m c :=
  (keep14 m c main_v88 (by decide +kernel)).trans (at13_v88 m c)

theorem at14_v93 : W14 m c (Proc.devRef .tc main_v93) = v93V m c :=
  (keep14 m c main_v93 (by decide +kernel)).trans (at13_v93 m c)

theorem at14_v82 : W14 m c (Proc.devRef .tc main_v82) = v82V m c :=
  (keep14 m c main_v82 (by decide +kernel)).trans (at13_v82 m c)

theorem at14_v28 : W14 m c (Proc.devRef .tc main_v28) = v28V m c :=
  (keep14 m c main_v28 (by decide +kernel)).trans (at13_v28 m c)

theorem at14_v33 : W14 m c (Proc.devRef .tc main_v33) = v33V m c :=
  (keep14 m c main_v33 (by decide +kernel)).trans (at13_v33 m c)

theorem at14_v34 : W14 m c (Proc.devRef .tc main_v34) = v34V m c :=
  (keep14 m c main_v34 (by decide +kernel)).trans (at13_v34 m c)

theorem at14_v35 : W14 m c (Proc.devRef .tc main_v35) = v35V m c :=
  (keep14 m c main_v35 (by decide +kernel)).trans (at13_v35 m c)

theorem at14_v36 : W14 m c (Proc.devRef .tc main_v36) = v36V m c :=
  (keep14 m c main_v36 (by decide +kernel)).trans (at13_v36 m c)

theorem at14_arg8 : W14 m c (Proc.devRef .tc main_arg8) = (m ((c.tc : Thread nD τ).loc main_arg8)) :=
  (keep14 m c main_arg8 (by decide +kernel)).trans (at13_arg8 m c)

theorem at14_arg9 : W14 m c (Proc.devRef .tc main_arg9) = (m ((c.tc : Thread nD τ).loc main_arg9)) :=
  (keep14 m c main_arg9 (by decide +kernel)).trans (at13_arg9 m c)

theorem at14_arg10 : W14 m c (Proc.devRef .tc main_arg10) = (m ((c.tc : Thread nD τ).loc main_arg10)) :=
  (keep14 m c main_arg10 (by decide +kernel)).trans (at13_arg10 m c)

theorem at14_arg11 : W14 m c (Proc.devRef .tc main_arg11) = (m ((c.tc : Thread nD τ).loc main_arg11)) :=
  (keep14 m c main_arg11 (by decide +kernel)).trans (at13_arg11 m c)

theorem at14_v129_4 : W14 m c (Proc.devRef .tc main_v129_4) = v129_4V m c := rfl

def v144V : FVec Ideal S8x8192x1024 .f32 := outArr (v113V m c) (v129_4V m c) (v88V m c) (v93V m c) (v82V m c) (m ((c.tc : Thread nD τ).loc main_arg8))

def v145V : FVec Ideal S8x8192x1024 .f32 := siluZ (v28V m c)

/-- What the state's output lines write. -/
abbrev outW : List (Ref sig .tc) := [main_v130, main_v131, main_v132, main_v133, main_v134, main_v135, main_v136, main_v137, main_v138, main_v139, main_v140, main_v141, main_v142, main_v143, main_v144]
theorem hostOps0_13_writes : (hostOps0_13 : List (HloOp τ sig (Elt Ideal))).Forall fun op => op.writes ⊆ (outW.map (Proc.devRef (τ := τ) .tc)).toFinset :=
  StableHlo.forall_writes_sub_of_map rfl
/-- What the gate's lines write. -/
abbrev gateW : List (Ref sig .tc) := [main_call9_v0, main_call9_v1, main_call9_cst, main_call9_v2, main_call9_v3, main_call9_cst_0, main_call9_v4, main_call9_v5, main_v145]
theorem hostOps0_14_writes : (hostOps0_14 : List (HloOp τ sig (Elt Ideal))).Forall fun op => op.writes ⊆ (gateW.map (Proc.devRef (τ := τ) .tc)).toFinset :=
  StableHlo.forall_writes_sub_of_map rfl

theorem keep16 (r : Ref sig .tc) (h : r ∉ outW) (h' : r ∉ gateW) : W16 m c (Proc.devRef .tc r) = W14 m c (Proc.devRef .tc r) :=
  (after_of_writes_sub hostOps0_14 _ hostOps0_14_writes h').trans (after_of_writes_sub hostOps0_13 _ hostOps0_13_writes h)

theorem at15_v144 : W15 m c (Proc.devRef .tc main_v144) = v144V m c := by
  refine (read13_v144 _).trans ?_
  rw [at14_v113, at14_v129_4, at14_v88, at14_v93, at14_v82, at14_arg8]
  try rfl

theorem at15_v28 : W15 m c (Proc.devRef .tc main_v28) = v28V m c :=
  (after_of_writes_sub hostOps0_13 _ hostOps0_13_writes (by decide +kernel)).trans (at14_v28 m c)

theorem at16_v145 : W16 m c (Proc.devRef .tc main_v145) = v145V m c := by
  refine (read14_v145 _).trans ?_
  rw [at15_v28]
  try rfl

theorem at16_v144 : W16 m c (Proc.devRef .tc main_v144) = v144V m c :=
  (after_of_writes_sub hostOps0_14 _ hostOps0_14_writes (by decide +kernel)).trans (at15_v144 m c)

theorem at16_v33 : W16 m c (Proc.devRef .tc main_v33) = v33V m c :=
  (keep16 m c main_v33 (by decide +kernel) (by decide +kernel)).trans (at14_v33 m c)

theorem at16_v34 : W16 m c (Proc.devRef .tc main_v34) = v34V m c :=
  (keep16 m c main_v34 (by decide +kernel) (by decide +kernel)).trans (at14_v34 m c)

theorem at16_v35 : W16 m c (Proc.devRef .tc main_v35) = v35V m c :=
  (keep16 m c main_v35 (by decide +kernel) (by decide +kernel)).trans (at14_v35 m c)

theorem at16_v36 : W16 m c (Proc.devRef .tc main_v36) = v36V m c :=
  (keep16 m c main_v36 (by decide +kernel) (by decide +kernel)).trans (at14_v36 m c)

theorem at16_arg9 : W16 m c (Proc.devRef .tc main_arg9) = (m ((c.tc : Thread nD τ).loc main_arg9)) :=
  (keep16 m c main_arg9 (by decide +kernel) (by decide +kernel)).trans (at14_arg9 m c)

theorem at16_arg10 : W16 m c (Proc.devRef .tc main_arg10) = (m ((c.tc : Thread nD τ).loc main_arg10)) :=
  (keep16 m c main_arg10 (by decide +kernel) (by decide +kernel)).trans (at14_arg10 m c)

theorem at16_arg11 : W16 m c (Proc.devRef .tc main_arg11) = (m ((c.tc : Thread nD τ).loc main_arg11)) :=
  (keep16 m c main_arg11 (by decide +kernel) (by decide +kernel)).trans (at14_arg11 m c)

theorem res_v194 : finalContents condOps preI bodyI postI 64 m c (Proc.devRef .tc main_v194) = yArr (v144V m c) (v145V m c) (m ((c.tc : Thread nD τ).loc main_arg9)) := by
  rw [final_eq]
  refine (read15_v194 _).trans ?_
  rw [at16_v144, at16_v145, at16_arg9]
  try rfl

theorem res_v196 : finalContents condOps preI bodyI postI 64 m c (Proc.devRef .tc main_v196) = qArr (projOf m c) (m ((c.tc : Thread nD τ).loc main_arg10)) := by
  rw [final_eq]
  refine (read15_v196 _).trans ?_
  rw [at16_v33, at16_arg10]
  try rfl

theorem res_v198 : finalContents condOps preI bodyI postI 64 m c (Proc.devRef .tc main_v198) = kArr (projOf m c) (m ((c.tc : Thread nD τ).loc main_arg11)) := by
  rw [final_eq]
  refine (read15_v198 _).trans ?_
  rw [at16_v34, at16_arg11]
  try rfl

theorem res_v200 : finalContents condOps preI bodyI postI 64 m c (Proc.devRef .tc main_v200) = vArr (projOf m c) := by
  rw [final_eq]
  refine (read15_v200 _).trans ?_
  rw [at16_v35]
  try rfl

theorem res_v202 : finalContents condOps preI bodyI postI 64 m c (Proc.devRef .tc main_v202) = zArr (projOf m c) := by
  rw [final_eq]
  refine (read15_v202 _).trans ?_
  rw [at16_v36]
  try rfl

end Cert.Layer.Ref

end
-- ==== Proof.RefY.lean ====
/- The reference's gated and normed outputs are the recurrence's, entry by entry. -/
module

public import proofs.«01_k».proof.Proof.RefValue
public import proofs.«01_k».proof.Proof.SpecY

@[expose] public section

set_option maxRecDepth 16384

noncomputable section

namespace Cert.Layer.Ref

open Cert.ReferenceIdeal Cert.ReferenceIdeal.Gen Cert.ReferenceIdeal.Value Idealize.ShloMosaic Idealize.ShloMosaic.TcCoe Idealize.ShloMosaic.StableHlo Idealize.SL.Sem

theorem siluZ_at (u : FVec Ideal S8x8192x1024 .f32) (b : Fin 8) (l : Fin 8192) (j : Fin 1024) :
    siluZ u (ix3 b l j) = siluOf (u (ix3 b l j)) := by
  unfold siluZ siluOf
  pointwise
  try rfl

theorem yArr_at (o z : FVec Ideal S8x8192x1024 .f32) (g : FVec Ideal S1024 .f32) (r : Fin 65536) (f : Fin 1024) :
    yArr o z g (ix2 r f) = groupNorm (fun f => (o (ix3 ⟨r.val / 8192, by omega⟩ ⟨r.val % 8192, by omega⟩ f) : EReal) * z (ix3 ⟨r.val / 8192, by omega⟩ ⟨r.val % 8192, by omega⟩ f))
      (fun f => g (ix1 f)) f := by
  unfold yArr groupNorm
  pointwise

variable (m : (ℓ : Loc nD τ sig) → Buf (Elt Ideal) ℓ) (c : Dev nD)

/-- The projection's entries. -/
abbrev prR : Fin 8 → Fin 8192 → Fin 6688 → EReal := fun b l j => projOf m c (ix3 b l j)
/-- The convolution's weights. -/
abbrev cwR : Fin 4 → Fin 1536 → EReal := fun a j => (m ((c.tc : Thread nD τ).loc main_arg4) : FVec Ideal S4x1536 .f32) (ix2 a j)
/-- The convolution's bias. -/
abbrev cbR : Fin 1536 → EReal := fun j => (m ((c.tc : Thread nD τ).loc main_arg5) : FVec Ideal S1536 .f32) (ix1 j)
/-- The steps' bias. -/
abbrev dtR : Fin 16 → EReal := fun h => (m ((c.tc : Thread nD τ).loc main_arg6) : FVec Ideal S16 .f32) (ix1 h)
/-- The decays' logarithms. -/
abbrev alR : Fin 16 → EReal := fun h => (m ((c.tc : Thread nD τ).loc main_arg7) : FVec Ideal S16 .f32) (ix1 h)
/-- The skip factors. -/
abbrev dkR : Fin 16 → EReal := fun h => (m ((c.tc : Thread nD τ).loc main_arg8) : FVec Ideal S16 .f32) (ix1 h)

theorem slice3 {L : ℕ} (u : FVec Ideal S8x8192x6688 .f32) (o : ℕ) (h : S8x8192x6688.Slices ![0, 0, o] ⟨3, ![8, 8192, L]⟩) (b : Fin 8) (l : Fin 8192) (j : Fin L) (k : Fin 6688) (e : k.val = o + j.val) :
    (extractStridedSlice ⟨3, ![8, 8192, L]⟩ ![0, 0, o] u h : FVec Ideal ⟨3, ![8, 8192, L]⟩ .f32) (ix3 b l j) = u (ix3 b l k) := by
  have : o + j.val < 6688 := by omega
  have e' : k = ⟨o + j.val, this⟩ := Fin.ext e
  subst e'
  pointwise

theorem slice3' {L : ℕ} (u : FVec Ideal S8x8192x1536 .f32) (o : ℕ) (h : S8x8192x1536.Slices ![0, 0, o] ⟨3, ![8, 8192, L]⟩) (b : Fin 8) (l : Fin 8192) (j : Fin L) (k : Fin 1536) (e : k.val = o + j.val) :
    (extractStridedSlice ⟨3, ![8, 8192, L]⟩ ![0, 0, o] u h : FVec Ideal ⟨3, ![8, 8192, L]⟩ .f32) (ix3 b l j) = u (ix3 b l k) := by
  have : o + j.val < 1536 := by omega
  have e' : k = ⟨o + j.val, this⟩ := Fin.ext e
  subst e'
  pointwise

/-- The padded columns. -/
theorem v39_at (b : Fin 8) (n : Fin 8195) (j : Fin 1536) (k : ℕ) (e : k = n.val) : (v39V m c (ix3 b n j) : EReal) = uP (prR m c) b k j := by
  subst e
  unfold v39V uP
  rw [padArr_at]
  have hn := n.isLt
  by_cases h : 3 ≤ n.val
  · rw [dif_pos h, dif_pos (show 3 ≤ n.val ∧ n.val < 8195 from ⟨h, hn⟩)]
    by_cases h0 : j.val < 1024
    · rw [dif_pos h0]
      exact slice3 _ 1024 _ b _ _ _ rfl
    · rw [dif_neg h0]
      by_cases h1 : j.val < 1280
      · rw [dif_pos h1]
        exact slice3 _ 2048 _ b _ _ _ (by show 1024 + j.val = 2048 + (j.val - 1024); omega)
      · rw [dif_neg h1]
        exact slice3 _ 2304 _ b _ _ _ (by show 1024 + j.val = 2304 + (j.val - 1280); omega)
  · rw [dif_neg h, dif_neg (show ¬(3 ≤ n.val ∧ n.val < 8195) from fun h' => h h'.1)]

/-- The convolved columns. -/
theorem v72_at (b : Fin 8) (k : Fin 64) (s : Fin 128) (j : Fin 1536) :
    (v72V m c (ix3 b ⟨k.val * 128 + s.val, by omega⟩ j) : EReal) = gX (prR m c) (cwR m c) (cbR m c) b k.val s j := by
  unfold v72V v71V gX
  rw [siluArr_at, convArr_at]
  rw [v39_at m c b _ j (128 * k.val + s.val) (by show _ = k.val * 128 + s.val; omega), v39_at m c b _ j (128 * k.val + s.val + 1) (by show _ = 1 + (k.val * 128 + s.val); omega),
    v39_at m c b _ j (128 * k.val + s.val + 2) (by show _ = 2 + (k.val * 128 + s.val); omega), v39_at m c b _ j (128 * k.val + s.val + 3) (by show _ = 3 + (k.val * 128 + s.val); omega)]

/-- The steps. -/
theorem v86_at (b : Fin 8) (k : Fin 64) (s : Fin 128) (g : Fin 2) (r : Fin 8) (h : Fin 16) (e : h.val = g.val * 8 + r.val) :
    (v86V m c (ix5 b k s g r) : EReal) = gD (prR m c) (dtR m c) b k.val s h := by
  have hlt : g.val * 8 + r.val < 16 := by omega
  obtain rfl : h = ⟨g.val * 8 + r.val, hlt⟩ := Fin.ext e
  unfold v86V v79V v32V gD
  rw [dChunk_at, dtArr_at, dif_pos k.isLt]
  refine congrArg (fun x => stepOf (x + _)) ?_
  refine (slice3 _ 2560 _ b _ _ ⟨2560 + (g.val * 8 + r.val), by omega⟩ rfl).trans ?_
  exact congrArg (fun l => projOf m c (ix3 b l _)) (Fin.ext (by show k.val * 128 + s.val = 128 * k.val + s.val; omega))

/-- The summed decays. -/
theorem v93_at (b : Fin 8) (k : Fin 64) (s : Fin 128) (g : Fin 2) (r : Fin 8) (h : Fin 16) (e : h.val = g.val * 8 + r.val) :
    (v93V m c (ix5 b k s g r) : EReal) = gA (prR m c) (dtR m c) (alR m c) b k.val s h := by
  have hlt : g.val * 8 + r.val < 16 := by omega
  obtain rfl : h = ⟨g.val * 8 + r.val, hlt⟩ := Fin.ext e
  unfold v93V v92V gA
  rw [cumArr_at]
  simp only [rateArr_at, v86_at m c b k _ g r ⟨g.val * 8 + r.val, by omega⟩ rfl]

/-- A head's columns. -/
theorem v85_at (b : Fin 8) (k : Fin 64) (s : Fin 128) (g : Fin 2) (r : Fin 8) (p : Fin 64) (j : Fin 1536) (e : j.val = g.val * 512 + r.val * 64 + p.val) :
    (v85V m c (ix6 b k s g r p) : EReal) = gX (prR m c) (cwR m c) (cbR m c) b k.val s j := by
  unfold v85V v73V
  rw [xChunk_at]
  refine (slice3' _ 0 _ b _ _ j (by show j.val = 0 + (g.val * 512 + r.val * 64 + p.val); omega)).trans ?_
  exact v72_at m c b k s j

/-- A group's input projection. -/
theorem v87_at (b : Fin 8) (k : Fin 64) (s : Fin 128) (g : Fin 2) (n : Fin 128) (j : Fin 1536) (e : j.val = 1024 + 128 * g.val + n.val) :
    (v87V m c (ix5 b k s g n) : EReal) = gX (prR m c) (cwR m c) (cbR m c) b k.val s j := by
  unfold v87V v74V
  rw [bChunk_at]
  refine (slice3' _ 1024 _ b _ _ j (by show j.val = 1024 + (g.val * 128 + n.val); omega)).trans ?_
  exact v72_at m c b k s j

/-- A group's output projection. -/
theorem v88_at (b : Fin 8) (k : Fin 64) (s : Fin 128) (g : Fin 2) (n : Fin 128) (j : Fin 1536) (e : j.val = 1280 + 128 * g.val + n.val) :
    (v88V m c (ix5 b k s g n) : EReal) = gX (prR m c) (cwR m c) (cbR m c) b k.val s j := by
  unfold v88V v75V
  rw [bChunk_at]
  refine (slice3' _ 1280 _ b _ _ j (by show j.val = 1280 + (g.val * 128 + n.val); omega)).trans ?_
  exact v72_at m c b k s j

theorem out_congr {a a' b b' e x d d' : EReal} (h1 : a = a') (h2 : b = b') (h3 : d = d') : (a + b * e) + x * d = a' + b' * e + x * d' := by
  rw [h1, h2, h3]

section Chunk
variable (b : Fin 8) (g : Fin 2) (r : Fin 8) (p : Fin 64) (f : Fin 1024) (hf : f.val = (g.val * 8 + r.val) * 64 + p.val)
include hf

/-- What a chunk adds to the state. -/
theorem st_at (k : Fin 64) (n : Fin 128) : (v129_0V m c (ix6 k b g r p n) : EReal)
    = ∑ s : Fin 128, (gX (prR m c) (cwR m c) (cbR m c) b k.val s (colX f) * (gD (prR m c) (dtR m c) b k.val s (headOf f)
        * Ideal.exp (gA (prR m c) (dtR m c) (alR m c) b k.val 127 (headOf f) - gA (prR m c) (dtR m c) (alR m c) b k.val s (headOf f))))
      * gX (prR m c) (cwR m c) (cbR m c) b k.val s (colB f n) := by
  have hh : (headOf f).val = g.val * 8 + r.val := by show f.val / 64 = _; omega
  unfold v129_0V
  rw [stArr_at]
  refine Finset.sum_congr rfl fun s _ => ?_
  unfold v96V
  rw [xdArr_at, v93_at m c b k 127 g r (headOf f) hh, v93_at m c b k s g r (headOf f) hh, v85_at m c b k s g r p (colX f) (by show f.val = _; omega),
    v86_at m c b k s g r (headOf f) hh, v87_at m c b k s g n (colB f n) (by show 1024 + 128 * (f.val / 512) + n.val = _; omega)]
  rw [mul_comm (Ideal.exp _) _, mul_assoc (gX (prR m c) (cwR m c) (cbR m c) b k.val s (colX f))]

/-- The state before a chunk. -/
theorem scan_at (n : Fin 128) (k : ℕ) (hk : k ≤ 64) : scanAt (v129_1V m c) (v129_0V m c) b g r p n k
    = gS (prR m c) (cwR m c) (cbR m c) (dtR m c) (alR m c) b k f n := by
  have hh : (headOf f).val = g.val * 8 + r.val := by show f.val / 64 = _; omega
  induction k with
  | zero => rfl
  | succ k ih =>
    rw [scanAt, dif_pos (by omega : k < 64), dif_pos (by omega : k < 64), ih (by omega), st_at m c b g r p f hf]
    unfold v129_1V
    rw [allArr_at, v93_at m c b _ 127 g r (headOf f) hh]
    rfl

/-- The outputs before the gate. -/
theorem v144_at (k : Fin 64) (t : Fin 128) : (v144V m c (ix3 b ⟨k.val * 128 + t.val, by omega⟩ f) : EReal)
    = gO (prR m c) (cwR m c) (cbR m c) (dtR m c) (alR m c) (dkR m c) b k.val t f := by
  have hh : (headOf f).val = g.val * 8 + r.val := by show f.val / 64 = _; omega
  have ef : f = ⟨(g.val * 8 + r.val) * 64 + p.val, by omega⟩ := Fin.ext hf
  have e0 : v144V m c (ix3 b ⟨k.val * 128 + t.val, by omega⟩ f) = v144V m c (ix3 b ⟨k.val * 128 + t.val, by omega⟩ ⟨(g.val * 8 + r.val) * 64 + p.val, by omega⟩) := by
    exact congrArg (fun f => v144V m c (ix3 b ⟨k.val * 128 + t.val, by omega⟩ f)) ef
  refine e0.trans ?_
  unfold v144V v82V
  rw [outArr_at]
  unfold gO expOut
  have hx : (v73V m c (ix3 b ⟨k.val * 128 + t.val, by omega⟩ ⟨(g.val * 8 + r.val) * 64 + p.val, by omega⟩) : EReal) = gX (prR m c) (cwR m c) (cbR m c) b k.val t (colX f) := by
    unfold v73V
    exact (slice3' _ 0 _ b _ _ (colX f) (by show f.val = 0 + ((g.val * 8 + r.val) * 64 + p.val); omega)).trans (v72_at m c b k t (colX f))
  rw [hx, v93_at m c b k t g r (headOf f) hh]
  refine out_congr ?_ ?_ ?_
  · unfold v113V
    rw [ydArr_at]
    refine Finset.sum_congr rfl fun s _ => ?_
    unfold v96V
    rw [xdArr_at, decArr_at, v93_at m c b k t g r (headOf f) hh, v93_at m c b k s g r (headOf f) hh, v85_at m c b k s g r p (colX f) (by show f.val = _; omega),
      v86_at m c b k s g r (headOf f) hh]
    have hcb : (∑ n : Fin 128, (v87V m c (ix5 b k s g n) : EReal) * v88V m c (ix5 b k t g n))
        = ∑ n : Fin 128, gX (prR m c) (cwR m c) (cbR m c) b k.val t (colC f n) * gX (prR m c) (cwR m c) (cbR m c) b k.val s (colB f n) := by
      refine Finset.sum_congr rfl fun n _ => ?_
      rw [v87_at m c b k s g n (colB f n) (by show 1024 + 128 * (f.val / 512) + n.val = _; omega), v88_at m c b k t g n (colC f n) (by show 1280 + 128 * (f.val / 512) + n.val = _; omega), mul_comm]
    rw [hcb]
    ac_rfl
  · refine Finset.sum_congr rfl fun n _ => ?_
    rw [v88_at m c b k t g n (colC f n) (by show 1280 + 128 * (f.val / 512) + n.val = _; omega), states_at, scan_at m c b g r p f hf n k.val (by omega), mul_comm]
  · exact congrArg (fun h => (m ((c.tc : Thread nD τ).loc main_arg8) : FVec Ideal S16 .f32) (ix1 h)) (Fin.ext hh.symm)

end Chunk

/-- The reference's output rows. -/
theorem y_ref (R : Fin 65536) (f : Fin 1024) : (yArr (v144V m c) (v145V m c) (m ((c.tc : Thread nD τ).loc main_arg9)) (ix2 R f) : EReal)
    = gY (prR m c) (cwR m c) (cbR m c) (dtR m c) (alR m c) (dkR m c) ⟨R.val / 8192, by omega⟩
        (fun f => (m ((c.tc : Thread nD τ).loc main_arg9) : FVec Ideal S1024 .f32) (ix1 f)) ⟨R.val % 8192, by omega⟩ f := by
  rw [yArr_at]
  unfold gY
  refine congrArg (fun v => groupNorm v _ f) (funext fun f => ?_)
  refine congrArg₂ (· * ·) ?_ ?_
  · refine Eq.trans ?_ (v144_at m c ⟨R.val / 8192, by omega⟩ ⟨f.val / 512, by omega⟩ ⟨f.val % 512 / 64, by omega⟩ ⟨f.val % 64, by omega⟩ f
      (by show f.val = (f.val / 512 * 8 + f.val % 512 / 64) * 64 + f.val % 64; omega) ⟨R.val % 8192 / 128, by omega⟩ ⟨R.val % 8192 % 128, by omega⟩)
    exact congrArg (fun l => v144V m c (ix3 _ l f)) (Fin.ext (by show R.val % 8192 = R.val % 8192 / 128 * 128 + R.val % 8192 % 128; omega))
  · unfold v145V v28V
    rw [siluZ_at]
    exact congrArg siluOf (slice3 _ 0 _ _ _ _ _ (by show f.val = 0 + f.val; omega))

end Cert.Layer.Ref

end
-- ==== Proof.BatchY.lean ====
/- From tile to tile a batch row's recurrence runs on: the rows and states a tile hands over are the sequence's,
   so the gated and normed outputs are the reference's. -/
module

public import proofs.«01_k».proof.Proof.KernelY
public import proofs.«01_k».proof.Proof.RefY

@[expose] public section

set_option maxRecDepth 16384

noncomputable section

namespace Cert.Layer

open Cert.KernelIdeal Cert.KernelIdeal.Gen Idealize.ShloMosaic Idealize.ShloMosaic.TcCoe Idealize.SL.Sem

variable (m : (ℓ : Loc nD τ sig) → Buf (Elt Ideal) ℓ) (c : Dev nD)

/-- A tile hands over the sequence's rows and states. -/
def Handed (t : Fin cfg0.N) (b : Fin 8) : Prop :=
  (∀ (q : Fin 16) (j : Fin 1536), kept (outsAt0 m c t.val t.isLt).2.2.2.2.2.2.2.2.1 q j = uP (prK m c) b (512 * (t.val % 16 + 1) + q.val - 13) j)
  ∧ held (outsAt0 m c t.val t.isLt).2.2.2.2.2.2.2.2.2 = gS (prK m c) (cwK m c) (cbK m c) (dtK m c) (alK m c) b (4 * (t.val % 16) + 4)

/-- A tile stores the sequence's outputs. -/
def Stored (t : Fin cfg0.N) (b : Fin 8) : Prop :=
  ∀ (r : Fin 512) (f : Fin 1024) (l : Fin 8192), l.val = 512 * (t.val % 16) + r.val →
    (outsAt0 m c t.val t.isLt).1 (ix2 r f) = gY (prK m c) (cwK m c) (cbK m c) (dtK m c) (alK m c) (dkK m c) b (fun f => (m ((c : Thread nD τ).loc main_arg9) : FVec Ideal S1024 .f32) (ix1 f)) l f

section
variable (t : Fin cfg0.N) (b : Fin 8) (hb : b.val = t.val / 16)
include hb

/-- The rows handed over. -/
theorem handed_rows (q : Fin 16) (j : Fin 1536) :
    kept (outsAt0 m c t.val t.isLt).2.2.2.2.2.2.2.2.1 q j = uP (prK m c) b (512 * (t.val % 16 + 1) + q.val - 13) j := by
  have hn : 512 * (t.val % 16 + 1) + q.val - 13 = 512 * (t.val % 16) + (496 + q.val) + 3 := by omega
  by_cases h : t.val % 16 = 0
  · exact (rows_outA m c t h q j).trans (row_at m c t b hb ⟨496 + q.val, by omega⟩ j _ hn)
  · exact (rows_outB m c t h q j).trans (row_at m c t b hb ⟨496 + q.val, by omega⟩ j _ hn)

/-- A batch row's first tile. -/
theorem first_tile (h : t.val % 16 = 0) : Handed m c t b ∧ Stored m c t b := by
  have hP : ∀ (q : Fin 16) (j : Fin 1536), 13 ≤ q.val → (fun _ _ => 0 : Fin 16 → Fin 1536 → EReal) q j = uP (prK m c) b (512 * (t.val % 16) + q.val - 13) j := by
    intro q j hq
    have := q.isLt
    unfold uP
    rw [dif_neg (show ¬(3 ≤ 512 * (t.val % 16) + q.val - 13 ∧ 512 * (t.val % 16) + q.val - 13 < 8195) by omega)]
  have hS : (fun _ _ => 0 : Fin 1024 → Fin 128 → EReal) = gS (prK m c) (cwK m c) (cbK m c) (dtK m c) (alK m c) b (4 * (t.val % 16)) := by
    rw [show 4 * (t.val % 16) = 0 by omega]
    rfl
  refine ⟨⟨handed_rows m c t b hb, ?_⟩, fun r f l hl => ?_⟩
  · rw [← kS_at m c t b hb _ hP _ hS 4 (le_refl _)]
    exact funext fun f => funext fun n => state_outA m c t h (is_shift m c t) f n
  · exact (y_outA m c t h (is_shift m c t) r f).trans (tileY_spec m c t b hb _ hP _ hS r f l hl)

/-- A later tile, given what the tile before handed over. -/
theorem later_tile (h : ¬t.val % 16 = 0) (s : Fin cfg0.N) (hs : t.val - 1 = s.val) (hp : Handed m c s b) : Handed m c t b ∧ Stored m c t b := by
  have e := outs_congr m c (t.val - 1) (Nat.lt_of_le_of_lt (Nat.sub_le _ _) t.isLt) s hs
  have hm : s.val % 16 + 1 = t.val % 16 := by omega
  have hP : ∀ (q : Fin 16) (j : Fin 1536), 13 ≤ q.val → kept (outsAt0 m c (t.val - 1) (Nat.lt_of_le_of_lt (Nat.sub_le _ _) t.isLt)).2.2.2.2.2.2.2.2.1 q j = uP (prK m c) b (512 * (t.val % 16) + q.val - 13) j := by
    intro q j hq
    rw [e, ← hm]
    exact hp.1 q j
  have hS : held (outsAt0 m c (t.val - 1) (Nat.lt_of_le_of_lt (Nat.sub_le _ _) t.isLt)).2.2.2.2.2.2.2.2.2 = gS (prK m c) (cwK m c) (cbK m c) (dtK m c) (alK m c) b (4 * (t.val % 16)) := by
    rw [e, ← hm]
    exact hp.2
  refine ⟨⟨handed_rows m c t b hb, ?_⟩, fun r f l hl => ?_⟩
  · rw [← kS_at m c t b hb _ hP _ hS 4 (le_refl _)]
    exact funext fun f => funext fun n => state_outB m c t h (is_shift m c t) f n
  · exact (y_outB m c t h (is_shift m c t) r f).trans (tileY_spec m c t b hb _ hP _ hS r f l hl)

end

/-- Every tile. -/
theorem every_tile : ∀ (n : ℕ) (t : Fin cfg0.N) (b : Fin 8), t.val = n → b.val = t.val / 16 → Handed m c t b ∧ Stored m c t b
  | 0, t, b, hn, hb => first_tile m c t b hb (by omega)
  | n + 1, t, b, hn, hb => by
    by_cases h : t.val % 16 = 0
    · exact first_tile m c t b hb h
    · have ht := t.isLt
      have hlt : n < cfg0.N := by omega
      exact later_tile m c t b hb h ⟨n, hlt⟩ (by show t.val - 1 = n; omega) (every_tile n ⟨n, hlt⟩ b rfl (by show b.val = n / 16; omega)).1

/-- The outputs' array at row `512 t + r`. -/
theorem y_arr (t : Fin cfg0.N) (r : Fin 512) (j : Fin 1024) :
    Value.G17 m c (ix2 ⟨512 * t.val + r.val, by have := tN t; omega⟩ j) = (outsAt0 m c t.val t.isLt).1 (ix2 r j) := by
  have ht := tN t
  unfold Value.G17
  have hp : Value.pt17Of (ix2 ⟨512 * t.val + r.val, by omega⟩ j) = t.val := by
    show 1 * ((512 * t.val + r.val) / 512 - 0) + 1 * (j.val / 1024 - 0) = t.val
    omega
  have hl : Value.loc17Of (ix2 ⟨512 * t.val + r.val, by omega⟩ j) = ix2 r j := by
    funext a
    match a with
    | ⟨0, _⟩ => exact Fin.ext (by show (512 * t.val + r.val) % 512 = r.val; omega)
    | ⟨1, _⟩ => exact Fin.ext (by show j.val % 1024 = j.val; omega)
  have hn : Value.pt17Of (ix2 ⟨512 * t.val + r.val, by omega⟩ j) < cfg0.N := by rw [hp]; exact t.isLt
  rw [dif_pos hn, hl, ← Value.outsAt0_sweep m c _ hn, outs_congr m c _ hn t hp]

/-- The outputs' array is the recurrence's. -/
theorem y_spec (R : Fin 65536) (f : Fin 1024) : Value.G17 m c (ix2 R f)
    = gY (prK m c) (cwK m c) (cbK m c) (dtK m c) (alK m c) (dkK m c) ⟨R.val / 8192, by omega⟩
        (fun f => (m ((c : Thread nD τ).loc main_arg9) : FVec Ideal S1024 .f32) (ix1 f)) ⟨R.val % 8192, by omega⟩ f := by
  obtain ⟨t, r, rfl⟩ := row_split R
  have ht := tN t
  have hr := r.isLt
  exact (y_arr m c t r f).trans ((every_tile m c t.val t ⟨(512 * t.val + r.val) / 8192, by omega⟩ rfl
    (by show (512 * t.val + r.val) / 8192 = t.val / 16; omega)).2 r f ⟨(512 * t.val + r.val) % 8192, by omega⟩
    (by show (512 * t.val + r.val) % 8192 = 512 * (t.val % 16) + r.val; omega))

end Cert.Layer

end
-- ==== Proof.RefEnd.lean ====
/- The reference's arguments end as they began. -/
module

public import proofs.«01_k».proof.Proof.RefValue

@[expose] public section

set_option maxRecDepth 16384

noncomputable section

namespace Cert.Layer.Ref

open Cert.ReferenceIdeal Cert.ReferenceIdeal.Gen Cert.ReferenceIdeal.Value Idealize.ShloMosaic Idealize.ShloMosaic.TcCoe Idealize.ShloMosaic.StableHlo Idealize.ShloMosaic.Tactic Idealize.SL.Sem

variable (m : (ℓ : Loc nD τ sig) → Buf (Elt Ideal) ℓ) (c : Dev nD)

/-- What the last lines write. -/
abbrev endW : List (Ref sig .tc) := [main_v146, main_v147, main_v148, main_v149, main_cst_9, main_v150, main_v151, main_cst_10, main_v152, main_v153, main_cst_11, main_v154, main_v155, main_v156, main_v157, main_v158, main_v159, main_v160, main_v161, main_v162, main_v163, main_v164, main_cst_12, main_v165, main_v166, main_cst_13, main_v167, main_v168, main_cst_14, main_v169, main_v170, main_v171, main_v172, main_v173, main_v174, main_v175, main_v176, main_cst_15, main_v177, main_v178, main_v179, main_v180, main_cst_16, main_v181, main_v182, main_cst_17, main_v183, main_v184, main_cst_18, main_v185, main_v186, main_v187, main_v188, main_v189, main_v190, main_v191, main_v192, main_v193, main_v194, main_v195, main_v196, main_v197, main_v198, main_v199, main_v200, main_v201, main_v202]
theorem hostOps0_15_writes : (hostOps0_15 : List (HloOp τ sig (Elt Ideal))).Forall fun op => op.writes ⊆ (endW.map (Proc.devRef (τ := τ) .tc)).toFinset :=
  StableHlo.forall_writes_sub_of_map rfl

/-- No line writes the buffer. -/
abbrev Unwritten (r : Ref sig .tc) : Prop := r ∉ hostOps0_W ∧ r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ condOps_W ∧ r ∉ while0Ops0_W ∧ r ∉ while0Ops0_1_W ∧ r ∉ while0Ops0_2_W ∧ r ∉ while0Ops0_3_W ∧ r ∉ while0Ops0_4_W ∧ r ∉ outW ∧ r ∉ gateW ∧ r ∉ endW

/-- A buffer no line writes ends as it began. -/
theorem final_keep (r : Ref sig .tc) (h : Unwritten r) :
    finalContents condOps preI bodyI postI 64 m c (Proc.devRef .tc r) = launchContents m c (Proc.devRef .tc r) := by
  obtain ⟨h0, h1, h2, h3, h4, h5, h6, h7, h8, h9, h10, h11, h12, h13, h14, h15, h16, h17, h18, h19, h20, h21⟩ := h
  rw [final_eq]
  exact
    (after_of_writes_sub hostOps0_15 _ hostOps0_15_writes h21).trans <|
    (after_of_writes_sub hostOps0_14 _ hostOps0_14_writes h20).trans <|
    (after_of_writes_sub hostOps0_13 _ hostOps0_13_writes h19).trans <|
    (after_of_writes_sub condOps _ condOps_writes h13).trans <|
    (keepLoop m c r h13 h14 h15 h16 h17 h18 64).trans <|
    (after_of_writes_sub hostOps0_12 _ hostOps0_12_writes h12).trans <|
    (after_of_writes_sub hostOps0_11 _ hostOps0_11_writes h11).trans <|
    (after_of_writes_sub hostOps0_10 _ hostOps0_10_writes h10).trans <|
    (after_of_writes_sub hostOps0_9 _ hostOps0_9_writes h9).trans <|
    (after_of_writes_sub hostOps0_8 _ hostOps0_8_writes h8).trans <|
    (after_of_writes_sub hostOps0_7 _ hostOps0_7_writes h7).trans <|
    (after_of_writes_sub hostOps0_6 _ hostOps0_6_writes h6).trans <|
    (after_of_writes_sub hostOps0_5 _ hostOps0_5_writes h5).trans <|
    (after_of_writes_sub hostOps0_4 _ hostOps0_4_writes h4).trans <|
    (after_of_writes_sub hostOps0_3 _ hostOps0_3_writes h3).trans <|
    (after_of_writes_sub hostOps0_2 _ hostOps0_2_writes h2).trans <|
    (after_of_writes_sub hostOps0_1 _ hostOps0_1_writes h1).trans <|
    after_of_writes_sub hostOps0 _ hostOps0_writes h0

theorem end_arg0 : finalContents condOps preI bodyI postI 64 m c (Proc.devRef .tc main_arg0) = m ((c.tc : Thread nD τ).loc main_arg0) :=
  final_keep m c main_arg0 (by refine ⟨?_, ?_, ?_, ?_, ?_, ?_, ?_, ?_, ?_, ?_, ?_, ?_, ?_, ?_, ?_, ?_, ?_, ?_, ?_, ?_, ?_, ?_⟩ <;> decide +kernel)

theorem end_arg1 : finalContents condOps preI bodyI postI 64 m c (Proc.devRef .tc main_arg1) = m ((c.tc : Thread nD τ).loc main_arg1) :=
  final_keep m c main_arg1 (by refine ⟨?_, ?_, ?_, ?_, ?_, ?_, ?_, ?_, ?_, ?_, ?_, ?_, ?_, ?_, ?_, ?_, ?_, ?_, ?_, ?_, ?_, ?_⟩ <;> decide +kernel)

theorem end_arg2 : finalContents condOps preI bodyI postI 64 m c (Proc.devRef .tc main_arg2) = m ((c.tc : Thread nD τ).loc main_arg2) :=
  final_keep m c main_arg2 (by refine ⟨?_, ?_, ?_, ?_, ?_, ?_, ?_, ?_, ?_, ?_, ?_, ?_, ?_, ?_, ?_, ?_, ?_, ?_, ?_, ?_, ?_, ?_⟩ <;> decide +kernel)

theorem end_arg3 : finalContents condOps preI bodyI postI 64 m c (Proc.devRef .tc main_arg3) = m ((c.tc : Thread nD τ).loc main_arg3) :=
  final_keep m c main_arg3 (by refine ⟨?_, ?_, ?_, ?_, ?_, ?_, ?_, ?_, ?_, ?_, ?_, ?_, ?_, ?_, ?_, ?_, ?_, ?_, ?_, ?_, ?_, ?_⟩ <;> decide +kernel)

theorem end_arg4 : finalContents condOps preI bodyI postI 64 m c (Proc.devRef .tc main_arg4) = m ((c.tc : Thread nD τ).loc main_arg4) :=
  final_keep m c main_arg4 (by refine ⟨?_, ?_, ?_, ?_, ?_, ?_, ?_, ?_, ?_, ?_, ?_, ?_, ?_, ?_, ?_, ?_, ?_, ?_, ?_, ?_, ?_, ?_⟩ <;> decide +kernel)

theorem end_arg5 : finalContents condOps preI bodyI postI 64 m c (Proc.devRef .tc main_arg5) = m ((c.tc : Thread nD τ).loc main_arg5) :=
  final_keep m c main_arg5 (by refine ⟨?_, ?_, ?_, ?_, ?_, ?_, ?_, ?_, ?_, ?_, ?_, ?_, ?_, ?_, ?_, ?_, ?_, ?_, ?_, ?_, ?_, ?_⟩ <;> decide +kernel)

theorem end_arg6 : finalContents condOps preI bodyI postI 64 m c (Proc.devRef .tc main_arg6) = m ((c.tc : Thread nD τ).loc main_arg6) :=
  final_keep m c main_arg6 (by refine ⟨?_, ?_, ?_, ?_, ?_, ?_, ?_, ?_, ?_, ?_, ?_, ?_, ?_, ?_, ?_, ?_, ?_, ?_, ?_, ?_, ?_, ?_⟩ <;> decide +kernel)

theorem end_arg7 : finalContents condOps preI bodyI postI 64 m c (Proc.devRef .tc main_arg7) = m ((c.tc : Thread nD τ).loc main_arg7) :=
  final_keep m c main_arg7 (by refine ⟨?_, ?_, ?_, ?_, ?_, ?_, ?_, ?_, ?_, ?_, ?_, ?_, ?_, ?_, ?_, ?_, ?_, ?_, ?_, ?_, ?_, ?_⟩ <;> decide +kernel)

theorem end_arg8 : finalContents condOps preI bodyI postI 64 m c (Proc.devRef .tc main_arg8) = m ((c.tc : Thread nD τ).loc main_arg8) :=
  final_keep m c main_arg8 (by refine ⟨?_, ?_, ?_, ?_, ?_, ?_, ?_, ?_, ?_, ?_, ?_, ?_, ?_, ?_, ?_, ?_, ?_, ?_, ?_, ?_, ?_, ?_⟩ <;> decide +kernel)

theorem end_arg9 : finalContents condOps preI bodyI postI 64 m c (Proc.devRef .tc main_arg9) = m ((c.tc : Thread nD τ).loc main_arg9) :=
  final_keep m c main_arg9 (by refine ⟨?_, ?_, ?_, ?_, ?_, ?_, ?_, ?_, ?_, ?_, ?_, ?_, ?_, ?_, ?_, ?_, ?_, ?_, ?_, ?_, ?_, ?_⟩ <;> decide +kernel)

theorem end_arg10 : finalContents condOps preI bodyI postI 64 m c (Proc.devRef .tc main_arg10) = m ((c.tc : Thread nD τ).loc main_arg10) :=
  final_keep m c main_arg10 (by refine ⟨?_, ?_, ?_, ?_, ?_, ?_, ?_, ?_, ?_, ?_, ?_, ?_, ?_, ?_, ?_, ?_, ?_, ?_, ?_, ?_, ?_, ?_⟩ <;> decide +kernel)

theorem end_arg11 : finalContents condOps preI bodyI postI 64 m c (Proc.devRef .tc main_arg11) = m ((c.tc : Thread nD τ).loc main_arg11) :=
  final_keep m c main_arg11 (by refine ⟨?_, ?_, ?_, ?_, ?_, ?_, ?_, ?_, ?_, ?_, ?_, ?_, ?_, ?_, ?_, ?_, ?_, ?_, ?_, ?_, ?_, ?_⟩ <;> decide +kernel)

theorem end_arg12 : finalContents condOps preI bodyI postI 64 m c (Proc.devRef .tc main_arg12) = m ((c.tc : Thread nD τ).loc main_arg12) :=
  final_keep m c main_arg12 (by refine ⟨?_, ?_, ?_, ?_, ?_, ?_, ?_, ?_, ?_, ?_, ?_, ?_, ?_, ?_, ?_, ?_, ?_, ?_, ?_, ?_, ?_, ?_⟩ <;> decide +kernel)

end Cert.Layer.Ref

end
-- ==== Proof.Algebraic.lean ====
/- The claims of the layer's first call: the reference runs and keeps its arguments, and the kernel's outputs,
   queries, keys, transposed values and gate are the reference's. -/
module

public import proofs.«01_k».proof.Defs
public import proofs.«01_k».proof.Proof.Gen.KernelIdeal.Value
public import proofs.«01_k».proof.Proof.Gen.ReferenceIdeal.Run
public import proofs.«01_k».proof.Proof.Equation
public import proofs.«01_k».proof.Proof.BatchY
public import proofs.«01_k».proof.Proof.RefEnd
public import proofs.«01_k».proof.Proof.Gen.KernelIdeal
public import proofs.«01_k».proof.Proof.Gen.ReferenceIdeal
public import Idealize.ShloMosaic.Adequacy
public import Idealize.ShloMosaic.Lib.Quiescent
public import Idealize.ShloMosaic.Init

@[expose] public section

set_option maxRecDepth 16384

noncomputable section

namespace Cert.Layer

open Idealize.ShloMosaic Idealize.ShloMosaic.StableHlo Idealize.SL.Sem

/-- The reference's arguments at the end of a run. -/
theorem ref_args (m : (ℓ : Loc Cert.ReferenceIdeal.nD Cert.ReferenceIdeal.τ Cert.ReferenceIdeal.sig) → Buf (Elt Ideal) ℓ)
    (c : Dev Cert.ReferenceIdeal.nD) (μ : (ℓ : Loc Cert.ReferenceIdeal.nD Cert.ReferenceIdeal.τ Cert.ReferenceIdeal.sig) → Buf (Elt Ideal) ℓ)
    (h : ∀ b : Ref Cert.ReferenceIdeal.sig .tc, (Proc.devRef .tc b : DevRef Cert.ReferenceIdeal.τ Cert.ReferenceIdeal.sig).isScoped = false →
      μ ((c.tc : Thread Cert.ReferenceIdeal.nD Cert.ReferenceIdeal.τ).loc b)
        = finalContents Cert.ReferenceIdeal.Value.condOps Cert.ReferenceIdeal.Value.preI Cert.ReferenceIdeal.Value.bodyI Cert.ReferenceIdeal.Value.postI 64 m c (Proc.devRef .tc b)) :
    μ ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧
      μ ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧
      μ ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧
      μ ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧
      μ ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧
      μ ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) ∧
      μ ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) ∧
      μ ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) ∧
      μ ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) ∧
      μ ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9) ∧
      μ ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10) ∧
      μ ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) ∧
      μ ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12) :=
  ⟨(h _ rfl).trans (Ref.end_arg0 m c), (h _ rfl).trans (Ref.end_arg1 m c), (h _ rfl).trans (Ref.end_arg2 m c), (h _ rfl).trans (Ref.end_arg3 m c), (h _ rfl).trans (Ref.end_arg4 m c), (h _ rfl).trans (Ref.end_arg5 m c), (h _ rfl).trans (Ref.end_arg6 m c), (h _ rfl).trans (Ref.end_arg7 m c), (h _ rfl).trans (Ref.end_arg8 m c), (h _ rfl).trans (Ref.end_arg9 m c), (h _ rfl).trans (Ref.end_arg10 m c), (h _ rfl).trans (Ref.end_arg11 m c), (h _ rfl).trans (Ref.end_arg12 m c)⟩

/-- The reference runs and keeps its arguments. -/
theorem frame_reference : Cert.quiescent_ReferenceIdeal (hReferenceIdeal := Cert.ReferenceIdeal.Gen.facts) := fun m ρ _ =>
  (θ_run _ _ _).mono (fun r h => ⟨fun c => ref_args m c r.2.mem (h c), sem_eq_zero_of_no_sems rfl r.2⟩) (Cert.ReferenceIdeal.Value.run_fold m ρ)

/-- The two programs end with equal arrays. -/
theorem algebraic : Cert.algebraic_KernelIdeal_ReferenceIdeal (hKernelIdeal := Cert.KernelIdeal.Gen.facts) (hReferenceIdeal := Cert.ReferenceIdeal.Gen.facts) := by
  intro m ρ m' ρ' _ hag
  refine ⟨fun c => Cert.KernelIdeal.Value.G17 m c, fun c => Cert.KernelIdeal.Value.G18 m c, fun c => Cert.KernelIdeal.Value.G19 m c, fun c => Cert.KernelIdeal.Value.G20 m c,
    fun c => Cert.KernelIdeal.Value.G21 m c,
    (θ_run _ _ _).mono (fun _ h c => ⟨(h c).1, (h c).2.1, (h c).2.2.1, (h c).2.2.2.1, (h c).2.2.2.2.1, (h c).2.2.2.2.2.2.2⟩) (Cert.KernelIdeal.Value.run m ρ),
    (θ_run _ _ _).mono (fun r h c => ?_) (Cert.ReferenceIdeal.Value.run_fold m' ρ')⟩
  have hp : Ref.projOf m' c = proj m c := by
    unfold Ref.projOf proj
    rw [(hag c).1, (hag c).2.1, (hag c).2.2.1, (hag c).2.2.2.1]
  obtain ⟨_, _, _, _, a4, a5, a6, a7, a8, a9, a10, a11, _⟩ := hag c
  refine ⟨(h c _ rfl).trans ?_, (h c _ rfl).trans ?_, (h c _ rfl).trans ?_, (h c _ rfl).trans ?_, (h c _ rfl).trans ?_, ref_args m' c r.2.mem (h c)⟩
  · refine (Ref.res_v194 m' c).trans (funext fun y => ?_)
    obtain ⟨R, f, rfl⟩ : ∃ (R : Fin 65536) (f : Fin 1024), y = ix2 R f := ⟨y 0, y 1, (ix2_eta y).symm⟩
    refine (Ref.y_ref m' c R f).trans (Eq.trans ?_ (y_spec m c R f).symm)
    rw [show Ref.prR m' c = prK m c from funext fun b => funext fun l => funext fun j => congrFun hp (ix3 b l j),
      show Ref.cwR m' c = cwK m c from funext fun a => funext fun j => congrFun a4 (ix2 a j),
      show Ref.cbR m' c = cbK m c from funext fun j => congrFun a5 (ix1 j),
      show Ref.dtR m' c = dtK m c from funext fun j => congrFun a6 (ix1 j),
      show Ref.alR m' c = alK m c from funext fun j => congrFun a7 (ix1 j),
      show Ref.dkR m' c = dkK m c from funext fun j => congrFun a8 (ix1 j)]
    exact congrArg (fun g : Fin 1024 → EReal => gY (prK m c) (cwK m c) (cbK m c) (dtK m c) (alK m c) (dkK m c) _ g _ f) (funext fun f => congrFun a9 (ix1 f))
  · exact (Ref.res_v196 m' c).trans ((congrArg₂ Ref.qArr hp a10).trans (q_eq m c).symm)
  · exact (Ref.res_v198 m' c).trans ((congrArg₂ Ref.kArr hp a11).trans (k_eq m c).symm)
  · exact (Ref.res_v200 m' c).trans ((congrArg Ref.vArr hp).trans (v_eq m c).symm)
  · exact (Ref.res_v202 m' c).trans ((congrArg Ref.zArr hp).trans (za_eq m c).symm)

end Cert.Layer

end
-- ==== Proof.MixReference.lean ====
/- What the output projection's reference computes at a row and a column. -/
module

public import proofs.«01_k».proof.Proof.Gen.MixReferenceIdeal.Run
public import Idealize.ShloMosaic.Lib.Pointwise
public import Idealize.ShloMosaic.Lib.IdealHost

@[expose] public section

set_option maxRecDepth 16384

noncomputable section

namespace Cert.Mix

open Idealize.ShloMosaic

/-- One entry of the layer's result: the token's own entry plus the gated product of the two branches' rows with a
    column of the output weights, the lower half for the recurrence and the upper half for the attention. -/
def mixVal (x g : EReal) (y o : Fin 1024 → EReal) (w : Fin 2048 → EReal) : EReal :=
  x + g * ((∑ d : Fin 1024, y d * w ⟨d.val, by omega⟩) + ∑ d : Fin 1024, o d * w ⟨1024 + d.val, by omega⟩)

/-- A sum over the joined rows is the sum of the two branches' sums. -/
theorem sum_joined (f : Fin 2048 → EReal) (a b : Fin 1024 → EReal) (ha : ∀ d : Fin 1024, f ⟨d.val, by omega⟩ = a d)
    (hb : ∀ d : Fin 1024, f ⟨1024 + d.val, by omega⟩ = b d) : ∑ d : Fin 2048, f d = (∑ d, a d) + ∑ d, b d := by
  rw [show (∑ d : Fin 2048, f d) = ∑ d : Fin (1024 + 1024), f d from rfl, Fin.sum_univ_add]
  exact congrArg₂ (· + ·) (Finset.sum_congr rfl fun d _ => ha d) (Finset.sum_congr rfl fun d _ => hb d)

namespace Ref

open Cert.MixReferenceIdeal Cert.MixReferenceIdeal.Gen Idealize.SL.Sem

/-- The two branches' rows side by side. -/
def joined (y : FVec Ideal S65536x1024 .bf16) (o : FVec Ideal S8x8192x1024 .bf16) : FVec Ideal S8x8192x2048 .f32 :=
  concatenate S8x8192x2048 2 [⟨S8x8192x1024, (extf .f32 (shapeCast _ y shapeCasts_S65536x1024_S8x8192x1024) bitsLt_bf16_f32)⟩,
    ⟨S8x8192x1024, (extf .f32 o bitsLt_bf16_f32)⟩] concatenates_S8x8192x1024_S8x8192x1024_S8x8192x2048_d2

/-- The reference's result of the argument arrays. -/
def mixArr (x : FVec Ideal S8x8192x1024 .f32) (mod : FVec Ideal S3x8x1024 .f32) (y : FVec Ideal S65536x1024 .bf16)
    (o : FVec Ideal S8x8192x1024 .bf16) (w : FVec Ideal S2048x1024 .f32) : FVec Ideal S65536x1024 .f32 :=
  shapeCast _ (addf x (mulf (broadcastInDim S8x8192x1024 ![0, 1, 2] bcast_S8x1x1024_S8x8192x1024_0_1_2
    (broadcastInDim S8x1x1024 ![0, 2] bcast_S8x1024_S8x1x1024_0_2 (shapeCast _ (extractStridedSlice S1x8x1024 ![2, 0, 0] mod
      slices_S3x8x1024_S1x8x1024_2_0_0) shapeCasts_S1x8x1024_S8x1024)))
    (Host.dotGeneral dot_S8x8192x2048_S2048x1024_S8x8192x1024_2_0_01_1_n_n none (joined y o) w))) shapeCasts_S8x8192x1024_S65536x1024

/-- The joined rows' lower half is the recurrence's. -/
theorem joined_lo (y : FVec Ideal S65536x1024 .bf16) (o : FVec Ideal S8x8192x1024 .bf16) (b : Fin 8) (l : Fin 8192) (d : Fin 1024) :
    joined y o (ix3 b l ⟨d.val, by omega⟩) = y (ix2 ⟨b.val * 8192 + l.val, by omega⟩ d) := by
  unfold joined
  pointwise

/-- The joined rows' upper half is the attention's. -/
theorem joined_hi (y : FVec Ideal S65536x1024 .bf16) (o : FVec Ideal S8x8192x1024 .bf16) (b : Fin 8) (l : Fin 8192) (d : Fin 1024) :
    joined y o (ix3 b l ⟨1024 + d.val, by omega⟩) = o (ix3 b l d) := by
  unfold joined
  pointwise

/-- The reference's result at row `r` and column `j`. -/
theorem mixArr_at (x : FVec Ideal S8x8192x1024 .f32) (mod : FVec Ideal S3x8x1024 .f32) (y : FVec Ideal S65536x1024 .bf16)
    (o : FVec Ideal S8x8192x1024 .bf16) (w : FVec Ideal S2048x1024 .f32) (r : Fin 65536) (j : Fin 1024) :
    mixArr x mod y o w (ix2 r j) = mixVal (x (ix3 ⟨r.val / 8192, by omega⟩ ⟨r.val % 8192, by omega⟩ j)) (mod (ix3 2 ⟨r.val / 8192, by omega⟩ j))
      (fun d => y (ix2 r d)) (fun d => o (ix3 ⟨r.val / 8192, by omega⟩ ⟨r.val % 8192, by omega⟩ d)) (fun d => w (ix2 d j)) := by
  unfold mixArr mixVal
  pointwise
  refine congrArg (_ + ·) (congrArg (_ * ·) ?_)
  refine sum_joined _ _ _ (fun d => ?_) fun d => ?_
  · refine congrArg (· * _) ((joined_lo y o _ _ d).trans ?_)
    exact congrArg (fun q => y (ix2 q d)) (Fin.ext (by show r.val / 8192 * 8192 + r.val % 8192 = r.val; omega))
  · exact congrArg (· * _) (joined_hi y o _ _ d)

end Ref

end Cert.Mix

end
-- ==== Proof.MixKernel.lean ====
/- What the output projection's call computes at a row and a column: the stored block, the arrays it is read from,
   and the result array. -/
module

public import proofs.«01_k».proof.Proof.Gen.MixKernelIdeal.Value
public import proofs.«01_k».proof.Proof.MixReference
import Idealize.ShloMosaic.Lib.Pipeline.ValueKit
public import Idealize.ShloMosaic.Lib.StableHlo.RunRead

@[expose] public section

set_option maxRecDepth 16384

noncomputable section

namespace Cert.Mix

open Cert.MixKernelIdeal Cert.MixKernelIdeal.Gen Idealize.ShloMosaic Idealize.ShloMosaic.TcCoe Idealize.SL.Sem

/-- The stored block at an entry, from the blocks that the point reads. -/
theorem out_at (x0 : Vec Ideal S512x1024 .f32) (x1 x2 : Vec Ideal S512x1024 .bf16) (x3 : Vec Ideal S3x1x1x1024 .f32)
    (x4 x5 : Vec Ideal S1024x1024 .bf16) (r : Fin 512) (j : Fin 1024) :
    out0_6 x0 x1 x2 x3 x4 x5 (ix2 r j) = x0 (ix2 r j) + x3 (ix4 2 0 0 j)
      * ((∑ d : Fin 1024, x1 (ix2 r d) * x4 (ix2 d j)) + ∑ d : Fin 1024, x2 (ix2 r d) * x5 (ix2 d j)) := by
  unfold out0_6
  rw [View.canon_unit_zero (by funext a; fin_cases a <;> rfl)]
  unfold k0_pay1
  pointwise

variable (m : (ℓ : Loc nD τ sig) → Buf (Elt Ideal) ℓ) (c : Dev nD)

theorem idx_rows : ∀ t : Fin cfg0.N, win0_0.index t = ![t.val, 0] ∧ win0_1.index t = ![t.val, 0] ∧ win0_2.index t = ![t.val, 0]
    ∧ win0_6.index t = ![t.val, 0] :=
  (by decide +kernel : ∀ t : Fin grid0.N, win0_0.index t = ![t.val, 0] ∧ win0_1.index t = ![t.val, 0] ∧ win0_2.index t = ![t.val, 0]
    ∧ win0_6.index t = ![t.val, 0])

theorem idx_rest : ∀ t : Fin cfg0.N, win0_3.index t = ![0, t.val / 16, 0, 0] ∧ win0_4.index t = ![0, 0] ∧ win0_5.index t = ![0, 0] :=
  (by decide +kernel : ∀ t : Fin grid0.N, win0_3.index t = ![0, t.val / 16, 0, 0] ∧ win0_4.index t = ![0, 0] ∧ win0_5.index t = ![0, 0])

theorem tN (t : Fin cfg0.N) : t.val < 128 := t.isLt

theorem x_blk (t : Fin cfg0.N) (r : Fin 512) (d : Fin 1024) : iblk m c 0 t (ix2 r d)
    = (V m c main_v0 : FVec Ideal S65536x1024 .f32) (ix2 ⟨512 * t.val + r.val, by have := tN t; omega⟩ d) := by
  have := tN t
  blk_ext [iblk, (idx_rows t).1]

theorem y_blk (t : Fin cfg0.N) (r : Fin 512) (d : Fin 1024) : iblk m c 1 t (ix2 r d)
    = (V m c main_arg2 : FVec Ideal S65536x1024 .bf16) (ix2 ⟨512 * t.val + r.val, by have := tN t; omega⟩ d) := by
  have := tN t
  blk_ext [iblk, (idx_rows t).2.1]

theorem o_blk (t : Fin cfg0.N) (r : Fin 512) (d : Fin 1024) : iblk m c 2 t (ix2 r d)
    = (V m c main_v2 : FVec Ideal S65536x1024 .bf16) (ix2 ⟨512 * t.val + r.val, by have := tN t; omega⟩ d) := by
  have := tN t
  blk_ext [iblk, (idx_rows t).2.2.1]

theorem mod_blk (t : Fin cfg0.N) (d : Fin 1024) : iblk m c 3 t (ix4 2 0 0 d)
    = (V m c main_v1 : FVec Ideal S3x8x1x1024 .f32) (ix4 2 ⟨t.val / 16, by have := tN t; omega⟩ 0 d) := by
  have := tN t
  blk_ext [iblk, (idx_rest t).1]

theorem wy_blk (t : Fin cfg0.N) (d j : Fin 1024) : iblk m c 4 t (ix2 d j) = (V m c main_v4 : FVec Ideal S1024x1024 .bf16) (ix2 d j) := by
  blk_ext [iblk, (idx_rest t).2.1]

theorem wo_blk (t : Fin cfg0.N) (d j : Fin 1024) : iblk m c 5 t (ix2 d j) = (V m c main_v6 : FVec Ideal S1024x1024 .bf16) (ix2 d j) := by
  blk_ext [iblk, (idx_rest t).2.2]

theorem x_at (r : Fin 65536) (d : Fin 1024) : (V m c main_v0 : FVec Ideal S65536x1024 .f32) (ix2 r d)
    = (m ((c : Thread nD τ).loc main_arg0) : FVec Ideal S8x8192x1024 .f32) (ix3 ⟨r / 8192, by omega⟩ ⟨r % 8192, by omega⟩ d) := by
  simp only [V, List.flatten_cons, List.flatten_nil, List.append_nil]
  after_reads_simp
  pointwise

theorem o_at (r : Fin 65536) (d : Fin 1024) : (V m c main_v2 : FVec Ideal S65536x1024 .bf16) (ix2 r d)
    = (m ((c : Thread nD τ).loc main_arg3) : FVec Ideal S8x8192x1024 .bf16) (ix3 ⟨r / 8192, by omega⟩ ⟨r % 8192, by omega⟩ d) := by
  simp only [V, List.flatten_cons, List.flatten_nil, List.append_nil]
  after_reads_simp
  pointwise

theorem mod_at (k : Fin 3) (b : Fin 8) (d : Fin 1024) : (V m c main_v1 : FVec Ideal S3x8x1x1024 .f32) (ix4 k b 0 d)
    = (m ((c : Thread nD τ).loc main_arg1) : FVec Ideal S3x8x1024 .f32) (ix3 k b d) := by
  simp only [V, List.flatten_cons, List.flatten_nil, List.append_nil]
  after_reads_simp
  pointwise

theorem wy_at (d j : Fin 1024) : (V m c main_v4 : FVec Ideal S1024x1024 .bf16) (ix2 d j)
    = (m ((c : Thread nD τ).loc main_arg4) : FVec Ideal S2048x1024 .f32) (ix2 ⟨d.val, by omega⟩ j) := by
  simp only [V, List.flatten_cons, List.flatten_nil, List.append_nil]
  after_reads_simp
  pointwise

theorem wo_at (d j : Fin 1024) : (V m c main_v6 : FVec Ideal S1024x1024 .bf16) (ix2 d j)
    = (m ((c : Thread nD τ).loc main_arg4) : FVec Ideal S2048x1024 .f32) (ix2 ⟨1024 + d.val, by omega⟩ j) := by
  simp only [V, List.flatten_cons, List.flatten_nil, List.append_nil]
  after_reads_simp
  pointwise

/-- The result array at an entry of the block that point `t` writes back. -/
theorem arr_at (t : Fin cfg0.N) (r : Fin 512) (j : Fin 1024) :
    ((dats m 0 c).arrAt 6 cfg0.N : FVec Ideal S65536x1024 .f32) (ix2 ⟨512 * t.val + r.val, by have := tN t; omega⟩ j)
      = out0_6 (iblk m c 0 t) (iblk m c 1 t) (iblk m c 2 t) (iblk m c 3 t) (iblk m c 4 t) (iblk m c 5 t) (ix2 r j) := by
  have h := congrFun ((Value.blocks6 m c t (flush0_6 t)).trans (Value.flushed6 m c t)) (ix2 r j)
  have he : ((cfg0.win 6).blk t).view.emb (ix2 r j) = (ix2 ⟨512 * t.val + r.val, by have := tN t; omega⟩ j : S65536x1024.Idx) := by
    funext a
    apply Fin.ext
    match a with
    | ⟨0, _⟩ =>
      show win0_6.index t (0 : Fin 2) * 512 + 1 * r.val = 512 * t.val + r.val
      rw [(idx_rows t).2.2.2]
      show t.val * 512 + 1 * r.val = _
      omega
    | ⟨1, _⟩ =>
      show win0_6.index t (1 : Fin 2) * 1024 + 1 * j.val = j.val
      rw [(idx_rows t).2.2.2]
      show 0 * 1024 + 1 * j.val = _
      omega
  rw [View.read_apply] at h
  exact (congrArg _ he.symm).trans h

/-- The call's array is the reference's. -/
theorem mix_eq : ((dats m 0 c).arrAt 6 cfg0.N : FVec Ideal S65536x1024 .f32)
    = Ref.mixArr (m ((c : Thread nD τ).loc main_arg0)) (m ((c : Thread nD τ).loc main_arg1)) (m ((c : Thread nD τ).loc main_arg2))
        (m ((c : Thread nD τ).loc main_arg3)) (m ((c : Thread nD τ).loc main_arg4)) := by
  funext i
  obtain ⟨R, j, rfl⟩ : ∃ (R : Fin 65536) (j : Fin 1024), i = ix2 R j := ⟨i 0, i 1, (ix2_eta i).symm⟩
  obtain ⟨t, r, rfl⟩ : ∃ (t : Fin cfg0.N) (q : Fin 512), R = ⟨512 * t.val + q.val, by have := tN t; omega⟩ :=
    ⟨⟨R.val / 512, by show R.val / 512 < 128; omega⟩, ⟨R.val % 512, by omega⟩, Fin.ext (by show R.val = 512 * (R.val / 512) + R.val % 512; omega)⟩
  have ht := tN t
  refine ((arr_at m c t r j).trans (out_at ..)).trans (Eq.trans ?_ (Ref.mixArr_at ..).symm)
  have hb : (⟨(512 * t.val + r.val) / 8192, by omega⟩ : Fin 8) = ⟨t.val / 16, by omega⟩ := Fin.ext (by show (512 * t.val + r.val) / 8192 = t.val / 16; omega)
  simp only [x_blk, y_blk, o_blk, mod_blk, wy_blk, wo_blk, V_main_arg2]
  unfold mixVal
  refine congrArg₂ (· + ·) (x_at m c _ j) (congrArg₂ (· * ·) ((mod_at m c 2 _ j).trans ?_) (congrArg₂ (· + ·) ?_ ?_))
  · exact congrArg (fun b => (m ((c : Thread nD τ).loc main_arg1) : FVec Ideal S3x8x1024 .f32) (ix3 2 b j)) hb.symm
  · exact Finset.sum_congr rfl fun d _ => congrArg₂ (· * ·) rfl (wy_at m c d j)
  · exact Finset.sum_congr rfl fun d _ => congrArg₂ (· * ·) (o_at m c _ d) (wo_at m c d j)

end Cert.Mix

end
-- ==== Proof.MixClaim.lean ====
/- The output projection call's two claims: its reference runs and keeps its arguments, and the call's array is the reference's. -/
module

public import proofs.«01_k».proof.Defs
public import proofs.«01_k».proof.Proof.MixKernel
public import proofs.«01_k».proof.Proof.Gen.MixKernelIdeal
public import proofs.«01_k».proof.Proof.Gen.MixReferenceIdeal
public import Idealize.ShloMosaic.Adequacy
public import Idealize.ShloMosaic.Lib.Quiescent
public import Idealize.ShloMosaic.Init

@[expose] public section

noncomputable section

namespace Cert.Mix

open Idealize.ShloMosaic Idealize.SL.Sem

/-- The reference runs and keeps its arguments. -/
theorem frame_reference : Cert.quiescent_MixReferenceIdeal (hMixReferenceIdeal := Cert.MixReferenceIdeal.Gen.facts) := fun m ρ _ =>
  (θ_run _ _ _).mono (fun r h => ⟨fun c => (h c).2, sem_eq_zero_of_no_sems rfl r.2⟩) (Cert.MixReferenceIdeal.Value.run m ρ)

/-- The two programs end with equal arrays. -/
theorem same_array : Cert.algebraic_MixKernelIdeal_MixReferenceIdeal (hMixKernelIdeal := Cert.MixKernelIdeal.Gen.facts)
    (hMixReferenceIdeal := Cert.MixReferenceIdeal.Gen.facts) := by
  intro m ρ m' ρ' _ hag
  refine ⟨fun c => (Cert.MixKernelIdeal.Gen.dats m 0 c).arrAt 6 Cert.MixKernelIdeal.cfg0.N,
    Cert.MixKernelIdeal.Value.run_blocks m ρ,
    (θ_run _ _ _).mono (fun _ h c => ?_) (Cert.MixReferenceIdeal.Value.run m' ρ')⟩
  obtain ⟨a0, a1, a2, a3, a4⟩ := hag c
  refine ⟨(h c).1.trans ?_, (h c).2⟩
  refine Eq.trans ?_ (Cert.Mix.mix_eq m c).symm
  rw [← a0, ← a1, ← a2, ← a3, ← a4]
  rfl

end Cert.Mix

end
-- ==== Proof.AdaReference.lean ====
/- What the modulation's reference computes at an entry. -/
module

public import proofs.«01_k».proof.Proof.Gen.AdaReferenceIdeal.Run
public import Idealize.ShloMosaic.Lib.Pointwise
public import Idealize.ShloMosaic.Lib.IdealHost

@[expose] public section

set_option maxRecDepth 16384

noncomputable section

namespace Cert.Ada

open Idealize.ShloMosaic

/-- One entry of a modulation row: the gated conditioning's product with a column, plus the bias. -/
def modVal (c w : Fin 1024 → EReal) (b : EReal) : EReal := (∑ d : Fin 1024, c d * Ideal.logistic (c d) * w d) + b

namespace Ref

open Cert.AdaReferenceIdeal Cert.AdaReferenceIdeal.Gen Idealize.SL.Sem

/-- The bias added to the product, all three rows side by side. -/
def wide (x : FVec Ideal S8x1024 .f32) (w : FVec Ideal S1024x3072 .f32) (b : FVec Ideal S3072 .f32) : FVec Ideal S8x3072 .f32 :=
  addf (Host.dotGeneral dot_S8x1024_S1024x3072_S8x3072_1_0_0_1_n_n none (mulf x (Host.divf (broadcastInDim S8x1024 ![] bcast_S_S8x1024 (constant S_ .f32 0x3F800000#32)) (addf (broadcastInDim S8x1024 ![] bcast_S_S8x1024 (constant S_ .f32 0x3F800000#32)) (Host.exp (Host.negf x))))) w)
    (broadcastInDim S8x3072 ![0, 1] bcast_S1x3072_S8x3072_0_1 (broadcastInDim S1x3072 ![1] bcast_S3072_S1x3072_1 b))

/-- The reference's three rows. -/
def adaArr (x : FVec Ideal S8x1024 .f32) (w : FVec Ideal S1024x3072 .f32) (b : FVec Ideal S3072 .f32) : FVec Ideal S3x8x1024 .f32 :=
  concatenate S3x8x1024 0 [⟨S1x8x1024, broadcastInDim S1x8x1024 ![1, 2] bcast_S8x1024_S1x8x1024_1_2 (extractStridedSlice S8x1024 ![0, 0] (wide x w b) slices_S8x3072_S8x1024_0_0)⟩,
    ⟨S1x8x1024, broadcastInDim S1x8x1024 ![1, 2] bcast_S8x1024_S1x8x1024_1_2 (extractStridedSlice S8x1024 ![0, 1024] (wide x w b) slices_S8x3072_S8x1024_0_1024)⟩,
    ⟨S1x8x1024, broadcastInDim S1x8x1024 ![1, 2] bcast_S8x1024_S1x8x1024_1_2 (extractStridedSlice S8x1024 ![0, 2048] (wide x w b) slices_S8x3072_S8x1024_0_2048)⟩]
    concatenates_S1x8x1024_S1x8x1024_S1x8x1024_S3x8x1024_d0

theorem wide_at (x : FVec Ideal S8x1024 .f32) (w : FVec Ideal S1024x3072 .f32) (b : FVec Ideal S3072 .f32) (i : Fin 8) (j : Fin 3072) :
    wide x w b (ix2 i j) = modVal (fun d => x (ix2 i d)) (fun d => w (ix2 d j)) (b (ix1 j)) := by
  unfold wide
  pointwise
  have h1 : Ideal.ofBits .f32 0x3F800000#32 = 1 := by
    simp [Ideal.ofBits, Ideal.ieee, -EReal.coe_mul]; norm_num
  unfold modVal
  refine congrArg (· + _) (Finset.sum_congr rfl fun d _ => ?_)
  simp only [h1]
  rfl

/-- The reference's row `k` at batch `i` and feature `j`. -/
theorem adaArr_at (x : FVec Ideal S8x1024 .f32) (w : FVec Ideal S1024x3072 .f32) (b : FVec Ideal S3072 .f32) (k : Fin 3) (i : Fin 8) (j : Fin 1024) :
    adaArr x w b (ix3 k i j) = modVal (fun d => x (ix2 i d)) (fun d => w (ix2 d ⟨k.val * 1024 + j.val, by omega⟩)) (b (ix1 ⟨k.val * 1024 + j.val, by omega⟩)) := by
  refine Eq.trans ?_ (wide_at ..)
  unfold adaArr
  fin_cases k
  · show _ = wide x w b (ix2 i ⟨0 * 1024 + j.val, _⟩)
    pointwise
  · show _ = wide x w b (ix2 i ⟨1 * 1024 + j.val, _⟩)
    pointwise
  · show _ = wide x w b (ix2 i ⟨2 * 1024 + j.val, _⟩)
    pointwise

end Ref

end Cert.Ada

end
-- ==== Proof.AdaKernel.lean ====
/- What the modulation's call computes at an entry: the stored block, the arrays it is read from, and the result array. -/
module

public import proofs.«01_k».proof.Proof.Gen.AdaKernelIdeal.Value
public import proofs.«01_k».proof.Proof.AdaReference
import Idealize.ShloMosaic.Lib.Pipeline.ValueKit
public import Idealize.ShloMosaic.Lib.StableHlo.RunRead

@[expose] public section

set_option maxRecDepth 16384

noncomputable section

namespace Cert.Ada

open Cert.AdaKernelIdeal Cert.AdaKernelIdeal.Gen Idealize.ShloMosaic Idealize.ShloMosaic.TcCoe Idealize.SL.Sem

/-- The stored block at an entry, from the blocks that the point reads. -/
theorem out_at (x0 : Vec Ideal S8x1024 .f32) (x1 : Vec Ideal S1024x1024 .f32) (x2 : Vec Ideal S1x1x1024 .f32) (i : Fin 8) (j : Fin 1024) :
    out0_3 x0 x1 x2 (ix3 0 i j) = modVal (fun d => x0 (ix2 i d)) (fun d => x1 (ix2 d j)) (x2 (ix3 0 0 j)) := by
  unfold out0_3
  rw [View.canon_unit_zero (by funext a; fin_cases a <;> rfl)]
  unfold k0_pay1
  pointwise
  rfl

variable (m : (ℓ : Loc nD τ sig) → Buf (Elt Ideal) ℓ) (c : Dev nD)

theorem idx_all : ∀ t : Fin cfg0.N, win0_0.index t = ![0, 0] ∧ win0_1.index t = ![0, t.val] ∧ win0_2.index t = ![t.val, 0, 0]
    ∧ win0_3.index t = ![t.val, 0, 0] :=
  (by decide +kernel : ∀ t : Fin grid0.N, win0_0.index t = ![0, 0] ∧ win0_1.index t = ![0, t.val] ∧ win0_2.index t = ![t.val, 0, 0]
    ∧ win0_3.index t = ![t.val, 0, 0])

theorem tN (t : Fin cfg0.N) : t.val < 3 := t.isLt

theorem c_blk (t : Fin cfg0.N) (i : Fin 8) (d : Fin 1024) : iblk m c 0 t (ix2 i d)
    = (V m c main_arg0 : FVec Ideal S8x1024 .f32) (ix2 i d) := by
  blk_ext [iblk, (idx_all t).1]

theorem w_blk (t : Fin cfg0.N) (d j : Fin 1024) : iblk m c 1 t (ix2 d j)
    = (V m c main_arg1 : FVec Ideal S1024x3072 .f32) (ix2 d ⟨t.val * 1024 + j.val, by have := tN t; omega⟩) := by
  have := tN t
  blk_ext [iblk, (idx_all t).2.1]

theorem b_blk (t : Fin cfg0.N) (j : Fin 1024) : iblk m c 2 t (ix3 0 0 j)
    = (V m c main_v0 : FVec Ideal S3x1x1024 .f32) (ix3 ⟨t.val, tN t⟩ 0 j) := by
  have := tN t
  blk_ext [iblk, (idx_all t).2.2.1]

theorem b_at (k : Fin 3) (j : Fin 1024) : (V m c main_v0 : FVec Ideal S3x1x1024 .f32) (ix3 k 0 j)
    = (m ((c : Thread nD τ).loc main_arg2) : FVec Ideal S3072 .f32) (ix1 ⟨k.val * 1024 + j.val, by omega⟩) := by
  simp only [V, List.flatten_cons, List.flatten_nil, List.append_nil]
  after_reads_simp
  pointwise

/-- The result array at an entry of the block that point `t` writes back. -/
theorem arr_at (t : Fin cfg0.N) (i : Fin 8) (j : Fin 1024) :
    ((dats m 0 c).arrAt 3 cfg0.N : FVec Ideal S3x8x1024 .f32) (ix3 ⟨t.val, tN t⟩ i j)
      = out0_3 (iblk m c 0 t) (iblk m c 1 t) (iblk m c 2 t) (ix3 0 i j) := by
  have h := congrFun ((Value.blocks3 m c t (flush0_3 t)).trans (Value.flushed3 m c t)) (ix3 0 i j)
  have he : ((cfg0.win 3).blk t).view.emb (ix3 0 i j) = (ix3 ⟨t.val, tN t⟩ i j : S3x8x1024.Idx) := by
    funext a
    apply Fin.ext
    match a with
    | ⟨0, _⟩ =>
      show win0_3.index t (0 : Fin 3) * 1 + 1 * 0 = t.val
      rw [(idx_all t).2.2.2]
      show t.val * 1 + 1 * 0 = _
      omega
    | ⟨1, _⟩ =>
      show win0_3.index t (1 : Fin 3) * 8 + 1 * i.val = i.val
      rw [(idx_all t).2.2.2]
      show 0 * 8 + 1 * i.val = _
      omega
    | ⟨2, _⟩ =>
      show win0_3.index t (2 : Fin 3) * 1024 + 1 * j.val = j.val
      rw [(idx_all t).2.2.2]
      show 0 * 1024 + 1 * j.val = _
      omega
  rw [View.read_apply] at h
  exact (congrArg _ he.symm).trans h

/-- The call's array is the reference's. -/
theorem ada_eq : ((dats m 0 c).arrAt 3 cfg0.N : FVec Ideal S3x8x1024 .f32)
    = Ref.adaArr (m ((c : Thread nD τ).loc main_arg0)) (m ((c : Thread nD τ).loc main_arg1)) (m ((c : Thread nD τ).loc main_arg2)) := by
  funext y
  obtain ⟨k, i, j, rfl⟩ : ∃ (k : Fin 3) (i : Fin 8) (j : Fin 1024), y = ix3 k i j := ⟨y 0, y 1, y 2, (ix3_eta y).symm⟩
  obtain ⟨t, rfl⟩ : ∃ t : Fin cfg0.N, k = ⟨t.val, tN t⟩ := ⟨⟨k.val, k.isLt⟩, rfl⟩
  refine ((arr_at m c t i j).trans (out_at ..)).trans (Eq.trans ?_ (Ref.adaArr_at ..).symm)
  simp only [c_blk, w_blk, b_blk, V_main_arg0, V_main_arg1]
  exact congrArg (modVal _ _) (b_at m c _ j)

end Cert.Ada

end
-- ==== Proof.AdaClaim.lean ====
/- The modulation call's two claims: its reference runs and keeps its arguments, and the call's array is the reference's. -/
module

public import proofs.«01_k».proof.Defs
public import proofs.«01_k».proof.Proof.AdaKernel
public import proofs.«01_k».proof.Proof.Gen.AdaKernelIdeal
public import proofs.«01_k».proof.Proof.Gen.AdaReferenceIdeal
public import Idealize.ShloMosaic.Adequacy
public import Idealize.ShloMosaic.Lib.Quiescent
public import Idealize.ShloMosaic.Init

@[expose] public section

noncomputable section

namespace Cert.Ada

open Idealize.ShloMosaic Idealize.SL.Sem

/-- The reference runs and keeps its arguments. -/
theorem frame_reference : Cert.quiescent_AdaReferenceIdeal (hAdaReferenceIdeal := Cert.AdaReferenceIdeal.Gen.facts) := fun m ρ _ =>
  (θ_run _ _ _).mono (fun r h => ⟨fun c => (h c).2, sem_eq_zero_of_no_sems rfl r.2⟩) (Cert.AdaReferenceIdeal.Value.run m ρ)

/-- The two programs end with equal arrays. -/
theorem same_array : Cert.algebraic_AdaKernelIdeal_AdaReferenceIdeal (hAdaKernelIdeal := Cert.AdaKernelIdeal.Gen.facts)
    (hAdaReferenceIdeal := Cert.AdaReferenceIdeal.Gen.facts) := by
  intro m ρ m' ρ' _ hag
  refine ⟨fun c => (Cert.AdaKernelIdeal.Gen.dats m 0 c).arrAt 3 Cert.AdaKernelIdeal.cfg0.N,
    Cert.AdaKernelIdeal.Value.run_blocks m ρ,
    (θ_run _ _ _).mono (fun _ h c => ?_) (Cert.AdaReferenceIdeal.Value.run m' ρ')⟩
  obtain ⟨a0, a1, a2⟩ := hag c
  refine ⟨(h c).1.trans ?_, (h c).2⟩
  refine Eq.trans ?_ (Cert.Ada.ada_eq m c).symm
  rw [← a0, ← a1, ← a2]
  rfl

end Cert.Ada

end
-- ==== Proof.lean ====
/- The claim: the kernels and their references keep their arguments, naming the constant changes nothing else, and
   the kernels' arrays are their references' over the extended reals. -/
module

public import proofs.«01_k».proof.Defs
public import proofs.«01_k».proof.Proof.Gen.KernelIdeal.Value
public import proofs.«01_k».proof.Proof.Gen.ReferenceIdeal.Run
public import proofs.«01_k».proof.Proof.Algebraic
public import proofs.«01_k».proof.Proof.MixClaim
public import proofs.«01_k».proof.Proof.AdaClaim
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MixKernel
public import proofs.«01_k».proof.Proof.Gen.MixKernel.Frame
public import proofs.«01_k».proof.Proof.Gen.MixKernelIdeal
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.AdaKernel
public import proofs.«01_k».proof.Proof.Gen.AdaKernel.Frame
public import proofs.«01_k».proof.Proof.Gen.AdaKernelIdeal
public import proofs.«01_k».proof.Proof.Gen.AdaKernelIdeal.Frame
public import proofs.«01_k».proof.Proof.Gen.AdaKernelIdeal.Value
public import proofs.«01_k».proof.Proof.Gen.AdaReferenceIdeal
public import proofs.«01_k».proof.Proof.Gen.AdaReferenceIdeal.Run
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.MixKernel.Gen.facts, Cert.MixKernelIdeal.Gen.facts, Cert.MixReferenceIdeal.Gen.facts,
  Cert.AdaKernel.Gen.facts, Cert.AdaKernelIdeal.Gen.facts, Cert.AdaReferenceIdeal.Gen.facts,
  fun m ρ _ => Cert.Kernel.Gen.frame m ρ, fun m ρ _ => Cert.KernelIdeal.Gen.frame m ρ, Cert.Layer.frame_reference,
  fun m ρ _ => Cert.MixKernel.Gen.frame m ρ, fun m ρ _ => Cert.MixKernelIdeal.Gen.frame m ρ, Cert.Mix.frame_reference,
  fun m ρ _ => Cert.AdaKernel.Gen.frame m ρ, fun m ρ _ => Cert.AdaKernelIdeal.Gen.frame m ρ, Cert.Ada.frame_reference,
  IdealRules.named_const.statement Cert.KernelIdeal.κ "log2e" .f32 0x3FB8AA3B#32 (((Real.log 2)⁻¹ : ℝ) : EReal) rfl, Cert.Layer.algebraic,
  trivial, Cert.Mix.same_array, trivial, Cert.Ada.same_array⟩

end Cert.Proof

end
